-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S512x64x1024 : Shape := ⟨3, ![512, 64, 1024]⟩
abbrev S64 : Shape := ⟨1, ![64]⟩
abbrev S1x64 : Shape := ⟨2, ![1, 64]⟩
abbrev S64x1 : Shape := ⟨2, ![64, 1]⟩
abbrev S64x512 : Shape := ⟨2, ![64, 512]⟩
abbrev S32x64x1024 : Shape := ⟨3, ![32, 64, 1024]⟩
abbrev S512x64 : Shape := ⟨2, ![512, 64]⟩
abbrev S32x64 : Shape := ⟨2, ![32, 64]⟩
abbrev S32x64x1 : Shape := ⟨3, ![32, 64, 1]⟩
abbrev S64x511 : Shape := ⟨2, ![64, 511]⟩
abbrev S512x512 : Shape := ⟨2, ![512, 512]⟩
abbrev S32768 : Shape := ⟨1, ![32768]⟩
abbrev S512 : Shape := ⟨1, ![512]⟩
abbrev S528 : Shape := ⟨1, ![528]⟩
abbrev S16 : Shape := ⟨1, ![16]⟩
abbrev S_ : Shape := ⟨0, ![]⟩
abbrev S64x1x512 : Shape := ⟨3, ![64, 1, 512]⟩

abbrev nBuf : Table → Nat
  | .hbm => 13
  | .local .tc .vmem => 9
  | .local .scVector .vmem => 3
  | _ => 0

abbrev bufTy : (tb : Table) → Fin (nBuf tb) → BufTy
  | .hbm, ⟨0, _⟩ => ⟨S512x64x1024, .f32⟩
  | .hbm, ⟨1, _⟩ => ⟨S64, .i32⟩
  | .hbm, ⟨2, _⟩ => ⟨S1x64, .i32⟩
  | .hbm, ⟨3, _⟩ => ⟨S1x64, .f32⟩
  | .hbm, ⟨4, _⟩ => ⟨S64x1, .i32⟩
  | .hbm, ⟨5, _⟩ => ⟨S64x512, .i32⟩
  | .hbm, ⟨6, _⟩ => ⟨S64x512, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S64x512, .i32⟩
  | .hbm, ⟨11, _⟩ => ⟨S64x1x512, .i32⟩
  | .hbm, ⟨12, _⟩ => ⟨S64x1, .f32⟩
  | .local .tc .vmem, ⟨0, _⟩ => ⟨S1x64, .i32⟩
  | .local .tc .vmem, ⟨1, _⟩ => ⟨S32x64x1024, .f32⟩
  | .local .tc .vmem, ⟨2, _⟩ => ⟨S32x64x1024, .f32⟩
  | .local .tc .vmem, ⟨3, _⟩ => ⟨S1x64, .f32⟩
  | .local .tc .vmem, ⟨4, _⟩ => ⟨S64x1, .i32⟩
  | .local .tc .vmem, ⟨5, _⟩ => ⟨S64x512, .i32⟩
  | .local .tc .vmem, ⟨6, _⟩ => ⟨S64x512, .i32⟩
  | .local .tc .vmem, ⟨7, _⟩ => ⟨S1x64, .f32⟩
  | .local .tc .vmem, ⟨8, _⟩ => ⟨S512x64, .i32⟩
  | .local .scVector .vmem, ⟨0, _⟩ => ⟨S512, .i32⟩
  | .local .scVector .vmem, ⟨1, _⟩ => ⟨S512, .i32⟩
  | .local .scVector .vmem, ⟨2, _⟩ => ⟨S528, .i32⟩
  | _, _ => ⟨S512x64x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c32_i32 : BitVec 32 := 32#32
  let v7 : BitVec 32 := Scalar.muli arg0 c32_i32
  let v216 : Index := Scalar.indexCast v7
  let c0_11 : Index := 0#32
  ![v216.toNat, 0]
def k0_cond2 (i : grid0.Coords) : BitVec 1 :=
  let arg0 : BitVec 32 := BitVec.ofNat 32 (i 0).val
  let c15_i32_12 : BitVec 32 := 15#32
  let v220 : BitVec 1 := Scalar.cmpi .eq arg0 c15_i32_12
  let v221 : BitVec 32 := Scalar.extui v220
  let c0_i32_13 : BitVec 32 := 0#32
  let v222 : BitVec 1 := Scalar.cmpi .ne v221 c0_i32_13
  v222

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c512_i32 : BitVec 32 := 512#32
  let v5 : BitVec 32 := Scalar.muli v4 c512_i32
  ![v5.toNat]

def k1_chk1 (v40 : IVec S16 32) : Prop :=
  (∀ a x, ((![v40] : Fin 1 → IVec S16 32) a x).toNat < S528.size a)
theorem k1_idx1_inb : ∀ (v40 : IVec S16 32) (k1_hw1 : k1_chk1 v40), ∀ a x, ((![v40] : Fin 1 → IVec S16 32) a x).toNat < S528.size a := fun v40 k1_hw1 => k1_hw1

def k1_chk2 (v44 : IVec S16 32) : Prop :=
  (∀ a x, ((![v44] : Fin 1 → IVec S16 32) a x).toNat < S528.size a)
theorem k1_idx2_inb : ∀ (v44 : IVec S16 32) (k1_hw2 : k1_chk2 v44), ∀ a x, ((![v44] : Fin 1 → IVec S16 32) a x).toNat < S528.size a := fun v44 k1_hw2 => k1_hw2

def k1_chk3 (v48 : IVec S16 32) : Prop :=
  (∀ a x, ((![v48] : Fin 1 → IVec S16 32) a x).toNat < S528.size a)
theorem k1_idx3_inb : ∀ (v48 : IVec S16 32) (k1_hw3 : k1_chk3 v48), ∀ a x, ((![v48] : Fin 1 → IVec S16 32) a x).toNat < S528.size a := fun v48 k1_hw3 => k1_hw3

def k1_chk4 (v52 : IVec S16 32) : Prop :=
  (∀ a x, ((![v52] : Fin 1 → IVec S16 32) a x).toNat < S528.size a)
theorem k1_idx4_inb : ∀ (v52 : IVec S16 32) (k1_hw4 : k1_chk4 v52), ∀ a x, ((![v52] : Fin 1 → IVec S16 32) a x).toNat < S528.size a := fun v52 k1_hw4 => k1_hw4

def k1_chk5 (v56 : IVec S16 32) : Prop :=
  (∀ a x, ((![v56] : Fin 1 → IVec S16 32) a x).toNat < S528.size a)
theorem k1_idx5_inb : ∀ (v56 : IVec S16 32) (k1_hw5 : k1_chk5 v56), ∀ a x, ((![v56] : Fin 1 → IVec S16 32) a x).toNat < S528.size a := fun v56 k1_hw5 => k1_hw5

def k1_chk6 (v60 : IVec S16 32) : Prop :=
  (∀ a x, ((![v60] : Fin 1 → IVec S16 32) a x).toNat < S528.size a)
theorem k1_idx6_inb : ∀ (v60 : IVec S16 32) (k1_hw6 : k1_chk6 v60), ∀ a x, ((![v60] : Fin 1 → IVec S16 32) a x).toNat < S528.size a := fun v60 k1_hw6 => k1_hw6

def k1_chk7 (v64 : IVec S16 32) : Prop :=
  (∀ a x, ((![v64] : Fin 1 → IVec S16 32) a x).toNat < S528.size a)
theorem k1_idx7_inb : ∀ (v64 : IVec S16 32) (k1_hw7 : k1_chk7 v64), ∀ a x, ((![v64] : Fin 1 → IVec S16 32) a x).toNat < S528.size a := fun v64 k1_hw7 => k1_hw7

def k1_chk8 (v68 : IVec S16 32) : Prop :=
  (∀ a x, ((![v68] : Fin 1 → IVec S16 32) a x).toNat < S528.size a)
theorem k1_idx8_inb : ∀ (v68 : IVec S16 32) (k1_hw8 : k1_chk8 v68), ∀ a x, ((![v68] : Fin 1 → IVec S16 32) a x).toNat < S528.size a := fun v68 k1_hw8 => k1_hw8

def k1_chk9 (v72 : IVec S16 32) : Prop :=
  (∀ a x, ((![v72] : Fin 1 → IVec S16 32) a x).toNat < S528.size a)
theorem k1_idx9_inb : ∀ (v72 : IVec S16 32) (k1_hw9 : k1_chk9 v72), ∀ a x, ((![v72] : Fin 1 → IVec S16 32) a x).toNat < S528.size a := fun v72 k1_hw9 => k1_hw9

def k1_chk10 (v76 : IVec S16 32) : Prop :=
  (∀ a x, ((![v76] : Fin 1 → IVec S16 32) a x).toNat < S528.size a)
theorem k1_idx10_inb : ∀ (v76 : IVec S16 32) (k1_hw10 : k1_chk10 v76), ∀ a x, ((![v76] : Fin 1 → IVec S16 32) a x).toNat < S528.size a := fun v76 k1_hw10 => k1_hw10

def k1_chk11 (v80 : IVec S16 32) : Prop :=
  (∀ a x, ((![v80] : Fin 1 → IVec S16 32) a x).toNat < S528.size a)
theorem k1_idx11_inb : ∀ (v80 : IVec S16 32) (k1_hw11 : k1_chk11 v80), ∀ a x, ((![v80] : Fin 1 → IVec S16 32) a x).toNat < S528.size a := fun v80 k1_hw11 => k1_hw11

def k1_chk12 (v84 : IVec S16 32) : Prop :=
  (∀ a x, ((![v84] : Fin 1 → IVec S16 32) a x).toNat < S528.size a)
theorem k1_idx12_inb : ∀ (v84 : IVec S16 32) (k1_hw12 : k1_chk12 v84), ∀ a x, ((![v84] : Fin 1 → IVec S16 32) a x).toNat < S528.size a := fun v84 k1_hw12 => k1_hw12

def k1_chk13 (v88 : IVec S16 32) : Prop :=
  (∀ a x, ((![v88] : Fin 1 → IVec S16 32) a x).toNat < S528.size a)
theorem k1_idx13_inb : ∀ (v88 : IVec S16 32) (k1_hw13 : k1_chk13 v88), ∀ a x, ((![v88] : Fin 1 → IVec S16 32) a x).toNat < S528.size a := fun v88 k1_hw13 => k1_hw13

def k1_chk14 (v92 : IVec S16 32) : Prop :=
  (∀ a x, ((![v92] : Fin 1 → IVec S16 32) a x).toNat < S528.size a)
theorem k1_idx14_inb : ∀ (v92 : IVec S16 32) (k1_hw14 : k1_chk14 v92), ∀ a x, ((![v92] : Fin 1 → IVec S16 32) a x).toNat < S528.size a := fun v92 k1_hw14 => k1_hw14

def k1_chk15 (v96 : IVec S16 32) : Prop :=
  (∀ a x, ((![v96] : Fin 1 → IVec S16 32) a x).toNat < S528.size a)
theorem k1_idx15_inb : ∀ (v96 : IVec S16 32) (k1_hw15 : k1_chk15 v96), ∀ a x, ((![v96] : Fin 1 → IVec S16 32) a x).toNat < S528.size a := fun v96 k1_hw15 => k1_hw15

def k1_chk16 (v100 : IVec S16 32) : Prop :=
  (∀ a x, ((![v100] : Fin 1 → IVec S16 32) a x).toNat < S528.size a)
theorem k1_idx16_inb : ∀ (v100 : IVec S16 32) (k1_hw16 : k1_chk16 v100), ∀ a x, ((![v100] : Fin 1 → IVec S16 32) a x).toNat < S528.size a := fun v100 k1_hw16 => k1_hw16

def k1_chk17 (v104 : IVec S16 32) : Prop :=
  (∀ a x, ((![v104] : Fin 1 → IVec S16 32) a x).toNat < S528.size a)
theorem k1_idx17_inb : ∀ (v104 : IVec S16 32) (k1_hw17 : k1_chk17 v104), ∀ a x, ((![v104] : Fin 1 → IVec S16 32) a x).toNat < S528.size a := fun v104 k1_hw17 => k1_hw17

def k1_chk18 (v108 : IVec S16 32) : Prop :=
  (∀ a x, ((![v108] : Fin 1 → IVec S16 32) a x).toNat < S528.size a)
theorem k1_idx18_inb : ∀ (v108 : IVec S16 32) (k1_hw18 : k1_chk18 v108), ∀ a x, ((![v108] : Fin 1 → IVec S16 32) a x).toNat < S528.size a := fun v108 k1_hw18 => k1_hw18

def k1_chk19 (v112 : IVec S16 32) : Prop :=
  (∀ a x, ((![v112] : Fin 1 → IVec S16 32) a x).toNat < S528.size a)
theorem k1_idx19_inb : ∀ (v112 : IVec S16 32) (k1_hw19 : k1_chk19 v112), ∀ a x, ((![v112] : Fin 1 → IVec S16 32) a x).toNat < S528.size a := fun v112 k1_hw19 => k1_hw19

def k1_chk20 (v116 : IVec S16 32) : Prop :=
  (∀ a x, ((![v116] : Fin 1 → IVec S16 32) a x).toNat < S528.size a)
theorem k1_idx20_inb : ∀ (v116 : IVec S16 32) (k1_hw20 : k1_chk20 v116), ∀ a x, ((![v116] : Fin 1 → IVec S16 32) a x).toNat < S528.size a := fun v116 k1_hw20 => k1_hw20

def k1_chk21 (v120 : IVec S16 32) : Prop :=
  (∀ a x, ((![v120] : Fin 1 → IVec S16 32) a x).toNat < S528.size a)
theorem k1_idx21_inb : ∀ (v120 : IVec S16 32) (k1_hw21 : k1_chk21 v120), ∀ a x, ((![v120] : Fin 1 → IVec S16 32) a x).toNat < S528.size a := fun v120 k1_hw21 => k1_hw21

def k1_chk22 (v124 : IVec S16 32) : Prop :=
  (∀ a x, ((![v124] : Fin 1 → IVec S16 32) a x).toNat < S528.size a)
theorem k1_idx22_inb : ∀ (v124 : IVec S16 32) (k1_hw22 : k1_chk22 v124), ∀ a x, ((![v124] : Fin 1 → IVec S16 32) a x).toNat < S528.size a := fun v124 k1_hw22 => k1_hw22

def k1_chk23 (v128 : IVec S16 32) : Prop :=
  (∀ a x, ((![v128] : Fin 1 → IVec S16 32) a x).toNat < S528.size a)
theorem k1_idx23_inb : ∀ (v128 : IVec S16 32) (k1_hw23 : k1_chk23 v128), ∀ a x, ((![v128] : Fin 1 → IVec S16 32) a x).toNat < S528.size a := fun v128 k1_hw23 => k1_hw23

def k1_chk24 (v132 : IVec S16 32) : Prop :=
  (∀ a x, ((![v132] : Fin 1 → IVec S16 32) a x).toNat < S528.size a)
theorem k1_idx24_inb : ∀ (v132 : IVec S16 32) (k1_hw24 : k1_chk24 v132), ∀ a x, ((![v132] : Fin 1 → IVec S16 32) a x).toNat < S528.size a := fun v132 k1_hw24 => k1_hw24

def k1_chk25 (v136 : IVec S16 32) : Prop :=
  (∀ a x, ((![v136] : Fin 1 → IVec S16 32) a x).toNat < S528.size a)
theorem k1_idx25_inb : ∀ (v136 : IVec S16 32) (k1_hw25 : k1_chk25 v136), ∀ a x, ((![v136] : Fin 1 → IVec S16 32) a x).toNat < S528.size a := fun v136 k1_hw25 => k1_hw25

def k1_chk26 (v140 : IVec S16 32) : Prop :=
  (∀ a x, ((![v140] : Fin 1 → IVec S16 32) a x).toNat < S528.size a)
theorem k1_idx26_inb : ∀ (v140 : IVec S16 32) (k1_hw26 : k1_chk26 v140), ∀ a x, ((![v140] : Fin 1 → IVec S16 32) a x).toNat < S528.size a := fun v140 k1_hw26 => k1_hw26

def k1_chk27 (v144 : IVec S16 32) : Prop :=
  (∀ a x, ((![v144] : Fin 1 → IVec S16 32) a x).toNat < S528.size a)
theorem k1_idx27_inb : ∀ (v144 : IVec S16 32) (k1_hw27 : k1_chk27 v144), ∀ a x, ((![v144] : Fin 1 → IVec S16 32) a x).toNat < S528.size a := fun v144 k1_hw27 => k1_hw27

def k1_chk28 (v148 : IVec S16 32) : Prop :=
  (∀ a x, ((![v148] : Fin 1 → IVec S16 32) a x).toNat < S528.size a)
theorem k1_idx28_inb : ∀ (v148 : IVec S16 32) (k1_hw28 : k1_chk28 v148), ∀ a x, ((![v148] : Fin 1 → IVec S16 32) a x).toNat < S528.size a := fun v148 k1_hw28 => k1_hw28

def k1_chk29 (v152 : IVec S16 32) : Prop :=
  (∀ a x, ((![v152] : Fin 1 → IVec S16 32) a x).toNat < S528.size a)
theorem k1_idx29_inb : ∀ (v152 : IVec S16 32) (k1_hw29 : k1_chk29 v152), ∀ a x, ((![v152] : Fin 1 → IVec S16 32) a x).toNat < S528.size a := fun v152 k1_hw29 => k1_hw29

def k1_chk30 (v156 : IVec S16 32) : Prop :=
  (∀ a x, ((![v156] : Fin 1 → IVec S16 32) a x).toNat < S528.size a)
theorem k1_idx30_inb : ∀ (v156 : IVec S16 32) (k1_hw30 : k1_chk30 v156), ∀ a x, ((![v156] : Fin 1 → IVec S16 32) a x).toNat < S528.size a := fun v156 k1_hw30 => k1_hw30

def k1_chk31 (v160 : IVec S16 32) : Prop :=
  (∀ a x, ((![v160] : Fin 1 → IVec S16 32) a x).toNat < S528.size a)
theorem k1_idx31_inb : ∀ (v160 : IVec S16 32) (k1_hw31 : k1_chk31 v160), ∀ a x, ((![v160] : Fin 1 → IVec S16 32) a x).toNat < S528.size a := fun v160 k1_hw31 => k1_hw31

def k1_chk32 (v164 : IVec S16 32) : Prop :=
  (∀ a x, ((![v164] : Fin 1 → IVec S16 32) a x).toNat < S528.size a)
theorem k1_idx32_inb : ∀ (v164 : IVec S16 32) (k1_hw32 : k1_chk32 v164), ∀ a x, ((![v164] : Fin 1 → IVec S16 32) a x).toNat < S528.size a := fun v164 k1_hw32 => k1_hw32
def k1_off2 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c512_i32_98 : BitVec 32 := 512#32
  let v168 : BitVec 32 := Scalar.muli v4 c512_i32_98
  ![v168.toNat]

def k1_chk33 (v206 : IVec S16 32) : Prop :=
  (∀ a x, ((![v206] : Fin 1 → IVec S16 32) a x).toNat < S528.size a)
theorem k1_idx33_inb : ∀ (v206 : IVec S16 32) (k1_hw33 : k1_chk33 v206), ∀ a x, ((![v206] : Fin 1 → IVec S16 32) a x).toNat < S528.size a := fun v206 k1_hw33 => k1_hw33

def k1_chk34 (v210 : IVec S16 32) : Prop :=
  (∀ a x, ((![v210] : Fin 1 → IVec S16 32) a x).toNat < S528.size a)
theorem k1_idx34_inb : ∀ (v210 : IVec S16 32) (k1_hw34 : k1_chk34 v210), ∀ a x, ((![v210] : Fin 1 → IVec S16 32) a x).toNat < S528.size a := fun v210 k1_hw34 => k1_hw34

def k1_chk35 (v214 : IVec S16 32) : Prop :=
  (∀ a x, ((![v214] : Fin 1 → IVec S16 32) a x).toNat < S528.size a)
theorem k1_idx35_inb : ∀ (v214 : IVec S16 32) (k1_hw35 : k1_chk35 v214), ∀ a x, ((![v214] : Fin 1 → IVec S16 32) a x).toNat < S528.size a := fun v214 k1_hw35 => k1_hw35

def k1_chk36 (v218 : IVec S16 32) : Prop :=
  (∀ a x, ((![v218] : Fin 1 → IVec S16 32) a x).toNat < S528.size a)
theorem k1_idx36_inb : ∀ (v218 : IVec S16 32) (k1_hw36 : k1_chk36 v218), ∀ a x, ((![v218] : Fin 1 → IVec S16 32) a x).toNat < S528.size a := fun v218 k1_hw36 => k1_hw36

def k1_chk37 (v222 : IVec S16 32) : Prop :=
  (∀ a x, ((![v222] : Fin 1 → IVec S16 32) a x).toNat < S528.size a)
theorem k1_idx37_inb : ∀ (v222 : IVec S16 32) (k1_hw37 : k1_chk37 v222), ∀ a x, ((![v222] : Fin 1 → IVec S16 32) a x).toNat < S528.size a := fun v222 k1_hw37 => k1_hw37

def k1_chk38 (v226 : IVec S16 32) : Prop :=
  (∀ a x, ((![v226] : Fin 1 → IVec S16 32) a x).toNat < S528.size a)
theorem k1_idx38_inb : ∀ (v226 : IVec S16 32) (k1_hw38 : k1_chk38 v226), ∀ a x, ((![v226] : Fin 1 → IVec S16 32) a x).toNat < S528.size a := fun v226 k1_hw38 => k1_hw38

def k1_chk39 (v230 : IVec S16 32) : Prop :=
  (∀ a x, ((![v230] : Fin 1 → IVec S16 32) a x).toNat < S528.size a)
theorem k1_idx39_inb : ∀ (v230 : IVec S16 32) (k1_hw39 : k1_chk39 v230), ∀ a x, ((![v230] : Fin 1 → IVec S16 32) a x).toNat < S528.size a := fun v230 k1_hw39 => k1_hw39

def k1_chk40 (v234 : IVec S16 32) : Prop :=
  (∀ a x, ((![v234] : Fin 1 → IVec S16 32) a x).toNat < S528.size a)
theorem k1_idx40_inb : ∀ (v234 : IVec S16 32) (k1_hw40 : k1_chk40 v234), ∀ a x, ((![v234] : Fin 1 → IVec S16 32) a x).toNat < S528.size a := fun v234 k1_hw40 => k1_hw40

def k1_chk41 (v238 : IVec S16 32) : Prop :=
  (∀ a x, ((![v238] : Fin 1 → IVec S16 32) a x).toNat < S528.size a)
theorem k1_idx41_inb : ∀ (v238 : IVec S16 32) (k1_hw41 : k1_chk41 v238), ∀ a x, ((![v238] : Fin 1 → IVec S16 32) a x).toNat < S528.size a := fun v238 k1_hw41 => k1_hw41

def k1_chk42 (v242 : IVec S16 32) : Prop :=
  (∀ a x, ((![v242] : Fin 1 → IVec S16 32) a x).toNat < S528.size a)
theorem k1_idx42_inb : ∀ (v242 : IVec S16 32) (k1_hw42 : k1_chk42 v242), ∀ a x, ((![v242] : Fin 1 → IVec S16 32) a x).toNat < S528.size a := fun v242 k1_hw42 => k1_hw42

def k1_chk43 (v246 : IVec S16 32) : Prop :=
  (∀ a x, ((![v246] : Fin 1 → IVec S16 32) a x).toNat < S528.size a)
theorem k1_idx43_inb : ∀ (v246 : IVec S16 32) (k1_hw43 : k1_chk43 v246), ∀ a x, ((![v246] : Fin 1 → IVec S16 32) a x).toNat < S528.size a := fun v246 k1_hw43 => k1_hw43

def k1_chk44 (v250 : IVec S16 32) : Prop :=
  (∀ a x, ((![v250] : Fin 1 → IVec S16 32) a x).toNat < S528.size a)
theorem k1_idx44_inb : ∀ (v250 : IVec S16 32) (k1_hw44 : k1_chk44 v250), ∀ a x, ((![v250] : Fin 1 → IVec S16 32) a x).toNat < S528.size a := fun v250 k1_hw44 => k1_hw44

def k1_chk45 (v254 : IVec S16 32) : Prop :=
  (∀ a x, ((![v254] : Fin 1 → IVec S16 32) a x).toNat < S528.size a)
theorem k1_idx45_inb : ∀ (v254 : IVec S16 32) (k1_hw45 : k1_chk45 v254), ∀ a x, ((![v254] : Fin 1 → IVec S16 32) a x).toNat < S528.size a := fun v254 k1_hw45 => k1_hw45

def k1_chk46 (v258 : IVec S16 32) : Prop :=
  (∀ a x, ((![v258] : Fin 1 → IVec S16 32) a x).toNat < S528.size a)
theorem k1_idx46_inb : ∀ (v258 : IVec S16 32) (k1_hw46 : k1_chk46 v258), ∀ a x, ((![v258] : Fin 1 → IVec S16 32) a x).toNat < S528.size a := fun v258 k1_hw46 => k1_hw46

def k1_chk47 (v262 : IVec S16 32) : Prop :=
  (∀ a x, ((![v262] : Fin 1 → IVec S16 32) a x).toNat < S528.size a)
theorem k1_idx47_inb : ∀ (v262 : IVec S16 32) (k1_hw47 : k1_chk47 v262), ∀ a x, ((![v262] : Fin 1 → IVec S16 32) a x).toNat < S528.size a := fun v262 k1_hw47 => k1_hw47

def k1_chk48 (v266 : IVec S16 32) : Prop :=
  (∀ a x, ((![v266] : Fin 1 → IVec S16 32) a x).toNat < S528.size a)
theorem k1_idx48_inb : ∀ (v266 : IVec S16 32) (k1_hw48 : k1_chk48 v266), ∀ a x, ((![v266] : Fin 1 → IVec S16 32) a x).toNat < S528.size a := fun v266 k1_hw48 => k1_hw48

def k1_chk49 (v270 : IVec S16 32) : Prop :=
  (∀ a x, ((![v270] : Fin 1 → IVec S16 32) a x).toNat < S528.size a)
theorem k1_idx49_inb : ∀ (v270 : IVec S16 32) (k1_hw49 : k1_chk49 v270), ∀ a x, ((![v270] : Fin 1 → IVec S16 32) a x).toNat < S528.size a := fun v270 k1_hw49 => k1_hw49

def k1_chk50 (v274 : IVec S16 32) : Prop :=
  (∀ a x, ((![v274] : Fin 1 → IVec S16 32) a x).toNat < S528.size a)
theorem k1_idx50_inb : ∀ (v274 : IVec S16 32) (k1_hw50 : k1_chk50 v274), ∀ a x, ((![v274] : Fin 1 → IVec S16 32) a x).toNat < S528.size a := fun v274 k1_hw50 => k1_hw50

def k1_chk51 (v278 : IVec S16 32) : Prop :=
  (∀ a x, ((![v278] : Fin 1 → IVec S16 32) a x).toNat < S528.size a)
theorem k1_idx51_inb : ∀ (v278 : IVec S16 32) (k1_hw51 : k1_chk51 v278), ∀ a x, ((![v278] : Fin 1 → IVec S16 32) a x).toNat < S528.size a := fun v278 k1_hw51 => k1_hw51

def k1_chk52 (v282 : IVec S16 32) : Prop :=
  (∀ a x, ((![v282] : Fin 1 → IVec S16 32) a x).toNat < S528.size a)
theorem k1_idx52_inb : ∀ (v282 : IVec S16 32) (k1_hw52 : k1_chk52 v282), ∀ a x, ((![v282] : Fin 1 → IVec S16 32) a x).toNat < S528.size a := fun v282 k1_hw52 => k1_hw52

def k1_chk53 (v286 : IVec S16 32) : Prop :=
  (∀ a x, ((![v286] : Fin 1 → IVec S16 32) a x).toNat < S528.size a)
theorem k1_idx53_inb : ∀ (v286 : IVec S16 32) (k1_hw53 : k1_chk53 v286), ∀ a x, ((![v286] : Fin 1 → IVec S16 32) a x).toNat < S528.size a := fun v286 k1_hw53 => k1_hw53

def k1_chk54 (v290 : IVec S16 32) : Prop :=
  (∀ a x, ((![v290] : Fin 1 → IVec S16 32) a x).toNat < S528.size a)
theorem k1_idx54_inb : ∀ (v290 : IVec S16 32) (k1_hw54 : k1_chk54 v290), ∀ a x, ((![v290] : Fin 1 → IVec S16 32) a x).toNat < S528.size a := fun v290 k1_hw54 => k1_hw54

def k1_chk55 (v294 : IVec S16 32) : Prop :=
  (∀ a x, ((![v294] : Fin 1 → IVec S16 32) a x).toNat < S528.size a)
theorem k1_idx55_inb : ∀ (v294 : IVec S16 32) (k1_hw55 : k1_chk55 v294), ∀ a x, ((![v294] : Fin 1 → IVec S16 32) a x).toNat < S528.size a := fun v294 k1_hw55 => k1_hw55

def k1_chk56 (v298 : IVec S16 32) : Prop :=
  (∀ a x, ((![v298] : Fin 1 → IVec S16 32) a x).toNat < S528.size a)
theorem k1_idx56_inb : ∀ (v298 : IVec S16 32) (k1_hw56 : k1_chk56 v298), ∀ a x, ((![v298] : Fin 1 → IVec S16 32) a x).toNat < S528.size a := fun v298 k1_hw56 => k1_hw56

def k1_chk57 (v302 : IVec S16 32) : Prop :=
  (∀ a x, ((![v302] : Fin 1 → IVec S16 32) a x).toNat < S528.size a)
theorem k1_idx57_inb : ∀ (v302 : IVec S16 32) (k1_hw57 : k1_chk57 v302), ∀ a x, ((![v302] : Fin 1 → IVec S16 32) a x).toNat < S528.size a := fun v302 k1_hw57 => k1_hw57

def k1_chk58 (v306 : IVec S16 32) : Prop :=
  (∀ a x, ((![v306] : Fin 1 → IVec S16 32) a x).toNat < S528.size a)
theorem k1_idx58_inb : ∀ (v306 : IVec S16 32) (k1_hw58 : k1_chk58 v306), ∀ a x, ((![v306] : Fin 1 → IVec S16 32) a x).toNat < S528.size a := fun v306 k1_hw58 => k1_hw58

def k1_chk59 (v310 : IVec S16 32) : Prop :=
  (∀ a x, ((![v310] : Fin 1 → IVec S16 32) a x).toNat < S528.size a)
theorem k1_idx59_inb : ∀ (v310 : IVec S16 32) (k1_hw59 : k1_chk59 v310), ∀ a x, ((![v310] : Fin 1 → IVec S16 32) a x).toNat < S528.size a := fun v310 k1_hw59 => k1_hw59

def k1_chk60 (v314 : IVec S16 32) : Prop :=
  (∀ a x, ((![v314] : Fin 1 → IVec S16 32) a x).toNat < S528.size a)
theorem k1_idx60_inb : ∀ (v314 : IVec S16 32) (k1_hw60 : k1_chk60 v314), ∀ a x, ((![v314] : Fin 1 → IVec S16 32) a x).toNat < S528.size a := fun v314 k1_hw60 => k1_hw60

def k1_chk61 (v318 : IVec S16 32) : Prop :=
  (∀ a x, ((![v318] : Fin 1 → IVec S16 32) a x).toNat < S528.size a)
theorem k1_idx61_inb : ∀ (v318 : IVec S16 32) (k1_hw61 : k1_chk61 v318), ∀ a x, ((![v318] : Fin 1 → IVec S16 32) a x).toNat < S528.size a := fun v318 k1_hw61 => k1_hw61

def k1_chk62 (v322 : IVec S16 32) : Prop :=
  (∀ a x, ((![v322] : Fin 1 → IVec S16 32) a x).toNat < S528.size a)
theorem k1_idx62_inb : ∀ (v322 : IVec S16 32) (k1_hw62 : k1_chk62 v322), ∀ a x, ((![v322] : Fin 1 → IVec S16 32) a x).toNat < S528.size a := fun v322 k1_hw62 => k1_hw62

def k1_chk63 (v326 : IVec S16 32) : Prop :=
  (∀ a x, ((![v326] : Fin 1 → IVec S16 32) a x).toNat < S528.size a)
theorem k1_idx63_inb : ∀ (v326 : IVec S16 32) (k1_hw63 : k1_chk63 v326), ∀ a x, ((![v326] : Fin 1 → IVec S16 32) a x).toNat < S528.size a := fun v326 k1_hw63 => k1_hw63

def k1_chk64 (v330 : IVec S16 32) : Prop :=
  (∀ a x, ((![v330] : Fin 1 → IVec S16 32) a x).toNat < S528.size a)
theorem k1_idx64_inb : ∀ (v330 : IVec S16 32) (k1_hw64 : k1_chk64 v330), ∀ a x, ((![v330] : Fin 1 → IVec S16 32) a x).toNat < S528.size a := fun v330 k1_hw64 => k1_hw64
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_99 : BitVec 32 := 2#32
  let v169 : BitVec 32 := Scalar.muli v1 c2_i32_99
  let c1_i32 : BitVec 32 := 1#32
  let v170 : BitVec 32 := Scalar.addi v169 c1_i32
  let c512_i32_231 : BitVec 32 := 512#32
  let v334 : BitVec 32 := Scalar.muli v170 c512_i32_231
  ![v334.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x64x1024 : Shape := ⟨3, ![512, 64, 1024]⟩
abbrev S64 : Shape := ⟨1, ![64]⟩
abbrev S_ : Shape := ⟨0, ![]⟩
abbrev S64x16 : Shape := ⟨2, ![64, 16]⟩
abbrev S1 : Shape := ⟨1, ![1]⟩
abbrev S16 : Shape := ⟨1, ![16]⟩
abbrev S1x16 : Shape := ⟨2, ![1, 16]⟩
abbrev S1x1x1x16 : Shape := ⟨4, ![1, 1, 1, 16]⟩
abbrev S64x1x1x16 : Shape := ⟨4, ![64, 1, 1, 16]⟩
abbrev S512 : Shape := ⟨1, ![512]⟩
abbrev S512x64x16 : Shape := ⟨3, ![512, 64, 16]⟩
abbrev S1x64x1024 : Shape := ⟨3, ![1, 64, 1024]⟩
abbrev S64x1024 : Shape := ⟨2, ![64, 1024]⟩
abbrev S64x16x1 : Shape := ⟨3, ![64, 16, 1]⟩
abbrev S64x1x1024 : Shape := ⟨3, ![64, 1, 1024]⟩
abbrev S64x16x1024 : Shape := ⟨3, ![64, 16, 1024]⟩
abbrev S64x16384 : Shape := ⟨2, ![64, 16384]⟩
abbrev S64x1 : Shape := ⟨2, ![64, 1]⟩
abbrev S1x64x16 : Shape := ⟨3, ![1, 64, 16]⟩
abbrev S1x1x1 : Shape := ⟨3, ![1, 1, 1]⟩
abbrev S64x16x512 : Shape := ⟨3, ![64, 16, 512]⟩
abbrev S64x1x512 : Shape := ⟨3, ![64, 1, 512]⟩
abbrev S64x512 : Shape := ⟨2, ![64, 512]⟩
abbrev S1x512 : Shape := ⟨2, ![1, 512]⟩
abbrev S64x511 : Shape := ⟨2, ![64, 511]⟩
abbrev S64x512x1 : Shape := ⟨3, ![64, 512, 1]⟩
abbrev S64x512x2 : Shape := ⟨3, ![64, 512, 2]⟩

abbrev nBuf : Space → Nat
  | .hbm => 237
  | .vmem => 0
  | .smem => 0
  | _ => 0

abbrev hbmTy0_0 (i : Nat) : BufTy := match i % 128 with
  | 0 => ⟨S512x64x1024, .f32⟩
  | 1 => ⟨S64, .i32⟩
  | 2 => ⟨S_, .f32⟩
  | 3 => ⟨S64x16, .f32⟩
  | 4 => ⟨S_, .i32⟩
  | 5 => ⟨S1, .i32⟩
  | 6 => ⟨S_, .f32⟩
  | 7 => ⟨S64, .f32⟩
  | 8 => ⟨S64x16, .f32⟩
  | 9 => ⟨S16, .i32⟩
  | 10 => ⟨S1x16, .i32⟩
  | 11 => ⟨S1x1x1x16, .i32⟩
  | 12 => ⟨S64x1x1x16, .i32⟩
  | 13 => ⟨S64x16, .i32⟩
  | 14 => ⟨S512, .i32⟩
  | 15 => ⟨S_, .i32⟩
  | 16 => ⟨S512x64x16, .i32⟩
  | 17 => ⟨S_, .i32⟩
  | 18 => ⟨S512x64x16, .i32⟩
  | 19 => ⟨S_, .i32⟩
  | 20 => ⟨S512x64x1024, .f32⟩
  | 21 => ⟨S512, .i32⟩
  | 22 => ⟨S64, .i32⟩
  | 23 => ⟨S64x16, .i32⟩
  | 24 => ⟨S_, .i32⟩
  | 25 => ⟨S64x16, .f32⟩
  | 26 => ⟨S512x64x16, .i32⟩
  | 27 => ⟨S512x64x16, .i32⟩
  | 28 => ⟨S_, .i32⟩
  | 29 => ⟨S_, .i1⟩
  | 30 => ⟨S_, .i32⟩
  | 31 => ⟨S_, .i32⟩
  | 32 => ⟨S1x64x1024, .f32⟩
  | 33 => ⟨S64x1024, .f32⟩
  | 34 => ⟨S1, .i32⟩
  | 35 => ⟨S_, .i32⟩
  | 36 => ⟨S64x16x1, .f32⟩
  | 37 => ⟨S64x1x1024, .f32⟩
  | 38 => ⟨S64x16x1024, .f32⟩
  | 39 => ⟨S64x16x1024, .f32⟩
  | 40 => ⟨S64x16x1024, .f32⟩
  | 41 => ⟨S64x16384, .f32⟩
  | 42 => ⟨S64x16, .f32⟩
  | 43 => ⟨S64x16, .i32⟩
  | 44 => ⟨S_, .i32⟩
  | 45 => ⟨S_, .i32⟩
  | 46 => ⟨S64x16, .i32⟩
  | 47 => ⟨S64x16, .i32⟩
  | 48 => ⟨S64x16, .i32⟩
  | 49 => ⟨S_, .i32⟩
  | 50 => ⟨S64x16, .i32⟩
  | 51 => ⟨S64x16, .i1⟩
  | 52 => ⟨S64x16, .i32⟩
  | 53 => ⟨S64x16, .i32⟩
  | 54 => ⟨S_, .i32⟩
  | 55 => ⟨S64x16, .i32⟩
  | 56 => ⟨S64x16, .i1⟩
  | 57 => ⟨S64x16, .i1⟩
  | 58 => ⟨S_, .i32⟩
  | 59 => ⟨S64x16, .i32⟩
  | 60 => ⟨S64x16, .i32⟩
  | 61 => ⟨S64x16, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S64x16, .i32⟩
  | 69 => ⟨S64x16, .i32⟩
  | 70 => ⟨S_, .i32⟩
  | 71 => ⟨S64x16, .i32⟩
  | 72 => ⟨S64x16, .i1⟩
  | 73 => ⟨S_, .i32⟩
  | 74 => ⟨S64x16, .i32⟩
  | 75 => ⟨S64x16, .i1⟩
  | 76 => ⟨S_, .i32⟩
  | 77 => ⟨S_, .i1⟩
  | 78 => ⟨S64x16, .i1⟩
  | 79 => ⟨S64x16, .i1⟩
  | 80 => ⟨S64x16, .i1⟩
  | 81 => ⟨S64x16, .i32⟩
  | 82 => ⟨S64x16, .i32⟩
  | 83 => ⟨S64x16, .i32⟩
  | 84 => ⟨S64, .i32⟩
  | 85 => ⟨S64, .i1⟩
  | 86 => ⟨S64x1, .i1⟩
  | 87 => ⟨S64x16, .i1⟩
  | 88 => ⟨S64x16, .f32⟩
  | 89 => ⟨S64x16, .i1⟩
  | 90 => ⟨S64x16, .i32⟩
  | 91 => ⟨S_, .i32⟩
  | 92 => ⟨S64x16, .i32⟩
  | 93 => ⟨S64x16, .i1⟩
  | 94 => ⟨S64x16, .i32⟩
  | 95 => ⟨S1x64x16, .i32⟩
  | 96 => ⟨S_, .i32⟩
  | 97 => ⟨S_, .i32⟩
  | 98 => ⟨S512x64x16, .i32⟩
  | 99 => ⟨S1x64x16, .i32⟩
  | 100 => ⟨S_, .i32⟩
  | 101 => ⟨S_, .i32⟩
  | 102 => ⟨S512x64x16, .i32⟩
  | 103 => ⟨S_, .i32⟩
  | 104 => ⟨S_, .i32⟩
  | 105 => ⟨S_, .i32⟩
  | 106 => ⟨S512x64x16, .i32⟩
  | 107 => ⟨S_, .i32⟩
  | 108 => ⟨S512x64x16, .i32⟩
  | 109 => ⟨S512x64x16, .i32⟩
  | 110 => ⟨S_, .i32⟩
  | 111 => ⟨S64x16, .i32⟩
  | 112 => ⟨S512x64x16, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x64x16, .i32⟩
  | 122 => ⟨S64x16, .i32⟩
  | 123 => ⟨S_, .i32⟩
  | 124 => ⟨S_, .i32⟩
  | 125 => ⟨S1x64x16, .i32⟩
  | 126 => ⟨S64x16, .i32⟩
  | 127 => ⟨S_, .i32⟩
  | _ => ⟨S512x64x1024, .f32⟩

abbrev hbmTy0_1 (i : Nat) : BufTy := match i % 128 with
  | 0 => ⟨S64x16, .i32⟩
  | 1 => ⟨S64x16, .i1⟩
  | 2 => ⟨S_, .i32⟩
  | 3 => ⟨S64x16, .i32⟩
  | 4 => ⟨S64x16, .i32⟩
  | 5 => ⟨S64x16, .i32⟩
  | 6 => ⟨S64x16x1, .i32⟩
  | 7 => ⟨S1, .i32⟩
  | 8 => ⟨S_, .i32⟩
  | 9 => ⟨S64x16x1, .i32⟩
  | 10 => ⟨S64x16x1, .i1⟩
  | 11 => ⟨S1x1x1, .i32⟩
  | 12 => ⟨S64x16x1, .i32⟩
  | 13 => ⟨S64x16x1, .i1⟩
  | 14 => ⟨S64x16x1, .i1⟩
  | 15 => ⟨S_, .i1⟩
  | 16 => ⟨S64x16, .i1⟩
  | 17 => ⟨S64x16, .i32⟩
  | 18 => ⟨S_, .i32⟩
  | 19 => ⟨S64x16, .i32⟩
  | 20 => ⟨S64x16, .i32⟩
  | 21 => ⟨S_, .i32⟩
  | 22 => ⟨S64x16, .i32⟩
  | 23 => ⟨S64x16, .i1⟩
  | 24 => ⟨S_, .i32⟩
  | 25 => ⟨S64x16, .i32⟩
  | 26 => ⟨S64x16, .i32⟩
  | 27 => ⟨S64x16, .i32⟩
  | 28 => ⟨S64x16x1, .i32⟩
  | 29 => ⟨S1, .i32⟩
  | 30 => ⟨S_, .i32⟩
  | 31 => ⟨S64x16x1, .i32⟩
  | 32 => ⟨S64x16x1, .i1⟩
  | 33 => ⟨S1x1x1, .i32⟩
  | 34 => ⟨S64x16x1, .i32⟩
  | 35 => ⟨S64x16x1, .i1⟩
  | 36 => ⟨S64x16x1, .i1⟩
  | 37 => ⟨S_, .i1⟩
  | 38 => ⟨S64x16, .i1⟩
  | 39 => ⟨S64x16, .i32⟩
  | 40 => ⟨S_, .i32⟩
  | 41 => ⟨S64x16, .i32⟩
  | 42 => ⟨S64x16, .i32⟩
  | 43 => ⟨S1x64x16, .i32⟩
  | 44 => ⟨S_, .i32⟩
  | 45 => ⟨S_, .i32⟩
  | 46 => ⟨S512x64x16, .i32⟩
  | 47 => ⟨S_, .i32⟩
  | 48 => ⟨S_, .i32⟩
  | 49 => ⟨S64x1, .f32⟩
  | 50 => ⟨S64x16x512, .i32⟩
  | 51 => ⟨S64x1x512, .i32⟩
  | 52 => ⟨S64x512, .i32⟩
  | 53 => ⟨S512, .i32⟩
  | 54 => ⟨S1x512, .i32⟩
  | 55 => ⟨S64x1, .i32⟩
  | 56 => ⟨S64x512, .i32⟩
  | 57 => ⟨S64x512, .i32⟩
  | 58 => ⟨S64x512, .i1⟩
  | 59 => ⟨S_, .i32⟩
  | 60 => ⟨S64x1, .i32⟩
  | 61 => ⟨S64x511, .i32⟩
  | 62 => ⟨S64x512, .i32⟩
  | 63 => ⟨S_, .i32⟩
  | 64 => ⟨S64x512, .i32⟩
  | 65 => ⟨S64x512, .i1⟩
  | 66 => ⟨S64x512, .i1⟩
  | 67 => ⟨S64x512, .i1⟩
  | 68 => ⟨S64x512, .i1⟩
  | 69 => ⟨S64x512, .i32⟩
  | 70 => ⟨S_, .i32⟩
  | 71 => ⟨S_, .i32⟩
  | 72 => ⟨S64x512, .i32⟩
  | 73 => ⟨S_, .i32⟩
  | 74 => ⟨S64x512, .i32⟩
  | 75 => ⟨S64x512, .i32⟩
  | 76 => ⟨S_, .i32⟩
  | 77 => ⟨S_, .i32⟩
  | 78 => ⟨S64x512, .i32⟩
  | 79 => ⟨S64x512, .i32⟩
  | 80 => ⟨S_, .i32⟩
  | 81 => ⟨S64x512, .i32⟩
  | 82 => ⟨S64, .i32⟩
  | 83 => ⟨S64x1, .i32⟩
  | 84 => ⟨S_, .i32⟩
  | 85 => ⟨S64x1, .i32⟩
  | 86 => ⟨S64x1, .i1⟩
  | 87 => ⟨S_, .i32⟩
  | 88 => ⟨S64x1, .i32⟩
  | 89 => ⟨S64x1, .i32⟩
  | 90 => ⟨S64x1, .i32⟩
  | 91 => ⟨S_, .i32⟩
  | 92 => ⟨S64x512, .i32⟩
  | 93 => ⟨S64x512, .i1⟩
  | 94 => ⟨S_, .i32⟩
  | 95 => ⟨S64x512, .i32⟩
  | 96 => ⟨S64x512, .i32⟩
  | 97 => ⟨S64x512, .i32⟩
  | 98 => ⟨S64x512, .i32⟩
  | 99 => ⟨S64x512x1, .i32⟩
  | 100 => ⟨S64x512x1, .i32⟩
  | 101 => ⟨S64x512x2, .i32⟩
  | 102 => ⟨S64x512, .i32⟩
  | 103 => ⟨S64x1x512, .i32⟩
  | 104 => ⟨S64x512, .i32⟩
  | 105 => ⟨S_, .i32⟩
  | 106 => ⟨S64, .i32⟩
  | 107 => ⟨S64x1, .i32⟩
  | 108 => ⟨S64x1, .f32⟩
  | _ => ⟨S512x64x1024, .f32⟩

abbrev hbmTy (i : Nat) : BufTy := match i / 128 with
  | 0 => hbmTy0_0 i
  | 1 => hbmTy0_1 i
  | _ => ⟨S512x64x1024, .f32⟩

abbrev bufTy : (tb : Table) → Fin (tcTables nBuf tb) → BufTy
  | .hbm, ⟨i, _⟩ => hbmTy i
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_c_3 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v12_7 : Ref sig .tc := ⟨.hbm, 27, rfl⟩
abbrev main_while0c_c_23 : Ref sig .tc := ⟨.hbm, 28, rfl⟩
abbrev main_while0c_v60 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v60 : Ref sig .tc := ⟨.hbm, 33, rfl⟩
abbrev main_while0b_call1_v0 : Ref sig .tc := ⟨.hbm, 34, rfl⟩
abbrev main_while0b_v61 : Ref sig .tc := ⟨.hbm, 35, rfl⟩
abbrev main_while0b_v62 : Ref sig .tc := ⟨.hbm, 36, rfl⟩
abbrev main_while0b_v63 : Ref sig .tc := ⟨.hbm, 37, rfl⟩
abbrev main_while0b_v64 : Ref sig .tc := ⟨.hbm, 38, rfl⟩
abbrev main_while0b_v65 : Ref sig .tc := ⟨.hbm, 39, rfl⟩
abbrev main_while0b_v66 : Ref sig .tc := ⟨.hbm, 40, rfl⟩
abbrev main_while0b_v67 : Ref sig .tc := ⟨.hbm, 41, rfl⟩
abbrev main_while0b_values : Ref sig .tc := ⟨.hbm, 42, rfl⟩
abbrev main_while0b_indices : Ref sig .tc := ⟨.hbm, 43, rfl⟩
abbrev main_while0b_c_23 : Ref sig .tc := ⟨.hbm, 44, rfl⟩
abbrev main_while0b_call2_v0 : Ref sig .tc := ⟨.hbm, 45, rfl⟩
abbrev main_while0b_call2_v1 : Ref sig .tc := ⟨.hbm, 46, rfl⟩
abbrev main_while0b_call2_v2 : Ref sig .tc := ⟨.hbm, 47, rfl⟩
abbrev main_while0b_call2_v3 : Ref sig .tc := ⟨.hbm, 48, rfl⟩
abbrev main_while0b_call2_v4 : Ref sig .tc := ⟨.hbm, 49, rfl⟩
abbrev main_while0b_call2_v5 : Ref sig .tc := ⟨.hbm, 50, rfl⟩
abbrev main_while0b_call2_v6 : Ref sig .tc := ⟨.hbm, 51, rfl⟩
abbrev main_while0b_call2_v7 : Ref sig .tc := ⟨.hbm, 52, rfl⟩
abbrev main_while0b_call2_v8 : Ref sig .tc := ⟨.hbm, 53, rfl⟩
abbrev main_while0b_call2_c : Ref sig .tc := ⟨.hbm, 54, rfl⟩
abbrev main_while0b_call2_v9 : Ref sig .tc := ⟨.hbm, 55, rfl⟩
abbrev main_while0b_call2_v10 : Ref sig .tc := ⟨.hbm, 56, rfl⟩
abbrev main_while0b_call2_v11 : Ref sig .tc := ⟨.hbm, 57, rfl⟩
abbrev main_while0b_call2_c_0 : Ref sig .tc := ⟨.hbm, 58, rfl⟩
abbrev main_while0b_call2_v12 : Ref sig .tc := ⟨.hbm, 59, rfl⟩
abbrev main_while0b_call2_v13 : Ref sig .tc := ⟨.hbm, 60, rfl⟩
abbrev main_while0b_v68 : Ref sig .tc := ⟨.hbm, 61, rfl⟩
abbrev main_while0b_c_24 : Ref sig .tc := ⟨.hbm, 62, rfl⟩
abbrev main_while0b_call3_v0 : Ref sig .tc := ⟨.hbm, 63, rfl⟩
abbrev main_while0b_call3_c : Ref sig .tc := ⟨.hbm, 64, rfl⟩
abbrev main_while0b_call3_v1 : Ref sig .tc := ⟨.hbm, 65, rfl⟩
abbrev main_while0b_call3_c_0 : Ref sig .tc := ⟨.hbm, 66, rfl⟩
abbrev main_while0b_call3_v2 : Ref sig .tc := ⟨.hbm, 67, rfl⟩
abbrev main_while0b_call3_v3 : Ref sig .tc := ⟨.hbm, 68, rfl⟩
abbrev main_while0b_call3_v4 : Ref sig .tc := ⟨.hbm, 69, rfl⟩
abbrev main_while0b_call3_c_1 : Ref sig .tc := ⟨.hbm, 70, rfl⟩
abbrev main_while0b_call3_v5 : Ref sig .tc := ⟨.hbm, 71, rfl⟩
abbrev main_while0b_call3_v6 : Ref sig .tc := ⟨.hbm, 72, rfl⟩
abbrev main_while0b_call3_c_2 : Ref sig .tc := ⟨.hbm, 73, rfl⟩
abbrev main_while0b_call3_v7 : Ref sig .tc := ⟨.hbm, 74, rfl⟩
abbrev main_while0b_call3_v8 : Ref sig .tc := ⟨.hbm, 75, rfl⟩
abbrev main_while0b_call3_c_3 : Ref sig .tc := ⟨.hbm, 76, rfl⟩
abbrev main_while0b_call3_v9 : Ref sig .tc := ⟨.hbm, 77, rfl⟩
abbrev main_while0b_call3_v10 : Ref sig .tc := ⟨.hbm, 78, rfl⟩
abbrev main_while0b_call3_v11 : Ref sig .tc := ⟨.hbm, 79, rfl⟩
abbrev main_while0b_call3_v12 : Ref sig .tc := ⟨.hbm, 80, rfl⟩
abbrev main_while0b_call3_v13 : Ref sig .tc := ⟨.hbm, 81, rfl⟩
abbrev main_while0b_call3_v14 : Ref sig .tc := ⟨.hbm, 82, rfl⟩
abbrev main_while0b_v69 : Ref sig .tc := ⟨.hbm, 83, rfl⟩
abbrev main_while0b_v70 : Ref sig .tc := ⟨.hbm, 84, rfl⟩
abbrev main_while0b_v71 : Ref sig .tc := ⟨.hbm, 85, rfl⟩
abbrev main_while0b_v72 : Ref sig .tc := ⟨.hbm, 86, rfl⟩
abbrev main_while0b_call4_v0 : Ref sig .tc := ⟨.hbm, 87, rfl⟩
abbrev main_while0b_v73 : Ref sig .tc := ⟨.hbm, 88, rfl⟩
abbrev main_while0b_call5_v0 : Ref sig .tc := ⟨.hbm, 89, rfl⟩
abbrev main_while0b_v74 : Ref sig .tc := ⟨.hbm, 90, rfl⟩
abbrev main_while0b_c_25 : Ref sig .tc := ⟨.hbm, 91, rfl⟩
abbrev main_while0b_v75 : Ref sig .tc := ⟨.hbm, 92, rfl⟩
abbrev main_while0b_call6_v0 : Ref sig .tc := ⟨.hbm, 93, rfl⟩
abbrev main_while0b_v76 : Ref sig .tc := ⟨.hbm, 94, rfl⟩
abbrev main_while0b_call7_v0 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_v77 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_v78 : Ref sig .tc := ⟨.hbm, 102, rfl⟩
abbrev main_while0b_c_26 : Ref sig .tc := ⟨.hbm, 103, rfl⟩
abbrev main_while0b_v79 : Ref sig .tc := ⟨.hbm, 104, rfl⟩
abbrev main_c_4 : Ref sig .tc := ⟨.hbm, 105, rfl⟩
abbrev main_v13 : Ref sig .tc := ⟨.hbm, 106, rfl⟩
abbrev main_c_5 : Ref sig .tc := ⟨.hbm, 107, rfl⟩
abbrev main_v14_0 : Ref sig .tc := ⟨.hbm, 108, rfl⟩
abbrev main_v14_1 : Ref sig .tc := ⟨.hbm, 109, rfl⟩
abbrev main_v14_2 : Ref sig .tc := ⟨.hbm, 110, rfl⟩
abbrev main_v14_3 : Ref sig .tc := ⟨.hbm, 111, rfl⟩
abbrev main_v14_4 : Ref sig .tc := ⟨.hbm, 112, rfl⟩
abbrev main_while1c_c_20 : Ref sig .tc := ⟨.hbm, 113, rfl⟩
abbrev main_while1c_v60 : Ref sig .tc := ⟨.hbm, 114, rfl⟩
abbrev main_while1b_c_20 : Ref sig .tc := ⟨.hbm, 115, rfl⟩
abbrev main_while1b_v60 : Ref sig .tc := ⟨.hbm, 116, rfl⟩
abbrev main_while1b_c_21 : Ref sig .tc := ⟨.hbm, 117, rfl⟩
abbrev main_while1b_v61 : Ref sig .tc := ⟨.hbm, 118, rfl⟩
abbrev main_while1b_call9_c : Ref sig .tc := ⟨.hbm, 119, rfl⟩
abbrev main_while1b_call9_c_0 : Ref sig .tc := ⟨.hbm, 120, rfl⟩
abbrev main_while1b_call9_v0 : Ref sig .tc := ⟨.hbm, 121, rfl⟩
abbrev main_while1b_v62 : Ref sig .tc := ⟨.hbm, 122, rfl⟩
abbrev main_while1b_call10_c : Ref sig .tc := ⟨.hbm, 123, rfl⟩
abbrev main_while1b_call10_c_0 : Ref sig .tc := ⟨.hbm, 124, rfl⟩
abbrev main_while1b_call10_v0 : Ref sig .tc := ⟨.hbm, 125, rfl⟩
abbrev main_while1b_v63 : Ref sig .tc := ⟨.hbm, 126, rfl⟩
abbrev main_while1b_call11_c : Ref sig .tc := ⟨.hbm, 127, rfl⟩
abbrev main_while1b_call11_v0 : Ref sig .tc := ⟨.hbm, 128, rfl⟩
abbrev main_while1b_call11_v1 : Ref sig .tc := ⟨.hbm, 129, rfl⟩
abbrev main_while1b_call11_c_0 : Ref sig .tc := ⟨.hbm, 130, rfl⟩
abbrev main_while1b_call11_v2 : Ref sig .tc := ⟨.hbm, 131, rfl⟩
abbrev main_while1b_call11_v3 : Ref sig .tc := ⟨.hbm, 132, rfl⟩
abbrev main_while1b_call11_v4 : Ref sig .tc := ⟨.hbm, 133, rfl⟩
abbrev main_while1b_call11_v5 : Ref sig .tc := ⟨.hbm, 134, rfl⟩
abbrev main_while1b_call11_c_1 : Ref sig .tc := ⟨.hbm, 135, rfl⟩
abbrev main_while1b_call11_c_2 : Ref sig .tc := ⟨.hbm, 136, rfl⟩
abbrev main_while1b_call11_v6 : Ref sig .tc := ⟨.hbm, 137, rfl⟩
abbrev main_while1b_call11_v7 : Ref sig .tc := ⟨.hbm, 138, rfl⟩
abbrev main_while1b_call11_v8 : Ref sig .tc := ⟨.hbm, 139, rfl⟩
abbrev main_while1b_call11_v9 : Ref sig .tc := ⟨.hbm, 140, rfl⟩
abbrev main_while1b_call11_v10 : Ref sig .tc := ⟨.hbm, 141, rfl⟩
abbrev main_while1b_call11_v11 : Ref sig .tc := ⟨.hbm, 142, rfl⟩
abbrev main_while1b_call11_c_3 : Ref sig .tc := ⟨.hbm, 143, rfl⟩
abbrev main_while1b_call11_v12 : Ref sig .tc := ⟨.hbm, 144, rfl⟩
abbrev main_while1b_call11_v13 : Ref sig .tc := ⟨.hbm, 145, rfl⟩
abbrev main_while1b_call11_c_4 : Ref sig .tc := ⟨.hbm, 146, rfl⟩
abbrev main_while1b_call11_v14 : Ref sig .tc := ⟨.hbm, 147, rfl⟩
abbrev main_while1b_v64 : Ref sig .tc := ⟨.hbm, 148, rfl⟩
abbrev main_while1b_call12_c : Ref sig .tc := ⟨.hbm, 149, rfl⟩
abbrev main_while1b_call12_v0 : Ref sig .tc := ⟨.hbm, 150, rfl⟩
abbrev main_while1b_call12_v1 : Ref sig .tc := ⟨.hbm, 151, rfl⟩
abbrev main_while1b_call12_c_0 : Ref sig .tc := ⟨.hbm, 152, rfl⟩
abbrev main_while1b_call12_v2 : Ref sig .tc := ⟨.hbm, 153, rfl⟩
abbrev main_while1b_call12_v3 : Ref sig .tc := ⟨.hbm, 154, rfl⟩
abbrev main_while1b_call12_v4 : Ref sig .tc := ⟨.hbm, 155, rfl⟩
abbrev main_while1b_call12_v5 : Ref sig .tc := ⟨.hbm, 156, rfl⟩
abbrev main_while1b_call12_c_1 : Ref sig .tc := ⟨.hbm, 157, rfl⟩
abbrev main_while1b_call12_c_2 : Ref sig .tc := ⟨.hbm, 158, rfl⟩
abbrev main_while1b_call12_v6 : Ref sig .tc := ⟨.hbm, 159, rfl⟩
abbrev main_while1b_call12_v7 : Ref sig .tc := ⟨.hbm, 160, rfl⟩
abbrev main_while1b_call12_v8 : Ref sig .tc := ⟨.hbm, 161, rfl⟩
abbrev main_while1b_call12_v9 : Ref sig .tc := ⟨.hbm, 162, rfl⟩
abbrev main_while1b_call12_v10 : Ref sig .tc := ⟨.hbm, 163, rfl⟩
abbrev main_while1b_call12_v11 : Ref sig .tc := ⟨.hbm, 164, rfl⟩
abbrev main_while1b_call12_c_3 : Ref sig .tc := ⟨.hbm, 165, rfl⟩
abbrev main_while1b_call12_v12 : Ref sig .tc := ⟨.hbm, 166, rfl⟩
abbrev main_while1b_call12_v13 : Ref sig .tc := ⟨.hbm, 167, rfl⟩
abbrev main_while1b_call12_c_4 : Ref sig .tc := ⟨.hbm, 168, rfl⟩
abbrev main_while1b_call12_v14 : Ref sig .tc := ⟨.hbm, 169, rfl⟩
abbrev main_while1b_v65 : Ref sig .tc := ⟨.hbm, 170, rfl⟩
abbrev main_while1b_call13_v0 : Ref sig .tc := ⟨.hbm, 171, rfl⟩
abbrev main_while1b_call13_c : Ref sig .tc := ⟨.hbm, 172, rfl⟩
abbrev main_while1b_call13_c_0 : Ref sig .tc := ⟨.hbm, 173, rfl⟩
abbrev main_while1b_v66 : Ref sig .tc := ⟨.hbm, 174, rfl⟩
abbrev main_while1b_c_22 : Ref sig .tc := ⟨.hbm, 175, rfl⟩
abbrev main_while1b_v67 : Ref sig .tc := ⟨.hbm, 176, rfl⟩
abbrev main_v15 : Ref sig .tc := ⟨.hbm, 177, rfl⟩
abbrev main_v16 : Ref sig .tc := ⟨.hbm, 178, rfl⟩
abbrev main_v17 : Ref sig .tc := ⟨.hbm, 179, rfl⟩
abbrev main_v18 : Ref sig .tc := ⟨.hbm, 180, rfl⟩
abbrev main_v19 : Ref sig .tc := ⟨.hbm, 181, rfl⟩
abbrev main_v20 : Ref sig .tc := ⟨.hbm, 182, rfl⟩
abbrev main_v21 : Ref sig .tc := ⟨.hbm, 183, rfl⟩
abbrev main_v22 : Ref sig .tc := ⟨.hbm, 184, rfl⟩
abbrev main_v23 : Ref sig .tc := ⟨.hbm, 185, rfl⟩
abbrev main_v24 : Ref sig .tc := ⟨.hbm, 186, rfl⟩
abbrev main_c_6 : Ref sig .tc := ⟨.hbm, 187, rfl⟩
abbrev main_v25 : Ref sig .tc := ⟨.hbm, 188, rfl⟩
abbrev main_v26 : Ref sig .tc := ⟨.hbm, 189, rfl⟩
abbrev main_v27 : Ref sig .tc := ⟨.hbm, 190, rfl⟩
abbrev main_c_7 : Ref sig .tc := ⟨.hbm, 191, rfl⟩
abbrev main_v28 : Ref sig .tc := ⟨.hbm, 192, rfl⟩
abbrev main_v29 : Ref sig .tc := ⟨.hbm, 193, rfl⟩
abbrev main_v30 : Ref sig .tc := ⟨.hbm, 194, rfl⟩
abbrev main_v31 : Ref sig .tc := ⟨.hbm, 195, rfl⟩
abbrev main_v32 : Ref sig .tc := ⟨.hbm, 196, rfl⟩
abbrev main_call14_v0 : Ref sig .tc := ⟨.hbm, 197, rfl⟩
abbrev main_call14_call0_c : Ref sig .tc := ⟨.hbm, 198, rfl⟩
abbrev main_call14_call0_v0 : Ref sig .tc := ⟨.hbm, 199, rfl⟩
abbrev main_v33 : Ref sig .tc := ⟨.hbm, 200, rfl⟩
abbrev main_c_8 : Ref sig .tc := ⟨.hbm, 201, rfl⟩
abbrev main_v34 : Ref sig .tc := ⟨.hbm, 202, rfl⟩
abbrev main_v35 : Ref sig .tc := ⟨.hbm, 203, rfl⟩
abbrev main_c_9 : Ref sig .tc := ⟨.hbm, 204, rfl⟩
abbrev main_call15_v0 : Ref sig .tc := ⟨.hbm, 205, rfl⟩
abbrev main_call15_v1 : Ref sig .tc := ⟨.hbm, 206, rfl⟩
abbrev main_v36 : Ref sig .tc := ⟨.hbm, 207, rfl⟩
abbrev main_c_10 : Ref sig .tc := ⟨.hbm, 208, rfl⟩
abbrev main_v37 : Ref sig .tc := ⟨.hbm, 209, rfl⟩
abbrev main_v38 : Ref sig .tc := ⟨.hbm, 210, rfl⟩
abbrev main_v39 : Ref sig .tc := ⟨.hbm, 211, rfl⟩
abbrev main_c_11 : Ref sig .tc := ⟨.hbm, 212, rfl⟩
abbrev main_v40 : Ref sig .tc := ⟨.hbm, 213, rfl⟩
abbrev main_v41 : Ref sig .tc := ⟨.hbm, 214, rfl⟩
abbrev main_c_12 : Ref sig .tc := ⟨.hbm, 215, rfl⟩
abbrev main_v42 : Ref sig .tc := ⟨.hbm, 216, rfl⟩
abbrev main_v43 : Ref sig .tc := ⟨.hbm, 217, rfl⟩
abbrev main_v44 : Ref sig .tc := ⟨.hbm, 218, rfl⟩
abbrev main_c_13 : Ref sig .tc := ⟨.hbm, 219, rfl⟩
abbrev main_v45 : Ref sig .tc := ⟨.hbm, 220, rfl⟩
abbrev main_v46 : Ref sig .tc := ⟨.hbm, 221, rfl⟩
abbrev main_c_14 : Ref sig .tc := ⟨.hbm, 222, rfl⟩
abbrev main_v47 : Ref sig .tc := ⟨.hbm, 223, rfl⟩
abbrev main_v48 : Ref sig .tc := ⟨.hbm, 224, rfl⟩
abbrev main_v49 : Ref sig .tc := ⟨.hbm, 225, rfl⟩
abbrev main_v50 : Ref sig .tc := ⟨.hbm, 226, rfl⟩
abbrev main_v51 : Ref sig .tc := ⟨.hbm, 227, rfl⟩
abbrev main_v52 : Ref sig .tc := ⟨.hbm, 228, rfl⟩
abbrev main_v53 : Ref sig .tc := ⟨.hbm, 229, rfl⟩
abbrev main_v54 : Ref sig .tc := ⟨.hbm, 230, rfl⟩
abbrev main_v55 : Ref sig .tc := ⟨.hbm, 231, rfl⟩
abbrev main_v56 : Ref sig .tc := ⟨.hbm, 232, rfl⟩
abbrev main_c_15 : Ref sig .tc := ⟨.hbm, 233, rfl⟩
abbrev main_v57 : Ref sig .tc := ⟨.hbm, 234, rfl⟩
abbrev main_v58 : Ref sig .tc := ⟨.hbm, 235, rfl⟩
abbrev main_v59 : Ref sig .tc := ⟨.hbm, 236, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Pure.lean ====
/- One row of the collapse, as plain functions of a length and the row's labels. -/
module

public import Idealize.ShloMosaic.Lib.ValueIdx
public import Idealize.ShloMosaic.Lib.ValueLayout
public import Mathlib.Data.Finset.Card

@[expose] public section

namespace Cert.Col

open Idealize.ShloMosaic Idealize.ShloMosaic.ValueIdx

/-- Whether step `t` is before the length `L`. -/
def act (L : BitVec 32) (t : ℕ) : BitVec 1 := IntOp.cmpi .slt (BitVec.ofNat 32 t) L

variable (L : BitVec 32) (e : ℕ → BitVec 32)

/-- The label at step `t`, 0 from the length on. -/
def sqv (t : ℕ) : BitVec 32 := Scalar.select (act L t) (e t) 0#32

/-- The label before step `t`, −1 at the first. -/
def pv (t : ℕ) : BitVec 32 := if t = 0 then 4294967295#32 else sqv L e (t - 1)

/-- Whether the label at step `t` is kept. -/
def kp (t : ℕ) : BitVec 1 :=
  IntOp.andi (IntOp.andi (act L t) (IntOp.cmpi .ne (sqv L e t) 0#32)) (IntOp.cmpi .ne (sqv L e t) (pv L e t))

/-- How many labels are kept up to and with step `t`. -/
def cnt (t : ℕ) : ℕ := ((Finset.univ : Finset (Fin 512)).filter fun k => kp L e k.val = 1#1 ∧ k.val ≤ t).card

theorem cnt_le (t : ℕ) : cnt L e t ≤ 512 := by
  have := Finset.card_filter_le (Finset.univ : Finset (Fin 512)) fun k => kp L e k.val = 1#1 ∧ k.val ≤ t
  simpa [cnt] using this

theorem cnt_pos (t : ℕ) (ht : t < 512) (h : kp L e t = 1#1) : 1 ≤ cnt L e t :=
  Finset.card_pos.2 ⟨⟨t, ht⟩, by simp [h]⟩

theorem cnt_congr (e' : ℕ → BitVec 32) (h : ∀ t < 512, sqv L e t = sqv L e' t) (t : ℕ) (ht : t < 512) :
    kp L e t = kp L e' t := by
  unfold kp pv
  rw [h t ht]
  split
  · rfl
  · rw [h (t - 1) (by omega)]

end Cert.Col
-- ==== Proof.KCol.lean ====
/- The kernel's collapse, read at a row and a step: over the extended reals the product with the triangle of ones counts
   the kept labels exactly. -/
module

public import proofs.«01_k».proof.Proof.Pure
public import proofs.«01_k».proof.Proof.Gen.KernelIdeal.Skeleton
public import Idealize.ShloMosaic.Lib.MatmulPlain
public import Idealize.ShloMosaic.PureOps.IdealRules
public import Idealize.ShloMosaic.Lib.ValueLayoutCasts
public import Idealize.ShloMosaic.Lib.Pipeline.Value

@[expose] public section

set_option maxRecDepth 16384

noncomputable section

namespace Cert.Beam

open Idealize.ShloMosaic Idealize.ShloMosaic.ValueIdx
open Cert.KernelIdeal Cert.KernelIdeal.Gen
open Cert.Col

/-- Row `b` of a column of labels. -/
def rowL (v227 : IVec S512x64 32) (b : Fin 64) (t : ℕ) : BitVec 32 := v227 (ix2 ⟨t % 512, Nat.mod_lt _ (by decide)⟩ b)

section Any

variable {F : FTy → Type} [FloatOps F] (v6 : IVec S1x64 32) (v227 : IVec S512x64 32) (b : Fin 64) (t : Fin 512)

theorem pay4_apply : k0_pay4 v6 (ix2 b t) = act (v6 (ix2 0 b)) t.val := by
  have h1 : shapeCast S64x1 v6 shapeCasts_S1x64_S64x1 (ix2 b (0 : Fin 1)) = v6 (ix2 (0 : Fin 1) b) :=
    shapeCast_apply v6 _ _ _ (by
      rw [Shape.rowMajor_val_two, Shape.rowMajor_val_two]
      show 0 * 64 + b.val = b.val * 1 + 0
      omega)
  have h2 : broadcastTo S64x512 (shapeCast S64x1 v6 shapeCasts_S1x64_S64x1) broadcasts_S64x1_S64x512 (ix2 b t) = v6 (ix2 (0 : Fin 1) b) := by
    rw [← h1]
    refine broadcastTo_apply _ _ (ix2 b t) (ix2 b (0 : Fin 1)) fun ax => ?_
    match ax with
    | ⟨0, _⟩ => rfl
    | ⟨1, _⟩ => rfl
  show IntOp.cmpi .slt (BitVec.ofNat 32 (0 * 512 + t.val)) (broadcastTo S64x512 (shapeCast S64x1 v6 shapeCasts_S1x64_S64x1) broadcasts_S64x1_S64x512 (ix2 b t)) = _
  rw [h2, Nat.zero_mul, Nat.zero_add]
  rfl

theorem pay5_apply : k0_pay5 (F := F) v6 v227 (ix2 b t) = sqv (v6 (ix2 0 b)) (rowL v227 b) t.val := by
  show Scalar.select (k0_pay4 v6 (ix2 b t)) (transpose S64x512 [1, 0] v227 transposes_S512x64_p1_0_S64x512 (ix2 b t)) 0#32 = _
  have h := transpose_ix2_apply v227 transposes_S512x64_p1_0_S64x512 b t
  rw [pay4_apply, h]
  have : (⟨t.val % 512, Nat.mod_lt _ (by decide)⟩ : Fin 512) = t := Fin.ext (Nat.mod_eq_of_lt t.isLt)
  unfold sqv rowL
  rw [this]

theorem prev_apply : concatenate S64x512 1 [⟨S64x1, broadcast S64x1 4294967295#32⟩,
      ⟨S64x511, extractStridedSlice S64x511 ![0, 0] (k0_pay5 (F := F) v6 v227) slices_S64x512_o0_0_S64x511⟩]
      concatenates_S64x1_S64x511_S64x512_d1 (ix2 b t) = pv (v6 (ix2 0 b)) (rowL v227 b) t.val := by
  unfold pv
  by_cases h0 : t.val = 0
  · rw [if_pos h0]
    refine (concatenate_pair_apply_left (t := S64x512) (s₁ := S64x1) (s₂ := S64x511) 1 _ _ concatenates_S64x1_S64x511_S64x512_d1
      (ix2 b t) rfl (ix2 b (0 : Fin 1)) fun ax => ?_).trans rfl
    match ax with
    | ⟨0, _⟩ => rfl
    | ⟨1, _⟩ => exact h0.symm
  · rw [if_neg h0]
    have ht := t.isLt
    refine (concatenate_pair_apply_right (t := S64x512) (s₁ := S64x1) (s₂ := S64x511) 1 _ _ concatenates_S64x1_S64x511_S64x512_d1
      (ix2 b t) rfl rfl (ix2 b (⟨t.val - 1, by omega⟩ : Fin 511)) (fun ax hax => ?_) ?_).trans ?_
    · match ax with
      | ⟨0, _⟩ => rfl
      | ⟨1, _⟩ => exact absurd rfl hax
    · show t.val - 1 + 1 = t.val
      omega
    · refine (slice2_axis1_apply 0 (k0_pay5 (F := F) v6 v227) slices_S64x512_o0_0_S64x511 b _ (⟨t.val - 1, by omega⟩ : Fin 512) (by simp)).trans ?_
      exact pay5_apply v6 v227 b ⟨t.val - 1, by omega⟩

theorem pay6_apply : k0_pay6 (F := F) v6 v227 (ix2 b t) = kp (v6 (ix2 0 b)) (rowL v227 b) t.val := by
  have h := prev_apply (F := F) v6 v227 b t
  have h5 := pay5_apply (F := F) v6 v227 b t
  have h4 := pay4_apply v6 b t
  unfold kp
  rw [← h, ← h5, ← h4]
  rfl

end Any

section AtReals

variable (v6 : IVec S1x64 32) (v227 : IVec S512x64 32) (b : Fin 64) (t : Fin 512)

theorem ofInt_bit (p : BitVec 1) : ((p.setWidth 32).toInt : ℝ) = if p = 1#1 then 1 else 0 := by
  rcases BitVec.eq_zero_or_eq_one p with h | h <;> subst h <;> simp

theorem bit_mul (p q : BitVec 1) : ((((p.setWidth 32).toInt : ℝ) : EReal)) * ((((q.setWidth 32).toInt : ℝ) : EReal))
    = (((if p = 1#1 ∧ q = 1#1 then (1 : ℕ) else 0 : ℕ) : ℝ) : EReal) := by
  rw [ofInt_bit, ofInt_bit, ← EReal.coe_mul]
  congr 1
  by_cases hp : p = 1#1 <;> by_cases hq : q = 1#1 <;> simp [hp, hq]

theorem sum_coe_nat {ι : Type} (s : Finset ι) (f : ι → ℕ) :
    (∑ k ∈ s, (((f k : ℕ) : ℝ) : EReal)) = (((∑ k ∈ s, f k : ℕ) : ℝ) : EReal) := by
  classical
  induction s using Finset.induction_on with
  | empty => simp
  | insert a s ha ih => rw [Finset.sum_insert ha, Finset.sum_insert ha, ih, ← EReal.coe_add, Nat.cast_add]

theorem fptosi_nat (n : ℕ) (h : n ≤ 512) : Ideal.fptosi 32 (((n : ℕ) : ℝ) : EReal) = BitVec.ofNat 32 n := by
  have : Ideal.toIntClamped (-(2 ^ (32 - 1) : ℕ)) ((2 ^ (32 - 1) : ℕ) - 1) (((n : ℕ) : ℝ) : EReal) = (n : ℤ) := by
    show max _ (min _ (if (0 : ℝ) ≤ (n : ℝ) then ⌊((n : ℕ) : ℝ)⌋ else ⌈((n : ℕ) : ℝ)⌉)) = _
    rw [if_pos (Nat.cast_nonneg n), Int.floor_natCast]
    norm_num
    omega
  unfold Ideal.fptosi
  rw [this]
  exact BitVec.ofInt_natCast 32 n

theorem sle_ofNat (k t : ℕ) (hk : k < 512) (ht : t < 512) :
    IntOp.cmpi .sle (BitVec.ofNat 32 k) (BitVec.ofNat 32 t) = 1#1 ↔ k ≤ t := by
  show BitVec.ofBool ((BitVec.ofNat 32 k).sle (BitVec.ofNat 32 t)) = 1#1 ↔ k ≤ t
  have e1 : (BitVec.ofNat 32 k).toInt = k := by
    rw [BitVec.toInt_eq_toNat_of_lt (by simp; omega)]; simp; omega
  have e2 : (BitVec.ofNat 32 t).toInt = t := by
    rw [BitVec.toInt_eq_toNat_of_lt (by simp; omega)]; simp; omega
  unfold BitVec.sle
  rw [e1, e2]
  by_cases h : k ≤ t <;> simp [h]

theorem pay7_apply : k0_pay7 (F := Ideal) v6 v227 (ix2 b t) = BitVec.ofNat 32 (cnt (v6 (ix2 0 b)) (rowL v227 b) t.val) := by
  show Ideal.fptosi 32 (FloatOps.matmul (F := Ideal) (DotDims.plain 64 512 512) none
    (sitofp .f32 (extui 32 (k0_pay6 (F := Ideal) v6 v227) natLt_1_32))
    (sitofp .f32 (extui 32 (cmpi .sle (iota .tc S512x512 32 [0] iota_S512x512_d0_w32) (iota .tc S512x512 32 [1] iota_S512x512_d1_w32)) natLt_1_32))
    (constant S64x512 .f32 0x00000000#32) (ix2 b t)) = _
  rw [Ideal.matmul_plain_apply]
  have hz : (constant S64x512 .f32 0x00000000#32 : FVec Ideal S64x512 .f32) (ix2 b t) = 0 := IdealRules.sign_bit.ideal_zero .f32
  rw [hz, zero_add]
  rw [← fptosi_nat _ (cnt_le _ _ _)]
  congr 1
  unfold cnt
  rw [Finset.card_filter, ← sum_coe_nat]
  refine Finset.sum_congr rfl fun k _ => ?_
  refine (bit_mul (k0_pay6 (F := Ideal) v6 v227 (ix2 b k)) (IntOp.cmpi .sle (BitVec.ofNat 32 (0 * 512 + k.val)) (BitVec.ofNat 32 (0 * 512 + t.val)))).trans ?_
  rw [pay6_apply, Nat.zero_mul, Nat.zero_add, Nat.zero_add]
  simp only [sle_ofNat _ _ k.isLt t.isLt]

theorem pay8_apply : k0_pay8 (F := Ideal) v6 v227 (ix2 b (0 : Fin 1)) = BitVec.ofNat 32 (cnt (v6 (ix2 0 b)) (rowL v227 b) 511) :=
  (slice2_axis1_apply 511 (k0_pay7 (F := Ideal) v6 v227) slices_S64x512_o0_511_S64x1 b (0 : Fin 1) (⟨511, by decide⟩ : Fin 512) rfl).trans
    (pay7_apply v6 v227 b ⟨511, by decide⟩)

theorem pay9_apply : k0_pay9 (F := Ideal) v6 v227 (ix2 b t)
    = Scalar.select (kp (v6 (ix2 0 b)) (rowL v227 b) t.val) (IntOp.subi (BitVec.ofNat 32 (cnt (v6 (ix2 0 b)) (rowL v227 b) t.val)) 1#32)
        (IntOp.addi 512#32 (IntOp.andi (BitVec.ofNat 32 t.val) 15#32)) := by
  rw [← pay6_apply (F := Ideal), ← pay7_apply]
  show Scalar.select _ _ (IntOp.addi 512#32 (IntOp.andi (BitVec.ofNat 32 (0 * 512 + t.val)) 15#32)) = _
  rw [Nat.zero_mul, Nat.zero_add]
  rfl

/-- A kept label's position is its count less one. -/
theorem pay9_kept (h : kp (v6 (ix2 0 b)) (rowL v227 b) t.val = 1#1) :
    (k0_pay9 (F := Ideal) v6 v227 (ix2 b t)).toNat + 1 = cnt (v6 (ix2 0 b)) (rowL v227 b) t.val := by
  rw [pay9_apply, h, select_one]
  have h1 := cnt_le (v6 (ix2 0 b)) (rowL v227 b) t.val
  have h2 := cnt_pos (v6 (ix2 0 b)) (rowL v227 b) t.val t.isLt h
  show (BitVec.ofNat 32 _ - 1#32).toNat + 1 = _
  rw [BitVec.toNat_sub, BitVec.toNat_ofNat]
  simp only [BitVec.toNat_ofNat]
  omega

/-- A label not kept is put at 512 or past it. -/
theorem pay9_dropped (h : kp (v6 (ix2 0 b)) (rowL v227 b) t.val ≠ 1#1) :
    512 ≤ (k0_pay9 (F := Ideal) v6 v227 (ix2 b t)).toNat ∧ (k0_pay9 (F := Ideal) v6 v227 (ix2 b t)).toNat < 528 := by
  rw [pay9_apply, eq_zero_of_ne_one h, select_zero]
  show 512 ≤ (512#32 + (BitVec.ofNat 32 t.val &&& 15#32)).toNat ∧ (512#32 + (BitVec.ofNat 32 t.val &&& 15#32)).toNat < 528
  have : (BitVec.ofNat 32 t.val &&& 15#32).toNat ≤ 15 := by
    rw [BitVec.toNat_and]; exact Nat.and_le_right
  rw [BitVec.toNat_add]
  simp only [BitVec.toNat_ofNat] at *
  omega

theorem pay9_lt : (k0_pay9 (F := Ideal) v6 v227 (ix2 b t)).toNat < 528 := by
  by_cases h : kp (v6 (ix2 0 b)) (rowL v227 b) t.val = 1#1
  · have := pay9_kept v6 v227 b t h
    have := cnt_le (v6 (ix2 0 b)) (rowL v227 b) t.val
    omega
  · exact (pay9_dropped v6 v227 b t h).2

end AtReals

end Cert.Beam
-- ==== Proof.Common.lean ====
/- What the run's modules share: the kernel's launch configuration, the ghost state (the SparseCore handshakes' rounds,
   the TensorCore pipeline's rounds, the local transfers' counters) and its embeddings. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Transfers
public import Idealize.ShloMosaic.Lib.SparseCore.Quiescent

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's, the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ _) := by
  unfold EP; infer_instance

theorem ownU_split (a : UH) (b : UP) :
    (ownU ((a, (b, 1)) : UU) : sProp (MT nD τ sig (HIx 1) (Elt F) ℕ UU ℕ)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

end Cert.Beam

end
-- ==== Proof.Greedy.lean ====
/- The TensorCore body: what one grid point computes, and its triple. -/
module

public import Idealize.ShloMosaic.Lib.VecWindow
public import proofs.«01_k».proof.Proof.Common

@[expose] public section

set_option maxRecDepth 16384

noncomputable section

namespace Cert.Beam

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

/-! ## What one grid point computes -/

section Values

variable (i : grid0.Coords) (x0 : Vec F S1x64 .i32) (x1 : Vec F S32x64x1024 .f32) (s : Vec F S1x64 .f32)

abbrev t0w : BitVec 32 := Scalar.muli (BitVec.ofNat 32 (i 0).val) 32#32
abbrev mx : FVec F S32x64 .f32 := k0_pay11 x1
abbrev dl : IVec S1x64 32 := k0_pay12 x0
abbrev g14 : FVec F S1x64 .f32 := k0_pay13 i x1 x0 s
abbrev g20 : FVec F S1x64 .f32 := k0_pay14 i x1 x0 s
abbrev g26 : FVec F S1x64 .f32 := k0_pay15 i x1 x0 s
abbrev g32 : FVec F S1x64 .f32 := k0_pay16 i x1 x0 s
abbrev g38 : FVec F S1x64 .f32 := k0_pay17 i x1 x0 s
abbrev g44 : FVec F S1x64 .f32 := k0_pay19 (mx x1) (dl x0) (g38 i x0 x1 s) (k0_pay18 i)
abbrev g50 : FVec F S1x64 .f32 := k0_pay20 (mx x1) (dl x0) (t0w i) (g38 i x0 x1 s) (k0_pay18 i)
abbrev g56 : FVec F S1x64 .f32 := k0_pay21 (mx x1) (dl x0) (t0w i) (g38 i x0 x1 s) (k0_pay18 i)
abbrev g62 : FVec F S1x64 .f32 := k0_pay22 (mx x1) (dl x0) (t0w i) (g38 i x0 x1 s) (k0_pay18 i)
abbrev g68 : FVec F S1x64 .f32 := k0_pay23 (mx x1) (dl x0) (t0w i) (g38 i x0 x1 s) (k0_pay18 i)
abbrev g74 : FVec F S1x64 .f32 := k0_pay24 (mx x1) (dl x0) (t0w i) (g38 i x0 x1 s) (k0_pay18 i)
abbrev g80 : FVec F S1x64 .f32 := k0_pay25 (mx x1) (dl x0) (t0w i) (g38 i x0 x1 s) (k0_pay18 i)
abbrev g86 : FVec F S1x64 .f32 := k0_pay26 (mx x1) (dl x0) (t0w i) (g38 i x0 x1 s) (k0_pay18 i)
abbrev g92 : FVec F S1x64 .f32 := k0_pay27 (mx x1) (dl x0) (t0w i) (g38 i x0 x1 s) (k0_pay18 i)
abbrev g98 : FVec F S1x64 .f32 := k0_pay28 (mx x1) (dl x0) (t0w i) (g92 i x0 x1 s)
abbrev g104 : FVec F S1x64 .f32 := k0_pay29 (mx x1) (dl x0) (t0w i) (g92 i x0 x1 s)
abbrev g110 : FVec F S1x64 .f32 := k0_pay30 (mx x1) (dl x0) (t0w i) (g92 i x0 x1 s)
abbrev g116 : FVec F S1x64 .f32 := k0_pay31 (mx x1) (dl x0) (t0w i) (g92 i x0 x1 s)
abbrev g122 : FVec F S1x64 .f32 := k0_pay32 (mx x1) (dl x0) (t0w i) (g92 i x0 x1 s)
abbrev g128 : FVec F S1x64 .f32 := k0_pay33 (mx x1) (dl x0) (t0w i) (g92 i x0 x1 s)
abbrev g134 : FVec F S1x64 .f32 := k0_pay34 (mx x1) (dl x0) (t0w i) (g92 i x0 x1 s)
abbrev g140 : FVec F S1x64 .f32 := k0_pay35 (mx x1) (dl x0) (t0w i) (g92 i x0 x1 s)
abbrev g146 : FVec F S1x64 .f32 := k0_pay37 (mx x1) (g140 i x0 x1 s) (k0_pay36 (dl x0) (t0w i))
abbrev g152 : FVec F S1x64 .f32 := k0_pay38 (mx x1) (dl x0) (t0w i) (g140 i x0 x1 s) (k0_pay36 (dl x0) (t0w i))
abbrev g158 : FVec F S1x64 .f32 := k0_pay39 (mx x1) (dl x0) (t0w i) (g140 i x0 x1 s) (k0_pay36 (dl x0) (t0w i))
abbrev g164 : FVec F S1x64 .f32 := k0_pay40 (mx x1) (dl x0) (t0w i) (g140 i x0 x1 s) (k0_pay36 (dl x0) (t0w i))
abbrev g170 : FVec F S1x64 .f32 := k0_pay41 (mx x1) (dl x0) (t0w i) (g140 i x0 x1 s) (k0_pay36 (dl x0) (t0w i))
abbrev g176 : FVec F S1x64 .f32 := k0_pay42 (mx x1) (dl x0) (t0w i) (g140 i x0 x1 s) (k0_pay36 (dl x0) (t0w i))
abbrev g182 : FVec F S1x64 .f32 := k0_pay43 (mx x1) (dl x0) (t0w i) (g140 i x0 x1 s) (k0_pay36 (dl x0) (t0w i))
abbrev g188 : FVec F S1x64 .f32 := k0_pay44 (mx x1) (dl x0) (t0w i) (g140 i x0 x1 s) (k0_pay36 (dl x0) (t0w i))
abbrev g194 : FVec F S1x64 .f32 := k0_pay45 (mx x1) (dl x0) (t0w i) (g140 i x0 x1 s) (k0_pay36 (dl x0) (t0w i))

/-- Thirty-two rows laid one under another. -/
def cat32 (a0 a1 a2 a3 a4 a5 a6 a7 a8 a9 a10 a11 a12 a13 a14 a15 a16 a17 a18 a19 a20 a21 a22 a23 a24 a25 a26 a27 a28 a29 a30 a31 : FVec F S1x64 .f32) : FVec F S32x64 .f32 :=
  concatenate S32x64 0 [⟨S1x64, a0⟩, ⟨S1x64, a1⟩, ⟨S1x64, a2⟩, ⟨S1x64, a3⟩, ⟨S1x64, a4⟩, ⟨S1x64, a5⟩, ⟨S1x64, a6⟩, ⟨S1x64, a7⟩, ⟨S1x64, a8⟩, ⟨S1x64, a9⟩, ⟨S1x64, a10⟩, ⟨S1x64, a11⟩, ⟨S1x64, a12⟩, ⟨S1x64, a13⟩, ⟨S1x64, a14⟩, ⟨S1x64, a15⟩, ⟨S1x64, a16⟩, ⟨S1x64, a17⟩, ⟨S1x64, a18⟩, ⟨S1x64, a19⟩, ⟨S1x64, a20⟩, ⟨S1x64, a21⟩, ⟨S1x64, a22⟩, ⟨S1x64, a23⟩, ⟨S1x64, a24⟩, ⟨S1x64, a25⟩, ⟨S1x64, a26⟩, ⟨S1x64, a27⟩, ⟨S1x64, a28⟩, ⟨S1x64, a29⟩, ⟨S1x64, a30⟩, ⟨S1x64, a31⟩] concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0

/-- The scores before each of the block's 32 steps. -/
def sexc : FVec F S32x64 .f32 := cat32 s (g14 i x0 x1 s) (g20 i x0 x1 s) (g26 i x0 x1 s) (g32 i x0 x1 s) (g38 i x0 x1 s) (g44 i x0 x1 s) (g50 i x0 x1 s) (g56 i x0 x1 s) (g62 i x0 x1 s) (g68 i x0 x1 s) (g74 i x0 x1 s) (g80 i x0 x1 s) (g86 i x0 x1 s) (g92 i x0 x1 s) (g98 i x0 x1 s) (g104 i x0 x1 s) (g110 i x0 x1 s) (g116 i x0 x1 s) (g122 i x0 x1 s) (g128 i x0 x1 s) (g134 i x0 x1 s) (g140 i x0 x1 s) (g146 i x0 x1 s) (g152 i x0 x1 s) (g158 i x0 x1 s) (g164 i x0 x1 s) (g170 i x0 x1 s) (g176 i x0 x1 s) (g182 i x0 x1 s) (g188 i x0 x1 s) (g194 i x0 x1 s)

/-- The scores after the block. -/
def sNext : FVec F S1x64 .f32 := k0_pay1 (mx x1) (dl x0) (t0w i) (g194 i x0 x1 s) 31#32

/-- The block's emitted symbols. -/
def eRows : IVec S32x64 32 := k0_pay2 x1 (mx x1) (sexc i x0 x1 s)

end Values

/-- The rows of the symbol table that the block writes. -/
abbrev rowsRect (i : grid0.Coords) : Rect S512x64 := Rect.unit (s := S512x64) (k0_off1 i) S32x64.size (k0_off1_inb i)

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

/-- The symbol table after a block: its rows replaced. -/
def putRows (i : grid0.Coords) (d : Vec F S512x64 .i32) (e : IVec S32x64 32) : Vec F S512x64 .i32 := (rowsRect i).overlay d e

theorem read_put (v : View sig .tc .vmem S512x64 .i32) (f : v.ty.Contents (Elt F)) (r : Rect S512x64) (w : r.shape.Idx → Elt F .i32) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb _ _ _ _ _ _).trans (r.overlay_emb _ _ _).symm
  · rw [View.read_writes_apply_of_forall_not_mem v f y _ (by simpa using hy), r.overlay_of_not_mem _ _ hy]

open View

section Run

variable (c : Dev nD) (i : grid0.Coords) (arg1 : Memref sig .tc .vmem S1x64 .i32) (harg1 : arg1.IsWhole) (arg2 : Memref sig .tc .vmem S32x64x1024 .f32) (harg2 : arg2.IsWhole) (arg3 : Memref sig .tc .vmem S1x64 .f32) (harg3 : arg3.IsWhole) (arg4 : Memref sig .tc .vmem S64x1 .i32) (harg4 : arg4.IsWhole) (arg5 : Memref sig .tc .vmem S64x512 .i32) (harg5 : arg5.IsWhole) (arg6 : Memref sig .tc .vmem S64x512 .i32) (harg6 : arg6.IsWhole) (arg7 : Memref sig .tc .vmem S1x64 .f32) (harg7 : arg7.IsWhole) (arg8 : Memref sig .tc .vmem S512x64 .i32) (harg8 : arg8.IsWhole)
  (x0 : Vec F S1x64 .i32) (x1 : Vec F S32x64x1024 .f32) (xs0 : Vec F S1x64 .f32) (xs1 : Vec F S512x64 .i32)
  (y2 : Vec F S1x64 .f32) (y3 : Vec F S64x1 .i32) (y4 y5 : Vec F S64x512 .i32)

set_option maxHeartbeats 4000000 in
theorem run_A (hc0 : cond0_0 i) (hc1 : ¬cond0_1 i) (E : Set ℕ) (Q : PUnit → sProp 𝕄) :
    iprop(owns (c : Thread nD τ) arg1 fullShare x0 ∗ owns (c : Thread nD τ) arg2 fullShare x1 ∗ owns (c : Thread nD τ) arg3 fullShare y2
        ∗ owns (c : Thread nD τ) arg4 fullShare y3 ∗ owns (c : Thread nD τ) arg5 fullShare y4 ∗ owns (c : Thread nD τ) arg6 fullShare y5
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare y2
            ∗ owns (c : Thread nD τ) arg4 fullShare y3 ∗ owns (c : Thread nD τ) arg5 fullShare y4 ∗ owns (c : Thread nD τ) arg6 fullShare y5
            ∗ owns (c : Thread nD τ) arg7 fullShare (sNext i x0 x1 (k0_pay10 (F := F))) ∗ owns (c : Thread nD τ) arg8 fullShare (putRows i xs1 (eRows i x0 x1 (k0_pay10 (F := F))))) -∗ Q ⟨⟩))
      ⊢ wp frame (wpE (defs₀ (F := F)) Variants.none c none) E (cc0__greedy_body i arg1 harg1 arg2 harg2 arg3 harg3 arg4 harg4 arg5 harg5 arg6 harg6 arg7 harg7 arg8 harg8) Q := by
  simp only [cc0__greedy_body_eq_skeleton]; unfold cc0__greedy_body_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0 | sl_exact hc1)
  sl_step
  iapply Hk
  have h1 : ∀ inb, arg1.view.readAt (Elt F) (Rect.unit ![0, 0] S1x64.size inb).toLoadRect (harg1.unread x0) = x0 := fun inb => (readAt_full _ _ inb).trans (harg1.read_unread x0)
  have h2 : ∀ inb, arg2.view.readAt (Elt F) (Rect.unit ![0, 0, 0] S32x64x1024.size inb).toLoadRect (harg2.unread x1) = x1 := fun inb => (readAt_full _ _ inb).trans (harg2.read_unread x1)
  have h7 : ∀ inb, arg7.view.readAt (Elt F) (Rect.unit ![0, 0] S1x64.size inb).toLoadRect (harg7.unread xs0) = xs0 := fun inb => (readAt_full _ _ inb).trans (harg7.read_unread xs0)
  have h1' : ∀ inb, arg1.view.readAt (Elt F) (Rect.unit ![0, 0] ![1, 64] inb).toLoadRect (harg1.unread x0) = x0 := h1
  have h2' : ∀ inb, arg2.view.readAt (Elt F) (Rect.unit ![0, 0, 0] ![32, 64, 1024] inb).toLoadRect (harg2.unread x1) = x1 := h2
  have h7' : ∀ inb, arg7.view.readAt (Elt F) (Rect.unit ![0, 0] ![1, 64] inb).toLoadRect (harg7.unread xs0) = xs0 := h7
  have q0 : run_A.sl.v7 i = t0w i := rfl
  have qv : run_A.sl.v8 c arg7 = k0_pay10 (F := F) := by
    delta run_A.sl.v8
    delta run_A.sl.HS0_1; exact readCov_full _ _ _ _ _
  have q1 : run_A.sl.r c arg2 harg2 x1 = x1 := by
    delta run_A.sl.r; simp only [h1, h2, h7, h1', h2', h7', q0, qv]
  have q2 : run_A.sl.r_1 c arg2 harg2 x1 = mx x1 := by
    delta run_A.sl.r_1; simp only [h1, h2, h7, h1', h2', h7', q0, qv, q1]
  have q3 : run_A.sl.r_2 c arg1 harg1 x0 = dl x0 := by
    delta run_A.sl.r_2; simp only [h1, h2, h7, h1', h2', h7', q0, qv, q1, q2]
  have q4 : run_A.sl.r_3 c i arg1 harg1 arg2 harg2 arg7 x0 x1 = g14 i x0 x1 (k0_pay10 (F := F)) := by
    delta run_A.sl.r_3; simp only [h1, h2, h7, h1', h2', h7', q0, qv, q1, q2, q3]
  have q5 : run_A.sl.r_4 c i arg1 harg1 arg2 harg2 arg7 x0 x1 = g20 i x0 x1 (k0_pay10 (F := F)) := by
    delta run_A.sl.r_4; simp only [h1, h2, h7, h1', h2', h7', q0, qv, q1, q2, q3, q4]
  have q6 : run_A.sl.r_5 c i arg1 harg1 arg2 harg2 arg7 x0 x1 = g26 i x0 x1 (k0_pay10 (F := F)) := by
    delta run_A.sl.r_5; simp only [h1, h2, h7, h1', h2', h7', q0, qv, q1, q2, q3, q4, q5]
  have q7 : run_A.sl.r_6 c i arg1 harg1 arg2 harg2 arg7 x0 x1 = g32 i x0 x1 (k0_pay10 (F := F)) := by
    delta run_A.sl.r_6; simp only [h1, h2, h7, h1', h2', h7', q0, qv, q1, q2, q3, q4, q5, q6]
  have q8 : run_A.sl.r_7 c i arg1 harg1 arg2 harg2 arg7 x0 x1 = g38 i x0 x1 (k0_pay10 (F := F)) := by
    delta run_A.sl.r_7; simp only [h1, h2, h7, h1', h2', h7', q0, qv, q1, q2, q3, q4, q5, q6, q7]
  have q9 : run_A.sl.r_8 c i arg1 harg1 arg2 harg2 arg7 x0 x1 = g44 i x0 x1 (k0_pay10 (F := F)) := by
    delta run_A.sl.r_8; simp only [h1, h2, h7, h1', h2', h7', q0, qv, q1, q2, q3, q4, q5, q6, q7, q8]
  have q10 : run_A.sl.r_9 c i arg1 harg1 arg2 harg2 arg7 x0 x1 = g50 i x0 x1 (k0_pay10 (F := F)) := by
    delta run_A.sl.r_9; simp only [h1, h2, h7, h1', h2', h7', q0, qv, q1, q2, q3, q4, q5, q6, q7, q8, q9]
  have q11 : run_A.sl.r_10 c i arg1 harg1 arg2 harg2 arg7 x0 x1 = g56 i x0 x1 (k0_pay10 (F := F)) := by
    delta run_A.sl.r_10; simp only [h1, h2, h7, h1', h2', h7', q0, qv, q1, q2, q3, q4, q5, q6, q7, q8, q9, q10]
  have q12 : run_A.sl.r_11 c i arg1 harg1 arg2 harg2 arg7 x0 x1 = g62 i x0 x1 (k0_pay10 (F := F)) := by
    delta run_A.sl.r_11; simp only [h1, h2, h7, h1', h2', h7', q0, qv, q1, q2, q3, q4, q5, q6, q7, q8, q9, q10, q11]
  have q13 : run_A.sl.r_12 c i arg1 harg1 arg2 harg2 arg7 x0 x1 = g68 i x0 x1 (k0_pay10 (F := F)) := by
    delta run_A.sl.r_12; simp only [h1, h2, h7, h1', h2', h7', q0, qv, q1, q2, q3, q4, q5, q6, q7, q8, q9, q10, q11, q12]
  have q14 : run_A.sl.r_13 c i arg1 harg1 arg2 harg2 arg7 x0 x1 = g74 i x0 x1 (k0_pay10 (F := F)) := by
    delta run_A.sl.r_13; simp only [h1, h2, h7, h1', h2', h7', q0, qv, q1, q2, q3, q4, q5, q6, q7, q8, q9, q10, q11, q12, q13]
  have q15 : run_A.sl.r_14 c i arg1 harg1 arg2 harg2 arg7 x0 x1 = g80 i x0 x1 (k0_pay10 (F := F)) := by
    delta run_A.sl.r_14; simp only [h1, h2, h7, h1', h2', h7', q0, qv, q1, q2, q3, q4, q5, q6, q7, q8, q9, q10, q11, q12, q13, q14]
  have q16 : run_A.sl.r_15 c i arg1 harg1 arg2 harg2 arg7 x0 x1 = g86 i x0 x1 (k0_pay10 (F := F)) := by
    delta run_A.sl.r_15; simp only [h1, h2, h7, h1', h2', h7', q0, qv, q1, q2, q3, q4, q5, q6, q7, q8, q9, q10, q11, q12, q13, q14, q15]
  have q17 : run_A.sl.r_16 c i arg1 harg1 arg2 harg2 arg7 x0 x1 = g92 i x0 x1 (k0_pay10 (F := F)) := by
    delta run_A.sl.r_16; simp only [h1, h2, h7, h1', h2', h7', q0, qv, q1, q2, q3, q4, q5, q6, q7, q8, q9, q10, q11, q12, q13, q14, q15, q16]
  have q18 : run_A.sl.r_17 c i arg1 harg1 arg2 harg2 arg7 x0 x1 = g98 i x0 x1 (k0_pay10 (F := F)) := by
    delta run_A.sl.r_17; simp only [h1, h2, h7, h1', h2', h7', q0, qv, q1, q2, q3, q4, q5, q6, q7, q8, q9, q10, q11, q12, q13, q14, q15, q16, q17]
  have q19 : run_A.sl.r_18 c i arg1 harg1 arg2 harg2 arg7 x0 x1 = g104 i x0 x1 (k0_pay10 (F := F)) := by
    delta run_A.sl.r_18; simp only [h1, h2, h7, h1', h2', h7', q0, qv, q1, q2, q3, q4, q5, q6, q7, q8, q9, q10, q11, q12, q13, q14, q15, q16, q17, q18]
  have q20 : run_A.sl.r_19 c i arg1 harg1 arg2 harg2 arg7 x0 x1 = g110 i x0 x1 (k0_pay10 (F := F)) := by
    delta run_A.sl.r_19; simp only [h1, h2, h7, h1', h2', h7', q0, qv, q1, q2, q3, q4, q5, q6, q7, q8, q9, q10, q11, q12, q13, q14, q15, q16, q17, q18, q19]
  have q21 : run_A.sl.r_20 c i arg1 harg1 arg2 harg2 arg7 x0 x1 = g116 i x0 x1 (k0_pay10 (F := F)) := by
    delta run_A.sl.r_20; simp only [h1, h2, h7, h1', h2', h7', q0, qv, q1, q2, q3, q4, q5, q6, q7, q8, q9, q10, q11, q12, q13, q14, q15, q16, q17, q18, q19, q20]
  have q22 : run_A.sl.r_21 c i arg1 harg1 arg2 harg2 arg7 x0 x1 = g122 i x0 x1 (k0_pay10 (F := F)) := by
    delta run_A.sl.r_21; simp only [h1, h2, h7, h1', h2', h7', q0, qv, q1, q2, q3, q4, q5, q6, q7, q8, q9, q10, q11, q12, q13, q14, q15, q16, q17, q18, q19, q20, q21]
  have q23 : run_A.sl.r_22 c i arg1 harg1 arg2 harg2 arg7 x0 x1 = g128 i x0 x1 (k0_pay10 (F := F)) := by
    delta run_A.sl.r_22; simp only [h1, h2, h7, h1', h2', h7', q0, qv, q1, q2, q3, q4, q5, q6, q7, q8, q9, q10, q11, q12, q13, q14, q15, q16, q17, q18, q19, q20, q21, q22]
  have q24 : run_A.sl.r_23 c i arg1 harg1 arg2 harg2 arg7 x0 x1 = g134 i x0 x1 (k0_pay10 (F := F)) := by
    delta run_A.sl.r_23; simp only [h1, h2, h7, h1', h2', h7', q0, qv, q1, q2, q3, q4, q5, q6, q7, q8, q9, q10, q11, q12, q13, q14, q15, q16, q17, q18, q19, q20, q21, q22, q23]
  have q25 : run_A.sl.r_24 c i arg1 harg1 arg2 harg2 arg7 x0 x1 = g140 i x0 x1 (k0_pay10 (F := F)) := by
    delta run_A.sl.r_24; simp only [h1, h2, h7, h1', h2', h7', q0, qv, q1, q2, q3, q4, q5, q6, q7, q8, q9, q10, q11, q12, q13, q14, q15, q16, q17, q18, q19, q20, q21, q22, q23, q24]
  have q26 : run_A.sl.r_25 c i arg1 harg1 x0 = k0_pay36 (dl x0) (t0w i) := by
    delta run_A.sl.r_25; simp only [h1, h2, h7, h1', h2', h7', q0, qv, q1, q2, q3, q4, q5, q6, q7, q8, q9, q10, q11, q12, q13, q14, q15, q16, q17, q18, q19, q20, q21, q22, q23, q24, q25]
  have q27 : run_A.sl.r_26 c i arg1 harg1 arg2 harg2 arg7 x0 x1 = g146 i x0 x1 (k0_pay10 (F := F)) := by
    delta run_A.sl.r_26; simp only [h1, h2, h7, h1', h2', h7', q0, qv, q1, q2, q3, q4, q5, q6, q7, q8, q9, q10, q11, q12, q13, q14, q15, q16, q17, q18, q19, q20, q21, q22, q23, q24, q25, q26]
  have q28 : run_A.sl.r_27 c i arg1 harg1 arg2 harg2 arg7 x0 x1 = g152 i x0 x1 (k0_pay10 (F := F)) := by
    delta run_A.sl.r_27; simp only [h1, h2, h7, h1', h2', h7', q0, qv, q1, q2, q3, q4, q5, q6, q7, q8, q9, q10, q11, q12, q13, q14, q15, q16, q17, q18, q19, q20, q21, q22, q23, q24, q25, q26, q27]
  have q29 : run_A.sl.r_28 c i arg1 harg1 arg2 harg2 arg7 x0 x1 = g158 i x0 x1 (k0_pay10 (F := F)) := by
    delta run_A.sl.r_28; simp only [h1, h2, h7, h1', h2', h7', q0, qv, q1, q2, q3, q4, q5, q6, q7, q8, q9, q10, q11, q12, q13, q14, q15, q16, q17, q18, q19, q20, q21, q22, q23, q24, q25, q26, q27, q28]
  have q30 : run_A.sl.r_29 c i arg1 harg1 arg2 harg2 arg7 x0 x1 = g164 i x0 x1 (k0_pay10 (F := F)) := by
    delta run_A.sl.r_29; simp only [h1, h2, h7, h1', h2', h7', q0, qv, q1, q2, q3, q4, q5, q6, q7, q8, q9, q10, q11, q12, q13, q14, q15, q16, q17, q18, q19, q20, q21, q22, q23, q24, q25, q26, q27, q28, q29]
  have q31 : run_A.sl.r_30 c i arg1 harg1 arg2 harg2 arg7 x0 x1 = g170 i x0 x1 (k0_pay10 (F := F)) := by
    delta run_A.sl.r_30; simp only [h1, h2, h7, h1', h2', h7', q0, qv, q1, q2, q3, q4, q5, q6, q7, q8, q9, q10, q11, q12, q13, q14, q15, q16, q17, q18, q19, q20, q21, q22, q23, q24, q25, q26, q27, q28, q29, q30]
  have q32 : run_A.sl.r_31 c i arg1 harg1 arg2 harg2 arg7 x0 x1 = g176 i x0 x1 (k0_pay10 (F := F)) := by
    delta run_A.sl.r_31; simp only [h1, h2, h7, h1', h2', h7', q0, qv, q1, q2, q3, q4, q5, q6, q7, q8, q9, q10, q11, q12, q13, q14, q15, q16, q17, q18, q19, q20, q21, q22, q23, q24, q25, q26, q27, q28, q29, q30, q31]
  have q33 : run_A.sl.r_32 c i arg1 harg1 arg2 harg2 arg7 x0 x1 = g182 i x0 x1 (k0_pay10 (F := F)) := by
    delta run_A.sl.r_32; simp only [h1, h2, h7, h1', h2', h7', q0, qv, q1, q2, q3, q4, q5, q6, q7, q8, q9, q10, q11, q12, q13, q14, q15, q16, q17, q18, q19, q20, q21, q22, q23, q24, q25, q26, q27, q28, q29, q30, q31, q32]
  have q34 : run_A.sl.r_33 c i arg1 harg1 arg2 harg2 arg7 x0 x1 = g188 i x0 x1 (k0_pay10 (F := F)) := by
    delta run_A.sl.r_33; simp only [h1, h2, h7, h1', h2', h7', q0, qv, q1, q2, q3, q4, q5, q6, q7, q8, q9, q10, q11, q12, q13, q14, q15, q16, q17, q18, q19, q20, q21, q22, q23, q24, q25, q26, q27, q28, q29, q30, q31, q32, q33]
  have q35 : run_A.sl.r_34 c i arg1 harg1 arg2 harg2 arg7 x0 x1 = g194 i x0 x1 (k0_pay10 (F := F)) := by
    delta run_A.sl.r_34; simp only [h1, h2, h7, h1', h2', h7', q0, qv, q1, q2, q3, q4, q5, q6, q7, q8, q9, q10, q11, q12, q13, q14, q15, q16, q17, q18, q19, q20, q21, q22, q23, q24, q25, q26, q27, q28, q29, q30, q31, q32, q33, q34]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    refine (read_writes_full _ _ _ _ _).trans ?_
    simp only [h7, h7', q0, qv, q1, q2, q3, q4, q5, q6, q7, q8, q9, q10, q11, q12, q13, q14, q15, q16, q17, q18, q19, q20, q21, q22, q23, q24, q25, q26, q27, q28, q29, q30, q31, q32, q33, q34, q35]; try rfl
  iexists _; isplitr
  swap; · iexact HS1
  ipureintro
  refine (read_put _ _ _ _).trans ?_
  rw [harg8.read_unread]
  show (rowsRect i).overlay xs1 (k0_pay2 _ _ (cat32 _ _ _ _ _ _ _ _ _ _ _ _ _ _ _ _ _ _ _ _ _ _ _ _ _ _ _ _ _ _ _ _ )) = putRows i xs1 (eRows i x0 x1 (k0_pay10 (F := F)))
  delta putRows eRows sexc
  simp only [h7, h7', q0, qv, q1, q2, q3, q4, q5, q6, q7, q8, q9, q10, q11, q12, q13, q14, q15, q16, q17, q18, q19, q20, q21, q22, q23, q24, q25, q26, q27, q28, q29, q30, q31, q32, q33, q34, q35]; try rfl

set_option maxHeartbeats 4000000 in
theorem run_B (hc0 : ¬cond0_0 i) (hc1 : ¬cond0_1 i) (E : Set ℕ) (Q : PUnit → sProp 𝕄) :
    iprop(owns (c : Thread nD τ) arg1 fullShare x0 ∗ owns (c : Thread nD τ) arg2 fullShare x1 ∗ owns (c : Thread nD τ) arg3 fullShare y2
        ∗ owns (c : Thread nD τ) arg4 fullShare y3 ∗ owns (c : Thread nD τ) arg5 fullShare y4 ∗ owns (c : Thread nD τ) arg6 fullShare y5
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare y2
            ∗ owns (c : Thread nD τ) arg4 fullShare y3 ∗ owns (c : Thread nD τ) arg5 fullShare y4 ∗ owns (c : Thread nD τ) arg6 fullShare y5
            ∗ owns (c : Thread nD τ) arg7 fullShare (sNext i x0 x1 xs0) ∗ owns (c : Thread nD τ) arg8 fullShare (putRows i xs1 (eRows i x0 x1 xs0))) -∗ Q ⟨⟩))
      ⊢ wp frame (wpE (defs₀ (F := F)) Variants.none c none) E (cc0__greedy_body i arg1 harg1 arg2 harg2 arg3 harg3 arg4 harg4 arg5 harg5 arg6 harg6 arg7 harg7 arg8 harg8) Q := by
  simp only [cc0__greedy_body_eq_skeleton]; unfold cc0__greedy_body_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0 | sl_exact hc1)
  sl_step
  iapply Hk
  have h1 : ∀ inb, arg1.view.readAt (Elt F) (Rect.unit ![0, 0] S1x64.size inb).toLoadRect (harg1.unread x0) = x0 := fun inb => (readAt_full _ _ inb).trans (harg1.read_unread x0)
  have h2 : ∀ inb, arg2.view.readAt (Elt F) (Rect.unit ![0, 0, 0] S32x64x1024.size inb).toLoadRect (harg2.unread x1) = x1 := fun inb => (readAt_full _ _ inb).trans (harg2.read_unread x1)
  have h7 : ∀ inb, arg7.view.readAt (Elt F) (Rect.unit ![0, 0] S1x64.size inb).toLoadRect (harg7.unread xs0) = xs0 := fun inb => (readAt_full _ _ inb).trans (harg7.read_unread xs0)
  have h1' : ∀ inb, arg1.view.readAt (Elt F) (Rect.unit ![0, 0] ![1, 64] inb).toLoadRect (harg1.unread x0) = x0 := h1
  have h2' : ∀ inb, arg2.view.readAt (Elt F) (Rect.unit ![0, 0, 0] ![32, 64, 1024] inb).toLoadRect (harg2.unread x1) = x1 := h2
  have h7' : ∀ inb, arg7.view.readAt (Elt F) (Rect.unit ![0, 0] ![1, 64] inb).toLoadRect (harg7.unread xs0) = xs0 := h7
  have q0 : run_B.sl.v7 i = t0w i := rfl
  have q1 : run_B.sl.r c arg2 harg2 x1 = x1 := by
    delta run_B.sl.r; simp only [h1, h2, h7, h1', h2', h7', q0]
  have q2 : run_B.sl.r_1 c arg2 harg2 x1 = mx x1 := by
    delta run_B.sl.r_1; simp only [h1, h2, h7, h1', h2', h7', q0, q1]
  have q3 : run_B.sl.r_2 c arg1 harg1 x0 = dl x0 := by
    delta run_B.sl.r_2; simp only [h1, h2, h7, h1', h2', h7', q0, q1, q2]
  have q4 : run_B.sl.r_3 c arg7 harg7 xs0 = xs0 := by
    delta run_B.sl.r_3; simp only [h1, h2, h7, h1', h2', h7', q0, q1, q2, q3]
  have q5 : run_B.sl.r_4 c i arg1 harg1 arg2 harg2 arg7 harg7 x0 x1 xs0 = g14 i x0 x1 xs0 := by
    delta run_B.sl.r_4; simp only [h1, h2, h7, h1', h2', h7', q0, q1, q2, q3, q4]
  have q6 : run_B.sl.r_5 c i arg1 harg1 arg2 harg2 arg7 harg7 x0 x1 xs0 = g20 i x0 x1 xs0 := by
    delta run_B.sl.r_5; simp only [h1, h2, h7, h1', h2', h7', q0, q1, q2, q3, q4, q5]
  have q7 : run_B.sl.r_6 c i arg1 harg1 arg2 harg2 arg7 harg7 x0 x1 xs0 = g26 i x0 x1 xs0 := by
    delta run_B.sl.r_6; simp only [h1, h2, h7, h1', h2', h7', q0, q1, q2, q3, q4, q5, q6]
  have q8 : run_B.sl.r_7 c i arg1 harg1 arg2 harg2 arg7 harg7 x0 x1 xs0 = g32 i x0 x1 xs0 := by
    delta run_B.sl.r_7; simp only [h1, h2, h7, h1', h2', h7', q0, q1, q2, q3, q4, q5, q6, q7]
  have q9 : run_B.sl.r_8 c i arg1 harg1 arg2 harg2 arg7 harg7 x0 x1 xs0 = g38 i x0 x1 xs0 := by
    delta run_B.sl.r_8; simp only [h1, h2, h7, h1', h2', h7', q0, q1, q2, q3, q4, q5, q6, q7, q8]
  have q10 : run_B.sl.r_9 c i arg1 harg1 arg2 harg2 arg7 harg7 x0 x1 xs0 = g44 i x0 x1 xs0 := by
    delta run_B.sl.r_9; simp only [h1, h2, h7, h1', h2', h7', q0, q1, q2, q3, q4, q5, q6, q7, q8, q9]
  have q11 : run_B.sl.r_10 c i arg1 harg1 arg2 harg2 arg7 harg7 x0 x1 xs0 = g50 i x0 x1 xs0 := by
    delta run_B.sl.r_10; simp only [h1, h2, h7, h1', h2', h7', q0, q1, q2, q3, q4, q5, q6, q7, q8, q9, q10]
  have q12 : run_B.sl.r_11 c i arg1 harg1 arg2 harg2 arg7 harg7 x0 x1 xs0 = g56 i x0 x1 xs0 := by
    delta run_B.sl.r_11; simp only [h1, h2, h7, h1', h2', h7', q0, q1, q2, q3, q4, q5, q6, q7, q8, q9, q10, q11]
  have q13 : run_B.sl.r_12 c i arg1 harg1 arg2 harg2 arg7 harg7 x0 x1 xs0 = g62 i x0 x1 xs0 := by
    delta run_B.sl.r_12; simp only [h1, h2, h7, h1', h2', h7', q0, q1, q2, q3, q4, q5, q6, q7, q8, q9, q10, q11, q12]
  have q14 : run_B.sl.r_13 c i arg1 harg1 arg2 harg2 arg7 harg7 x0 x1 xs0 = g68 i x0 x1 xs0 := by
    delta run_B.sl.r_13; simp only [h1, h2, h7, h1', h2', h7', q0, q1, q2, q3, q4, q5, q6, q7, q8, q9, q10, q11, q12, q13]
  have q15 : run_B.sl.r_14 c i arg1 harg1 arg2 harg2 arg7 harg7 x0 x1 xs0 = g74 i x0 x1 xs0 := by
    delta run_B.sl.r_14; simp only [h1, h2, h7, h1', h2', h7', q0, q1, q2, q3, q4, q5, q6, q7, q8, q9, q10, q11, q12, q13, q14]
  have q16 : run_B.sl.r_15 c i arg1 harg1 arg2 harg2 arg7 harg7 x0 x1 xs0 = g80 i x0 x1 xs0 := by
    delta run_B.sl.r_15; simp only [h1, h2, h7, h1', h2', h7', q0, q1, q2, q3, q4, q5, q6, q7, q8, q9, q10, q11, q12, q13, q14, q15]
  have q17 : run_B.sl.r_16 c i arg1 harg1 arg2 harg2 arg7 harg7 x0 x1 xs0 = g86 i x0 x1 xs0 := by
    delta run_B.sl.r_16; simp only [h1, h2, h7, h1', h2', h7', q0, q1, q2, q3, q4, q5, q6, q7, q8, q9, q10, q11, q12, q13, q14, q15, q16]
  have q18 : run_B.sl.r_17 c i arg1 harg1 arg2 harg2 arg7 harg7 x0 x1 xs0 = g92 i x0 x1 xs0 := by
    delta run_B.sl.r_17; simp only [h1, h2, h7, h1', h2', h7', q0, q1, q2, q3, q4, q5, q6, q7, q8, q9, q10, q11, q12, q13, q14, q15, q16, q17]
  have q19 : run_B.sl.r_18 c i arg1 harg1 arg2 harg2 arg7 harg7 x0 x1 xs0 = g98 i x0 x1 xs0 := by
    delta run_B.sl.r_18; simp only [h1, h2, h7, h1', h2', h7', q0, q1, q2, q3, q4, q5, q6, q7, q8, q9, q10, q11, q12, q13, q14, q15, q16, q17, q18]
  have q20 : run_B.sl.r_19 c i arg1 harg1 arg2 harg2 arg7 harg7 x0 x1 xs0 = g104 i x0 x1 xs0 := by
    delta run_B.sl.r_19; simp only [h1, h2, h7, h1', h2', h7', q0, q1, q2, q3, q4, q5, q6, q7, q8, q9, q10, q11, q12, q13, q14, q15, q16, q17, q18, q19]
  have q21 : run_B.sl.r_20 c i arg1 harg1 arg2 harg2 arg7 harg7 x0 x1 xs0 = g110 i x0 x1 xs0 := by
    delta run_B.sl.r_20; simp only [h1, h2, h7, h1', h2', h7', q0, q1, q2, q3, q4, q5, q6, q7, q8, q9, q10, q11, q12, q13, q14, q15, q16, q17, q18, q19, q20]
  have q22 : run_B.sl.r_21 c i arg1 harg1 arg2 harg2 arg7 harg7 x0 x1 xs0 = g116 i x0 x1 xs0 := by
    delta run_B.sl.r_21; simp only [h1, h2, h7, h1', h2', h7', q0, q1, q2, q3, q4, q5, q6, q7, q8, q9, q10, q11, q12, q13, q14, q15, q16, q17, q18, q19, q20, q21]
  have q23 : run_B.sl.r_22 c i arg1 harg1 arg2 harg2 arg7 harg7 x0 x1 xs0 = g122 i x0 x1 xs0 := by
    delta run_B.sl.r_22; simp only [h1, h2, h7, h1', h2', h7', q0, q1, q2, q3, q4, q5, q6, q7, q8, q9, q10, q11, q12, q13, q14, q15, q16, q17, q18, q19, q20, q21, q22]
  have q24 : run_B.sl.r_23 c i arg1 harg1 arg2 harg2 arg7 harg7 x0 x1 xs0 = g128 i x0 x1 xs0 := by
    delta run_B.sl.r_23; simp only [h1, h2, h7, h1', h2', h7', q0, q1, q2, q3, q4, q5, q6, q7, q8, q9, q10, q11, q12, q13, q14, q15, q16, q17, q18, q19, q20, q21, q22, q23]
  have q25 : run_B.sl.r_24 c i arg1 harg1 arg2 harg2 arg7 harg7 x0 x1 xs0 = g134 i x0 x1 xs0 := by
    delta run_B.sl.r_24; simp only [h1, h2, h7, h1', h2', h7', q0, q1, q2, q3, q4, q5, q6, q7, q8, q9, q10, q11, q12, q13, q14, q15, q16, q17, q18, q19, q20, q21, q22, q23, q24]
  have q26 : run_B.sl.r_25 c i arg1 harg1 arg2 harg2 arg7 harg7 x0 x1 xs0 = g140 i x0 x1 xs0 := by
    delta run_B.sl.r_25; simp only [h1, h2, h7, h1', h2', h7', q0, q1, q2, q3, q4, q5, q6, q7, q8, q9, q10, q11, q12, q13, q14, q15, q16, q17, q18, q19, q20, q21, q22, q23, q24, q25]
  have q27 : run_B.sl.r_26 c i arg1 harg1 x0 = k0_pay36 (dl x0) (t0w i) := by
    delta run_B.sl.r_26; simp only [h1, h2, h7, h1', h2', h7', q0, q1, q2, q3, q4, q5, q6, q7, q8, q9, q10, q11, q12, q13, q14, q15, q16, q17, q18, q19, q20, q21, q22, q23, q24, q25, q26]
  have q28 : run_B.sl.r_27 c i arg1 harg1 arg2 harg2 arg7 harg7 x0 x1 xs0 = g146 i x0 x1 xs0 := by
    delta run_B.sl.r_27; simp only [h1, h2, h7, h1', h2', h7', q0, q1, q2, q3, q4, q5, q6, q7, q8, q9, q10, q11, q12, q13, q14, q15, q16, q17, q18, q19, q20, q21, q22, q23, q24, q25, q26, q27]
  have q29 : run_B.sl.r_28 c i arg1 harg1 arg2 harg2 arg7 harg7 x0 x1 xs0 = g152 i x0 x1 xs0 := by
    delta run_B.sl.r_28; simp only [h1, h2, h7, h1', h2', h7', q0, q1, q2, q3, q4, q5, q6, q7, q8, q9, q10, q11, q12, q13, q14, q15, q16, q17, q18, q19, q20, q21, q22, q23, q24, q25, q26, q27, q28]
  have q30 : run_B.sl.r_29 c i arg1 harg1 arg2 harg2 arg7 harg7 x0 x1 xs0 = g158 i x0 x1 xs0 := by
    delta run_B.sl.r_29; simp only [h1, h2, h7, h1', h2', h7', q0, q1, q2, q3, q4, q5, q6, q7, q8, q9, q10, q11, q12, q13, q14, q15, q16, q17, q18, q19, q20, q21, q22, q23, q24, q25, q26, q27, q28, q29]
  have q31 : run_B.sl.r_30 c i arg1 harg1 arg2 harg2 arg7 harg7 x0 x1 xs0 = g164 i x0 x1 xs0 := by
    delta run_B.sl.r_30; simp only [h1, h2, h7, h1', h2', h7', q0, q1, q2, q3, q4, q5, q6, q7, q8, q9, q10, q11, q12, q13, q14, q15, q16, q17, q18, q19, q20, q21, q22, q23, q24, q25, q26, q27, q28, q29, q30]
  have q32 : run_B.sl.r_31 c i arg1 harg1 arg2 harg2 arg7 harg7 x0 x1 xs0 = g170 i x0 x1 xs0 := by
    delta run_B.sl.r_31; simp only [h1, h2, h7, h1', h2', h7', q0, q1, q2, q3, q4, q5, q6, q7, q8, q9, q10, q11, q12, q13, q14, q15, q16, q17, q18, q19, q20, q21, q22, q23, q24, q25, q26, q27, q28, q29, q30, q31]
  have q33 : run_B.sl.r_32 c i arg1 harg1 arg2 harg2 arg7 harg7 x0 x1 xs0 = g176 i x0 x1 xs0 := by
    delta run_B.sl.r_32; simp only [h1, h2, h7, h1', h2', h7', q0, q1, q2, q3, q4, q5, q6, q7, q8, q9, q10, q11, q12, q13, q14, q15, q16, q17, q18, q19, q20, q21, q22, q23, q24, q25, q26, q27, q28, q29, q30, q31, q32]
  have q34 : run_B.sl.r_33 c i arg1 harg1 arg2 harg2 arg7 harg7 x0 x1 xs0 = g182 i x0 x1 xs0 := by
    delta run_B.sl.r_33; simp only [h1, h2, h7, h1', h2', h7', q0, q1, q2, q3, q4, q5, q6, q7, q8, q9, q10, q11, q12, q13, q14, q15, q16, q17, q18, q19, q20, q21, q22, q23, q24, q25, q26, q27, q28, q29, q30, q31, q32, q33]
  have q35 : run_B.sl.r_34 c i arg1 harg1 arg2 harg2 arg7 harg7 x0 x1 xs0 = g188 i x0 x1 xs0 := by
    delta run_B.sl.r_34; simp only [h1, h2, h7, h1', h2', h7', q0, q1, q2, q3, q4, q5, q6, q7, q8, q9, q10, q11, q12, q13, q14, q15, q16, q17, q18, q19, q20, q21, q22, q23, q24, q25, q26, q27, q28, q29, q30, q31, q32, q33, q34]
  have q36 : run_B.sl.r_35 c i arg1 harg1 arg2 harg2 arg7 harg7 x0 x1 xs0 = g194 i x0 x1 xs0 := by
    delta run_B.sl.r_35; simp only [h1, h2, h7, h1', h2', h7', q0, q1, q2, q3, q4, q5, q6, q7, q8, q9, q10, q11, q12, q13, q14, q15, q16, q17, q18, q19, q20, q21, q22, q23, q24, q25, q26, q27, q28, q29, q30, q31, q32, q33, q34, q35]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    refine (read_writes_full _ _ _ _ _).trans ?_
    simp only [h7, h7', q0, q1, q2, q3, q4, q5, q6, q7, q8, q9, q10, q11, q12, q13, q14, q15, q16, q17, q18, q19, q20, q21, q22, q23, q24, q25, q26, q27, q28, q29, q30, q31, q32, q33, q34, q35, q36]; try rfl
  iexists _; isplitr
  swap; · iexact HS1
  ipureintro
  refine (read_put _ _ _ _).trans ?_
  rw [harg8.read_unread]
  show (rowsRect i).overlay xs1 (k0_pay2 _ _ (cat32 _ _ _ _ _ _ _ _ _ _ _ _ _ _ _ _ _ _ _ _ _ _ _ _ _ _ _ _ _ _ _ _ )) = putRows i xs1 (eRows i x0 x1 xs0)
  delta putRows eRows sexc
  simp only [h7, h7', q0, q1, q2, q3, q4, q5, q6, q7, q8, q9, q10, q11, q12, q13, q14, q15, q16, q17, q18, q19, q20, q21, q22, q23, q24, q25, q26, q27, q28, q29, q30, q31, q32, q33, q34, q35, q36]; try rfl

set_option maxHeartbeats 4000000 in
theorem run_C (hc0 : ¬cond0_0 i) (hc1 : cond0_1 i) (E : Set ℕ) (Q : PUnit → sProp 𝕄) :
    iprop(owns (c : Thread nD τ) arg1 fullShare x0 ∗ owns (c : Thread nD τ) arg2 fullShare x1 ∗ owns (c : Thread nD τ) arg3 fullShare y2
        ∗ owns (c : Thread nD τ) arg4 fullShare y3 ∗ owns (c : Thread nD τ) arg5 fullShare y4 ∗ owns (c : Thread nD τ) arg6 fullShare y5
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare (k0_pay3 (sNext i x0 x1 xs0))
            ∗ owns (c : Thread nD τ) arg4 fullShare (k0_pay8 (dl x0) (putRows i xs1 (eRows i x0 x1 xs0))) ∗ owns (c : Thread nD τ) arg5 fullShare (k0_pay9 (dl x0) (putRows i xs1 (eRows i x0 x1 xs0))) ∗ owns (c : Thread nD τ) arg6 fullShare (k0_pay5 (dl x0) (putRows i xs1 (eRows i x0 x1 xs0)))
            ∗ owns (c : Thread nD τ) arg7 fullShare (sNext i x0 x1 xs0) ∗ owns (c : Thread nD τ) arg8 fullShare (putRows i xs1 (eRows i x0 x1 xs0))) -∗ Q ⟨⟩))
      ⊢ wp frame (wpE (defs₀ (F := F)) Variants.none c none) E (cc0__greedy_body i arg1 harg1 arg2 harg2 arg3 harg3 arg4 harg4 arg5 harg5 arg6 harg6 arg7 harg7 arg8 harg8) Q := by
  simp only [cc0__greedy_body_eq_skeleton]; unfold cc0__greedy_body_skel
  simp only [k0_part2_eq_skeleton, k0_part3_eq_skeleton, k0_part4_eq_skeleton, k0_part5_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0 | sl_exact hc1)
  sl_step
  iapply Hk
  have h1 : ∀ inb, arg1.view.readAt (Elt F) (Rect.unit ![0, 0] S1x64.size inb).toLoadRect (harg1.unread x0) = x0 := fun inb => (readAt_full _ _ inb).trans (harg1.read_unread x0)
  have h2 : ∀ inb, arg2.view.readAt (Elt F) (Rect.unit ![0, 0, 0] S32x64x1024.size inb).toLoadRect (harg2.unread x1) = x1 := fun inb => (readAt_full _ _ inb).trans (harg2.read_unread x1)
  have h7 : ∀ inb, arg7.view.readAt (Elt F) (Rect.unit ![0, 0] S1x64.size inb).toLoadRect (harg7.unread xs0) = xs0 := fun inb => (readAt_full _ _ inb).trans (harg7.read_unread xs0)
  have h1' : ∀ inb, arg1.view.readAt (Elt F) (Rect.unit ![0, 0] ![1, 64] inb).toLoadRect (harg1.unread x0) = x0 := h1
  have h2' : ∀ inb, arg2.view.readAt (Elt F) (Rect.unit ![0, 0, 0] ![32, 64, 1024] inb).toLoadRect (harg2.unread x1) = x1 := h2
  have h7' : ∀ inb, arg7.view.readAt (Elt F) (Rect.unit ![0, 0] ![1, 64] inb).toLoadRect (harg7.unread xs0) = xs0 := h7
  have q0 : run_C.sl.v7 i = t0w i := rfl
  have q1 : run_C.sl.r c arg2 harg2 x1 = x1 := by
    delta run_C.sl.r; simp only [h1, h2, h7, h1', h2', h7', q0]
  have q2 : run_C.sl.r_1 c arg2 harg2 x1 = mx x1 := by
    delta run_C.sl.r_1; simp only [h1, h2, h7, h1', h2', h7', q0, q1]
  have q3 : run_C.sl.r_2 c arg1 harg1 x0 = dl x0 := by
    delta run_C.sl.r_2; simp only [h1, h2, h7, h1', h2', h7', q0, q1, q2]
  have q4 : run_C.sl.r_3 c arg7 harg7 xs0 = xs0 := by
    delta run_C.sl.r_3; simp only [h1, h2, h7, h1', h2', h7', q0, q1, q2, q3]
  have q5 : run_C.sl.r_4 c i arg1 harg1 arg2 harg2 arg7 harg7 x0 x1 xs0 = g14 i x0 x1 xs0 := by
    delta run_C.sl.r_4; simp only [h1, h2, h7, h1', h2', h7', q0, q1, q2, q3, q4]
  have q6 : run_C.sl.r_5 c i arg1 harg1 arg2 harg2 arg7 harg7 x0 x1 xs0 = g20 i x0 x1 xs0 := by
    delta run_C.sl.r_5; simp only [h1, h2, h7, h1', h2', h7', q0, q1, q2, q3, q4, q5]
  have q7 : run_C.sl.r_6 c i arg1 harg1 arg2 harg2 arg7 harg7 x0 x1 xs0 = g26 i x0 x1 xs0 := by
    delta run_C.sl.r_6; simp only [h1, h2, h7, h1', h2', h7', q0, q1, q2, q3, q4, q5, q6]
  have q8 : run_C.sl.r_7 c i arg1 harg1 arg2 harg2 arg7 harg7 x0 x1 xs0 = g32 i x0 x1 xs0 := by
    delta run_C.sl.r_7; simp only [h1, h2, h7, h1', h2', h7', q0, q1, q2, q3, q4, q5, q6, q7]
  have q9 : run_C.sl.r_8 c i arg1 harg1 arg2 harg2 arg7 harg7 x0 x1 xs0 = g38 i x0 x1 xs0 := by
    delta run_C.sl.r_8; simp only [h1, h2, h7, h1', h2', h7', q0, q1, q2, q3, q4, q5, q6, q7, q8]
  have q10 : run_C.sl.r_9 c i arg1 harg1 arg2 harg2 arg7 harg7 x0 x1 xs0 = g44 i x0 x1 xs0 := by
    delta run_C.sl.r_9; simp only [h1, h2, h7, h1', h2', h7', q0, q1, q2, q3, q4, q5, q6, q7, q8, q9]
  have q11 : run_C.sl.r_10 c i arg1 harg1 arg2 harg2 arg7 harg7 x0 x1 xs0 = g50 i x0 x1 xs0 := by
    delta run_C.sl.r_10; simp only [h1, h2, h7, h1', h2', h7', q0, q1, q2, q3, q4, q5, q6, q7, q8, q9, q10]
  have q12 : run_C.sl.r_11 c i arg1 harg1 arg2 harg2 arg7 harg7 x0 x1 xs0 = g56 i x0 x1 xs0 := by
    delta run_C.sl.r_11; simp only [h1, h2, h7, h1', h2', h7', q0, q1, q2, q3, q4, q5, q6, q7, q8, q9, q10, q11]
  have q13 : run_C.sl.r_12 c i arg1 harg1 arg2 harg2 arg7 harg7 x0 x1 xs0 = g62 i x0 x1 xs0 := by
    delta run_C.sl.r_12; simp only [h1, h2, h7, h1', h2', h7', q0, q1, q2, q3, q4, q5, q6, q7, q8, q9, q10, q11, q12]
  have q14 : run_C.sl.r_13 c i arg1 harg1 arg2 harg2 arg7 harg7 x0 x1 xs0 = g68 i x0 x1 xs0 := by
    delta run_C.sl.r_13; simp only [h1, h2, h7, h1', h2', h7', q0, q1, q2, q3, q4, q5, q6, q7, q8, q9, q10, q11, q12, q13]
  have q15 : run_C.sl.r_14 c i arg1 harg1 arg2 harg2 arg7 harg7 x0 x1 xs0 = g74 i x0 x1 xs0 := by
    delta run_C.sl.r_14; simp only [h1, h2, h7, h1', h2', h7', q0, q1, q2, q3, q4, q5, q6, q7, q8, q9, q10, q11, q12, q13, q14]
  have q16 : run_C.sl.r_15 c i arg1 harg1 arg2 harg2 arg7 harg7 x0 x1 xs0 = g80 i x0 x1 xs0 := by
    delta run_C.sl.r_15; simp only [h1, h2, h7, h1', h2', h7', q0, q1, q2, q3, q4, q5, q6, q7, q8, q9, q10, q11, q12, q13, q14, q15]
  have q17 : run_C.sl.r_16 c i arg1 harg1 arg2 harg2 arg7 harg7 x0 x1 xs0 = g86 i x0 x1 xs0 := by
    delta run_C.sl.r_16; simp only [h1, h2, h7, h1', h2', h7', q0, q1, q2, q3, q4, q5, q6, q7, q8, q9, q10, q11, q12, q13, q14, q15, q16]
  have q18 : run_C.sl.r_17 c i arg1 harg1 arg2 harg2 arg7 harg7 x0 x1 xs0 = g92 i x0 x1 xs0 := by
    delta run_C.sl.r_17; simp only [h1, h2, h7, h1', h2', h7', q0, q1, q2, q3, q4, q5, q6, q7, q8, q9, q10, q11, q12, q13, q14, q15, q16, q17]
  have q19 : run_C.sl.r_18 c i arg1 harg1 arg2 harg2 arg7 harg7 x0 x1 xs0 = g98 i x0 x1 xs0 := by
    delta run_C.sl.r_18; simp only [h1, h2, h7, h1', h2', h7', q0, q1, q2, q3, q4, q5, q6, q7, q8, q9, q10, q11, q12, q13, q14, q15, q16, q17, q18]
  have q20 : run_C.sl.r_19 c i arg1 harg1 arg2 harg2 arg7 harg7 x0 x1 xs0 = g104 i x0 x1 xs0 := by
    delta run_C.sl.r_19; simp only [h1, h2, h7, h1', h2', h7', q0, q1, q2, q3, q4, q5, q6, q7, q8, q9, q10, q11, q12, q13, q14, q15, q16, q17, q18, q19]
  have q21 : run_C.sl.r_20 c i arg1 harg1 arg2 harg2 arg7 harg7 x0 x1 xs0 = g110 i x0 x1 xs0 := by
    delta run_C.sl.r_20; simp only [h1, h2, h7, h1', h2', h7', q0, q1, q2, q3, q4, q5, q6, q7, q8, q9, q10, q11, q12, q13, q14, q15, q16, q17, q18, q19, q20]
  have q22 : run_C.sl.r_21 c i arg1 harg1 arg2 harg2 arg7 harg7 x0 x1 xs0 = g116 i x0 x1 xs0 := by
    delta run_C.sl.r_21; simp only [h1, h2, h7, h1', h2', h7', q0, q1, q2, q3, q4, q5, q6, q7, q8, q9, q10, q11, q12, q13, q14, q15, q16, q17, q18, q19, q20, q21]
  have q23 : run_C.sl.r_22 c i arg1 harg1 arg2 harg2 arg7 harg7 x0 x1 xs0 = g122 i x0 x1 xs0 := by
    delta run_C.sl.r_22; simp only [h1, h2, h7, h1', h2', h7', q0, q1, q2, q3, q4, q5, q6, q7, q8, q9, q10, q11, q12, q13, q14, q15, q16, q17, q18, q19, q20, q21, q22]
  have q24 : run_C.sl.r_23 c i arg1 harg1 arg2 harg2 arg7 harg7 x0 x1 xs0 = g128 i x0 x1 xs0 := by
    delta run_C.sl.r_23; simp only [h1, h2, h7, h1', h2', h7', q0, q1, q2, q3, q4, q5, q6, q7, q8, q9, q10, q11, q12, q13, q14, q15, q16, q17, q18, q19, q20, q21, q22, q23]
  have q25 : run_C.sl.r_24 c i arg1 harg1 arg2 harg2 arg7 harg7 x0 x1 xs0 = g134 i x0 x1 xs0 := by
    delta run_C.sl.r_24; simp only [h1, h2, h7, h1', h2', h7', q0, q1, q2, q3, q4, q5, q6, q7, q8, q9, q10, q11, q12, q13, q14, q15, q16, q17, q18, q19, q20, q21, q22, q23, q24]
  have q26 : run_C.sl.r_25 c i arg1 harg1 arg2 harg2 arg7 harg7 x0 x1 xs0 = g140 i x0 x1 xs0 := by
    delta run_C.sl.r_25; simp only [h1, h2, h7, h1', h2', h7', q0, q1, q2, q3, q4, q5, q6, q7, q8, q9, q10, q11, q12, q13, q14, q15, q16, q17, q18, q19, q20, q21, q22, q23, q24, q25]
  have q27 : run_C.sl.r_26 c i arg1 harg1 x0 = k0_pay36 (dl x0) (t0w i) := by
    delta run_C.sl.r_26; simp only [h1, h2, h7, h1', h2', h7', q0, q1, q2, q3, q4, q5, q6, q7, q8, q9, q10, q11, q12, q13, q14, q15, q16, q17, q18, q19, q20, q21, q22, q23, q24, q25, q26]
  have q28 : run_C.sl.r_27 c i arg1 harg1 arg2 harg2 arg7 harg7 x0 x1 xs0 = g146 i x0 x1 xs0 := by
    delta run_C.sl.r_27; simp only [h1, h2, h7, h1', h2', h7', q0, q1, q2, q3, q4, q5, q6, q7, q8, q9, q10, q11, q12, q13, q14, q15, q16, q17, q18, q19, q20, q21, q22, q23, q24, q25, q26, q27]
  have q29 : run_C.sl.r_28 c i arg1 harg1 arg2 harg2 arg7 harg7 x0 x1 xs0 = g152 i x0 x1 xs0 := by
    delta run_C.sl.r_28; simp only [h1, h2, h7, h1', h2', h7', q0, q1, q2, q3, q4, q5, q6, q7, q8, q9, q10, q11, q12, q13, q14, q15, q16, q17, q18, q19, q20, q21, q22, q23, q24, q25, q26, q27, q28]
  have q30 : run_C.sl.r_29 c i arg1 harg1 arg2 harg2 arg7 harg7 x0 x1 xs0 = g158 i x0 x1 xs0 := by
    delta run_C.sl.r_29; simp only [h1, h2, h7, h1', h2', h7', q0, q1, q2, q3, q4, q5, q6, q7, q8, q9, q10, q11, q12, q13, q14, q15, q16, q17, q18, q19, q20, q21, q22, q23, q24, q25, q26, q27, q28, q29]
  have q31 : run_C.sl.r_30 c i arg1 harg1 arg2 harg2 arg7 harg7 x0 x1 xs0 = g164 i x0 x1 xs0 := by
    delta run_C.sl.r_30; simp only [h1, h2, h7, h1', h2', h7', q0, q1, q2, q3, q4, q5, q6, q7, q8, q9, q10, q11, q12, q13, q14, q15, q16, q17, q18, q19, q20, q21, q22, q23, q24, q25, q26, q27, q28, q29, q30]
  have q32 : run_C.sl.r_31 c i arg1 harg1 arg2 harg2 arg7 harg7 x0 x1 xs0 = g170 i x0 x1 xs0 := by
    delta run_C.sl.r_31; simp only [h1, h2, h7, h1', h2', h7', q0, q1, q2, q3, q4, q5, q6, q7, q8, q9, q10, q11, q12, q13, q14, q15, q16, q17, q18, q19, q20, q21, q22, q23, q24, q25, q26, q27, q28, q29, q30, q31]
  have q33 : run_C.sl.r_32 c i arg1 harg1 arg2 harg2 arg7 harg7 x0 x1 xs0 = g176 i x0 x1 xs0 := by
    delta run_C.sl.r_32; simp only [h1, h2, h7, h1', h2', h7', q0, q1, q2, q3, q4, q5, q6, q7, q8, q9, q10, q11, q12, q13, q14, q15, q16, q17, q18, q19, q20, q21, q22, q23, q24, q25, q26, q27, q28, q29, q30, q31, q32]
  have q34 : run_C.sl.r_33 c i arg1 harg1 arg2 harg2 arg7 harg7 x0 x1 xs0 = g182 i x0 x1 xs0 := by
    delta run_C.sl.r_33; simp only [h1, h2, h7, h1', h2', h7', q0, q1, q2, q3, q4, q5, q6, q7, q8, q9, q10, q11, q12, q13, q14, q15, q16, q17, q18, q19, q20, q21, q22, q23, q24, q25, q26, q27, q28, q29, q30, q31, q32, q33]
  have q35 : run_C.sl.r_34 c i arg1 harg1 arg2 harg2 arg7 harg7 x0 x1 xs0 = g188 i x0 x1 xs0 := by
    delta run_C.sl.r_34; simp only [h1, h2, h7, h1', h2', h7', q0, q1, q2, q3, q4, q5, q6, q7, q8, q9, q10, q11, q12, q13, q14, q15, q16, q17, q18, q19, q20, q21, q22, q23, q24, q25, q26, q27, q28, q29, q30, q31, q32, q33, q34]
  have q36 : run_C.sl.r_35 c i arg1 harg1 arg2 harg2 arg7 harg7 x0 x1 xs0 = g194 i x0 x1 xs0 := by
    delta run_C.sl.r_35; simp only [h1, h2, h7, h1', h2', h7', q0, q1, q2, q3, q4, q5, q6, q7, q8, q9, q10, q11, q12, q13, q14, q15, q16, q17, q18, q19, q20, q21, q22, q23, q24, q25, q26, q27, q28, q29, q30, q31, q32, q33, q34, q35]
  have hT : arg8.view.read (Elt F) (arg8.view.writes (Elt F) (harg8.unread xs1) (run_C.sl.HS1_1 c i arg1 harg1 arg2 harg2 arg7 harg7 x0 x1 xs0)) = putRows i xs1 (eRows i x0 x1 xs0) := by
    delta run_C.sl.HS1_1
    refine (read_put _ _ _ _).trans ?_
    rw [harg8.read_unread]
    show (rowsRect i).overlay xs1 (k0_pay2 _ _ (cat32 _ _ _ _ _ _ _ _ _ _ _ _ _ _ _ _ _ _ _ _ _ _ _ _ _ _ _ _ _ _ _ _ )) = putRows i xs1 (eRows i x0 x1 xs0)
    delta putRows eRows sexc
    simp only [h7, h7', q0, q1, q2, q3, q4, q5, q6, q7, q8, q9, q10, q11, q12, q13, q14, q15, q16, q17, q18, q19, q20, q21, q22, q23, q24, q25, q26, q27, q28, q29, q30, q31, q32, q33, q34, q35, q36]; try rfl
  have hT' : ∀ inb, arg8.view.readAt (Elt F) (Rect.unit ![0, 0] S512x64.size inb).toLoadRect (arg8.view.writes (Elt F) (harg8.unread xs1) (run_C.sl.HS1_1 c i arg1 harg1 arg2 harg2 arg7 harg7 x0 x1 xs0)) = putRows i xs1 (eRows i x0 x1 xs0) := fun inb => (readAt_full _ _ inb).trans hT
  have hS : run_C.sl.v223 c i arg1 harg1 arg2 harg2 arg7 harg7 x0 x1 xs0 = sNext i x0 x1 xs0 := by
    delta run_C.sl.v223 run_C.sl.HS0_1
    refine (readCov_full _ _ _ _ _).trans ?_
    rw [q0, q2, q3, q36]; rfl
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_writes_full _ _ _ _ _).trans ?_
    first | rw [hS] | (rw [hT', q3]) | (delta run_C.sl.r_36; rw [hT', q3])
  isplitl [H3]
  · iexists _; isplitr
    swap; · iexact H3
    ipureintro
    refine (read_writes_full _ _ _ _ _).trans ?_
    first | rw [hS] | (rw [hT', q3]) | (delta run_C.sl.r_36; rw [hT', q3])
  isplitl [H4]
  · iexists _; isplitr
    swap; · iexact H4
    ipureintro
    refine (read_writes_full _ _ _ _ _).trans ?_
    first | rw [hS] | (rw [hT', q3]) | (delta run_C.sl.r_36; rw [hT', q3])
  isplitl [H5]
  · iexists _; isplitr
    swap; · iexact H5
    ipureintro
    refine (read_writes_full _ _ _ _ _).trans ?_
    first | rw [hS] | (rw [hT', q3]) | (delta run_C.sl.r_36; rw [hT', q3])
  isplitl [HS0]
  · iexists _; isplitr
    swap; · iexact HS0
    ipureintro
    refine (read_writes_full _ _ _ _ _).trans ?_
    simp only [h7, h7', q0, q1, q2, q3, q4, q5, q6, q7, q8, q9, q10, q11, q12, q13, q14, q15, q16, q17, q18, q19, q20, q21, q22, q23, q24, q25, q26, q27, q28, q29, q30, q31, q32, q33, q34, q35, q36]; try rfl
  iexists _; isplitr
  swap; · iexact HS1
  ipureintro
  exact hT

end Run

end Cert.Beam

end
-- ==== Proof.Region.lean ====
/- The TensorCore region: its proof data and its body's obligation at every grid point. -/
module

public import proofs.«01_k».proof.Proof.Greedy

@[expose] public section

set_option maxRecDepth 16384

noncomputable section

namespace Cert.Beam

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (A : (c : Dev nD) → (w : Fin cfg0.W) → Buf (Elt F) ((cfg0.win w).arr.view.loc (c.tc : Thread nD τ)))
  (O : Dev nD → CellTallies nD τ sig (HIx 1)) (R : Dev nD → Set (SemLoc sig × HIx 1))

/-! ## The windows' blocks and what the points compute from them -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (A c w)

theorem before0_0_of {c : Dev nD} (dat : Dat τ (Elt F) (HIx 1) ℕ UU ℕ cfg0 c) (hA : dat.A 0 = A c 0)
    (hafter : ∀ t, dat.after 0 t = iblk A c 0 t) (t : Fin cfg0.N) (d) : dat.before 0 t d = iblk A c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) (HIx 1) ℕ UU ℕ cfg0 c) (hA : dat.A 1 = A c 1)
    (hafter : ∀ t, dat.after 1 t = iblk A c 1 t) (t : Fin cfg0.N) (d) : dat.before 1 t d = iblk A c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first condition holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The second condition holds at the last point only. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-- Point number `n` (any number: reduced). -/
def pt (n : ℕ) : Fin cfg0.N := ⟨n % 16, (Nat.mod_lt n (by decide)).trans_eq N_0.symm⟩

theorem pt_val (t : Fin cfg0.N) : pt t.val = t := Fin.ext (Nat.mod_eq_of_lt (t.isLt.trans_eq N_0))

/-- The scores before point `n`. -/
def sAt (c : Dev nD) : ℕ → FVec F S1x64 .f32
  | 0 => k0_pay10
  | n + 1 => sNext (grid0.coords (pt n)) (iblk A c 0 (pt n)) (iblk A c 1 (pt n)) (sAt c n)

/-- The symbols point `n` emits. -/
def eAt (c : Dev nD) (n : ℕ) : IVec S32x64 32 :=
  eRows (grid0.coords (pt n)) (iblk A c 0 (pt n)) (iblk A c 1 (pt n)) (sAt A c n)

/-- The symbol table before point `n`, its later rows as `d`. -/
def tAt (c : Dev nD) (d : Vec F S512x64 .i32) : ℕ → Vec F S512x64 .i32
  | 0 => d
  | n + 1 => putRows (grid0.coords (pt n)) (tAt c d n) (eAt A c n)

theorem off_val (i : grid0.Coords) : k0_off1 i = ![32 * (i 0).val, 0] := by
  have h : ∀ k : Fin 16, (Scalar.indexCast (Scalar.muli (BitVec.ofNat 32 k.val) 32#32)).toNat = 32 * k.val := by decide
  show ![(Scalar.indexCast (Scalar.muli (BitVec.ofNat 32 (i 0).val) 32#32)).toNat, 0] = _
  rw [h (i 0)]

theorem coords_pt (n : ℕ) (h : n < 16) : (grid0.coords (pt n) 0).val = n := by
  have e0 : (grid0.coords (pt n) 0).val = (pt n).val / 1 % 16 := Pipeline.Grid.coords_val (pt n) 0 (by decide) rfl
  rw [e0]; show n % 16 / 1 % 16 = n; omega

/-- A table entry's place within its block. -/
def subIdx (y : S512x64.Idx) : S32x64.Idx := fun
  | ⟨0, _⟩ => ⟨(y 0).val % 32, Nat.mod_lt _ (by decide)⟩
  | ⟨1, _⟩ => y 1

/-- A block's rows are the block's symbols; the others stay. -/
theorem putRows_apply (i : grid0.Coords) (d : Vec F S512x64 .i32) (e : IVec S32x64 32) (y : S512x64.Idx) :
    putRows i d e y = if 32 * (i 0).val ≤ (y 0).val ∧ (y 0).val < 32 * (i 0).val + 32 then e (subIdx y) else d y := by
  unfold putRows
  by_cases h : 32 * (i 0).val ≤ (y 0).val ∧ (y 0).val < 32 * (i 0).val + 32
  · rw [if_pos h]
    have hy : y = (rowsRect i).emb (subIdx y) := by
      funext a
      apply Fin.ext
      have := off_val i
      match a with
      | ⟨0, _⟩ => show (y 0).val = k0_off1 i 0 + 1 * ((y 0).val % 32); rw [this]; show _ = 32 * (i 0).val + _; omega
      | ⟨1, _⟩ => show (y 1).val = k0_off1 i 1 + 1 * (y 1).val; rw [this]; show _ = 0 + _; omega
    conv_lhs => rw [hy]
    exact (rowsRect i).overlay_emb d e (subIdx y)
  · rw [if_neg h]
    refine (rowsRect i).overlay_of_not_mem _ _ fun hm => h ?_
    have := (Rect.mem_set_unit.mp hm) 0
    rw [off_val i] at this
    exact this

/-- After all sixteen points nothing is left of what the table held. -/
theorem tAt_apply (c : Dev nD) (d : Vec F S512x64 .i32) (n : ℕ) (hn : n ≤ 16) (y : S512x64.Idx) :
    tAt A c d n y = if (y 0).val < 32 * n then eAt A c ((y 0).val / 32) (subIdx y) else d y := by
  induction n with
  | zero => simp [tAt]
  | succ n ih =>
    rw [tAt, putRows_apply, coords_pt n (by omega)]
    by_cases h : 32 * n ≤ (y 0).val ∧ (y 0).val < 32 * n + 32
    · rw [if_pos h, if_pos (by omega), show (y 0).val / 32 = n by omega]
    · rw [if_neg h, ih (by omega)]
      by_cases h' : (y 0).val < 32 * n
      · rw [if_pos h', if_pos (by omega)]
      · rw [if_neg h', if_neg (by omega)]

/-- The finished symbol table. -/
def tFin (c : Dev nD) : IVec S512x64 32 := fun y => eAt A c ((y 0).val / 32) (subIdx y)

theorem tAt_all (c : Dev nD) (d : Vec F S512x64 .i32) : tAt A c d 16 = tFin A c := by
  funext y
  have : (y 0).val < 512 := (y 0).isLt
  rw [tAt_apply A c d 16 (Nat.le_refl _), if_pos (by omega)]
  rfl

/-! ## The proof data -/

abbrev scM0_0 : Memref sig .tc .vmem S1x64 .f32 := Memref.whole cc0_scratch0
abbrev scM0_1 : Memref sig .tc .vmem S512x64 .i32 := Memref.whole cc0_scratch1

/-- The region's invariant before point `n`: the scores so far; the symbol table's rows so far. -/
def PhiS (c : Dev nD) : ℕ → sProp 𝕄
  | 0 => iprop((∃ d, owns (c : Thread nD τ) scM0_0 fullShare d) ∗ (∃ d, owns (c : Thread nD τ) scM0_1 fullShare d))
  | n + 1 => iprop(owns (c : Thread nD τ) scM0_0 fullShare (sAt A c (n + 1)) ∗ (∃ d, owns (c : Thread nD τ) scM0_1 fullShare (tAt A c d (n + 1))))

/-- The lengths as the region gets them. -/
abbrev len0 (c : Dev nD) : Vec F S1x64 .i32 := iblk A c 0 (pt 15)

def dats (_ : Fin 1) (c : Dev nD) : Dat τ (Elt F) (HIx 1) ℕ UU ℕ cfg0 c where
  A w := A c w
  after w t := match w with
    | ⟨0, _⟩ => iblk A c 0 t
    | ⟨1, _⟩ => iblk A c 1 t
    | ⟨2, _⟩ => k0_pay3 (sAt A c 16)
    | ⟨3, _⟩ => k0_pay8 (F := F) (dl (len0 A c)) (tFin A c)
    | ⟨4, _⟩ => k0_pay9 (F := F) (dl (len0 A c)) (tFin A c)
    | ⟨5, _⟩ => k0_pay5 (F := F) (dl (len0 A c)) (tFin A c)
  Φ t := PhiS A c t.val
  q _ := fullShare
  owed _ := O c
  recorded _ := R c

theorem after0_0 (c : Dev nD) (t : Fin cfg0.N) : (dats A O R 0 c).after 0 t = iblk A c 0 t := by dsimp only [dats]
theorem after0_1 (c : Dev nD) (t : Fin cfg0.N) : (dats A O R 0 c).after 1 t = iblk A c 1 t := by dsimp only [dats]
theorem after0_2 (c : Dev nD) (t : Fin cfg0.N) : (dats A O R 0 c).after 2 t = k0_pay3 (sAt A c 16) := by dsimp only [dats]
theorem after0_3 (c : Dev nD) (t : Fin cfg0.N) : (dats A O R 0 c).after 3 t = k0_pay8 (F := F) (dl (len0 A c)) (tFin A c) := by dsimp only [dats]
theorem after0_4 (c : Dev nD) (t : Fin cfg0.N) : (dats A O R 0 c).after 4 t = k0_pay9 (F := F) (dl (len0 A c)) (tFin A c) := by dsimp only [dats]
theorem after0_5 (c : Dev nD) (t : Fin cfg0.N) : (dats A O R 0 c).after 5 t = k0_pay5 (F := F) (dl (len0 A c)) (tFin A c) := by dsimp only [dats]

theorem A_eq (c : Dev nD) (w : Fin cfg0.W) : (dats A O R 0 c).A w = A c w := by dsimp only [dats]

theorem before0_0 (c : Dev nD) (t : Fin cfg0.N) (d) : (dats A O R 0 c).before 0 t d = iblk A c 0 t :=
  before0_0_of A (dats A O R 0 c) (A_eq A O R c 0) (after0_0 A O R c) t d
theorem before0_1 (c : Dev nD) (t : Fin cfg0.N) (d) : (dats A O R 0 c).before 1 t d = iblk A c 1 t :=
  before0_1_of A (dats A O R 0 c) (A_eq A O R c 1) (after0_1 A O R c) t d

theorem PhiS_castSucc (c : Dev nD) (t : Fin cfg0.N) : (dats A O R 0 c).Φ t.castSucc = PhiS A c t.val := by
  dsimp only [dats]; exact Pipeline.Dat.Φ_castSucc (fun n _ => PhiS A c n) t

theorem PhiS_pos (c : Dev nD) (n : ℕ) (h : n ≠ 0) :
    PhiS A c n = iprop(owns (c : Thread nD τ) scM0_0 fullShare (sAt A c n) ∗ (∃ d, owns (c : Thread nD τ) scM0_1 fullShare (tAt A c d n))) := by
  cases n with
  | zero => exact absurd rfl h
  | succ n => rfl

/-! ## The body obligation -/

abbrev ms0_0 (t : Fin cfg0.N) : Memref sig .tc .vmem S1x64 .i32 := win0_0.stage (cfg0.slots t 0)
abbrev ms0_1 (t : Fin cfg0.N) : Memref sig .tc .vmem S32x64x1024 .f32 := win0_1.stage (cfg0.slots t 1)
abbrev ms0_2 (t : Fin cfg0.N) : Memref sig .tc .vmem S1x64 .f32 := win0_2.stage (cfg0.slots t 2)
abbrev ms0_3 (t : Fin cfg0.N) : Memref sig .tc .vmem S64x1 .i32 := win0_3.stage (cfg0.slots t 3)
abbrev ms0_4 (t : Fin cfg0.N) : Memref sig .tc .vmem S64x512 .i32 := win0_4.stage (cfg0.slots t 4)
abbrev ms0_5 (t : Fin cfg0.N) : Memref sig .tc .vmem S64x512 .i32 := win0_5.stage (cfg0.slots t 5)

def bodyPre (c : Dev nD) (t : Fin cfg0.N) : sProp 𝕄 :=
  iprop((dats A O R 0 c).Φ t.castSucc ∗ (dats A O R 0 c).owesAt none t.castSucc
    ∗ (∃ d, owns (c : Thread nD τ) (ms0_0 t) fullShare ((dats A O R 0 c).before 0 t d))
    ∗ (∃ d, owns (c : Thread nD τ) (ms0_1 t) fullShare ((dats A O R 0 c).before 1 t d))
    ∗ (∃ d, owns (c : Thread nD τ) (ms0_2 t) fullShare ((dats A O R 0 c).before 2 t d))
    ∗ (∃ d, owns (c : Thread nD τ) (ms0_3 t) fullShare ((dats A O R 0 c).before 3 t d))
    ∗ (∃ d, owns (c : Thread nD τ) (ms0_4 t) fullShare ((dats A O R 0 c).before 4 t d))
    ∗ (∃ d, owns (c : Thread nD τ) (ms0_5 t) fullShare ((dats A O R 0 c).before 5 t d)))

def bodyPost (c : Dev nD) (t : Fin cfg0.N) : sProp 𝕄 :=
  iprop((dats A O R 0 c).Φ t.succ ∗ (dats A O R 0 c).owesAt none t.succ
    ∗ (dats A O R 0 c).leavesExact 0 t ∗ (dats A O R 0 c).leavesExact 1 t ∗ (dats A O R 0 c).leavesExact 2 t
    ∗ (dats A O R 0 c).leavesExact 3 t ∗ (dats A O R 0 c).leavesExact 4 t ∗ (dats A O R 0 c).leavesExact 5 t)

theorem idle_out (t : Fin cfg0.N) (w : Fin cfg0.W) (hw : 2 ≤ w.val) (h : ¬cond0_1 (grid0.coords t)) : cfg0.idle w (cfg0.grid.coords t) = true := by
  have e : (!(k0_cond2 (grid0.coords t) == 1#1)) = true := by
    simp only [Bool.not_eq_true', beq_eq_false_iff_ne]; exact h
  match w, hw with
  | ⟨2, _⟩, _ => exact e
  | ⟨3, _⟩, _ => exact e
  | ⟨4, _⟩, _ => exact e
  | ⟨5, _⟩, _ => exact e

theorem live_out (t : Fin cfg0.N) (w : Fin cfg0.W) (hw : 2 ≤ w.val) (h : cond0_1 (grid0.coords t)) : cfg0.idle w (cfg0.grid.coords t) = false := by
  have e : (!(k0_cond2 (grid0.coords t) == 1#1)) = false := by
    simp only [Bool.not_eq_false', beq_iff_eq]; exact h
  match w, hw with
  | ⟨2, _⟩, _ => exact e
  | ⟨3, _⟩, _ => exact e
  | ⟨4, _⟩, _ => exact e
  | ⟨5, _⟩, _ => exact e

theorem flush_out (t : Fin cfg0.N) (w : Fin cfg0.W) (hw : 2 ≤ w.val) (h : ¬t.val % 16 = 15) : (cfg0.win w).flush t = false := by
  rw [← Bool.not_eq_true]
  match w, hw with
  | ⟨2, _⟩, _ => exact fun e => h ((flush0_2 t).mp e)
  | ⟨3, _⟩, _ => exact fun e => h ((flush0_3 t).mp e)
  | ⟨4, _⟩, _ => exact fun e => h ((flush0_4 t).mp e)
  | ⟨5, _⟩, _ => exact fun e => h ((flush0_5 t).mp e)

theorem leaves_in0 (c : Dev nD) (t : Fin cfg0.N) : (dats A O R 0 c).leavesExact 0 t = owns (c : Thread nD τ) (ms0_0 t) fullShare (iblk A c 0 t) := by
  unfold Dat.leavesExact; rw [show cfg0.idle 0 (cfg0.grid.coords t) = false from rfl, after0_0]
theorem leaves_in1 (c : Dev nD) (t : Fin cfg0.N) : (dats A O R 0 c).leavesExact 1 t = owns (c : Thread nD τ) (ms0_1 t) fullShare (iblk A c 1 t) := by
  unfold Dat.leavesExact; rw [show cfg0.idle 1 (cfg0.grid.coords t) = false from rfl, after0_1]

theorem leaves_out (c : Dev nD) (t : Fin cfg0.N) (w : Fin cfg0.W) (hw : 2 ≤ w.val) (h : ¬t.val % 16 = 15) :
    (dats A O R 0 c).leavesExact w t = iprop(∃ d, owns (c : Thread nD τ) ((cfg0.win w).stage (cfg0.slots t w)) fullShare ((dats A O R 0 c).before w t d)) := by
  unfold Dat.leavesExact; rw [idle_out t w hw fun e => h ((hcond0_1 t).mp e), flush_out t w hw h]

theorem leaves_last (c : Dev nD) (t : Fin cfg0.N) (w : Fin cfg0.W) (hw : 2 ≤ w.val) (h : t.val % 16 = 15) :
    (dats A O R 0 c).leavesExact w t = owns (c : Thread nD τ) ((cfg0.win w).stage (cfg0.slots t w)) fullShare ((dats A O R 0 c).after w t) := by
  unfold Dat.leavesExact; rw [live_out t w hw ((hcond0_1 t).mpr h)]

set_option maxHeartbeats 9600000 in
theorem sound_body (c : Dev nD) (t : Fin cfg0.N) :
    bodyPre A O R c t ⊢ wp frame (wpE (defs₀ (F := F)) Variants.none c none) Set.univ (bodyAt0 t) (fun _ => bodyPost A O R c t) := by
  unfold bodyPre bodyPost bodyAt0
  simp only [before0_0, before0_1]
  rw [show (dats A O R 0 c).owesAt none t.succ = (dats A O R 0 c).owesAt none t.castSucc from rfl]
  rw [show (dats A O R 0 c).Φ t.succ = PhiS A c (t.val + 1) from rfl, PhiS_castSucc A O R c t, leaves_in0, leaves_in1]
  have hN : t.val < 16 := lt_of_lt_of_eq t.isLt (show cfg0.N = 16 from N_0)
  have es : sNext (grid0.coords t) (iblk A c 0 t) (iblk A c 1 t) (sAt A c t.val) = sAt A c (t.val + 1) := by
    show _ = sNext (grid0.coords (pt t.val)) (iblk A c 0 (pt t.val)) (iblk A c 1 (pt t.val)) (sAt A c t.val)
    rw [pt_val t]
  have et : ∀ d, putRows (grid0.coords t) (tAt A c d t.val) (eRows (grid0.coords t) (iblk A c 0 t) (iblk A c 1 t) (sAt A c t.val)) = tAt A c d (t.val + 1) := by
    intro d
    show _ = putRows (grid0.coords (pt t.val)) (tAt A c d t.val) (eRows (grid0.coords (pt t.val)) (iblk A c 0 (pt t.val)) (iblk A c 1 (pt t.val)) (sAt A c t.val))
    rw [pt_val t]
  by_cases h1 : t.val % 16 = 15
  · have h0 : ¬t.val % 16 = 0 := by omega
    have hv : t.val = 15 := by omega
    rw [leaves_last A O R c t 2 (by decide) h1, leaves_last A O R c t 3 (by decide) h1, leaves_last A O R c t 4 (by decide) h1, leaves_last A O R c t 5 (by decide) h1,
      after0_2, after0_3, after0_4, after0_5, PhiS_pos A c t.val (by omega), PhiS_pos A c (t.val + 1) (by omega)]
    have el : len0 A c = iblk A c 0 t := by
      unfold len0; rw [show pt 15 = t from by rw [← hv]; exact pt_val t]
    iintro ⟨⟨HS0, ⟨%d, HS1⟩⟩, Ho, ⟨%d0, H0⟩, ⟨%d1, H1⟩, ⟨%d2, H2⟩, ⟨%d3, H3⟩, ⟨%d4, H4⟩, ⟨%d5, H5⟩⟩
    iapply (run_C c (grid0.coords t) _ _ _ _ _ _ _ _ _ _ _ _ _ _ _ _ (iblk A c 0 t) (iblk A c 1 t) (sAt A c t.val) (tAt A c d t.val) ((dats A O R 0 c).before 2 t d2) ((dats A O R 0 c).before 3 t d3) ((dats A O R 0 c).before 4 t d4) ((dats A O R 0 c).before 5 t d5) (fun h => h0 ((hcond0_0 t).mp h)) ((hcond0_1 t).mpr h1) Set.univ _)
    rw [et d, es, show tAt A c d (t.val + 1) = tFin A c from by rw [hv]; exact tAt_all A c d, show sAt A c (t.val + 1) = sAt A c 16 from by rw [hv], el]
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0]; · iexact HS0
      iexists d
      rw [show tAt A c d (t.val + 1) = tFin A c from by rw [hv]; exact tAt_all A c d]
      iexact HS1
    isplitl [Ho]; · iexact Ho
    isplitl [H0]; · iexact H0
    isplitl [H1]; · iexact H1
    isplitl [H2]; · iexact H2
    isplitl [H3]; · iexact H3
    isplitl [H4]; · iexact H4
    iexact H5
  · rw [leaves_out A O R c t 2 (by decide) h1, leaves_out A O R c t 3 (by decide) h1, leaves_out A O R c t 4 (by decide) h1, leaves_out A O R c t 5 (by decide) h1,
      PhiS_pos A c (t.val + 1) (by omega)]
    by_cases h0 : t.val % 16 = 0
    · have hv : t.val = 0 := by omega
      rw [show PhiS A c t.val = PhiS A c 0 from by rw [hv]]
      unfold PhiS
      iintro ⟨⟨⟨%s, HS0⟩, ⟨%d, HS1⟩⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ _ _ (iblk A c 0 t) (iblk A c 1 t) s d ((dats A O R 0 c).before 2 t d2) ((dats A O R 0 c).before 3 t d3) ((dats A O R 0 c).before 4 t d4) ((dats A O R 0 c).before 5 t d5) ((hcond0_0 t).mpr h0) (fun h => h1 ((hcond0_1 t).mp h)) Set.univ _)
      have es' := es
      have et' := et d
      rw [show sAt A c t.val = k0_pay10 from by rw [hv]; rfl] at es' et'
      rw [show tAt A c d t.val = d from by rw [hv]; rfl] at et'
      rw [es', et']
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexists d
        iexact HS1
      isplitl [Ho]; · iexact Ho
      isplitl [H0]; · iexact H0
      isplitl [H1]; · iexact H1
      isplitl [H2]; · iexists d2; iexact H2
      isplitl [H3]; · iexists d3; iexact H3
      isplitl [H4]; · iexists d4; iexact H4
      iexists d5; iexact H5
    · rw [PhiS_pos A c t.val (by omega)]
      iintro ⟨⟨HS0, ⟨%d, HS1⟩⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ _ _ (iblk A c 0 t) (iblk A c 1 t) (sAt A c t.val) (tAt A c d t.val) ((dats A O R 0 c).before 2 t d2) ((dats A O R 0 c).before 3 t d3) ((dats A O R 0 c).before 4 t d4) ((dats A O R 0 c).before 5 t d5) (fun h => h0 ((hcond0_0 t).mp h)) (fun h => h1 ((hcond0_1 t).mp h)) Set.univ _)
      rw [et d, es]
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexists d
        iexact HS1
      isplitl [Ho]; · iexact Ho
      isplitl [H0]; · iexact H0
      isplitl [H1]; · iexact H1
      isplitl [H2]; · iexists d2; iexact H2
      isplitl [H3]; · iexists d3; iexact H3
      isplitl [H4]; · iexists d4; iexact H4
      iexists d5; iexact H5

theorem defs₀_row (t : Fin cfg0.N) : defs₀ (F := F) .tc cfg0.body (cfg0.bodyArgs t (cfg0.slots t)) = bodyAt0 t := by
  rfl

theorem body_obligation (c : Dev nD) : BodyObligation (dats A O R 0 c) (defs₀ (F := F)) Variants.none none Set.univ := fun t => by
  rw [bigSep_W0, bigSep_W0, defs₀_row]
  exact triple_restated (sound_body A O R c t) rfl .rfl fun _ => .rfl

end Cert.Beam

end
-- ==== Proof.Entry.lean ====
/- The TensorCore region as the launch sees it: the arrays it leaves, and the region entered from and left at a
   valuation of the arrays of @main. -/
module

public import proofs.«01_k».proof.Proof.Region
public import Idealize.ShloMosaic.Lib.Pipeline.Value
public import Idealize.ShloMosaic.Lib.Pipeline.RegionsLoop

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells mem_ownCells ownRefs ownBufs ownSems0)
open Idealize.ShloMosaic.Pipeline (Dat BodyObligation BodyObligationLoose)
open Cert.KernelIdeal Cert.KernelIdeal.Gen

variable {F : FTy → Type} [FloatOps F]

local notation "𝕄" => MT nD τ sig (HIx 1) (Elt F) ℕ UU ℕ

section Final

variable (A : (c : Dev nD) → (w : Fin cfg0.W) → Buf (Elt F) ((cfg0.win w).arr.view.loc (c.tc : Thread nD τ)))
variable (O : Dev nD → CellTallies nD τ sig (HIx 1)) (R : Dev nD → Set (SemLoc sig × HIx 1))

theorem flushed_2 (c : Dev nD) (t : Fin cfg0.N) (hf : (cfg0.win 2).flush t = true) :
    (dats A O R 0 c).flushed 2 t = ((cfg0.win 2).blk t).view.read (Elt F) ((k0_pay3 (sAt A c 16) : S1x64.Idx → Elt F (main_v1_0.ty.elt)) : Buf (Elt F) ((c : Thread nD τ).loc main_v1_0)) := by
  have h3 : t.val = 15 := by have h := (flush0_2 t).mp hf; have h' : t.val < 16 := lt_of_lt_of_eq t.isLt (show cfg0.N = 16 from N_0); omega
  obtain rfl : t = t0_15 := Fin.ext h3
  show (cfg0.win 2).cut (grid0.coords t0_15) ((dats A O R 0 c).after 2 t0_15) = _
  rw [after0_2]
  have hz' : (fun a => win0_2.index t0_15 a * main_v1_0.ty.shape.size a) = fun _ => 0 := funext fun a => by fin_cases a <;> decide
  exact (Memref.read_access_unit_zero (Elt F) main_v1_0 hz' (fun a => by rw [congrFun hz' a]; simp) _).symm

theorem final_2 (c : Dev nD) : (dats A O R 0 c).arrAt 2 cfg0.N = ((k0_pay3 (sAt A c 16) : S1x64.Idx → Elt F (main_v1_0.ty.elt)) : Buf (Elt F) ((c : Thread nD τ).loc main_v1_0)) :=
  (dats A O R 0 c).arrAt_eq_of_cover 2 _ (flushed_2 A O R c) fun i =>
    ⟨t0_15, (flush0_2 t0_15).mpr rfl, by
      show i ∈ ((View.whole main_v1_0).slice (win0_2.rect t0_15)).set
      rw [View.set_slice_whole, Rect.mem_set_unit]
      intro a
      have h0 : (i 0 : Nat) < 1 := (i 0).isLt
      have h1 : (i 1 : Nat) < 64 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 64 from by decide +kernel]; omega⟩

theorem flushed_3 (c : Dev nD) (t : Fin cfg0.N) (hf : (cfg0.win 3).flush t = true) :
    (dats A O R 0 c).flushed 3 t = ((cfg0.win 3).blk t).view.read (Elt F) ((k0_pay8 (F := F) (dl (len0 A c)) (tFin A c) : S64x1.Idx → Elt F (main_v1_1.ty.elt)) : Buf (Elt F) ((c : Thread nD τ).loc main_v1_1)) := by
  have h3 : t.val = 15 := by have h := (flush0_3 t).mp hf; have h' : t.val < 16 := lt_of_lt_of_eq t.isLt (show cfg0.N = 16 from N_0); omega
  obtain rfl : t = t0_15 := Fin.ext h3
  show (cfg0.win 3).cut (grid0.coords t0_15) ((dats A O R 0 c).after 3 t0_15) = _
  rw [after0_3]
  have hz' : (fun a => win0_3.index t0_15 a * main_v1_1.ty.shape.size a) = fun _ => 0 := funext fun a => by fin_cases a <;> decide
  exact (Memref.read_access_unit_zero (Elt F) main_v1_1 hz' (fun a => by rw [congrFun hz' a]; simp) _).symm

theorem final_3 (c : Dev nD) : (dats A O R 0 c).arrAt 3 cfg0.N = ((k0_pay8 (F := F) (dl (len0 A c)) (tFin A c) : S64x1.Idx → Elt F (main_v1_1.ty.elt)) : Buf (Elt F) ((c : Thread nD τ).loc main_v1_1)) :=
  (dats A O R 0 c).arrAt_eq_of_cover 3 _ (flushed_3 A O R c) fun i =>
    ⟨t0_15, (flush0_3 t0_15).mpr rfl, by
      show i ∈ ((View.whole main_v1_1).slice (win0_3.rect t0_15)).set
      rw [View.set_slice_whole, Rect.mem_set_unit]
      intro a
      have h0 : (i 0 : Nat) < 64 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 64 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

theorem flushed_4 (c : Dev nD) (t : Fin cfg0.N) (hf : (cfg0.win 4).flush t = true) :
    (dats A O R 0 c).flushed 4 t = ((cfg0.win 4).blk t).view.read (Elt F) ((k0_pay9 (F := F) (dl (len0 A c)) (tFin A c) : S64x512.Idx → Elt F (main_v1_2.ty.elt)) : Buf (Elt F) ((c : Thread nD τ).loc main_v1_2)) := by
  have h3 : t.val = 15 := by have h := (flush0_4 t).mp hf; have h' : t.val < 16 := lt_of_lt_of_eq t.isLt (show cfg0.N = 16 from N_0); omega
  obtain rfl : t = t0_15 := Fin.ext h3
  show (cfg0.win 4).cut (grid0.coords t0_15) ((dats A O R 0 c).after 4 t0_15) = _
  rw [after0_4]
  have hz' : (fun a => win0_4.index t0_15 a * main_v1_2.ty.shape.size a) = fun _ => 0 := funext fun a => by fin_cases a <;> decide
  exact (Memref.read_access_unit_zero (Elt F) main_v1_2 hz' (fun a => by rw [congrFun hz' a]; simp) _).symm

theorem final_4 (c : Dev nD) : (dats A O R 0 c).arrAt 4 cfg0.N = ((k0_pay9 (F := F) (dl (len0 A c)) (tFin A c) : S64x512.Idx → Elt F (main_v1_2.ty.elt)) : Buf (Elt F) ((c : Thread nD τ).loc main_v1_2)) :=
  (dats A O R 0 c).arrAt_eq_of_cover 4 _ (flushed_4 A O R c) fun i =>
    ⟨t0_15, (flush0_4 t0_15).mpr rfl, by
      show i ∈ ((View.whole main_v1_2).slice (win0_4.rect t0_15)).set
      rw [View.set_slice_whole, Rect.mem_set_unit]
      intro a
      have h0 : (i 0 : Nat) < 64 := (i 0).isLt
      have h1 : (i 1 : Nat) < 512 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 64 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 512 from by decide +kernel]; omega⟩

theorem flushed_5 (c : Dev nD) (t : Fin cfg0.N) (hf : (cfg0.win 5).flush t = true) :
    (dats A O R 0 c).flushed 5 t = ((cfg0.win 5).blk t).view.read (Elt F) ((k0_pay5 (F := F) (dl (len0 A c)) (tFin A c) : S64x512.Idx → Elt F (main_v1_3.ty.elt)) : Buf (Elt F) ((c : Thread nD τ).loc main_v1_3)) := by
  have h3 : t.val = 15 := by have h := (flush0_5 t).mp hf; have h' : t.val < 16 := lt_of_lt_of_eq t.isLt (show cfg0.N = 16 from N_0); omega
  obtain rfl : t = t0_15 := Fin.ext h3
  show (cfg0.win 5).cut (grid0.coords t0_15) ((dats A O R 0 c).after 5 t0_15) = _
  rw [after0_5]
  have hz' : (fun a => win0_5.index t0_15 a * main_v1_3.ty.shape.size a) = fun _ => 0 := funext fun a => by fin_cases a <;> decide
  exact (Memref.read_access_unit_zero (Elt F) main_v1_3 hz' (fun a => by rw [congrFun hz' a]; simp) _).symm

theorem final_5 (c : Dev nD) : (dats A O R 0 c).arrAt 5 cfg0.N = ((k0_pay5 (F := F) (dl (len0 A c)) (tFin A c) : S64x512.Idx → Elt F (main_v1_3.ty.elt)) : Buf (Elt F) ((c : Thread nD τ).loc main_v1_3)) :=
  (dats A O R 0 c).arrAt_eq_of_cover 5 _ (flushed_5 A O R c) fun i =>
    ⟨t0_15, (flush0_5 t0_15).mpr rfl, by
      show i ∈ ((View.whole main_v1_3).slice (win0_5.rect t0_15)).set
      rw [View.set_slice_whole, Rect.mem_set_unit]
      intro a
      have h0 : (i 0 : Nat) < 64 := (i 0).isLt
      have h1 : (i 1 : Nat) < 512 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 64 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 512 from by decide +kernel]; omega⟩

end Final

/-! ## The region over the arrays of @main held at a valuation -/

/-- The arrays of @main on the TensorCore. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

variable (V : Dev nD → Valuation τ sig (Elt F))

/-- The windows' arrays at a valuation. -/
abbrev arrOf (c : Dev nD) (w : Fin cfg0.W) : Buf (Elt F) ((cfg0.win w).arr.view.loc (c.tc : Thread nD τ)) :=
  V c (Pipeline.arrRef spec0 w)

/-- What @main's arrays hold after the region. -/
def regOut (c : Dev nD) : Valuation τ sig (Elt F) :=
  Function.update (Function.update (Function.update (Function.update (V c)
    (main_v1_0 : DevRef τ sig) (k0_pay3 (sAt (arrOf V) c 16)))
    (main_v1_1 : DevRef τ sig) (k0_pay8 (F := F) (dl (len0 (arrOf V) c)) (tFin (arrOf V) c)))
    (main_v1_2 : DevRef τ sig) (k0_pay9 (F := F) (dl (len0 (arrOf V) c)) (tFin (arrOf V) c)))
    (main_v1_3 : DevRef τ sig) (k0_pay5 (F := F) (dl (len0 (arrOf V) c)) (tFin (arrOf V) c))

theorem regOut_ne (c : Dev nD) (b : DevRef τ sig) (h0 : b ≠ (main_v1_0 : DevRef τ sig)) (h1 : b ≠ (main_v1_1 : DevRef τ sig)) (h2 : b ≠ (main_v1_2 : DevRef τ sig))
    (h3 : b ≠ (main_v1_3 : DevRef τ sig)) : regOut V c b = V c b := by
  unfold regOut
  rw [Function.update_of_ne h3, Function.update_of_ne h2, Function.update_of_ne h1, Function.update_of_ne h0]
theorem regOut_3 (c : Dev nD) : regOut V c (main_v1_3 : DevRef τ sig) = k0_pay5 (F := F) (dl (len0 (arrOf V) c)) (tFin (arrOf V) c) := by
  unfold regOut; rw [Function.update_self]
theorem regOut_2 (c : Dev nD) : regOut V c (main_v1_2 : DevRef τ sig) = k0_pay9 (F := F) (dl (len0 (arrOf V) c)) (tFin (arrOf V) c) := by
  unfold regOut; rw [Function.update_of_ne (by decide), Function.update_self]
theorem regOut_1 (c : Dev nD) : regOut V c (main_v1_1 : DevRef τ sig) = k0_pay8 (F := F) (dl (len0 (arrOf V) c)) (tFin (arrOf V) c) := by
  unfold regOut; rw [Function.update_of_ne (by decide), Function.update_of_ne (by decide), Function.update_self]
theorem regOut_0 (c : Dev nD) : regOut V c (main_v1_0 : DevRef τ sig) = k0_pay3 (sAt (arrOf V) c 16) := by
  unfold regOut; rw [Function.update_of_ne (by decide), Function.update_of_ne (by decide), Function.update_of_ne (by decide), Function.update_self]

/-- The pairs a TensorCore may have waited on before the SparseCore call. -/
def RB (c : Dev nD) : Set (SemLoc sig × HIx 1) := {p | (K (F := F)).lev ((c : Thread nD τ), p.1) p.2 ≤ 0}

abbrev adm : (p : Fin 1) → (pcfgs (F := F) p).Adm := fun _ => (cfgs 0).toPCfg_adm

abbrev O₀ (c : Dev nD) : CellTallies nD τ sig (HIx 1) := (K (F := F)).Otc c 0

abbrev pdats : (p : Fin 1) → (c : Dev nD) → Dat τ (Elt F) (HIx 1) ℕ UU ℕ (Pipeline.pin (pcfgs (F := F)) adm p) c :=
  fun p c => dats (arrOf V) (O₀ (F := F)) (RB (F := F)) p c

theorem O₀_none (c : Dev nD) (g : GSem nD τ sig) : O₀ (F := F) c g none = 0 := by
  unfold O₀ SparseCore.Cfg.Otc
  simp [tallyAt_apply]

set_option backward.isDefEq.respectTransparency.types false in
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (arrOf V) (O₀ (F := F)) (RB (F := F)) c).loose
  hwaits c := Pipeline.cellsWaits_intro _ _ _ _ _ fun w s t => (K (F := F)).mayWait_none _ (O₀_none (F := F) c)
  pre c := iprop(StableHlo.held (c : Thread nD τ) ucRefs (V c) ∗ ∃ W, ⌜(K (F := F)).WBelow (T c) W 0⌝ ∗ owes (T c) (O₀ (F := F) c) W)
  post c := iprop(StableHlo.held (c : Thread nD τ) ucRefs (regOut V c) ∗ ∃ W, ⌜(K (F := F)).WBelow (T c) W 0⌝ ∗ owes (T c) (O₀ (F := F) c) W)
  X _ := BI.emp
  Y _ := BI.emp
  Z c := Pipeline.unscopedRest (Ix := HIx 1) (Name := ℕ) (U := UU) (Lvl := ℕ) spec0 c (fun b => V c b)
  hentry c := by
    rw [Pipeline.ownSems0_none, ← unscopedBufs_held]
    have hsplit := Pipeline.arrays_of_unscopedBufs (p := 0) (pcfgs (F := F)) adm (pdats V) launch0.win launch0.arr_whole c
      ((pdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = PhiS (arrOf V) c 0 from rfl, scopedRest0_eq]
    unfold PhiS
    iintro ⟨-, -, ⟨%f0, H0⟩, ⟨%f1, H1⟩⟩
    simp only [owns_whole_eq]
    isplitl [H0]
    · iexists f0; iexists f0; isplitr; · ipureintro; rfl
      iexact H0
    · iexists f1; iexists f1; isplitr; · ipureintro; rfl
      iexact H1
  hout c := by
    rw [Pipeline.ownSems0_none, show (pdats V 0 c).Φ (Fin.last _) = PhiS (arrOf V) c 16 from rfl, scopedRest0_eq]
    unfold PhiS
    simp only [owns_whole_eq]
    iintro ⟨⟨%f0, -, H0⟩, ⟨%d, ⟨%f1, -, H1⟩⟩⟩
    isplitr; · iempintro
    isplitr; · iempintro
    isplitl [H0]
    · iexists f0; iexact H0
    · iexists f1; iexact H1
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (fun b => V c b) (fun b => regOut V c b) ((pdats V 0 c).arrAt · cfg0.N)
      (fun w => by
        match w with
        | 0 => exact ((pdats V 0 c).arrAt_in 0 rfl _).trans (regOut_ne V c (main_v0 : DevRef τ sig) (by decide) (by decide) (by decide) (by decide)).symm
        | 1 => exact ((pdats V 0 c).arrAt_in 1 rfl _).trans (regOut_ne V c (main_arg0 : DevRef τ sig) (by decide) (by decide) (by decide) (by decide)).symm
        | 2 => exact (final_2 _ _ _ c).trans (regOut_0 V c).symm
        | 3 => exact (final_3 _ _ _ c).trans (regOut_1 V c).symm
        | 4 => exact (final_4 _ _ _ c).trans (regOut_2 V c).symm
        | 5 => exact (final_5 _ _ _ c).trans (regOut_3 V c).symm)
      (fun b hb => by
        have hn : ∀ w : Fin 6, b ≠ Pipeline.arrRef spec0 w := fun w e => hb (Finset.mem_image.mpr ⟨w, Finset.mem_univ _, e.symm⟩)
        exact regOut_ne V c _ (fun e => hn 2 (Proc.devRef_injective _ e)) (fun e => hn 3 (Proc.devRef_injective _ e)) (fun e => hn 4 (Proc.devRef_injective _ e)) (fun e => hn 5 (Proc.devRef_injective _ e)))
    iintro ⟨Ha, HO, -, Hrest⟩
    imodintro
    rw [← unscopedBufs_held]
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.le_refl _
    iexact HO

end Cert.Beam

end
-- ==== Proof.Row.lean ====
/- One row of the scatter: the words of a sequence row put at the positions of a position row, in order, over a row of
   −1. -/
module

public import proofs.«01_k».proof.Proof.Common

@[expose] public section

noncomputable section

namespace Cert.Beam

open Idealize.ShloMosaic Idealize.ShloMosaic.TcCoe Idealize.ShloMosaic.Tactic
open Idealize.SL Idealize.SL.RA Idealize.SL.BI
open Cert.KernelIdeal Cert.KernelIdeal.Gen

variable {F : FTy → Type}

/-- Word `n` of a row of 512. -/
def wordAt (p : S512.Idx → BitVec 32) (n : ℕ) : BitVec 32 := p fun a => match a with | 0 => ⟨n % 512, Nat.mod_lt _ (by decide)⟩

/-- One word put: the word `S n` at position `P n`, if that is below 512. -/
def putLane (P S : ℕ → BitVec 32) (n : ℕ) (r : S528.Idx → BitVec 32) : S528.Idx → BitVec 32 :=
  fun y => if IntOp.cmpi .slt (P n) 512#32 = 1 then (if (y 0).val = (P n).toNat then S n else r y) else r y

/-- The row after the first `n` words. -/
def rowN (P S : ℕ → BitVec 32) : ℕ → S528.Idx → BitVec 32
  | 0 => fun _ => 4294967295#32
  | n + 1 => putLane P S n (rowN P S n)

/-- A row filled with −1 below `n`. -/
def fillN (r : S528.Idx → BitVec 32) (n : ℕ) : S528.Idx → BitVec 32 := fun y => if (y 0).val < n then 4294967295#32 else r y

theorem fillN_zero (r : S528.Idx → BitVec 32) : fillN r 0 = r := by
  funext y; unfold fillN; rw [if_neg (Nat.not_lt_zero _)]
theorem fillN_full (r : S528.Idx → BitVec 32) (P S : ℕ → BitVec 32) : fillN r 528 = rowN P S 0 := by
  funext y; unfold fillN rowN; rw [if_pos (show (y 0).val < 528 from (y 0).isLt)]

/-- Sixteen words of a row from word `n`. -/
def lane16 (p : S512.Idx → BitVec 32) (n : ℕ) : S16.Idx → BitVec 32 := fun x => wordAt p (n + (x 0).val)

theorem foldl_finRange {α : Type} (N : ℕ) (g : α → Fin N → α) (g' : ℕ → α → α) (hg : ∀ a k, g a k = g' k.val a) (a : α) :
    (List.finRange N).foldl g a = Nat.rec (motive := fun _ => α) a (fun n acc => g' n acc) N := by
  induction N generalizing a with
  | zero => simp
  | succ N ih =>
    rw [List.finRange_succ_last, List.foldl_append, List.foldl_map]
    simp only [List.foldl_cons, List.foldl_nil]
    rw [hg, ih (fun a k => g a k.castSucc) (fun a k => hg a k.castSucc)]
    rfl

theorem rowN_add (P S : ℕ → BitVec 32) (n m : ℕ) :
    Nat.rec (motive := fun _ => S528.Idx → BitVec 32) (rowN P S n) (fun k acc => putLane P S (n + k) acc) m = rowN P S (n + m) := by
  induction m with
  | zero => rfl
  | succ m ih => show putLane P S (n + m) _ = putLane P S (n + m) (rowN P S (n + m)); rw [ih]

/-- The scatter of sixteen words over a row. -/
theorem storeIdx_row [FloatOps F] (p s : S512.Idx → BitVec 32) (n : ℕ) (v w : S16.Idx → BitVec 32) (mask : IVec S16 1)
    (h : ∀ a x, ((![v] : Fin S528.rank → IVec S16 32) a x).toNat < S528.size a)
    (hv : v = lane16 p n) (hw : w = lane16 s n) (hm : ∀ x, mask x = IntOp.cmpi .slt (v x) 512#32) :
    storeIdx (F := F) (s := S528) (e := .i32) (d := S16.size) (rowN (wordAt p) (wordAt s) n) ![v] w mask false h
      = rowN (wordAt p) (wordAt s) (n + 16) := by
  subst hv hw
  unfold storeIdx
  rw [← rowN_add]
  refine foldl_finRange (α := S528.Idx → BitVec 32) 16 _ (fun k acc => putLane (wordAt p) (wordAt s) (n + k) acc) (fun g k => ?_) _
  funext y
  have hm' := hm (Shape.ofLane k)
  have hk : (Shape.ofLane k : S16.Idx) 0 = k := rfl
  simp only [hm']
  unfold putLane lane16
  simp only [hk]
  by_cases hc : IntOp.cmpi .slt (wordAt p (n + k.val)) 512#32 = 1
  · rw [if_pos hc, if_pos hc]
    simp only [Bool.false_eq_true, if_false]
    have : (∀ a, (y a).val = (idxAt (![fun x : S16.Idx => wordAt p (n + (x 0).val)] : Fin S528.rank → IVec S16 32) h (Shape.ofLane k) a).val)
        ↔ (y 0).val = (wordAt p (n + k.val)).toNat := by
      constructor
      · intro H; exact H 0
      · intro H a; match a with | 0 => exact H
    simp only [this]
  · rw [if_neg hc, if_neg hc]

end Cert.Beam
end
-- ==== Proof.Scat.lean ====
/- The scatter's steps on one vector subcore: sixteen words loaded, checked and put over the row, and the row's runs of
   such steps. -/
module

public import proofs.«01_k».proof.Proof.Row

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig (HIx 1) (Elt F) ℕ UU ℕ
local notation "gP" => (Memref.whole Cert.KernelIdeal.main_v2_scv : Memref Cert.KernelIdeal.sig Kind.scVector Space.hbm Cert.KernelIdeal.S32768 EltTy.i32)
local notation "gS" => (Memref.whole Cert.KernelIdeal.main_v3_scv : Memref Cert.KernelIdeal.sig Kind.scVector Space.hbm Cert.KernelIdeal.S32768 EltTy.i32)
local notation "gO" => (Memref.whole Cert.KernelIdeal.main_v4_scv : Memref Cert.KernelIdeal.sig Kind.scVector Space.hbm Cert.KernelIdeal.S32768 EltTy.i32)
local notation "sP" => (Memref.whole Cert.KernelIdeal.cc1_scratch0 : Memref Cert.KernelIdeal.sig Kind.scVector Space.vmem Cert.KernelIdeal.S512 EltTy.i32)
local notation "sS" => (Memref.whole Cert.KernelIdeal.cc1_scratch1 : Memref Cert.KernelIdeal.sig Kind.scVector Space.vmem Cert.KernelIdeal.S512 EltTy.i32)
local notation "sR" => (Memref.whole Cert.KernelIdeal.cc1_scratch2 : Memref Cert.KernelIdeal.sig Kind.scVector Space.vmem Cert.KernelIdeal.S528 EltTy.i32)

abbrev cV (L : grid1.Coords) : Fin τ.nSC := (L 0).castLE hcore1
abbrev jV (L : grid1.Coords) : Fin τ.nSub := (L 1).castLE hsub1

/-- A load of sixteen words of the position scratch, and of the sequence scratch. -/
theorem load_sP (p : S512.Idx → BitVec 32) (n : ℕ) (inb : ∀ a, (![n] : Fin 1 → ℕ) a + S16.size a ≤ S512.size a) :
    (sP).view.readAt (Elt F) (Rect.unit (s := S512) ![n] S16.size inb).toLoadRect p = lane16 p n := by
  funext x
  have hn := inb 0
  have hx := (x 0).isLt
  refine congrArg p (funext fun a => ?_)
  match a with
  | 0 => exact Fin.ext (by
      show n + 1 * (x 0).val = (n + (x 0).val) % 512
      have h1 : n + 16 ≤ 512 := hn
      have h2 : (x 0).val < 16 := hx
      omega)
theorem load_sS (p : S512.Idx → BitVec 32) (n : ℕ) (inb : ∀ a, (![n] : Fin 1 → ℕ) a + S16.size a ≤ S512.size a) :
    (sS).view.readAt (Elt F) (Rect.unit (s := S512) ![n] S16.size inb).toLoadRect p = lane16 p n := load_sP (F := F) p n inb

/-- Every position of the row is inside the row scratch. -/
def InRow (p : S512.Idx → BitVec 32) : Prop := ∀ x, (p x).toNat < 528

theorem chk_lane16 {p : S512.Idx → BitVec 32} (hp : InRow p) (n : ℕ) :
    ∀ (a : Fin S528.rank) (x : S16.Idx), ((![lane16 p n] : Fin S528.rank → IVec S16 32) a x).toNat < S528.size a := by
  intro a x
  match a with | 0 => exact hp _

variable [FloatOps F]

/-- The scatter's step over the row scratch. -/
theorem wp_scat (d : Dev nD) (L : grid1.Coords) {α : Type} {v w : S16.Idx → BitVec 32} {mask : IVec S16 1}
    {h : ∀ a x, ((![v] : Fin S528.rank → IVec S16 32) a x).toNat < S528.size a} {hs}
    {k : PUnit → Prog (TpuEff nD τ sig (Elt F) Λ₀ (V d (cV L) (jV L)).2) α} {Q : α → sProp 𝕄}
    (p s : S512.Idx → BitVec 32) (n : ℕ)
    (hv : v = lane16 p n) (hw : w = lane16 s n) (hm : ∀ x, mask x = IntOp.cmpi .slt (v x) 512#32) :
    (((sR).view.loc (V d (cV L) (jV L)) ↦{fullShare} (rowN (wordAt p) (wordAt s) n : S528.Idx → BitVec 32) : sProp 𝕄))
      ⊢ iprop((((sR).view.loc (V d (cV L) (jV L)) ↦{fullShare} (rowN (wordAt p) (wordAt s) (n + 16) : S528.Idx → BitVec 32) : sProp 𝕄)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (F := F) sR ![v] w mask false h hs >>= k) Q) := by
  have key := SparseCore.wp_vectorStoreIdx (F := F) (defs := defs₀ (F := F)) 𝒱₀ (V d (cV L) (jV L)) none Set.univ (Q := Q)
    (base := sR) (idxs := ![v]) (v := w) (mask := mask) (add := false) (h := h) (hs := hs) (k := k)
    (f := (rowN (wordAt p) (wordAt s) n : S528.Idx → BitVec 32))
  simp only [Memref.set_access_whole, Memref.write_access_whole_univ, Memref.read_access_whole] at key
  rw [← storeIdx_row (F := F) p s n v w mask h hv hw hm]
  have e1 : ((sR).access (.whole S528)).set = Finset.univ := Memref.set_access_whole (cc1_scratch2 : Ref sig .scVector)
  exact key

/-- The fill's step over the row scratch: sixteen elements loaded (and not used), then −1 stored over them. -/
theorem wp_fill (d : Dev nD) (L : grid1.Coords) {α : Type} (r : S528.Idx → BitVec 32) (n : ℕ)
    {inb : ∀ a, (![n] : Fin 1 → ℕ) a + S16.size a ≤ S528.size a} {hl hx hm} {w : S16.Idx → BitVec 32}
    {k : PUnit → Prog (TpuEff nD τ sig (Elt F) Λ₀ (V d (cV L) (jV L)).2) α} {Q : α → sProp 𝕄}
    (hw : w = fun _ => 4294967295#32) :
    (((sR).view.loc (V d (cV L) (jV L)) ↦{fullShare} (fillN r n : S528.Idx → BitVec 32) : sProp 𝕄))
      ⊢ iprop((((sR).view.loc (V d (cV L) (jV L)) ↦{fullShare} (fillN r (n + 16) : S528.Idx → BitVec 32) : sProp 𝕄)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (.op (.load sR (Rect.unit (s := S528) ![n] S16.size inb).toLoadRect hl) fun _ =>
              .op (.store sR (Rect.unit (s := S528) ![n] S16.size inb) w Finset.univ hx hm) k) Q) := by
  have e : ((sR).access (Rect.unit (s := S528) ![n] S16.size inb)).write (Elt F) (fillN r n : S528.Idx → BitVec 32) w Finset.univ
      = (fillN r (n + 16) : S528.Idx → BitVec 32) := by
    funext y
    by_cases hy : n ≤ (y 0).val ∧ (y 0).val < n + 16
    · have ey : y = ((sR).access (Rect.unit (s := S528) ![n] S16.size inb)).emb
          (fun a => match a with | 0 => (⟨(y 0).val - n, by omega⟩ : Fin 16)) := by
        funext a
        match a with
        | 0 => exact Fin.ext (by show (y 0).val = n + 1 * ((y 0).val - n); omega)
      rw [ey, View.write_emb_of_mem _ _ (Finset.mem_univ _), hw, ← ey]
      unfold fillN; rw [if_pos hy.2]; rfl
    · rw [View.write_of_not_mem]
      · unfold fillN
        by_cases h1 : (y 0).val < n
        · rw [if_pos h1, if_pos (by omega)]
        · rw [if_neg h1, if_neg (by omega)]
      · intro hm'
        obtain ⟨x, -, hx'⟩ := Finset.mem_map.mp hm'
        apply hy
        have hx0 : (x 0).val < 16 := (x 0).isLt
        have : (y 0).val = n + 1 * (x 0).val := by rw [← hx']; rfl
        omega
  iintro HR Hk
  iapply (wp_load 𝒱₀ (V d (cV L) (jV L)) none Set.univ (m := sR) (S := Finset.univ) (Finset.subset_univ _)) $$ HR; iintro HR
  iapply (wp_store 𝒱₀ (V d (cV L) (jV L)) none Set.univ (m := sR) (r := Rect.unit (s := S528) ![n] S16.size inb) (Mk := Finset.univ) (S := Finset.univ) (Finset.subset_univ _)) $$ HR
  rw [e]
  iexact Hk

set_option maxHeartbeats 4000000 in
theorem part2 (d : Dev nD) (L : grid1.Coords) (p s : S512.Idx → BitVec 32) (r : S528.Idx → BitVec 32) (v2 : IVec S16 32) (hv2 : v2 = fun _ => 4294967295#32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (fillN r 176 : S528.Idx → BitVec 32) : sProp 𝕄))
      ⊢ wp frame (wpE (defs₀ (F := F)) 𝒱₀ (V d (cV L) (jV L)) none) Set.univ
        (k1_part2 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v2)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (fillN r 496 : S528.Idx → BitVec 32) : sProp 𝕄)) := by
  simp only [k1_part2_eq_skeleton]; unfold k1_part2_skel
  subst hv2
  simp only [Prog.lift, Prog.bind_op, Prog.bind_ret, Prog.pure_eq_ret]
  iintro ⟨HP, HS, HR⟩
  iterate 20
    iapply (wp_fill d L r _ rfl) $$ HR; iintro HR
  sl_step
  isplitl [HP]; · iexact HP
  isplitl [HS]; · iexact HS
  iexact HR

set_option maxHeartbeats 4000000 in
theorem part3 (d : Dev nD) (L : grid1.Coords) (p s : S512.Idx → BitVec 32) (hp : InRow p) (r : S528.Idx → BitVec 32) (v2 : IVec S16 32) (hv2 : v2 = fun _ => 4294967295#32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (fillN r 496 : S528.Idx → BitVec 32) : sProp 𝕄))
      ⊢ wp frame (wpE (defs₀ (F := F)) 𝒱₀ (V d (cV L) (jV L)) none) Set.univ
        (k1_part3 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v2)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 96 : S528.Idx → BitVec 32) : sProp 𝕄)) := by
  simp only [k1_part3_eq_skeleton]; unfold k1_part3_skel
  subst hv2
  simp only [Prog.lift, Prog.bind_op, Prog.bind_ret, Prog.pure_eq_ret]
  iintro ⟨HP, HS, HR⟩
  iterate 2
    iapply (wp_fill d L r _ rfl) $$ HR; iintro HR
  rw [show fillN r (496 + 16 + 16) = rowN (wordAt p) (wordAt s) 0 from fillN_full r _ _]
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  sl_step
  isplitl [HP]; · iexact HP
  isplitl [HS]; · iexact HS
  iexact HR

set_option maxHeartbeats 4000000 in
theorem part4 (d : Dev nD) (L : grid1.Coords) (p s : S512.Idx → BitVec 32) (hp : InRow p) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 96 : S528.Idx → BitVec 32) : sProp 𝕄))
      ⊢ wp frame (wpE (defs₀ (F := F)) 𝒱₀ (V d (cV L) (jV L)) none) Set.univ
        (k1_part4 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5)
        fun ret => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 192 : S528.Idx → BitVec 32) : sProp 𝕄)
          ∗ ⌜ret.1 = lane16 p 192 ∧ ret.2.2.1 = lane16 s 192 ∧ ret.2.2.2 = 512#32⌝) := by
  simp only [k1_part4_eq_skeleton]; unfold k1_part4_skel
  simp only [Prog.lift, Prog.bind_op, Prog.bind_ret, Prog.pure_eq_ret]
  iintro ⟨HP, HS, HR⟩
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  iapply (wp_load 𝒱₀ (V d (cV L) (jV L)) none Set.univ (m := sP) (S := Finset.univ) (Finset.subset_univ _)) $$ HP; iintro HP
  rw [load_sP]
  iapply (wp_assume 𝒱₀ (V d (cV L) (jV L)) none Set.univ (chk_lane16 hp _))
  iapply (wp_load 𝒱₀ (V d (cV L) (jV L)) none Set.univ (m := sS) (S := Finset.univ) (Finset.subset_univ _)) $$ HS; iintro HS
  rw [load_sS]
  sl_step
  isplitl [HP]; · iexact HP
  isplitl [HS]; · iexact HS
  isplitl [HR]; · iexact HR
  ipureintro
  exact ⟨rfl, rfl, rfl⟩

set_option maxHeartbeats 4000000 in
theorem part5 (d : Dev nD) (L : grid1.Coords) (p s : S512.Idx → BitVec 32) (hp : InRow p) (v w : Vec F S16 .i32) (c : BitVec 32) (hv : v = lane16 p 192) (hw : w = lane16 s 192) (hc : c = 512#32) (hk : k1_chk13 v) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 192 : S528.Idx → BitVec 32) : sProp 𝕄))
      ⊢ wp frame (wpE (defs₀ (F := F)) 𝒱₀ (V d (cV L) (jV L)) none) Set.univ
        (k1_part5 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v hk w c)
        fun ret => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 304 : S528.Idx → BitVec 32) : sProp 𝕄)
          ∗ ⌜ret.1 = lane16 p 304⌝) := by
  simp only [k1_part5_eq_skeleton]; unfold k1_part5_skel
  subst hv hw hc
  simp only [Prog.lift, Prog.bind_op, Prog.bind_ret, Prog.pure_eq_ret]
  iintro ⟨HP, HS, HR⟩
  iapply (wp_scat d L p s _ rfl rfl (fun _ => rfl)) $$ HR; iintro HR
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  iapply (wp_load 𝒱₀ (V d (cV L) (jV L)) none Set.univ (m := sP) (S := Finset.univ) (Finset.subset_univ _)) $$ HP; iintro HP
  rw [load_sP]
  iapply (wp_assume 𝒱₀ (V d (cV L) (jV L)) none Set.univ (chk_lane16 hp _))
  sl_step
  isplitl [HP]; · iexact HP
  isplitl [HS]; · iexact HS
  isplitl [HR]; · iexact HR
  ipureintro
  exact rfl

set_option maxHeartbeats 4000000 in
theorem part6 (d : Dev nD) (L : grid1.Coords) (p s : S512.Idx → BitVec 32) (hp : InRow p) (v : Vec F S16 .i32) (hv : v = lane16 p 304) (hk : k1_chk20 v) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 304 : S528.Idx → BitVec 32) : sProp 𝕄))
      ⊢ wp frame (wpE (defs₀ (F := F)) 𝒱₀ (V d (cV L) (jV L)) none) Set.univ
        (k1_part6 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v hk)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 416 : S528.Idx → BitVec 32) : sProp 𝕄)) := by
  simp only [k1_part6_eq_skeleton]; unfold k1_part6_skel
  subst hv
  simp only [Prog.lift, Prog.bind_op, Prog.bind_ret, Prog.pure_eq_ret]
  iintro ⟨HP, HS, HR⟩
  iapply (wp_load 𝒱₀ (V d (cV L) (jV L)) none Set.univ (m := sS) (S := Finset.univ) (Finset.subset_univ _)) $$ HS; iintro HS
  rw [load_sS]
  iapply (wp_scat d L p s _ rfl rfl (fun _ => rfl)) $$ HR; iintro HR
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  sl_step
  isplitl [HP]; · iexact HP
  isplitl [HS]; · iexact HS
  iexact HR

set_option maxHeartbeats 4000000 in
theorem part7 (d : Dev nD) (L : grid1.Coords) (p s : S512.Idx → BitVec 32) (hp : InRow p) (v4 : BitVec 32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 416 : S528.Idx → BitVec 32) : sProp 𝕄))
      ⊢ wp frame (wpE (defs₀ (F := F)) 𝒱₀ (V d (cV L) (jV L)) none) Set.univ
        (k1_part7 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v4)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 512 : S528.Idx → BitVec 32) : sProp 𝕄)) := by
  simp only [k1_part7_eq_skeleton]; unfold k1_part7_skel
  simp only [Prog.lift, Prog.bind_op, Prog.bind_ret, Prog.pure_eq_ret]
  iintro ⟨HP, HS, HR⟩
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  sl_step
  isplitl [HP]; · iexact HP
  isplitl [HS]; · iexact HS
  iexact HR

set_option maxHeartbeats 4000000 in
theorem part9 (d : Dev nD) (L : grid1.Coords) (p s : S512.Idx → BitVec 32) (r : S528.Idx → BitVec 32) (v2 : IVec S16 32) (hv2 : v2 = fun _ => 4294967295#32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (fillN r 160 : S528.Idx → BitVec 32) : sProp 𝕄))
      ⊢ wp frame (wpE (defs₀ (F := F)) 𝒱₀ (V d (cV L) (jV L)) none) Set.univ
        (k1_part9 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v2)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (fillN r 480 : S528.Idx → BitVec 32) : sProp 𝕄)) := by
  simp only [k1_part9_eq_skeleton]; unfold k1_part9_skel
  subst hv2
  simp only [Prog.lift, Prog.bind_op, Prog.bind_ret, Prog.pure_eq_ret]
  iintro ⟨HP, HS, HR⟩
  iterate 20
    iapply (wp_fill d L r _ rfl) $$ HR; iintro HR
  sl_step
  isplitl [HP]; · iexact HP
  isplitl [HS]; · iexact HS
  iexact HR

set_option maxHeartbeats 4000000 in
theorem part10 (d : Dev nD) (L : grid1.Coords) (p s : S512.Idx → BitVec 32) (hp : InRow p) (r : S528.Idx → BitVec 32) (v2 : IVec S16 32) (hv2 : v2 = fun _ => 4294967295#32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (fillN r 480 : S528.Idx → BitVec 32) : sProp 𝕄))
      ⊢ wp frame (wpE (defs₀ (F := F)) 𝒱₀ (V d (cV L) (jV L)) none) Set.univ
        (k1_part10 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v2)
        fun ret => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 80 : S528.Idx → BitVec 32) : sProp 𝕄)
          ∗ ⌜ret.1 = lane16 p 80 ∧ ret.2.2.1 = lane16 s 80 ∧ ret.2.2.2 = 512#32⌝) := by
  simp only [k1_part10_eq_skeleton]; unfold k1_part10_skel
  subst hv2
  simp only [Prog.lift, Prog.bind_op, Prog.bind_ret, Prog.pure_eq_ret]
  iintro ⟨HP, HS, HR⟩
  iterate 3
    iapply (wp_fill d L r _ rfl) $$ HR; iintro HR
  rw [show fillN r (480 + 16 + 16 + 16) = rowN (wordAt p) (wordAt s) 0 from fillN_full r _ _]
  iterate 5
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  iapply (wp_load 𝒱₀ (V d (cV L) (jV L)) none Set.univ (m := sP) (S := Finset.univ) (Finset.subset_univ _)) $$ HP; iintro HP
  rw [load_sP]
  iapply (wp_assume 𝒱₀ (V d (cV L) (jV L)) none Set.univ (chk_lane16 hp _))
  iapply (wp_load 𝒱₀ (V d (cV L) (jV L)) none Set.univ (m := sS) (S := Finset.univ) (Finset.subset_univ _)) $$ HS; iintro HS
  rw [load_sS]
  sl_step
  isplitl [HP]; · iexact HP
  isplitl [HS]; · iexact HS
  isplitl [HR]; · iexact HR
  ipureintro
  exact ⟨rfl, rfl, rfl⟩

set_option maxHeartbeats 4000000 in
theorem part11 (d : Dev nD) (L : grid1.Coords) (p s : S512.Idx → BitVec 32) (hp : InRow p) (v w : Vec F S16 .i32) (c : BitVec 32) (hv : v = lane16 p 80) (hw : w = lane16 s 80) (hc : c = 512#32) (hk : k1_chk38 v) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 80 : S528.Idx → BitVec 32) : sProp 𝕄))
      ⊢ wp frame (wpE (defs₀ (F := F)) 𝒱₀ (V d (cV L) (jV L)) none) Set.univ
        (k1_part11 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v hk w c)
        fun ret => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 192 : S528.Idx → BitVec 32) : sProp 𝕄)
          ∗ ⌜ret.1 = lane16 p 192⌝) := by
  simp only [k1_part11_eq_skeleton]; unfold k1_part11_skel
  subst hv hw hc
  simp only [Prog.lift, Prog.bind_op, Prog.bind_ret, Prog.pure_eq_ret]
  iintro ⟨HP, HS, HR⟩
  iapply (wp_scat d L p s _ rfl rfl (fun _ => rfl)) $$ HR; iintro HR
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  iapply (wp_load 𝒱₀ (V d (cV L) (jV L)) none Set.univ (m := sP) (S := Finset.univ) (Finset.subset_univ _)) $$ HP; iintro HP
  rw [load_sP]
  iapply (wp_assume 𝒱₀ (V d (cV L) (jV L)) none Set.univ (chk_lane16 hp _))
  sl_step
  isplitl [HP]; · iexact HP
  isplitl [HS]; · iexact HS
  isplitl [HR]; · iexact HR
  ipureintro
  exact rfl

set_option maxHeartbeats 4000000 in
theorem part12 (d : Dev nD) (L : grid1.Coords) (p s : S512.Idx → BitVec 32) (hp : InRow p) (v : Vec F S16 .i32) (hv : v = lane16 p 192) (hk : k1_chk45 v) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 192 : S528.Idx → BitVec 32) : sProp 𝕄))
      ⊢ wp frame (wpE (defs₀ (F := F)) 𝒱₀ (V d (cV L) (jV L)) none) Set.univ
        (k1_part12 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v hk)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 304 : S528.Idx → BitVec 32) : sProp 𝕄)) := by
  simp only [k1_part12_eq_skeleton]; unfold k1_part12_skel
  subst hv
  simp only [Prog.lift, Prog.bind_op, Prog.bind_ret, Prog.pure_eq_ret]
  iintro ⟨HP, HS, HR⟩
  iapply (wp_load 𝒱₀ (V d (cV L) (jV L)) none Set.univ (m := sS) (S := Finset.univ) (Finset.subset_univ _)) $$ HS; iintro HS
  rw [load_sS]
  iapply (wp_scat d L p s _ rfl rfl (fun _ => rfl)) $$ HR; iintro HR
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  sl_step
  isplitl [HP]; · iexact HP
  isplitl [HS]; · iexact HS
  iexact HR

set_option maxHeartbeats 4000000 in
theorem part13 (d : Dev nD) (L : grid1.Coords) (p s : S512.Idx → BitVec 32) (hp : InRow p) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 304 : S528.Idx → BitVec 32) : sProp 𝕄))
      ⊢ wp frame (wpE (defs₀ (F := F)) 𝒱₀ (V d (cV L) (jV L)) none) Set.univ
        (k1_part13 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5)
        fun ret => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 400 : S528.Idx → BitVec 32) : sProp 𝕄)
          ∗ ⌜ret.1 = lane16 p 400 ∧ ret.2.2.1 = lane16 s 400 ∧ ret.2.2.2 = 512#32⌝) := by
  simp only [k1_part13_eq_skeleton]; unfold k1_part13_skel
  simp only [Prog.lift, Prog.bind_op, Prog.bind_ret, Prog.pure_eq_ret]
  iintro ⟨HP, HS, HR⟩
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  iapply (wp_load 𝒱₀ (V d (cV L) (jV L)) none Set.univ (m := sP) (S := Finset.univ) (Finset.subset_univ _)) $$ HP; iintro HP
  rw [load_sP]
  iapply (wp_assume 𝒱₀ (V d (cV L) (jV L)) none Set.univ (chk_lane16 hp _))
  iapply (wp_load 𝒱₀ (V d (cV L) (jV L)) none Set.univ (m := sS) (S := Finset.univ) (Finset.subset_univ _)) $$ HS; iintro HS
  rw [load_sS]
  sl_step
  isplitl [HP]; · iexact HP
  isplitl [HS]; · iexact HS
  isplitl [HR]; · iexact HR
  ipureintro
  exact ⟨rfl, rfl, rfl⟩

set_option maxHeartbeats 4000000 in
theorem part14 (d : Dev nD) (L : grid1.Coords) (p s : S512.Idx → BitVec 32) (hp : InRow p) (v w : Vec F S16 .i32) (c : BitVec 32) (hv : v = lane16 p 400) (hw : w = lane16 s 400) (hc : c = 512#32) (hk : k1_chk58 v) (v170 : BitVec 32) :
    iprop(((sP).view.loc (V d (cV L) (jV L)) ↦{fullShare} p : sProp 𝕄) ∗ ((sS).view.loc (V d (cV L) (jV L)) ↦{fullShare} s : sProp 𝕄)
        ∗ ((sR).view.loc (V d (cV L) (jV L)) ↦{fullShare} (rowN (wordAt p) (wordAt s) 400 : S528.Idx → BitVec 32) : sProp 𝕄))
      ⊢ wp frame (wpE (defs₀ (F := F)) 𝒱₀ (V d (cV L) (jV L)) none) Set.univ
        (k1_part14 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v170 v hk w c)
        fun _ => iprop(((sP).view.loc (V d (cV L) (jV L)) ↦{fullShare} p : sProp 𝕄) ∗ ((sS).view.loc (V d (cV L) (jV L)) ↦{fullShare} s : sProp 𝕄)
          ∗ ((sR).view.loc (V d (cV L) (jV L)) ↦{fullShare} (rowN (wordAt p) (wordAt s) 512 : S528.Idx → BitVec 32) : sProp 𝕄)) := by
  simp only [k1_part14_eq_skeleton]; unfold k1_part14_skel
  subst hv hw hc
  simp only [Prog.lift, Prog.bind_op, Prog.bind_ret, Prog.pure_eq_ret]
  iintro ⟨HP, HS, HR⟩
  iapply (wp_scat d L p s _ rfl rfl (fun _ => rfl)) $$ HR; iintro HR
  iterate 6
    iapply (wp_load 𝒱₀ (V d (cV L) (jV L)) none Set.univ (m := sP) (S := Finset.univ) (Finset.subset_univ _)) $$ HP; iintro HP
    rw [load_sP]
    iapply (wp_assume 𝒱₀ (V d (cV L) (jV L)) none Set.univ (chk_lane16 hp _))
    iapply (wp_load 𝒱₀ (V d (cV L) (jV L)) none Set.univ (m := sS) (S := Finset.univ) (Finset.subset_univ _)) $$ HS; iintro HS
    rw [load_sS]
    iapply (wp_scat d L p s _ rfl rfl (fun _ => rfl)) $$ HR; iintro HR
  sl_step
  isplitl [HP]; · iexact HP
  isplitl [HS]; · iexact HS
  iexact HR

end Cert.Beam
end
-- ==== Proof.Tile.lean ====
/- The SparseCore's task on one vector subcore: two rows, each fetched, scattered and written out. -/
module

public import proofs.«01_k».proof.Proof.Scat

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells mem_ownCells ownRefs ownBufs ownSems0)
open Cert.KernelIdeal Cert.KernelIdeal.Gen

variable {F : FTy → Type}

local notation "𝕄" => MT nD τ sig (HIx 1) (Elt F) ℕ UU ℕ
local notation "gP" => (Memref.whole Cert.KernelIdeal.main_v2_scv : Memref Cert.KernelIdeal.sig Kind.scVector Space.hbm Cert.KernelIdeal.S32768 EltTy.i32)
local notation "gS" => (Memref.whole Cert.KernelIdeal.main_v3_scv : Memref Cert.KernelIdeal.sig Kind.scVector Space.hbm Cert.KernelIdeal.S32768 EltTy.i32)
local notation "gO" => (Memref.whole Cert.KernelIdeal.main_v4_scv : Memref Cert.KernelIdeal.sig Kind.scVector Space.hbm Cert.KernelIdeal.S32768 EltTy.i32)
local notation "sP" => (Memref.whole Cert.KernelIdeal.cc1_scratch0 : Memref Cert.KernelIdeal.sig Kind.scVector Space.vmem Cert.KernelIdeal.S512 EltTy.i32)
local notation "sS" => (Memref.whole Cert.KernelIdeal.cc1_scratch1 : Memref Cert.KernelIdeal.sig Kind.scVector Space.vmem Cert.KernelIdeal.S512 EltTy.i32)
local notation "sR" => (Memref.whole Cert.KernelIdeal.cc1_scratch2 : Memref Cert.KernelIdeal.sig Kind.scVector Space.vmem Cert.KernelIdeal.S528 EltTy.i32)

/-- Row `b` of a flat array of 64 rows of 512. -/
def rowOf (P : S32768.Idx → BitVec 32) (b : ℕ) : S512.Idx → BitVec 32 :=
  fun x => P fun a => match a with | 0 => ⟨(512 * b + (x 0).val) % 32768, Nat.mod_lt _ (by decide)⟩

/-- The flat array the SparseCore writes: each row the scatter of its sequence row by its position row. -/
def decFlat (P S : S32768.Idx → BitVec 32) : S32768.Idx → BitVec 32 :=
  fun y => rowN (wordAt (rowOf P ((y 0).val / 512))) (wordAt (rowOf S ((y 0).val / 512))) 512
    fun a => match a with | 0 => ⟨(y 0).val % 512, Nat.lt_trans (Nat.mod_lt _ (by decide)) (by decide)⟩

/-- The flat positions of the two rows of tile `L`. -/
def tSet (c s : ℕ) : Finset S32768.Idx := Finset.univ.filter fun y => (y 0).val / 1024 = 2 * s + c
/-- The flat positions of one row. -/
def rSet (b : ℕ) : Finset S32768.Idx := Finset.univ.filter fun y => (y 0).val / 512 = b

abbrev rk0 (L : grid1.Coords) : ℕ := 2 * (2 * (L 1).val + (L 0).val)
abbrev rk1 (L : grid1.Coords) : ℕ := 2 * (2 * (L 1).val + (L 0).val) + 1

theorem L0_lt (L : grid1.Coords) : (L 0).val < 2 := (L 0).isLt
theorem L1_lt (L : grid1.Coords) : (L 1).val < 16 := (L 1).isLt

theorem unit_set (off : Fin 1 → ℕ) (b : ℕ) (inb : ∀ a, off a + S512.size a ≤ S32768.size a) (h : off = ![512 * b]) :
    (Rect.unit (s := S32768) off S512.size inb).set = rSet b := by
  subst h
  ext y
  rw [Rect.mem_set_unit]
  unfold rSet
  rw [Finset.mem_filter]
  constructor
  · intro H
    have h0 := H 0
    have h1 : 512 * b ≤ (y 0).val := h0.1
    have h2 : (y 0).val < 512 * b + 512 := h0.2
    exact ⟨Finset.mem_univ _, by omega⟩
  · rintro ⟨-, H⟩ a
    match a with
    | 0 =>
      show 512 * b ≤ (y 0).val ∧ (y 0).val < 512 * b + 512
      omega

theorem off1_row (L : grid1.Coords) : k1_off1 L = ![512 * rk0 L] := by
  rw [k1_off1_eq]; congr 1; unfold rk0; omega
theorem off2_row0 (L : grid1.Coords) : k1_off2 L 0#32 = ![512 * rk0 L] := by
  rw [show k1_off2 L 0#32 = _ from k1_off2_eq L 0]; congr 1; unfold rk0; simp; omega
theorem off2_row1 (L : grid1.Coords) : k1_off2 L 1#32 = ![512 * rk1 L] := by
  rw [show k1_off2 L 1#32 = _ from k1_off2_eq L 1]; congr 1; unfold rk1; simp; omega
theorem off3_row (L : grid1.Coords) : k1_off3 L = ![512 * rk1 L] := by
  rw [k1_off3_eq]; congr 1; unfold rk1; omega

theorem tSet_split (L : grid1.Coords) : tSet (L 0).val (L 1).val = rSet (rk0 L) ∪ rSet (rk1 L) := by
  ext y
  unfold tSet rSet rk0 rk1
  simp only [Finset.mem_filter, Finset.mem_union, Finset.mem_univ, true_and]
  omega
theorem rSet_disj (L : grid1.Coords) : Disjoint (rSet (rk0 L)) (rSet (rk1 L)) := by
  rw [Finset.disjoint_left]
  intro y h1 h2
  have e1 := (Finset.mem_filter.mp h1).2
  have e2 := (Finset.mem_filter.mp h2).2
  unfold rk0 at e1; unfold rk1 at e2
  omega

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)
abbrev cell4 (d : Dev nD) (c : Fin τ.nSC) (i : Fin τ.nSub) : GSem nD τ sig := (V d c i, .dma cc1_scoped4.sem)
abbrev cell5 (d : Dev nD) (c : Fin τ.nSC) (i : Fin τ.nSub) : GSem nD τ sig := (V d c i, .dma cc1_scoped5.sem)

theorem ownSems0_V (d : Dev nD) (L : grid1.Coords) :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0
          ∗ bigSep (((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))) fun g => semVal g 0) := by
  unfold SparseCore.Cfg.ownSems0
  rw [SparseCore.bigSep_erase' ((mem_ownCells (g := cell0 d (cV L) (jV L))).mpr ⟨rfl, by show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d (cV L) (jV L))).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d (cV L) (jV L))).mpr ⟨rfl, by show (SemLoc.dma cc1_scoped3.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d (cV L) (jV L))).mpr ⟨rfl, by show (SemLoc.dma cc1_scoped4.sem : SemLoc sig).isScoped .scVector = true; decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := cell5 d (cV L) (jV L))).mpr ⟨rfl, by show (SemLoc.dma cc1_scoped5.sem : SemLoc sig).isScoped .scVector = true; decide⟩⟩⟩⟩⟩⟩)]

/-- The three scratch buffers are among the subcore's own: they are them, at some contents, and the rest. -/
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩)]

abbrev slP0 (L : grid1.Coords) : Memref sig .scVector .hbm S512 .i32 := (gP).slice (Rect.unit (s := S32768) (k1_off1 L) S512.size (k1_off1_inb L)) (fun _ => rfl)
theorem set_P0 (L : grid1.Coords) : (slP0 L).view.set = rSet (rk0 L) :=
  (View.set_slice_whole _ _).trans (unit_set _ _ _ (off1_row L))
theorem pts_P0 (d : Dev nD) (L : grid1.Coords) (f : S32768.Idx → BitVec 32) :
    ((slP0 L).view.loc (V d (cV L) (jV L)) ↦[(slP0 L).view.set]{fullShare} f : sProp 𝕄) = ((gP).view.loc (V d (cV L) (jV L)) ↦[rSet (rk0 L)]{fullShare} f : sProp 𝕄) := by
  rw [set_P0]
theorem read_P0 (L : grid1.Coords) (f : S32768.Idx → BitVec 32) : (slP0 L).view.read (Elt F) f = rowOf f (rk0 L) := by
  funext x
  refine congrArg f (funext fun a => ?_)
  match a with
  | 0 => exact Fin.ext (by
      show k1_off1 L 0 + 1 * (x 0).val = (512 * rk0 L + (x 0).val) % 32768
      rw [off1_row L]
      have h1 : (x 0).val < 512 := (x 0).isLt
      have := L0_lt L; have := L1_lt L
      show 512 * rk0 L + 1 * (x 0).val = _
      unfold rk0; omega)
abbrev slS0 (L : grid1.Coords) : Memref sig .scVector .hbm S512 .i32 := (gS).slice (Rect.unit (s := S32768) (k1_off1 L) S512.size (k1_off1_inb L)) (fun _ => rfl)
theorem set_S0 (L : grid1.Coords) : (slS0 L).view.set = rSet (rk0 L) :=
  (View.set_slice_whole _ _).trans (unit_set _ _ _ (off1_row L))
theorem pts_S0 (d : Dev nD) (L : grid1.Coords) (f : S32768.Idx → BitVec 32) :
    ((slS0 L).view.loc (V d (cV L) (jV L)) ↦[(slS0 L).view.set]{fullShare} f : sProp 𝕄) = ((gS).view.loc (V d (cV L) (jV L)) ↦[rSet (rk0 L)]{fullShare} f : sProp 𝕄) := by
  rw [set_S0]
theorem read_S0 (L : grid1.Coords) (f : S32768.Idx → BitVec 32) : (slS0 L).view.read (Elt F) f = rowOf f (rk0 L) := by
  funext x
  refine congrArg f (funext fun a => ?_)
  match a with
  | 0 => exact Fin.ext (by
      show k1_off1 L 0 + 1 * (x 0).val = (512 * rk0 L + (x 0).val) % 32768
      rw [off1_row L]
      have h1 : (x 0).val < 512 := (x 0).isLt
      have := L0_lt L; have := L1_lt L
      show 512 * rk0 L + 1 * (x 0).val = _
      unfold rk0; omega)
abbrev slP1 (L : grid1.Coords) : Memref sig .scVector .hbm S512 .i32 := (gP).slice (Rect.unit (s := S32768) (k1_off2 L 1#32) S512.size (k1_off2_inb L 1)) (fun _ => rfl)
theorem set_P1 (L : grid1.Coords) : (slP1 L).view.set = rSet (rk1 L) :=
  (View.set_slice_whole _ _).trans (unit_set _ _ _ (off2_row1 L))
theorem pts_P1 (d : Dev nD) (L : grid1.Coords) (f : S32768.Idx → BitVec 32) :
    ((slP1 L).view.loc (V d (cV L) (jV L)) ↦[(slP1 L).view.set]{fullShare} f : sProp 𝕄) = ((gP).view.loc (V d (cV L) (jV L)) ↦[rSet (rk1 L)]{fullShare} f : sProp 𝕄) := by
  rw [set_P1]
theorem read_P1 (L : grid1.Coords) (f : S32768.Idx → BitVec 32) : (slP1 L).view.read (Elt F) f = rowOf f (rk1 L) := by
  funext x
  refine congrArg f (funext fun a => ?_)
  match a with
  | 0 => exact Fin.ext (by
      show k1_off2 L 1#32 0 + 1 * (x 0).val = (512 * rk1 L + (x 0).val) % 32768
      rw [off2_row1 L]
      have h1 : (x 0).val < 512 := (x 0).isLt
      have := L0_lt L; have := L1_lt L
      show 512 * rk1 L + 1 * (x 0).val = _
      unfold rk1; omega)
abbrev slS1 (L : grid1.Coords) : Memref sig .scVector .hbm S512 .i32 := (gS).slice (Rect.unit (s := S32768) (k1_off2 L 1#32) S512.size (k1_off2_inb L 1)) (fun _ => rfl)
theorem set_S1 (L : grid1.Coords) : (slS1 L).view.set = rSet (rk1 L) :=
  (View.set_slice_whole _ _).trans (unit_set _ _ _ (off2_row1 L))
theorem pts_S1 (d : Dev nD) (L : grid1.Coords) (f : S32768.Idx → BitVec 32) :
    ((slS1 L).view.loc (V d (cV L) (jV L)) ↦[(slS1 L).view.set]{fullShare} f : sProp 𝕄) = ((gS).view.loc (V d (cV L) (jV L)) ↦[rSet (rk1 L)]{fullShare} f : sProp 𝕄) := by
  rw [set_S1]
theorem read_S1 (L : grid1.Coords) (f : S32768.Idx → BitVec 32) : (slS1 L).view.read (Elt F) f = rowOf f (rk1 L) := by
  funext x
  refine congrArg f (funext fun a => ?_)
  match a with
  | 0 => exact Fin.ext (by
      show k1_off2 L 1#32 0 + 1 * (x 0).val = (512 * rk1 L + (x 0).val) % 32768
      rw [off2_row1 L]
      have h1 : (x 0).val < 512 := (x 0).isLt
      have := L0_lt L; have := L1_lt L
      show 512 * rk1 L + 1 * (x 0).val = _
      unfold rk1; omega)
abbrev slO0 (L : grid1.Coords) : Memref sig .scVector .hbm S512 .i32 := (gO).slice (Rect.unit (s := S32768) (k1_off2 L 0#32) S512.size (k1_off2_inb L 0)) (fun _ => rfl)
theorem set_O0 (L : grid1.Coords) : (slO0 L).view.set = rSet (rk0 L) :=
  (View.set_slice_whole _ _).trans (unit_set _ _ _ (off2_row0 L))
theorem pts_O0 (d : Dev nD) (L : grid1.Coords) (f : S32768.Idx → BitVec 32) :
    ((slO0 L).view.loc (V d (cV L) (jV L)) ↦[(slO0 L).view.set]{fullShare} f : sProp 𝕄) = ((gO).view.loc (V d (cV L) (jV L)) ↦[rSet (rk0 L)]{fullShare} f : sProp 𝕄) := by
  rw [set_O0]
abbrev slO1 (L : grid1.Coords) : Memref sig .scVector .hbm S512 .i32 := (gO).slice (Rect.unit (s := S32768) (k1_off3 L) S512.size (k1_off3_inb L)) (fun _ => rfl)
theorem set_O1 (L : grid1.Coords) : (slO1 L).view.set = rSet (rk1 L) :=
  (View.set_slice_whole _ _).trans (unit_set _ _ _ (off3_row L))
theorem pts_O1 (d : Dev nD) (L : grid1.Coords) (f : S32768.Idx → BitVec 32) :
    ((slO1 L).view.loc (V d (cV L) (jV L)) ↦[(slO1 L).view.set]{fullShare} f : sProp 𝕄) = ((gO).view.loc (V d (cV L) (jV L)) ↦[rSet (rk1 L)]{fullShare} f : sProp 𝕄) := by
  rw [set_O1]

theorem seq_part [FloatOps F] {d : Dev nD} {L : grid1.Coords} {α β : Type} {p : Prog (TpuEff nD τ sig (Elt F) Λ₀ (V d (cV L) (jV L)).2) β}
    {k : β → Prog (TpuEff nD τ sig (Elt F) Λ₀ (V d (cV L) (jV L)).2) α} {pre : sProp 𝕄} {post : β → sProp 𝕄} {Q : α → sProp 𝕄}
    (h : pre ⊢ wp frame (wpE (defs₀ (F := F)) 𝒱₀ (V d (cV L) (jV L)) none) Set.univ p post) :
    pre ⊢ iprop((∀ a, post a -∗ wp frame (wpE (defs₀ (F := F)) 𝒱₀ (V d (cV L) (jV L)) none) Set.univ (k a) Q)
      -∗ wp frame (wpE (defs₀ (F := F)) 𝒱₀ (V d (cV L) (jV L)) none) Set.univ (p >>= k) Q) := by
  rw [wp_bind]
  iintro H Hk
  iapply wp_wand_r
  isplitl [H]
  · iapply h; iexact H
  · iexact Hk

/-- A local copy and its wait. -/
theorem wp_fetch [FloatOps F] (d : Dev nD) (L : grid1.Coords) {α : Type} {sp sp' : Space} {s : Shape} {e : EltTy}
    {src : Memref sig .scVector sp s e} {dst : Memref sig .scVector sp' s e} {sem : DmaSem sig}
    {hsrc : src.view.WordExact} {hdst : dst.view.WordExact} {hsem : _}
    {s' : Shape} {e' : EltTy} {srcw : Memref sig .scVector sp s' e'} {dstw : Memref sig .scVector sp' s e}
    {hsrcw : srcw.view.WordExact} {hdstw : dstw.view.WordExact}
    {k : PUnit → Prog (TpuEff nD τ sig (Elt F) Λ₀ (V d (cV L) (jV L)).2) α} {Q : α → sProp 𝕄}
    {fs : Buf (Elt F) (src.view.loc (V d (cV L) (jV L)))} {Sd : Finset (Idx (dst.view.loc (V d (cV L) (jV L))))}
    {fd : Buf (Elt F) (dst.view.loc (V d (cV L) (jV L)))} {O : CellTallies nD τ sig (HIx 1)} {W : Waits sig (HIx 1)}
    (N : ℕ) (hN : dst.view.amount (.dma sem) = N) (hN0 : 0 < N) (hNw : dstw.view.dmaCredit = N) (hSd : dst.view.set ⊆ Sd) (hO : ∀ g, O g none = 0) :
    iprop(levAts (K (F := F)).L (K (F := F)).lev ∗ (src.view.loc (V d (cV L) (jV L)) ↦[src.view.set]{fullShare} fs) ∗ (dst.view.loc (V d (cV L) (jV L)) ↦[Sd]{fullShare} fd)
        ∗ semVal (V d (cV L) (jV L), SemLoc.dma sem) 0 ∗ owes (V d (cV L) (jV L)) O W)
      ⊢ iprop((iprop((src.view.loc (V d (cV L) (jV L)) ↦[src.view.set]{fullShare} fs)
            ∗ (dst.view.loc (V d (cV L) (jV L)) ↦[Sd]{fullShare} (dst.view.write (Elt F) fd (src.view.read (Elt F) fs) Finset.univ))
            ∗ semVal (V d (cV L) (jV L), SemLoc.dma sem) 0 ∗ owes (V d (cV L) (jV L)) O (insert (SemLoc.dma sem, none) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (.op (.enqueueDma src (.here dst) (.dma sem) hsrc hdst hsem) fun _ => .op (.waitDma2 sem srcw dstw hsrcw hdstw) k) Q) := by
  iintro ⟨#Hlv, Hs, Hd, Hv, HO⟩ Hk
  iapply (Transfers.wp_dmaLocal countersEmb 𝒱₀ (V d (cV L) (jV L)) none (none : HIx 1) N hN hN0 hSd) $$ [Hs Hd Hv]
  · isplitl [Hs]; · iexact Hs
    isplitl [Hd]; · iexact Hd
    iexact Hv
  iintro Hfl
  iapply (Transfers.wp_waitLocalO countersEmb 𝒱₀ (V d (cV L) (jV L)) none (none : HIx 1) hNw) $$ [Hfl HO]
  · isplitl [Hfl]; · iexact Hfl
    isplitl [HO]; · iexact HO
    iapply ((K (F := F)).mayWait_none (SemLoc.dma sem) hO); iexact Hlv
  iintro ⟨⟨Hd, Hs⟩, Hv, HO⟩
  iapply Hk
  isplitl [Hs]; · iexact Hs
  isplitl [Hd]; · iexact Hd
  isplitl [Hv]; · iexact Hv
  iexact HO

abbrev Pts (d : Dev nD) (L : grid1.Coords) (m : Memref sig .scVector .hbm S32768 .i32) (f : Buf (Elt F) (m.view.loc (V d (cV L) (jV L)))) : sProp 𝕄 := m.view.loc (V d (cV L) (jV L)) ↦{fullShare} f

set_option maxHeartbeats 4000000 in
theorem part1 [FloatOps F] (d : Dev nD) (L : grid1.Coords) (Pv Sv : S32768.Idx → BitVec 32) (r : S528.Idx → BitVec 32)
    (O : CellTallies nD τ sig (HIx 1)) (W : Waits sig (HIx 1)) (hO : ∀ g, O g none = 0) :
    iprop(levAts (K (F := F)).L (K (F := F)).lev
        ∗ ((slP0 L).view.loc (V d (cV L) (jV L)) ↦[(slP0 L).view.set]{fullShare} Pv : sProp 𝕄)
        ∗ ((slS0 L).view.loc (V d (cV L) (jV L)) ↦[(slS0 L).view.set]{fullShare} Sv : sProp 𝕄)
        ∗ (∃ p, (sP).view.loc (V d (cV L) (jV L)) ↦{fullShare} p) ∗ (∃ s, (sS).view.loc (V d (cV L) (jV L)) ↦{fullShare} s)
        ∗ ((sR).view.loc (V d (cV L) (jV L)) ↦{fullShare} r : sProp 𝕄)
        ∗ semVal (cell0 d (cV L) (jV L)) 0 ∗ semVal (cell1 d (cV L) (jV L)) 0 ∗ owes (V d (cV L) (jV L)) O W)
      ⊢ wp frame (wpE (defs₀ (F := F)) 𝒱₀ (V d (cV L) (jV L)) none) Set.univ
        (k1_part1 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5)
        fun ret => iprop(((slP0 L).view.loc (V d (cV L) (jV L)) ↦[(slP0 L).view.set]{fullShare} Pv : sProp 𝕄)
        ∗ ((slS0 L).view.loc (V d (cV L) (jV L)) ↦[(slS0 L).view.set]{fullShare} Sv : sProp 𝕄)
        ∗ ((sP).view.loc (V d (cV L) (jV L)) ↦{fullShare} rowOf Pv (rk0 L) : sProp 𝕄) ∗ ((sS).view.loc (V d (cV L) (jV L)) ↦{fullShare} rowOf Sv (rk0 L) : sProp 𝕄)
        ∗ ((sR).view.loc (V d (cV L) (jV L)) ↦{fullShare} fillN r 176 : sProp 𝕄)
        ∗ semVal (cell0 d (cV L) (jV L)) 0 ∗ semVal (cell1 d (cV L) (jV L)) 0
        ∗ (∃ W', ⌜∀ p ∈ W', p ∈ W ∨ p.2 = none⌝ ∗ owes (V d (cV L) (jV L)) O W') ∗ ⌜ret.2.1 = fun _ => 4294967295#32⌝) := by
  simp only [k1_part1_eq_skeleton]; unfold k1_part1_skel
  simp only [Prog.lift, Prog.bind_op, Prog.bind_ret, Prog.pure_eq_ret]
  iintro ⟨#Hlv, HP, HS, ⟨%p, Hp⟩, ⟨%s, Hs⟩, HR, Hc0, Hc1, HO⟩
  iapply (wp_fetch d L (dst := sP) (dstw := sP) (Sd := Finset.univ) _ rfl (by decide) rfl (Finset.subset_univ _) hO) $$ [HP Hp Hc0 HO]
  · isplitr; · iexact Hlv
    isplitl [HP]; · iexact HP
    isplitl [Hp]; · iexact Hp
    isplitl [Hc0]; · iexact Hc0
    iexact HO
  iintro ⟨HP, Hp, Hc0, HO⟩
  iapply (wp_fetch d L (dst := sS) (dstw := sS) (Sd := Finset.univ) _ rfl (by decide) rfl (Finset.subset_univ _) hO) $$ [HS Hs Hc1 HO]
  · isplitr; · iexact Hlv
    isplitl [HS]; · iexact HS
    isplitl [Hs]; · iexact Hs
    isplitl [Hc1]; · iexact Hc1
    iexact HO
  iintro ⟨HS, Hs, Hc1, HO⟩
  rw [show View.write (Elt F) (sP).view p ((slP0 L).view.read (Elt F) Pv) Finset.univ = rowOf Pv (rk0 L) from
      (View.write_whole_univ _ _ _).trans (read_P0 L Pv),
    show View.write (Elt F) (sS).view s ((slS0 L).view.read (Elt F) Sv) Finset.univ = rowOf Sv (rk0 L) from
      (View.write_whole_univ _ _ _).trans (read_S0 L Sv)]
  ihave HR := (Entails.of_eq (show ((sR).view.loc (V d (cV L) (jV L)) ↦{fullShare} r : sProp 𝕄) = (sR).view.loc (V d (cV L) (jV L)) ↦{fullShare} fillN r 0 by rw [fillN_zero])) $$ HR
  iterate 11
    iapply (wp_fill d L r _ rfl) $$ HR; iintro HR
  sl_step
  isplitl [HP]; · iexact HP
  isplitl [HS]; · iexact HS
  isplitl [Hp]; · iexact Hp
  isplitl [Hs]; · iexact Hs
  isplitl [HR]; · iexact HR
  isplitl [Hc0]; · iexact Hc0
  isplitl [Hc1]; · iexact Hc1
  isplitl [HO]
  · iexists _; isplitr
    swap; · iexact HO
    ipureintro; intro q hq
    rcases Finset.mem_insert.mp hq with hq | hq; · exact .inr (hq ▸ rfl)
    rcases Finset.mem_insert.mp hq with hq | hq; · exact .inr (hq ▸ rfl)
    exact .inl hq
  ipureintro; rfl

/-- A row scratch's first 512 elements, repeated over the flat array. -/
def flatOf (r : S528.Idx → BitVec 32) : S32768.Idx → BitVec 32 :=
  fun y => r fun a => match a with | 0 => ⟨(y 0).val % 512, Nat.lt_trans (Nat.mod_lt _ (by decide)) (by decide)⟩

abbrev slR : Memref sig .scVector .vmem S512 .i32 := (sR).slice (Rect.unit (s := S528) ![0] S512.size inb_S528_S512_0) (fun _ => rfl)

theorem wrote_O0 (L : grid1.Coords) (f : S32768.Idx → BitVec 32) (r : S528.Idx → BitVec 32) :
    ∀ y ∈ (slO0 L).view.set, (View.write (Elt F) (slO0 L).view f ((slR).view.read (Elt F) r) Finset.univ : S32768.Idx → BitVec 32) y = flatOf r y := by
  intro y hy
  obtain ⟨x, -, rfl⟩ := Finset.mem_map.mp hy
  rw [View.write_emb_of_mem _ _ (Finset.mem_univ _)]
  refine congrArg r (funext fun a => ?_)
  match a with
  | 0 => exact Fin.ext (by
      show 0 + 1 * (x 0).val = (k1_off2 L 0#32 0 + 1 * (x 0).val) % 512
      rw [off2_row0 L]
      have h1 : (x 0).val < 512 := (x 0).isLt
      show _ = (512 * rk0 L + 1 * (x 0).val) % 512
      omega)

theorem wrote_O1 (L : grid1.Coords) (f : S32768.Idx → BitVec 32) (r : S528.Idx → BitVec 32) :
    ∀ y ∈ (slO1 L).view.set, (View.write (Elt F) (slO1 L).view f ((slR).view.read (Elt F) r) Finset.univ : S32768.Idx → BitVec 32) y = flatOf r y := by
  intro y hy
  obtain ⟨x, -, rfl⟩ := Finset.mem_map.mp hy
  rw [View.write_emb_of_mem _ _ (Finset.mem_univ _)]
  refine congrArg r (funext fun a => ?_)
  match a with
  | 0 => exact Fin.ext (by
      show 0 + 1 * (x 0).val = (k1_off3 L 0 + 1 * (x 0).val) % 512
      rw [off3_row L]
      have h1 : (x 0).val < 512 := (x 0).isLt
      show _ = (512 * rk1 L + 1 * (x 0).val) % 512
      omega)

set_option maxHeartbeats 4000000 in
theorem part8 [FloatOps F] (d : Dev nD) (L : grid1.Coords) (Pv Sv Ov : S32768.Idx → BitVec 32) (r : S528.Idx → BitVec 32) (v1 : BitVec 32) (v2 : IVec S16 32) (hv2 : v2 = fun _ => 4294967295#32)
    (O : CellTallies nD τ sig (HIx 1)) (W : Waits sig (HIx 1)) (hO : ∀ g, O g none = 0) :
    iprop(levAts (K (F := F)).L (K (F := F)).lev ∗ ((slO0 L).view.loc (V d (cV L) (jV L)) ↦[(slO0 L).view.set]{fullShare} Ov : sProp 𝕄) ∗ ((slP1 L).view.loc (V d (cV L) (jV L)) ↦[(slP1 L).view.set]{fullShare} Pv : sProp 𝕄) ∗ ((slS1 L).view.loc (V d (cV L) (jV L)) ↦[(slS1 L).view.set]{fullShare} Sv : sProp 𝕄)
        ∗ (∃ p, (sP).view.loc (V d (cV L) (jV L)) ↦{fullShare} p) ∗ (∃ s, (sS).view.loc (V d (cV L) (jV L)) ↦{fullShare} s)
        ∗ ((sR).view.loc (V d (cV L) (jV L)) ↦{fullShare} r : sProp 𝕄)
        ∗ semVal (cell2 d (cV L) (jV L)) 0 ∗ semVal (cell3 d (cV L) (jV L)) 0 ∗ semVal (cell4 d (cV L) (jV L)) 0 ∗ owes (V d (cV L) (jV L)) O W)
      ⊢ wp frame (wpE (defs₀ (F := F)) 𝒱₀ (V d (cV L) (jV L)) none) Set.univ
        (k1_part8 L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5 v1 v2)
        fun _ => iprop(((slO0 L).view.loc (V d (cV L) (jV L)) ↦[(slO0 L).view.set]{fullShare} flatOf r : sProp 𝕄) ∗ ((slP1 L).view.loc (V d (cV L) (jV L)) ↦[(slP1 L).view.set]{fullShare} Pv : sProp 𝕄) ∗ ((slS1 L).view.loc (V d (cV L) (jV L)) ↦[(slS1 L).view.set]{fullShare} Sv : sProp 𝕄)
        ∗ ((sP).view.loc (V d (cV L) (jV L)) ↦{fullShare} rowOf Pv (rk1 L) : sProp 𝕄) ∗ ((sS).view.loc (V d (cV L) (jV L)) ↦{fullShare} rowOf Sv (rk1 L) : sProp 𝕄) ∗ ((sR).view.loc (V d (cV L) (jV L)) ↦{fullShare} fillN r 160 : sProp 𝕄)
        ∗ semVal (cell2 d (cV L) (jV L)) 0 ∗ semVal (cell3 d (cV L) (jV L)) 0 ∗ semVal (cell4 d (cV L) (jV L)) 0
        ∗ (∃ W', ⌜∀ p ∈ W', p ∈ W ∨ p.2 = none⌝ ∗ owes (V d (cV L) (jV L)) O W')) := by
  simp only [k1_part8_eq_skeleton]; unfold k1_part8_skel
  subst hv2
  simp only [Prog.lift, Prog.bind_op, Prog.bind_ret, Prog.pure_eq_ret]
  iintro ⟨#Hlv, HOo, HP, HS, ⟨%p, Hp⟩, ⟨%s, Hs⟩, HR, Hc2, Hc3, Hc4, HO⟩
  ihave HRs := (pointsTo_split_subset (q := fullShare) (ℓ := (sR).view.loc (V d (cV L) (jV L))) (I := (slR).view.set) (f := r) (S := Finset.univ) (Finset.subset_univ _)).1 $$ HR
  icases HRs with ⟨HR1, HR2⟩
  iapply (wp_fetch d L (dst := slO0 L) (dstw := slO0 L) (Sd := (slO0 L).view.set) _ rfl (show 0 < (sP).view.amount (.dma cc1_scoped2.sem) by decide) rfl subset_rfl hO) $$ [HR1 HOo Hc2 HO]
  · isplitr; · iexact Hlv
    isplitl [HR1]; · iexact HR1
    isplitl [HOo]; · iexact HOo
    isplitl [Hc2]; · iexact Hc2
    iexact HO
  iintro ⟨HR1, HOo, Hc2, HO⟩
  ihave HR := (pointsTo_split_subset (q := fullShare) (ℓ := (sR).view.loc (V d (cV L) (jV L))) (I := (slR).view.set) (f := r) (S := Finset.univ) (Finset.subset_univ _)).2 $$ [HR1 HR2]; · isplitl [HR1] <;> iassumption
  ihave HOo := (Entails.of_eq (pointsTo_congr (wrote_O0 (F := F) L Ov r))) $$ HOo
  iapply (wp_fetch d L (dst := sP) (dstw := sP) (Sd := Finset.univ) _ rfl (by decide) rfl (Finset.subset_univ _) hO) $$ [HP Hp Hc3 HO]
  · isplitr; · iexact Hlv
    isplitl [HP]; · iexact HP
    isplitl [Hp]; · iexact Hp
    isplitl [Hc3]; · iexact Hc3
    iexact HO
  iintro ⟨HP, Hp, Hc3, HO⟩
  iapply (wp_fetch d L (dst := sS) (dstw := sS) (Sd := Finset.univ) _ rfl (by decide) rfl (Finset.subset_univ _) hO) $$ [HS Hs Hc4 HO]
  · isplitr; · iexact Hlv
    isplitl [HS]; · iexact HS
    isplitl [Hs]; · iexact Hs
    isplitl [Hc4]; · iexact Hc4
    iexact HO
  iintro ⟨HS, Hs, Hc4, HO⟩
  rw [show View.write (Elt F) (sP).view p ((slP1 L).view.read (Elt F) Pv) Finset.univ = rowOf Pv (rk1 L) from
      (View.write_whole_univ _ _ _).trans (read_P1 L Pv),
    show View.write (Elt F) (sS).view s ((slS1 L).view.read (Elt F) Sv) Finset.univ = rowOf Sv (rk1 L) from
      (View.write_whole_univ _ _ _).trans (read_S1 L Sv)]
  ihave HR := (Entails.of_eq (show ((sR).view.loc (V d (cV L) (jV L)) ↦{fullShare} r : sProp 𝕄) = (sR).view.loc (V d (cV L) (jV L)) ↦{fullShare} fillN r 0 by rw [fillN_zero])) $$ HR
  iterate 10
    iapply (wp_fill d L r _ rfl) $$ HR; iintro HR
  sl_step
  isplitl [HOo]; · iexact HOo
  isplitl [HP]; · iexact HP
  isplitl [HS]; · iexact HS
  isplitl [Hp]; · iexact Hp
  isplitl [Hs]; · iexact Hs
  isplitl [HR]; · iexact HR
  isplitl [Hc2]; · iexact Hc2
  isplitl [Hc3]; · iexact Hc3
  isplitl [Hc4]; · iexact Hc4
  · iexists _; isplitr
    swap; · iexact HO
    ipureintro; intro q hq
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    exact .inl hq

theorem inRow_rowOf {Pv : S32768.Idx → BitVec 32} (hP : ∀ y, (Pv y).toNat < 528) (b : ℕ) : InRow (rowOf Pv b) := fun _ => hP _

set_option maxHeartbeats 8000000 in
theorem tile_rows [FloatOps F] (d : Dev nD) (L : grid1.Coords) (Pv Sv Ov : S32768.Idx → BitVec 32) (hP : ∀ y, (Pv y).toNat < 528)
    (O : CellTallies nD τ sig (HIx 1)) (W : Waits sig (HIx 1)) (hO : ∀ g, O g none = 0) :
    iprop(levAts (K (F := F)).L (K (F := F)).lev ∗ ((slP0 L).view.loc (V d (cV L) (jV L)) ↦[(slP0 L).view.set]{fullShare} Pv : sProp 𝕄) ∗ ((slS0 L).view.loc (V d (cV L) (jV L)) ↦[(slS0 L).view.set]{fullShare} Sv : sProp 𝕄) ∗ ((slO0 L).view.loc (V d (cV L) (jV L)) ↦[(slO0 L).view.set]{fullShare} Ov : sProp 𝕄)
        ∗ ((slP1 L).view.loc (V d (cV L) (jV L)) ↦[(slP1 L).view.set]{fullShare} Pv : sProp 𝕄) ∗ ((slS1 L).view.loc (V d (cV L) (jV L)) ↦[(slS1 L).view.set]{fullShare} Sv : sProp 𝕄) ∗ ((slO1 L).view.loc (V d (cV L) (jV L)) ↦[(slO1 L).view.set]{fullShare} Ov : sProp 𝕄)
        ∗ (∃ p, (sP).view.loc (V d (cV L) (jV L)) ↦{fullShare} p) ∗ (∃ s, (sS).view.loc (V d (cV L) (jV L)) ↦{fullShare} s) ∗ (∃ r, (sR).view.loc (V d (cV L) (jV L)) ↦{fullShare} r)
        ∗ semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ owes (V d (cV L) (jV L)) O W)
      ⊢ wp frame (wpE (defs₀ (F := F)) 𝒱₀ (V d (cV L) (jV L)) none) Set.univ
        (cc1__scatter_body L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5)
        fun _ => iprop(((slP0 L).view.loc (V d (cV L) (jV L)) ↦[(slP0 L).view.set]{fullShare} Pv : sProp 𝕄) ∗ ((slS0 L).view.loc (V d (cV L) (jV L)) ↦[(slS0 L).view.set]{fullShare} Sv : sProp 𝕄) ∗ ((slO0 L).view.loc (V d (cV L) (jV L)) ↦[(slO0 L).view.set]{fullShare} flatOf (rowN (wordAt (rowOf Pv (rk0 L))) (wordAt (rowOf Sv (rk0 L))) 512) : sProp 𝕄)
        ∗ ((slP1 L).view.loc (V d (cV L) (jV L)) ↦[(slP1 L).view.set]{fullShare} Pv : sProp 𝕄) ∗ ((slS1 L).view.loc (V d (cV L) (jV L)) ↦[(slS1 L).view.set]{fullShare} Sv : sProp 𝕄) ∗ ((slO1 L).view.loc (V d (cV L) (jV L)) ↦[(slO1 L).view.set]{fullShare} flatOf (rowN (wordAt (rowOf Pv (rk1 L))) (wordAt (rowOf Sv (rk1 L))) 512) : sProp 𝕄)
        ∗ (∃ p, (sP).view.loc (V d (cV L) (jV L)) ↦{fullShare} p) ∗ (∃ s, (sS).view.loc (V d (cV L) (jV L)) ↦{fullShare} s) ∗ (∃ r, (sR).view.loc (V d (cV L) (jV L)) ↦{fullShare} r)
        ∗ semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ (∃ W', ⌜∀ p ∈ W', p ∈ W ∨ p.2 = none⌝ ∗ owes (V d (cV L) (jV L)) O W')) := by
  simp only [cc1__scatter_body_eq_skeleton]; unfold cc1__scatter_body_skel
  iintro ⟨#Hlv, HP0, HS0, HO0, HP1, HS1, HO1, Hp, Hs, ⟨%r, HR⟩, Hc0, Hc1, Hc2, Hc3, Hc4, Hc5, HO⟩
  iapply (seq_part (part1 (F := F) d L Pv Sv r O W hO)) $$ [HP0 HS0 Hp Hs HR Hc0 Hc1 HO]
  · isplitr; · iexact Hlv
    isplitl [HP0]; · iexact HP0
    isplitl [HS0]; · iexact HS0
    isplitl [Hp]; · iexact Hp
    isplitl [Hs]; · iexact Hs
    isplitl [HR]; · iexact HR
    isplitl [Hc0]; · iexact Hc0
    isplitl [Hc1]; · iexact Hc1
    iexact HO
  iintro %ret ⟨HP0, HS0, Hp, Hs, HR, Hc0, Hc1, ⟨%W1, %hW1, HO⟩, %hv2⟩
  obtain ⟨v1, v2, v4⟩ := ret
  dsimp only at hv2 ⊢
  iapply (seq_part (part2 (F := F) d L (rowOf Pv (rk0 L)) (rowOf Sv (rk0 L)) r v2 hv2)) $$ [Hp Hs HR]
  · isplitl [Hp]; · iexact Hp
    isplitl [Hs]; · iexact Hs
    iexact HR
  iintro %ret ⟨Hp, Hs, HR⟩
  iapply (seq_part (part3 (F := F) d L (rowOf Pv (rk0 L)) (rowOf Sv (rk0 L)) (inRow_rowOf hP (rk0 L)) r v2 hv2)) $$ [Hp Hs HR]
  · isplitl [Hp]; · iexact Hp
    isplitl [Hs]; · iexact Hs
    iexact HR
  iintro %ret ⟨Hp, Hs, HR⟩
  iapply (seq_part (part4 (F := F) d L (rowOf Pv (rk0 L)) (rowOf Sv (rk0 L)) (inRow_rowOf hP (rk0 L)))) $$ [Hp Hs HR]
  · isplitl [Hp]; · iexact Hp
    isplitl [Hs]; · iexact Hs
    iexact HR
  iintro %ret ⟨Hp, Hs, HR, %h4⟩
  obtain ⟨v, hk, w, c⟩ := ret
  obtain ⟨e1, e2, e3⟩ := h4
  dsimp only at e1 e2 e3 ⊢
  iapply (seq_part (part5 (F := F) d L (rowOf Pv (rk0 L)) (rowOf Sv (rk0 L)) (inRow_rowOf hP (rk0 L)) v w c e1 e2 e3 hk)) $$ [Hp Hs HR]
  · isplitl [Hp]; · iexact Hp
    isplitl [Hs]; · iexact Hs
    iexact HR
  iintro %ret ⟨Hp, Hs, HR, %h5⟩
  obtain ⟨v', hk'⟩ := ret
  dsimp only at h5 ⊢
  iapply (seq_part (part6 (F := F) d L (rowOf Pv (rk0 L)) (rowOf Sv (rk0 L)) (inRow_rowOf hP (rk0 L)) v' h5 hk')) $$ [Hp Hs HR]
  · isplitl [Hp]; · iexact Hp
    isplitl [Hs]; · iexact Hs
    iexact HR
  iintro %ret ⟨Hp, Hs, HR⟩
  iapply (seq_part (part7 (F := F) d L (rowOf Pv (rk0 L)) (rowOf Sv (rk0 L)) (inRow_rowOf hP (rk0 L)) v4)) $$ [Hp Hs HR]
  · isplitl [Hp]; · iexact Hp
    isplitl [Hs]; · iexact Hs
    iexact HR
  iintro %ret ⟨Hp, Hs, HR⟩
  ihave Hp := (show ((sP).view.loc (V d (cV L) (jV L)) ↦{fullShare} rowOf Pv (rk0 L) : sProp 𝕄) ⊢ iprop(∃ p, (sP).view.loc (V d (cV L) (jV L)) ↦{fullShare} p) from by iintro H; iexists _; iexact H) $$ Hp
  ihave Hs := (show ((sS).view.loc (V d (cV L) (jV L)) ↦{fullShare} rowOf Sv (rk0 L) : sProp 𝕄) ⊢ iprop(∃ p, (sS).view.loc (V d (cV L) (jV L)) ↦{fullShare} p) from by iintro H; iexists _; iexact H) $$ Hs
  iapply (seq_part (part8 (F := F) d L Pv Sv Ov (rowN (wordAt (rowOf Pv (rk0 L))) (wordAt (rowOf Sv (rk0 L))) 512) v1 v2 hv2 O W1 hO)) $$ [HO0 HP1 HS1 Hp Hs HR Hc2 Hc3 Hc4 HO]
  · isplitr; · iexact Hlv
    isplitl [HO0]; · iexact HO0
    isplitl [HP1]; · iexact HP1
    isplitl [HS1]; · iexact HS1
    isplitl [Hp]; · iexact Hp
    isplitl [Hs]; · iexact Hs
    isplitl [HR]; · iexact HR
    isplitl [Hc2]; · iexact Hc2
    isplitl [Hc3]; · iexact Hc3
    isplitl [Hc4]; · iexact Hc4
    iexact HO
  iintro %ret ⟨HO0, HP1, HS1, Hp, Hs, HR, Hc2, Hc3, Hc4, ⟨%W2, %hW2, HO⟩⟩
  iapply (seq_part (part9 (F := F) d L (rowOf Pv (rk1 L)) (rowOf Sv (rk1 L)) (rowN (wordAt (rowOf Pv (rk0 L))) (wordAt (rowOf Sv (rk0 L))) 512) v2 hv2)) $$ [Hp Hs HR]
  · isplitl [Hp]; · iexact Hp
    isplitl [Hs]; · iexact Hs
    iexact HR
  iintro %ret ⟨Hp, Hs, HR⟩
  iapply (seq_part (part10 (F := F) d L (rowOf Pv (rk1 L)) (rowOf Sv (rk1 L)) (inRow_rowOf hP (rk1 L)) (rowN (wordAt (rowOf Pv (rk0 L))) (wordAt (rowOf Sv (rk0 L))) 512) v2 hv2)) $$ [Hp Hs HR]
  · isplitl [Hp]; · iexact Hp
    isplitl [Hs]; · iexact Hs
    iexact HR
  iintro %ret ⟨Hp, Hs, HR, %h4⟩
  obtain ⟨x, hx, w', c'⟩ := ret
  obtain ⟨e4, e5, e6⟩ := h4
  dsimp only at e4 e5 e6 ⊢
  iapply (seq_part (part11 (F := F) d L (rowOf Pv (rk1 L)) (rowOf Sv (rk1 L)) (inRow_rowOf hP (rk1 L)) x w' c' e4 e5 e6 hx)) $$ [Hp Hs HR]
  · isplitl [Hp]; · iexact Hp
    isplitl [Hs]; · iexact Hs
    iexact HR
  iintro %ret ⟨Hp, Hs, HR, %h5⟩
  obtain ⟨y, hy⟩ := ret
  dsimp only at h5 ⊢
  iapply (seq_part (part12 (F := F) d L (rowOf Pv (rk1 L)) (rowOf Sv (rk1 L)) (inRow_rowOf hP (rk1 L)) y h5 hy)) $$ [Hp Hs HR]
  · isplitl [Hp]; · iexact Hp
    isplitl [Hs]; · iexact Hs
    iexact HR
  iintro %ret ⟨Hp, Hs, HR⟩
  iapply (seq_part (part13 (F := F) d L (rowOf Pv (rk1 L)) (rowOf Sv (rk1 L)) (inRow_rowOf hP (rk1 L)))) $$ [Hp Hs HR]
  · isplitl [Hp]; · iexact Hp
    isplitl [Hs]; · iexact Hs
    iexact HR
  iintro %ret ⟨Hp, Hs, HR, %h6⟩
  obtain ⟨z, hz, w'', c''⟩ := ret
  obtain ⟨e7, e8, e9⟩ := h6
  dsimp only at e7 e8 e9 ⊢
  iapply (seq_part (part14 (F := F) d L (rowOf Pv (rk1 L)) (rowOf Sv (rk1 L)) (inRow_rowOf hP (rk1 L)) z w'' c'' e7 e8 e9 hz _)) $$ [Hp Hs HR]
  · isplitl [Hp]; · iexact Hp
    isplitl [Hs]; · iexact Hs
    iexact HR
  iintro %ret ⟨Hp, Hs, HR⟩
  simp only [Prog.lift, Prog.bind_op, Prog.bind_ret, Prog.pure_eq_ret]
  generalize hr : (rowN (wordAt (rowOf Pv (rk1 L))) (wordAt (rowOf Sv (rk1 L))) (400 + 16 + 16 * 6)) = r1
  ihave HRs := (pointsTo_split_subset (q := fullShare) (ℓ := (sR).view.loc (V d (cV L) (jV L))) (I := (slR).view.set) (f := r1) (S := Finset.univ) (Finset.subset_univ _)).1 $$ HR
  icases HRs with ⟨HR1, HR2⟩
  iapply (wp_fetch d L (dst := slO1 L) (dstw := slO1 L) (Sd := (slO1 L).view.set) _ rfl (show 0 < (sP).view.amount (.dma cc1_scoped2.sem) by decide) rfl subset_rfl hO) $$ [HR1 HO1 Hc5 HO]
  · isplitr; · iexact Hlv
    isplitl [HR1]; · iexact HR1
    isplitl [HO1]; · iexact HO1
    isplitl [Hc5]; · iexact Hc5
    iexact HO
  iintro ⟨HR1, HO1, Hc5, HO⟩
  ihave HR := (pointsTo_split_subset (q := fullShare) (ℓ := (sR).view.loc (V d (cV L) (jV L))) (I := (slR).view.set) (f := r1) (S := Finset.univ) (Finset.subset_univ _)).2 $$ [HR1 HR2]; · isplitl [HR1] <;> iassumption
  ihave HO1 := (Entails.of_eq (pointsTo_congr (wrote_O1 (F := F) L Ov r1))) $$ HO1
  subst hr
  sl_step
  isplitl [HP0]; · iexact HP0
  isplitl [HS0]; · iexact HS0
  isplitl [HO0]; · iexact HO0
  isplitl [HP1]; · iexact HP1
  isplitl [HS1]; · iexact HS1
  isplitl [HO1]; · iexact HO1
  isplitl [Hp]; · iexists _; iexact Hp
  isplitl [Hs]; · iexists _; iexact Hs
  isplitl [HR]; · iexists _; iexact HR
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  iexists _; isplitr
  swap; · iexact HO
  ipureintro; intro q hq
  rcases Finset.mem_insert.mp hq with hq | hq; · exact .inr (hq ▸ rfl)
  rcases hW2 q hq with hq | hq
  · exact hW1 q hq
  · exact .inr hq

end Cert.Beam
end
-- ==== Proof.Launch.lean ====
/- The SparseCore call as the launch sees it: what its tasks carry, each task's obligation, the split of a core's work
   among its tasks. -/
module

public import proofs.«01_k».proof.Proof.Tile

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells mem_ownCells ownRefs ownBufs ownSems0)
open Cert.KernelIdeal Cert.KernelIdeal.Gen

variable {F : FTy → Type} [FloatOps F]

local notation "𝕄" => MT nD τ sig (HIx 1) (Elt F) ℕ UU ℕ
local notation "gP" => (Memref.whole Cert.KernelIdeal.main_v2_scv : Memref Cert.KernelIdeal.sig Kind.scVector Space.hbm Cert.KernelIdeal.S32768 EltTy.i32)
local notation "gS" => (Memref.whole Cert.KernelIdeal.main_v3_scv : Memref Cert.KernelIdeal.sig Kind.scVector Space.hbm Cert.KernelIdeal.S32768 EltTy.i32)
local notation "gO" => (Memref.whole Cert.KernelIdeal.main_v4_scv : Memref Cert.KernelIdeal.sig Kind.scVector Space.hbm Cert.KernelIdeal.S32768 EltTy.i32)
local notation "sP" => (Memref.whole Cert.KernelIdeal.cc1_scratch0 : Memref Cert.KernelIdeal.sig Kind.scVector Space.vmem Cert.KernelIdeal.S512 EltTy.i32)
local notation "sS" => (Memref.whole Cert.KernelIdeal.cc1_scratch1 : Memref Cert.KernelIdeal.sig Kind.scVector Space.vmem Cert.KernelIdeal.S512 EltTy.i32)
local notation "sR" => (Memref.whole Cert.KernelIdeal.cc1_scratch2 : Memref Cert.KernelIdeal.sig Kind.scVector Space.vmem Cert.KernelIdeal.S528 EltTy.i32)

variable (Pv Sv Ov : Dev nD → S32768.Idx → BitVec 32)

abbrev pLoc (d : Dev nD) : Loc nD τ sig := (T d : Thread nD τ).loc main_v2
abbrev sLoc (d : Dev nD) : Loc nD τ sig := (T d : Thread nD τ).loc main_v3
abbrev oLoc (d : Dev nD) : Loc nD τ sig := (T d : Thread nD τ).loc main_v4

/-- A task's part of the three arrays: its two rows of each. -/
abbrev goPts (d : Dev nD) (f : S32768.Idx → BitVec 32) (c s : ℕ) : sProp 𝕄 :=
  iprop((pLoc d ↦[tSet c s]{fullShare} Pv d) ∗ (sLoc d ↦[tSet c s]{fullShare} Sv d) ∗ (oLoc d ↦[tSet c s]{fullShare} f))

/-- A core's part: its sixteen tasks'. -/
abbrev corePts (d : Dev nD) (f : S32768.Idx → BitVec 32) (c : ℕ) : sProp 𝕄 :=
  bigSep Finset.univ fun i : Fin 16 => goPts Pv Sv d f c i.val

def P : (K (F := F)).Pay (nD := nD) (Val := Elt F) (Name := ℕ) (U := UU) where
  st := fun q d c => match q with | 0 => corePts Pv Sv d (Ov d) c.val
  dn := fun q d c => match q with | 0 => corePts Pv Sv d (decFlat (Pv d) (Sv d)) c.val
  go := fun q d c i => match q with | 0 => goPts Pv Sv d (Ov d) c.val i.val
  td := fun q d c i => match q with | 0 => goPts Pv Sv d (decFlat (Pv d) (Sv d)) c.val i.val
  x := fun _ _ => iprop(emp)

instance P_storable : (P (F := F) Pv Sv Ov).IsStorable where
  st q d c := match q with | 0 => (inferInstance : BI.Storable (upEmb : UEmb _ 𝕄) (corePts Pv Sv d (Ov d) c.val))
  dn q d c := match q with | 0 => (inferInstance : BI.Storable (upEmb : UEmb _ 𝕄) (corePts Pv Sv d (decFlat (Pv d) (Sv d)) c.val))
  go q d c i := match q with | 0 => (inferInstance : BI.Storable (upEmb : UEmb _ 𝕄) (goPts Pv Sv d (Ov d) c.val i.val))
  td q d c i := match q with | 0 => (inferInstance : BI.Storable (upEmb : UEmb _ 𝕄) (goPts Pv Sv d (decFlat (Pv d) (Sv d)) c.val i.val))

omit [FloatOps F] in
/-- Two rows of an array are a task's part of it. -/
theorem pts_tile {ℓ : Loc nD τ sig} (L : grid1.Coords) (R : ℕ → Finset (Idx ℓ)) (f : Buf (Elt F) ℓ) (h : Disjoint (R (rk0 L)) (R (rk1 L))) :
    (ℓ ↦[R (rk0 L) ∪ R (rk1 L)]{fullShare} f : sProp 𝕄) = iprop((ℓ ↦[R (rk0 L)]{fullShare} f) ∗ (ℓ ↦[R (rk1 L)]{fullShare} f)) :=
  BI.Entails.antisymm (pointsTo_union h).1 (pointsTo_union h).2

theorem flat_dec0 (P S : S32768.Idx → BitVec 32) (b : ℕ) : ∀ y ∈ rSet b, flatOf (rowN (wordAt (rowOf P b)) (wordAt (rowOf S b)) 512) y = decFlat P S y := by
  intro y hy
  obtain rfl := (Finset.mem_filter.mp hy).2
  rfl

set_option maxHeartbeats 1600000 in
/-- The task on vector subcore `(L 0, L 1)`: from its rows of the positions and of the symbols, its rows of the result. -/
theorem tile_body (d : Dev nD) (L : grid1.Coords) (hP : ∀ y, (Pv d y).toNat < 528) (O : CellTallies nD τ sig (HIx 1)) (W : Waits sig (HIx 1)) (hO : ∀ g, O g none = 0) :
    iprop(levAts (K (F := F)).L (K (F := F)).lev ∗ emp ∗ goPts Pv Sv d (Ov d) (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
        (cc1__scatter_body L gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5)
          fun _ => iprop(goPts Pv Sv d (decFlat (Pv d) (Sv d)) (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  unfold goPts
  simp only [tSet_split]
  rw [pts_tile (ℓ := pLoc d) L rSet (Pv d) (rSet_disj L), pts_tile (ℓ := sLoc d) L rSet (Sv d) (rSet_disj L), pts_tile (ℓ := oLoc d) L rSet (Ov d) (rSet_disj L),
    pts_tile (ℓ := oLoc d) L rSet (decFlat (Pv d) (Sv d)) (rSet_disj L)]
  iintro ⟨#Hlv, -, ⟨⟨HP0, HP1⟩, ⟨HS0, HS1⟩, ⟨HO0, HO1⟩⟩, ⟨Hp, Hs, Hr, Hbufs⟩, ⟨Hc0, Hc1, Hc2, Hc3, Hc4, Hc5, Hsems⟩, HO⟩
  iapply wp_wand_r
  isplitl [HP0 HP1 HS0 HS1 HO0 HO1 Hp Hs Hr Hc0 Hc1 Hc2 Hc3 Hc4 Hc5 HO]
  · iapply (tile_rows (F := F) d L (Pv d) (Sv d) (Ov d) hP O W hO)
    isplitr; · iexact Hlv
    isplitl [HP0]; · iapply (Entails.of_eq (pts_P0 (F := F) d L (Pv d)).symm); iexact HP0
    isplitl [HS0]; · iapply (Entails.of_eq (pts_S0 (F := F) d L (Sv d)).symm); iexact HS0
    isplitl [HO0]; · iapply (Entails.of_eq (pts_O0 (F := F) d L (Ov d)).symm); iexact HO0
    isplitl [HP1]; · iapply (Entails.of_eq (pts_P1 (F := F) d L (Pv d)).symm); iexact HP1
    isplitl [HS1]; · iapply (Entails.of_eq (pts_S1 (F := F) d L (Sv d)).symm); iexact HS1
    isplitl [HO1]; · iapply (Entails.of_eq (pts_O1 (F := F) d L (Ov d)).symm); iexact HO1
    isplitl [Hp]; · iexact Hp
    isplitl [Hs]; · iexact Hs
    isplitl [Hr]; · iexact Hr
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact HO
  iintro %_ ⟨HP0, HS0, HO0, HP1, HS1, HO1, Hp, Hs, Hr, Hc0, Hc1, Hc2, Hc3, Hc4, Hc5, HO⟩
  isplitl [HP0 HP1 HS0 HS1 HO0 HO1]
  · isplitl [HP0 HP1]
    · isplitl [HP0]; · iapply (Entails.of_eq (pts_P0 (F := F) d L (Pv d))); iexact HP0
      iapply (Entails.of_eq (pts_P1 (F := F) d L (Pv d))); iexact HP1
    isplitl [HS0 HS1]
    · isplitl [HS0]; · iapply (Entails.of_eq (pts_S0 (F := F) d L (Sv d))); iexact HS0
      iapply (Entails.of_eq (pts_S1 (F := F) d L (Sv d))); iexact HS1
    isplitl [HO0]
    · iapply (Entails.of_eq ((pts_O0 (F := F) d L _).trans (pointsTo_congr (flat_dec0 (Pv d) (Sv d) (rk0 L))))); iexact HO0
    iapply (Entails.of_eq ((pts_O1 (F := F) d L _).trans (pointsTo_congr (flat_dec0 (Pv d) (Sv d) (rk1 L))))); iexact HO1
  isplitl [Hp Hs Hr Hbufs]
  · isplitl [Hp]; · iexact Hp
    isplitl [Hs]; · iexact Hs
    isplitl [Hr]; · iexact Hr
    iexact Hbufs
  isplitr [HO]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexact HO

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__scatter_body (coordsV c s) gP (Memref.isWhole_whole _) gS (Memref.isWhole_whole _) gO (Memref.isWhole_whole _)
            sP (Memref.isWhole_whole _) sS (Memref.isWhole_whole _) sR (Memref.isWhole_whole _) cc1_scoped0 cc1_scoped1 cc1_scoped2 cc1_scoped3 cc1_scoped4 cc1_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp; rcases hW' p hp with h | h
    · exact .inl h
    · exact .inr (.inl h)
  · iexact HO

set_option maxRecDepth 16384 in
theorem tileObl (hP : ∀ d y, (Pv d y).toNat < 528) : (K (F := F)).TileObl (D (F := F)) 𝒱 (P Pv Sv Ov) v₀ 0 := by
  intro d c i O W hO _ _
  simp only [show (P (F := F) Pv Sv Ov).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Pv Sv Ov d (coordsV ⟨_, hci.1⟩ ⟨_, hci.2⟩) (hP d) O W hO).trans (wp_mono frame _ _ fun _ => obl_post)

theorem vecSplit : (K (F := F)).VecSplit' (P Pv Sv Ov) 0 := by
  intro d c
  show corePts Pv Sv d (Ov d) c.val ⊢ |={Set.univ}=> iprop(
      (bigSep Finset.univ fun i : Fin ((K (F := F)).nSub 0) => goPts Pv Sv d (Ov d) c.val i.val)
      ∗ ((bigSep Finset.univ fun i : Fin ((K (F := F)).nSub 0) => goPts Pv Sv d (decFlat (Pv d) (Sv d)) c.val i.val)
          -∗ corePts Pv Sv d (decFlat (Pv d) (Sv d)) c.val))
  iintro H; imodintro
  isplitl [H]; · iexact H
  iintro H; iexact H

/-! ## All tasks' parts -/

theorem tSet_disj : ∀ i ∈ (Finset.univ : Finset (Fin 2 × Fin 16)), ∀ j ∈ (Finset.univ : Finset (Fin 2 × Fin 16)), i ≠ j → Disjoint (tSet i.1.val i.2.val) (tSet j.1.val j.2.val) := by
  intro i _ j _ hij
  rw [Finset.disjoint_left]
  intro y h1 h2
  have e1 := (Finset.mem_filter.mp h1).2
  have e2 := (Finset.mem_filter.mp h2).2
  refine hij (Prod.ext (Fin.ext ?_) (Fin.ext ?_)) <;> omega
theorem tSet_cover : (Finset.univ : Finset (Fin 2 × Fin 16)).biUnion (fun i => tSet i.1.val i.2.val) = Finset.univ := by
  ext y
  have hy : (y 0).val < 32768 := (y 0).isLt
  simp only [Finset.mem_biUnion, Finset.mem_univ, true_and, iff_true]
  refine ⟨(⟨((y 0).val / 1024) % 2, by omega⟩, ⟨((y 0).val / 1024) / 2, by omega⟩), Finset.mem_filter.mpr ⟨Finset.mem_univ _, ?_⟩⟩
  show (y 0).val / 1024 = 2 * (((y 0).val / 1024) / 2) + ((y 0).val / 1024) % 2
  omega

omit [FloatOps F] in
theorem pts_tiles {ℓ : Loc nD τ sig} (T : ℕ → ℕ → Finset (Idx ℓ)) (f : Buf (Elt F) ℓ)
    (hd : ∀ i ∈ (Finset.univ : Finset (Fin 2 × Fin 16)), ∀ j ∈ (Finset.univ : Finset (Fin 2 × Fin 16)), i ≠ j → Disjoint (T i.1.val i.2.val) (T j.1.val j.2.val))
    (hc : (Finset.univ : Finset (Fin 2 × Fin 16)).biUnion (fun i => T i.1.val i.2.val) = Finset.univ) :
    (ℓ ↦{fullShare} f : sProp 𝕄) = bigSep Finset.univ fun c : Fin 2 => bigSep Finset.univ fun s : Fin 16 => ℓ ↦[T c.val s.val]{fullShare} f := by
  rw [← bigSep_univ_prod (fun i : Fin 2 × Fin 16 => (ℓ ↦[T i.1.val i.2.val]{fullShare} f : sProp 𝕄)),
    ← pointsTo_biUnion Finset.univ (ℓ := ℓ) (fun i : Fin 2 × Fin 16 => T i.1.val i.2.val) hd, hc]

omit [FloatOps F] in
/-- The three arrays whole are every core's part of them. -/
theorem cores_eq (d : Dev nD) (f : S32768.Idx → BitVec 32) :
    (iprop((pLoc d ↦{fullShare} Pv d) ∗ (sLoc d ↦{fullShare} Sv d) ∗ (oLoc d ↦{fullShare} f)) : sProp 𝕄)
      = bigSep Finset.univ fun c : Fin 2 => corePts Pv Sv d f c.val := by
  unfold corePts goPts
  simp only [bigSep_sep']
  rw [pts_tiles (ℓ := pLoc d) tSet (Pv d) tSet_disj tSet_cover, pts_tiles (ℓ := sLoc d) tSet (Sv d) tSet_disj tSet_cover, pts_tiles (ℓ := oLoc d) tSet f tSet_disj tSet_cover]

theorem st0_eq (d : Dev nD) : (bigSep Finset.univ fun c : Fin ((K (F := F)).nCore 0) => (P (F := F) Pv Sv Ov).st 0 d c)
    = iprop((pLoc d ↦{fullShare} Pv d) ∗ (sLoc d ↦{fullShare} Sv d) ∗ (oLoc d ↦{fullShare} Ov d)) :=
  (cores_eq (F := F) Pv Sv d (Ov d)).symm
theorem dn0_eq (d : Dev nD) : (bigSep Finset.univ fun c : Fin ((K (F := F)).nCore 0) => (P (F := F) Pv Sv Ov).dn 0 d c)
    = iprop((pLoc d ↦{fullShare} Pv d) ∗ (sLoc d ↦{fullShare} Sv d) ∗ (oLoc d ↦{fullShare} decFlat (Pv d) (Sv d))) :=
  (cores_eq (F := F) Pv Sv d (decFlat (Pv d) (Sv d))).symm

end Cert.Beam

end
-- ==== Proof.Run.lean ====
/- The whole run: @main on the TensorCore, and what the program's run leaves when every position it scatters at is in
   the row. -/
module

public import proofs.«01_k».proof.Proof.Entry
public import proofs.«01_k».proof.Proof.Launch

@[expose] public section

noncomputable section

namespace Cert.Beam

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells mem_ownCells ownRefs ownBufs ownSems0)
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations of @main and the valuations between them -/

abbrev rf (x : Ref sig .tc) : DevRef τ sig := Proc.devRef .tc x

abbrev opB0 : HloOp τ sig (Elt F) := StableHlo.unary main_arg1 main_v0 (broadcastInDim S1x64 ![1] bcast_S64_S1x64_1 : (⟨S64, .i32⟩ : BufTy).Contents (Elt F) → (⟨S1x64, .i32⟩ : BufTy).Contents (Elt F))
abbrev opR2 : HloOp τ sig (Elt F) := StableHlo.reshape main_v1_2 main_v2 (rfl : (.i32 : EltTy) = .i32) shapeCasts_S64x512_S32768
abbrev opR3 : HloOp τ sig (Elt F) := StableHlo.reshape main_v1_3 main_v3 (rfl : (.i32 : EltTy) = .i32) shapeCasts_S64x512_S32768
abbrev opR5 : HloOp τ sig (Elt F) := StableHlo.reshape main_v4 main_v5 (rfl : (.i32 : EltTy) = .i32) shapeCasts_S32768_S64x512
abbrev opB6 : HloOp τ sig (Elt F) := StableHlo.unary main_v5 main_v6 (broadcastInDim S64x1x512 ![0, 2] bcast_S64x512_S64x1x512_0_2 : (⟨S64x512, .i32⟩ : BufTy).Contents (Elt F) → (⟨S64x1x512, .i32⟩ : BufTy).Contents (Elt F))
abbrev opR7 : HloOp τ sig (Elt F) := StableHlo.reshape main_v1_0 main_v7 (rfl : (.f32 : EltTy) = .f32) shapeCasts_S1x64_S64x1

def V0 (d : Dev nD) : Valuation τ sig (Elt F) := fun b => m (d, b)
def V1 (d : Dev nD) : Valuation τ sig (Elt F) := (opB0 (F := F)).result (V0 m d)
/-- The windows' arrays as the region finds them. -/
abbrev AV (c : Dev nD) (w : Fin cfg0.W) : Buf (Elt F) ((cfg0.win w).arr.view.loc (c.tc : Thread nD τ)) := arrOf (V1 m) c w
def V2 (d : Dev nD) : Valuation τ sig (Elt F) := regOut (V1 m) d
def V4 (d : Dev nD) : Valuation τ sig (Elt F) := (opR3 (F := F)).result ((opR2 (F := F)).result (V2 m d))
def Pv (d : Dev nD) : S32768.Idx → BitVec 32 := V4 m d (rf main_v2)
def Sv (d : Dev nD) : S32768.Idx → BitVec 32 := V4 m d (rf main_v3)
def Ov (d : Dev nD) : S32768.Idx → BitVec 32 := V4 m d (rf main_v4)
def V5 (d : Dev nD) : Valuation τ sig (Elt F) := Function.update (V4 m d) (rf main_v4) (decFlat (Pv m d) (Sv m d))
def VF (d : Dev nD) : Valuation τ sig (Elt F) := (opR7 (F := F)).result ((opB6 (F := F)).result ((opR5 (F := F)).result (V5 m d)))

/-- The arrays the SparseCore call does not take. -/
def restRefs : Finset (DevRef τ sig) := ((ucRefs.erase (rf main_v2)).erase (rf main_v3)).erase (rf main_v4)

omit [FloatOps F] in
theorem held_call (d : Dev nD) (W : Valuation τ sig (Elt F)) :
    (StableHlo.held (T d) ucRefs W : sProp 𝕄)
      = iprop((pLoc d ↦{fullShare} W (rf main_v2)) ∗ (sLoc d ↦{fullShare} W (rf main_v3)) ∗ (oLoc d ↦{fullShare} W (rf main_v4)) ∗ StableHlo.held (T d) restRefs W) := by
  rw [show ucRefs = insert (rf main_v2) (insert (rf main_v3) (insert (rf main_v4) restRefs)) by decide]
  unfold StableHlo.held
  rw [SparseCore.bigSep_insert' (by decide), SparseCore.bigSep_insert' (by decide), SparseCore.bigSep_insert' (by decide)]

theorem held_rest (d : Dev nD) : (StableHlo.held (T d) restRefs (V4 m d) : sProp 𝕄) = StableHlo.held (T d) restRefs (V5 m d) := by
  unfold StableHlo.held
  refine bigSep_congr fun b hb => ?_
  unfold V5
  rw [Function.update_of_ne (fun e => absurd (e ▸ hb) (by decide))]

theorem V5_o (d : Dev nD) : V5 m d (rf main_v4) = decFlat (Pv m d) (Sv m d) := Function.update_self _ _ _
theorem V5_p (d : Dev nD) : V5 m d (rf main_v2) = Pv m d := Function.update_of_ne (by decide) _ _
theorem V5_s (d : Dev nD) : V5 m d (rf main_v3) = Sv m d := Function.update_of_ne (by decide) _ _

/-! ## What the results are -/

/-- The lengths as the window holds them. -/
theorem AV_len (c : Dev nD) : (AV m c 0 : S1x64.Idx → BitVec 32) = broadcastInDim S1x64 ![1] bcast_S64_S1x64_1 (m ((SparseCore.T c : Thread nD τ).loc main_arg1) : S64.Idx → BitVec 32) := by
  show V1 m c (rf main_v0) = _
  unfold V1; rw [StableHlo.unary_result]; rfl
theorem AV_dat (c : Dev nD) : (AV m c 1 : S512x64x1024.Idx → F .f32) = m ((SparseCore.T c : Thread nD τ).loc main_arg0) := by
  show V1 m c (rf main_arg0) = _
  unfold V1; rw [(opB0 (F := F)).result_of_not_mem _ (show rf main_arg0 ∉ ({rf main_v0} : Finset (DevRef τ sig)) by decide)]; rfl

theorem V4_of (d : Dev nD) (b : DevRef τ sig) (h2 : b ∉ ({rf main_v2} : Finset (DevRef τ sig))) (h3 : b ∉ ({rf main_v3} : Finset (DevRef τ sig))) : V4 m d b = V2 m d b := by
  unfold V4
  rw [(opR3 (F := F)).result_of_not_mem _ h3, (opR2 (F := F)).result_of_not_mem _ h2]

theorem Pv_eq (d : Dev nD) : Pv m d = shapeCast S32768 (k0_pay9 (F := F) (dl (len0 (AV m) d)) (tFin (AV m) d)) shapeCasts_S64x512_S32768 := by
  unfold Pv V4
  rw [(opR3 (F := F)).result_of_not_mem _ (show rf main_v2 ∉ ({rf main_v3} : Finset (DevRef τ sig)) by decide), StableHlo.reshape_result]
  show shapeCast S32768 (V2 m d (rf main_v1_2)) _ = _
  unfold V2; rw [regOut_2]
theorem Sv_eq (d : Dev nD) : Sv m d = shapeCast S32768 (k0_pay5 (F := F) (dl (len0 (AV m) d)) (tFin (AV m) d)) shapeCasts_S64x512_S32768 := by
  unfold Sv V4
  rw [StableHlo.reshape_result, (opR2 (F := F)).result_of_not_mem _ (show rf main_v1_3 ∉ ({rf main_v2} : Finset (DevRef τ sig)) by decide)]
  show shapeCast S32768 (V2 m d (rf main_v1_3)) _ = _
  unfold V2; rw [regOut_3]

theorem VF_of (d : Dev nD) (b : DevRef τ sig) (h5 : b ∉ ({rf main_v5} : Finset (DevRef τ sig))) (h6 : b ∉ ({rf main_v6} : Finset (DevRef τ sig)))
    (h7 : b ∉ ({rf main_v7} : Finset (DevRef τ sig))) : VF m d b = V5 m d b := by
  unfold VF
  rw [(opR7 (F := F)).result_of_not_mem _ h7, (opB6 (F := F)).result_of_not_mem _ h6, (opR5 (F := F)).result_of_not_mem _ h5]

theorem VF_arg0 (d : Dev nD) : VF m d (rf main_arg0) = m ((SparseCore.T d : Thread nD τ).loc main_arg0) := by
  rw [VF_of _ _ _ (by decide) (by decide) (by decide)]
  unfold V5; rw [Function.update_of_ne (by decide), V4_of _ _ _ (by decide) (by decide)]
  unfold V2; rw [regOut_ne _ _ _ (by decide) (by decide) (by decide) (by decide)]
  exact AV_dat m d
theorem VF_arg1 (d : Dev nD) : VF m d (rf main_arg1) = m ((SparseCore.T d : Thread nD τ).loc main_arg1) := by
  rw [VF_of _ _ _ (by decide) (by decide) (by decide)]
  unfold V5; rw [Function.update_of_ne (by decide), V4_of _ _ _ (by decide) (by decide)]
  unfold V2; rw [regOut_ne _ _ _ (by decide) (by decide) (by decide) (by decide)]
  unfold V1; rw [(opB0 (F := F)).result_of_not_mem _ (show rf main_arg1 ∉ ({rf main_v0} : Finset (DevRef τ sig)) by decide)]; rfl

/-- The three results. -/
def out0 (d : Dev nD) : S64x1.Idx → F .f32 := shapeCast S64x1 (k0_pay3 (sAt (AV m) d 16)) shapeCasts_S1x64_S64x1
def out1 (d : Dev nD) : S64x1.Idx → BitVec 32 := k0_pay8 (F := F) (dl (len0 (AV m) d)) (tFin (AV m) d)
def out2 (d : Dev nD) : S64x1x512.Idx → BitVec 32 :=
  broadcastInDim S64x1x512 ![0, 2] bcast_S64x512_S64x1x512_0_2 (shapeCast S64x512 (decFlat (Pv m d) (Sv m d)) shapeCasts_S32768_S64x512)

theorem VF_out0 (d : Dev nD) : VF m d (rf main_v7) = out0 m d := by
  unfold VF
  rw [StableHlo.reshape_result, (opB6 (F := F)).result_of_not_mem _ (show rf main_v1_0 ∉ ({rf main_v6} : Finset (DevRef τ sig)) by decide),
    (opR5 (F := F)).result_of_not_mem _ (show rf main_v1_0 ∉ ({rf main_v5} : Finset (DevRef τ sig)) by decide)]
  unfold V5; rw [Function.update_of_ne (by decide), V4_of _ _ _ (by decide) (by decide)]
  unfold V2; rw [regOut_0]; rfl
theorem VF_out1 (d : Dev nD) : VF m d (rf main_v1_1) = out1 m d := by
  rw [VF_of _ _ _ (by decide) (by decide) (by decide)]
  unfold V5; rw [Function.update_of_ne (by decide), V4_of _ _ _ (by decide) (by decide)]
  unfold V2; rw [regOut_1]; rfl
theorem VF_out2 (d : Dev nD) : VF m d (rf main_v6) = out2 m d := by
  unfold VF
  rw [(opR7 (F := F)).result_of_not_mem _ (show rf main_v6 ∉ ({rf main_v7} : Finset (DevRef τ sig)) by decide), StableHlo.unary_result, StableHlo.reshape_result]
  show broadcastInDim S64x1x512 ![0, 2] bcast_S64x512_S64x1x512_0_2 (shapeCast S64x512 (V5 m d (rf main_v4)) _) = _
  rw [V5_o]; rfl

/-! ## @main -/

theorem sub_ops : (opB0 (F := F)).bufs ⊆ ucRefs ∧ (opR2 (F := F)).bufs ⊆ ucRefs ∧ (opR3 (F := F)).bufs ⊆ ucRefs ∧ (opR5 (F := F)).bufs ⊆ ucRefs
    ∧ (opB6 (F := F)).bufs ⊆ ucRefs ∧ (opR7 (F := F)).bufs ⊆ ucRefs :=
  ⟨show ({rf main_arg1, rf main_v0} : Finset (DevRef τ sig)) ⊆ ucRefs by decide, show ({rf main_v1_2, rf main_v2} : Finset (DevRef τ sig)) ⊆ ucRefs by decide,
    show ({rf main_v1_3, rf main_v3} : Finset (DevRef τ sig)) ⊆ ucRefs by decide, show ({rf main_v4, rf main_v5} : Finset (DevRef τ sig)) ⊆ ucRefs by decide,
    show ({rf main_v5, rf main_v6} : Finset (DevRef τ sig)) ⊆ ucRefs by decide, show ({rf main_v1_0, rf main_v7} : Finset (DevRef τ sig)) ⊆ ucRefs by decide⟩

/-- The pipeline's ghost state at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

abbrev PM : (K (F := F)).Pay (nD := nD) (Val := Elt F) (Name := ℕ) (U := UU) := P (Pv m) (Sv m) (Ov m)

theorem hu₀ : (ownU (u₀ (F := F)) : sProp 𝕄) ⊢ |={Set.univ}=> iprop(BI.own (EH (initOf (K (F := F)).hsCells (K (F := F)).hsToks)) ∗ (bigSep Finset.univ fun d => G (F := F) d)
      ∗ bigSep Finset.univ fun thr : Thread nD τ => bigSep Finset.univ fun q : Fin 1 => (PM m).x q thr) := by
  unfold u₀
  iintro Hu
  ihave H := (ownU_split (F := F) (initOf (K (F := F)).hsCells (K (F := F)).hsToks)
    (initOf (Pipeline.cells (Pipeline.pin (pcfgs (F := F)) adm) cellOf_inj) (Pipeline.launchToks (Pipeline.pin (pcfgs (F := F)) adm) cellOf_inj))) $$ Hu
  icases H with ⟨Hh, Hp⟩
  imod (Pipeline.fund_ghost (Pipeline.pin (pcfgs (F := F)) adm) EP cellOf_inj) $$ Hp with ⟨Hg, Ht⟩
  imodintro
  isplitl [Hh]; · iexact Hh
  isplitl [Hg Ht]
  · unfold G
    rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  · rw [show (bigSep Finset.univ fun thr : Thread nD τ => bigSep Finset.univ fun q : Fin 1 => (PM m).x q thr) = (iprop(emp) : sProp 𝕄) from
      (bigSep_congr fun thr _ => bigSep_univ_of_subsingleton (0 : Fin 1)).trans (bigSep_emp_const _)]
    iempintro

abbrev FIN (d : Dev nD) : sProp 𝕄 := StableHlo.held (T d) ucRefs (VF m d)

/-- The region as @main runs it. -/
theorem wp_region [∀ e, Nonempty (Elt F e)] (d : Dev nD) (Q : PUnit → sProp 𝕄) :
    iprop((iprop(boundary (T d) ∗ (reg (V1 m)).post d) -∗ Q ⟨⟩) ∗ boundary (T d) ∗ (reg (V1 m)).pre d ∗ levAts (K (F := F)).L (K (F := F)).lev ∗ G (F := F) d)
      ⊢ wp frame (wpE ((K (F := F)).defs (D (F := F))) 𝒱 (T d) none) Set.univ (Prog.lift (.customCall (SparseCore.inner (Pipeline.entry 0)) ())) Q := by
  have h1 := Pipeline.RegionSeg.wp (pcfgs (F := F)) adm (pdats (V1 m)) none cellOf_inj EP defs₀ 𝒱₀ (K (F := F)).L (K (F := F)).lev (reg (V1 m)) d none (fun _ h => nomatch h)
    (fun _ => Prog.ret ⟨⟩) Q
  have h2 := (K (F := F)).wp_liftProg (D (F := F)) 𝒱 (T d) Set.univ none (Prog.op (.customCall (Pipeline.entry 0) ()) (fun _ => Prog.ret ⟨⟩)) Q
  refine BIBase.Entails.trans ?_ h2
  refine BIBase.Entails.trans ?_ h1
  iintro ⟨Hk, Hb, Hpre, Hl, Hg, Ht⟩
  isplitl [Hk]
  · iintro H
    rw [wp_ret]; imodintro
    iapply Hk $$ H
  isplitl [Hb]; · iexact Hb
  isplitl [Hpre]; · iexact Hpre
  isplitl [Hl]; · iexact Hl
  isplitl [Hg]; · iexact Hg
  iexact Ht

set_option maxHeartbeats 1600000 in
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨s0, s2, s3, s5, s6, s7⟩ := sub_ops (F := F)
  unfold SparseCore.Cfg.tcRes SparseCore.Cfg.tcEnd
  rw [show (unscopedBufs d (fun b => m ((SparseCore.T d).loc b)) : sProp 𝕄) = StableHlo.held (T d) ucRefs (V0 m d) from unscopedBufs_held d (V0 m d)]
  simp only [main, wp_bind, wp_pure]
  iintro ⟨#Hctx, Hst, ⟨Hb, Hheld, Hts, -⟩, HG⟩
  iapply (StableHlo.wp_hlo_within 𝒱 (SparseCore.T d) none Set.univ (op := opB0) (S := ucRefs) s0 (V := V0 m d)) $$ [Hb Hheld]
  · isplitl [Hb] <;> iassumption
  iintro ⟨Hb, Hheld⟩
  rw [wp_ret]; imodintro
  ihave #Hlev := ((K (F := F)).ctx_levAts (EH := EH) (P := PM m) κ) $$ Hctx
  ihave Hst' := (Entails.of_eq (show (K (F := F)).tcSt EH d 0 = iprop((∃ W, ⌜(K (F := F)).WBelow (T d) W 0⌝ ∗ owes (T d) ((K (F := F)).Otc d 0) W) ∗ _ : sProp 𝕄) from rfl)) $$ Hst
  icases Hst' with ⟨HO, Hst⟩
  iapply (wp_region m d _)
  isplitr [Hb Hheld HO HG]
  · iintro ⟨Hb, Hpost⟩
    ihave Hpost' := (Entails.of_eq (show (reg (V1 m)).post d = iprop(StableHlo.held (T d) ucRefs (V2 m d) ∗ ∃ W, ⌜(K (F := F)).WBelow (T d) W 0⌝ ∗ owes (T d) ((K (F := F)).Otc d 0) W) from rfl)) $$ Hpost
    icases Hpost' with ⟨Hheld, HO⟩
    ihave Hst := (Entails.of_eq (show iprop((∃ W, ⌜(K (F := F)).WBelow (T d) W 0⌝ ∗ owes (T d) ((K (F := F)).Otc d 0) W) ∗ _ : sProp 𝕄) = (K (F := F)).tcSt EH d 0 from rfl)) $$ [HO Hst]
    · isplitl [HO]; · iexact HO
      iexact Hst
    iapply (StableHlo.wp_hlo_within 𝒱 (SparseCore.T d) none Set.univ (op := opR2) (S := ucRefs) s2 (V := V2 m d)) $$ [Hb Hheld]
    · isplitl [Hb]; · iexact Hb
      iexact Hheld
    iintro ⟨Hb, Hheld⟩
    rw [wp_ret]; imodintro
    iapply (StableHlo.wp_hlo_within 𝒱 (SparseCore.T d) none Set.univ (op := opR3) (S := ucRefs) s3 (V := (opR2 (F := F)).result (V2 m d))) $$ [Hb Hheld]
    · isplitl [Hb] <;> iassumption
    iintro ⟨Hb, Hheld⟩
    rw [wp_ret]; imodintro
    ihave Hh := (Entails.of_eq (show (StableHlo.held (T d) ucRefs ((opR3 (F := F)).result ((opR2 (F := F)).result (V2 m d))) : sProp 𝕄) = _ from held_call d (V4 m d))) $$ Hheld
    icases Hh with ⟨Hp, Hs, Ho, Hrest⟩
    iapply ((K (F := F)).wp_run (D (F := F)) 𝒱 (EH := EH) (P := PM m) κ d 0) $$ [Hst Hp Hs Ho Hb Hrest Hts]
    isplitr; · iexact Hctx
    isplitl [Hst]; · iexact Hst
    isplitl [Hp Hs Ho]
    · rw [st0_eq]
      isplitl [Hp]; · iexact Hp
      isplitl [Hs]; · iexact Hs
      iexact Ho
    iintro ⟨Hst, Hdn⟩
    ihave Hdn' := (Entails.of_eq (dn0_eq (Pv m) (Sv m) (Ov m) d)) $$ Hdn
    icases Hdn' with ⟨Hp, Hs, Ho⟩
    iapply (StableHlo.wp_hlo_within 𝒱 (SparseCore.T d) none Set.univ (op := opR5) (S := ucRefs) s5 (V := V5 m d)) $$ [Hb Hp Hs Ho Hrest]
    · isplitl [Hb]; · iexact Hb
      rw [held_call, V5_o, V5_p, V5_s, ← held_rest]
      isplitl [Hp]; · iexact Hp
      isplitl [Hs]; · iexact Hs
      isplitl [Ho]; · iexact Ho
      iexact Hrest
    iintro ⟨Hb, Hheld⟩
    rw [wp_ret]; imodintro
    iapply (StableHlo.wp_hlo_within 𝒱 (SparseCore.T d) none Set.univ (op := opB6) (S := ucRefs) s6 (V := (opR5 (F := F)).result (V5 m d))) $$ [Hb Hheld]
    · isplitl [Hb] <;> iassumption
    iintro ⟨Hb, Hheld⟩
    rw [wp_ret]; imodintro
    iapply (StableHlo.wp_hlo_within 𝒱 (SparseCore.T d) none Set.univ (op := opR7) (S := ucRefs) s7 (V := (opB6 (F := F)).result ((opR5 (F := F)).result (V5 m d)))) $$ [Hb Hheld]
    · isplitl [Hb] <;> iassumption
    iintro ⟨Hb, Hheld⟩
    rw [wp_ret]; imodintro; imodintro
    isplitl [Hst]; · iexact Hst
    isplitl [Hheld]; · iexact Hheld
    isplitl [Hb] <;> iassumption
  isplitl [Hb]; · iexact Hb
  isplitl [Hheld HO]
  · rw [show (reg (V1 m)).pre d = iprop(StableHlo.held (T d) ucRefs (V1 m d) ∗ ∃ W, ⌜(K (F := F)).WBelow (T d) W 0⌝ ∗ owes (T d) ((K (F := F)).Otc d 0) W) from rfl]
    isplitl [Hheld]; · iexact Hheld
    iexact HO
  isplitr; · iexact Hlev
  iexact HG

/-! ## The program's run -/

def fq (d : Dev nD) (s' : Phys nD τ sig (Elt F)) : Prop :=
  s'.mem.mem ((T d : Thread nD τ).loc main_arg0) = m ((SparseCore.T d : Thread nD τ).loc main_arg0) ∧ s'.mem.mem ((T d : Thread nD τ).loc main_arg1) = m ((SparseCore.T d : Thread nD τ).loc main_arg1)
    ∧ s'.mem.mem ((T d : Thread nD τ).loc main_v7) = out0 m d ∧ s'.mem.mem ((T d : Thread nD τ).loc main_v1_1) = out1 m d ∧ s'.mem.mem ((T d : Thread nD τ).loc main_v6) = out2 m d

theorem held_read (d : Dev nD) (s' : Phys nD τ sig (Elt F)) (x : Ref sig .tc) (hx : rf x ∈ ucRefs) :
    iprop(FIN m d ∗ SI s') ⊢ (⌜s'.mem.mem ((T d : Thread nD τ).loc x) = VF m d (rf x)⌝ : sProp 𝕄) := by
  unfold FIN
  iintro ⟨H, HSI⟩
  ihave H1 := (Entails.of_eq (show (StableHlo.held (T d) ucRefs (VF m d) : sProp 𝕄) = iprop(((T d : Thread nD τ).loc x ↦{fullShare} VF m d (rf x)) ∗ StableHlo.held (T d) (ucRefs.erase (rf x)) (VF m d)) by
    unfold StableHlo.held
    conv_lhs => rw [← Finset.insert_erase hx]
    rw [SparseCore.bigSep_insert' (Finset.notMem_erase _ _)])) $$ H
  icases H1 with ⟨H1, -⟩
  ihave H := (SI_pointsTo_agree (st := s') (ℓ := (T d : Thread nD τ).loc x) (I := Finset.univ) (q := fullShare) (f := VF m d (rf x))) $$ [HSI H1]
  · isplitl [HSI] <;> iassumption
  icases H with %hr
  ipureintro; exact funext fun i => hr i (Finset.mem_univ i)

theorem hfin (d : Dev nD) (s' : Phys nD τ sig (Elt F)) : iprop(FIN m d ∗ SI s') ⊢ (⌜fq m d s'⌝ : sProp 𝕄) := by
  have h0 := persistent_entails_right (held_read m d s' main_arg0 (by decide))
  have h1 := persistent_entails_right (held_read m d s' main_arg1 (by decide))
  have h2 := persistent_entails_right (held_read m d s' main_v7 (by decide))
  have h3 := persistent_entails_right (held_read m d s' main_v1_1 (by decide))
  have h4 := held_read m d s' main_v6 (by decide)
  iintro H
  ihave H := h0 $$ H
  icases H with ⟨%e0, H⟩
  ihave H := h1 $$ H
  icases H with ⟨%e1, H⟩
  ihave H := h2 $$ H
  icases H with ⟨%e2, H⟩
  ihave H := h3 $$ H
  icases H with ⟨%e3, H⟩
  ihave H := h4 $$ H
  icases H with %e4
  ipureintro
  exact ⟨e0.trans (VF_arg0 m d), e1.trans (VF_arg1 m d), e2.trans (VF_out0 m d), e3.trans (VF_out1 m d), e4.trans (VF_out2 m d)⟩

/-- What the run leaves: the arguments as they were, the results, and every semaphore at zero. -/
def QC : PUnit × MemSt nD τ sig (Elt F) → Prop := fun r => (∀ c : Dev nD,
    r.2.mem ((T c : Thread nD τ).loc main_arg0) = m ((SparseCore.T c : Thread nD τ).loc main_arg0) ∧ r.2.mem ((T c : Thread nD τ).loc main_arg1) = m ((SparseCore.T c : Thread nD τ).loc main_arg1)
    ∧ r.2.mem ((T c : Thread nD τ).loc main_v7) = out0 m c ∧ r.2.mem ((T c : Thread nD τ).loc main_v1_1) = out1 m c ∧ r.2.mem ((T c : Thread nD τ).loc main_v6) = out2 m c)
  ∧ r.2.sem = fun _ => 0

theorem run_main [∀ e, Nonempty (Elt F e)] (hP : ∀ d y, (Pv m d y).toNat < 528) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (Pv m) (Sv m) (Ov m) hP)
    (fun q _ => match q with | 0 => SparseCore.Cfg.VecSplit.of_plain (vecSplit (Pv m) (Sv m) (Ov m)))
    m ρ main (G (F := F)) (FIN m) (u₀ (F := F)) (sep_elim_left.trans (hu₀ m)) (hmain m ρ) (fq m) (hfin m) (QC m) (fun _ h hz => ⟨h, hz⟩)

end Cert.Beam

end
-- ==== Proof.KBound.lean ====
/- Over the extended reals every position the kernel writes is within a row of 528. -/
module

public import proofs.«01_k».proof.Proof.KCol
public import proofs.«01_k».proof.Proof.Run

@[expose] public section

set_option maxRecDepth 16384

noncomputable section

namespace Cert.Beam

open Idealize.ShloMosaic Idealize.ShloMosaic.ValueIdx
open Idealize.SL Idealize.SL.Sem
open Cert.KernelIdeal Cert.KernelIdeal.Gen

theorem pay9_lt_idx (v6 : IVec S1x64 32) (v227 : IVec S512x64 32) (j : S64x512.Idx) :
    (k0_pay9 (F := Ideal) v6 v227 j).toNat < 528 := by
  rw [show j = ix2 (n0 := 64) (n1 := 512) (j 0) (j 1) from eq_ix2 (n0 := 64) (n1 := 512) j]
  exact pay9_lt v6 v227 (j 0) (j 1)

variable (m : (ℓ : Loc nD τ sig) → Buf (Elt Ideal) ℓ) (ρ : Dev nD → BitVec 32 × BitVec 32)

theorem Pv_lt (d : Dev nD) (y) : (Pv m d y).toNat < 528 := by
  rw [Pv_eq]
  exact pay9_lt_idx _ _ _

end Cert.Beam

end
-- ==== Proof.RefOps.lean ====
/- The reference program's operations as lists, stretch by stretch: @main before the first loop, between the loops and
   after the second, and each loop's body, with the equations that say the program is their run. -/
module

public import proofs.«01_k».proof.Proof.Gen.ReferenceIdeal
public import Idealize.ShloMosaic.Lib.StableHlo.RunLoop
public import Idealize.ShloMosaic.Lib.StableHlo.RunClose

@[expose] public section

noncomputable section

namespace Cert.BeamRef

open Idealize.ShloMosaic Idealize.ShloMosaic.StableHlo Idealize.SL.Sem
open Cert.ReferenceIdeal Cert.ReferenceIdeal.Gen

variable {F : FTy → Type} [FloatOps F]

/-- A stretch of operations of the part before the first loop. -/
def pre0 : List (HloOp τ sig (Elt F)) :=
  [StableHlo.nullary main_cst (constant S_ .f32 0xF149F2CA#32),
   StableHlo.unary main_cst main_v0 (broadcastInDim S64x16 ![] bcast_S_S64x16 : (⟨S_, .f32⟩ : BufTy).Contents (Elt F) → (⟨S64x16, .f32⟩ : BufTy).Contents (Elt F)),
   StableHlo.nullary main_c (constantI S_ 32 0#32),
   StableHlo.unary main_c main_v1 (broadcastInDim S1 ![] bcast_S_S1 : (⟨S_, .i32⟩ : BufTy).Contents (Elt F) → (⟨S1, .i32⟩ : BufTy).Contents (Elt F)),
   StableHlo.nullary main_cst_0 (constant S_ .f32 0x00000000#32),
   StableHlo.unary main_cst_0 main_v2 (broadcastInDim S64 ![] bcast_S_S64 : (⟨S_, .f32⟩ : BufTy).Contents (Elt F) → (⟨S64, .f32⟩ : BufTy).Contents (Elt F)),
   StableHlo.ternary main_v0 main_v1 main_v2 main_v3 ((fun x i u => Host.scatter scatter_S64x16_S1_S64_0_1_1_0 (fun _ b => b) x i u) : (⟨S64x16, .f32⟩ : BufTy).Contents (Elt F) → (⟨S1, .i32⟩ : BufTy).Contents (Elt F) → (⟨S64, .f32⟩ : BufTy).Contents (Elt F) → (⟨S64x16, .f32⟩ : BufTy).Contents (Elt F)),
   StableHlo.nullary main_v4 (iotaInDim S16 32 0),
   StableHlo.unary main_v4 main_v5 (broadcastInDim S1x16 ![1] bcast_S16_S1x16_1 : (⟨S16, .i32⟩ : BufTy).Contents (Elt F) → (⟨S1x16, .i32⟩ : BufTy).Contents (Elt F)),
   StableHlo.reshape main_v5 main_v6 (rfl : (.i32 : EltTy) = .i32) shapeCasts_S1x16_S1x1x1x16,
   StableHlo.unary main_v6 main_v7 (broadcastInDim S64x1x1x16 ![0, 1, 2, 3] bcast_S1x1x1x16_S64x1x1x16_0_1_2_3 : (⟨S1x1x1x16, .i32⟩ : BufTy).Contents (Elt F) → (⟨S64x1x1x16, .i32⟩ : BufTy).Contents (Elt F)),
   StableHlo.reshape main_v7 main_v8 (rfl : (.i32 : EltTy) = .i32) shapeCasts_S64x1x1x16_S64x16,
   StableHlo.nullary main_v9 (iotaInDim S512 32 0),
   StableHlo.nullary main_c_1 (constantI S_ 32 0#32),
   StableHlo.unary main_c_1 main_v10 (broadcastInDim S512x64x16 ![] bcast_S_S512x64x16 : (⟨S_, .i32⟩ : BufTy).Contents (Elt F) → (⟨S512x64x16, .i32⟩ : BufTy).Contents (Elt F)),
   StableHlo.nullary main_c_2 (constantI S_ 32 0#32),
   StableHlo.unary main_c_2 main_v11 (broadcastInDim S512x64x16 ![] bcast_S_S512x64x16 : (⟨S_, .i32⟩ : BufTy).Contents (Elt F) → (⟨S512x64x16, .i32⟩ : BufTy).Contents (Elt F)),
   StableHlo.nullary main_c_3 (constantI S_ 32 0#32),
   StableHlo.unary main_arg0 main_v12_0 id,
   StableHlo.unary main_v9 main_v12_1 id,
   StableHlo.unary main_arg1 main_v12_2 id,
   StableHlo.unary main_v8 main_v12_3 id,
   StableHlo.unary main_c_3 main_v12_4 id,
   StableHlo.unary main_v3 main_v12_5 id,
   StableHlo.unary main_v10 main_v12_6 id,
   StableHlo.unary main_v11 main_v12_7 id]

theorem pre0_sub : ∀ op ∈ (pre0 : List (HloOp τ sig (Elt F))), op.bufs ⊆ tcRefs τ sig := by
  unfold pre0; simp only [List.forall_mem_cons, List.not_mem_nil, false_imp_iff, implies_true, and_true]
  simp
theorem pre0_fresh : ∀ op ∈ (pre0 : List (HloOp τ sig (Elt F))), op.fresh = ∅ := by
  unfold pre0; simp only [List.forall_mem_cons, List.not_mem_nil, false_imp_iff, implies_true, and_true]
  repeat' first | constructor | rfl

/-- The operations of one call of the first loop body. -/
def w00 : List (HloOp τ sig (Elt F)) :=
  [StableHlo.TRef.nullary (.of main_while0b_call0_c : StableHlo.TRef sig ⟨S_, .i32⟩) (constantI S_ 32 0#32),
   StableHlo.TRef.nullary (.of main_while0b_call0_c_0 : StableHlo.TRef sig ⟨S_, .i32⟩) (constantI S_ 32 0#32),
   StableHlo.TRef.unaryIndexed (.of main_v12_0 : StableHlo.TRef sig ⟨S512x64x1024, .f32⟩) ![(.of main_v12_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x1024, .f32⟩) (fun x i => Host.dynamicSlice S1x64x1024 x (fun k => (i k (Shape.Idx.first h_S_)).toInt) sliceFits_S512x64x1024_S1x64x1024),
   StableHlo.TRef.reshape (.of main_while0b_call0_v0 : StableHlo.TRef sig ⟨S1x64x1024, .f32⟩) (.of main_while0b_v60 : StableHlo.TRef sig ⟨S64x1024, .f32⟩) (rfl : (.f32 : EltTy) = .f32) shapeCasts_S1x64x1024_S64x1024]

theorem w00_sub : ∀ op ∈ (w00 : List (HloOp τ sig (Elt F))), op.bufs ⊆ tcRefs τ sig := by
  unfold w00; simp only [List.forall_mem_cons, List.not_mem_nil, false_imp_iff, implies_true, and_true]
  simp
theorem w00_fresh : ∀ op ∈ (w00 : List (HloOp τ sig (Elt F))), op.fresh = ∅ := by
  unfold w00; simp only [List.forall_mem_cons, List.not_mem_nil, false_imp_iff, implies_true, and_true]
  repeat' first | constructor | rfl

/-- The operations of one call of the first loop body. -/
def w01 : List (HloOp τ sig (Elt F)) :=
  [StableHlo.TRef.unaryIndexed (.of main_v12_1 : StableHlo.TRef sig ⟨S512, .i32⟩) ![(.of main_v12_4 : StableHlo.TRef sig ⟨S_, .i32⟩)] (.of main_while0b_call1_v0 : StableHlo.TRef sig ⟨S1, .i32⟩) (fun x i => Host.dynamicSlice S1 x (fun k => (i k (Shape.Idx.first h_S_)).toInt) sliceFits_S512_S1),
   StableHlo.TRef.reshape (.of main_while0b_call1_v0 : StableHlo.TRef sig ⟨S1, .i32⟩) (.of main_while0b_v61 : StableHlo.TRef sig ⟨S_, .i32⟩) (rfl : (.i32 : EltTy) = .i32) shapeCasts_S1_S_]

theorem w01_sub : ∀ op ∈ (w01 : List (HloOp τ sig (Elt F))), op.bufs ⊆ tcRefs τ sig := by
  unfold w01; simp only [List.forall_mem_cons, List.not_mem_nil, false_imp_iff, implies_true, and_true]
  simp
theorem w01_fresh : ∀ op ∈ (w01 : List (HloOp τ sig (Elt F))), op.fresh = ∅ := by
  unfold w01; simp only [List.forall_mem_cons, List.not_mem_nil, false_imp_iff, implies_true, and_true]
  repeat' first | constructor | rfl

/-- A stretch of operations of the first loop body. -/
def w02 : List (HloOp τ sig (Elt F)) :=
  [StableHlo.unary main_v12_5 main_while0b_v62 (broadcastInDim S64x16x1 ![0, 1] bcast_S64x16_S64x16x1_0_1 : (⟨S64x16, .f32⟩ : BufTy).Contents (Elt F) → (⟨S64x16x1, .f32⟩ : BufTy).Contents (Elt F)),
   StableHlo.unary main_while0b_v60 main_while0b_v63 (broadcastInDim S64x1x1024 ![0, 2] bcast_S64x1024_S64x1x1024_0_2 : (⟨S64x1024, .f32⟩ : BufTy).Contents (Elt F) → (⟨S64x1x1024, .f32⟩ : BufTy).Contents (Elt F)),
   StableHlo.unary main_while0b_v62 main_while0b_v64 (broadcastInDim S64x16x1024 ![0, 1, 2] bcast_S64x16x1_S64x16x1024_0_1_2 : (⟨S64x16x1, .f32⟩ : BufTy).Contents (Elt F) → (⟨S64x16x1024, .f32⟩ : BufTy).Contents (Elt F)),
   StableHlo.unary main_while0b_v63 main_while0b_v65 (broadcastInDim S64x16x1024 ![0, 1, 2] bcast_S64x1x1024_S64x16x1024_0_1_2 : (⟨S64x1x1024, .f32⟩ : BufTy).Contents (Elt F) → (⟨S64x16x1024, .f32⟩ : BufTy).Contents (Elt F)),
   StableHlo.binary main_while0b_v64 main_while0b_v65 main_while0b_v66 (addf : (⟨S64x16x1024, .f32⟩ : BufTy).Contents (Elt F) → (⟨S64x16x1024, .f32⟩ : BufTy).Contents (Elt F) → (⟨S64x16x1024, .f32⟩ : BufTy).Contents (Elt F)),
   StableHlo.reshape main_while0b_v66 main_while0b_v67 (rfl : (.f32 : EltTy) = .f32) shapeCasts_S64x16x1024_S64x16384,
   StableHlo.unary main_while0b_v67 main_while0b_values ((fun x => (Host.topK S64x16 1 (FloatOps.cmpfTotal .gt) x sliceFits_S64x16384_S64x16).1) : (⟨S64x16384, .f32⟩ : BufTy).Contents (Elt F) → (⟨S64x16, .f32⟩ : BufTy).Contents (Elt F)),
   StableHlo.unary main_while0b_v67 main_while0b_indices ((fun x => (Host.topK S64x16 1 (FloatOps.cmpfTotal .gt) x sliceFits_S64x16384_S64x16).2) : (⟨S64x16384, .f32⟩ : BufTy).Contents (Elt F) → (⟨S64x16, .i32⟩ : BufTy).Contents (Elt F)),
   StableHlo.nullary main_while0b_c_23 (constantI S_ 32 1024#32)]

theorem w02_sub : ∀ op ∈ (w02 : List (HloOp τ sig (Elt F))), op.bufs ⊆ tcRefs τ sig := by
  unfold w02; simp only [List.forall_mem_cons, List.not_mem_nil, false_imp_iff, implies_true, and_true]
  simp
theorem w02_fresh : ∀ op ∈ (w02 : List (HloOp τ sig (Elt F))), op.fresh = ∅ := by
  unfold w02; simp only [List.forall_mem_cons, List.not_mem_nil, false_imp_iff, implies_true, and_true]
  repeat' first | constructor | rfl

/-- The operations of one call of the first loop body. -/
def w03 : List (HloOp τ sig (Elt F)) :=
  [StableHlo.TRef.unary (.of main_while0b_c_23 : StableHlo.TRef sig ⟨S_, .i32⟩) (.of main_while0b_call2_v0 : StableHlo.TRef sig ⟨S_, .i32⟩) id,
   StableHlo.TRef.unary (.of main_while0b_call2_v0 : StableHlo.TRef sig ⟨S_, .i32⟩) (.of main_while0b_call2_v1 : StableHlo.TRef sig ⟨S64x16, .i32⟩) (broadcastInDim S64x16 ![] bcast_S_S64x16),
   StableHlo.TRef.binary (.of main_while0b_indices : StableHlo.TRef sig ⟨S64x16, .i32⟩) (.of main_while0b_call2_v1 : StableHlo.TRef sig ⟨S64x16, .i32⟩) (.of main_while0b_call2_v2 : StableHlo.TRef sig ⟨S64x16, .i32⟩) Host.divsi,
   StableHlo.TRef.unary (.of main_while0b_indices : StableHlo.TRef sig ⟨S64x16, .i32⟩) (.of main_while0b_call2_v3 : StableHlo.TRef sig ⟨S64x16, .i32⟩) signi,
   StableHlo.TRef.unary (.of main_while0b_call2_v0 : StableHlo.TRef sig ⟨S_, .i32⟩) (.of main_while0b_call2_v4 : StableHlo.TRef sig ⟨S_, .i32⟩) signi,
   StableHlo.TRef.unary (.of main_while0b_call2_v4 : StableHlo.TRef sig ⟨S_, .i32⟩) (.of main_while0b_call2_v5 : StableHlo.TRef sig ⟨S64x16, .i32⟩) (broadcastInDim S64x16 ![] bcast_S_S64x16),
   StableHlo.TRef.binary (.of main_while0b_call2_v3 : StableHlo.TRef sig ⟨S64x16, .i32⟩) (.of main_while0b_call2_v5 : StableHlo.TRef sig ⟨S64x16, .i32⟩) (.of main_while0b_call2_v6 : StableHlo.TRef sig ⟨S64x16, .i1⟩) (cmpi .ne),
   StableHlo.TRef.unary (.of main_while0b_call2_v0 : StableHlo.TRef sig ⟨S_, .i32⟩) (.of main_while0b_call2_v7 : StableHlo.TRef sig ⟨S64x16, .i32⟩) (broadcastInDim S64x16 ![] bcast_S_S64x16),
   StableHlo.TRef.binary (.of main_while0b_indices : StableHlo.TRef sig ⟨S64x16, .i32⟩) (.of main_while0b_call2_v7 : StableHlo.TRef sig ⟨S64x16, .i32⟩) (.of main_while0b_call2_v8 : StableHlo.TRef sig ⟨S64x16, .i32⟩) Host.remsi,
   StableHlo.TRef.nullary (.of main_while0b_call2_c : StableHlo.TRef sig ⟨S_, .i32⟩) (constantI S_ 32 0#32),
   StableHlo.TRef.unary (.of main_while0b_call2_c : StableHlo.TRef sig ⟨S_, .i32⟩) (.of main_while0b_call2_v9 : StableHlo.TRef sig ⟨S64x16, .i32⟩) (broadcastInDim S64x16 ![] bcast_S_S64x16),
   StableHlo.TRef.binary (.of main_while0b_call2_v8 : StableHlo.TRef sig ⟨S64x16, .i32⟩) (.of main_while0b_call2_v9 : StableHlo.TRef sig ⟨S64x16, .i32⟩) (.of main_while0b_call2_v10 : StableHlo.TRef sig ⟨S64x16, .i1⟩) (cmpi .ne),
   StableHlo.TRef.binary (.of main_while0b_call2_v6 : StableHlo.TRef sig ⟨S64x16, .i1⟩) (.of main_while0b_call2_v10 : StableHlo.TRef sig ⟨S64x16, .i1⟩) (.of main_while0b_call2_v11 : StableHlo.TRef sig ⟨S64x16, .i1⟩) andi,
   StableHlo.TRef.nullary (.of main_while0b_call2_c_0 : StableHlo.TRef sig ⟨S_, .i32⟩) (constantI S_ 32 1#32),
   StableHlo.TRef.unary (.of main_while0b_call2_c_0 : StableHlo.TRef sig ⟨S_, .i32⟩) (.of main_while0b_call2_v12 : StableHlo.TRef sig ⟨S64x16, .i32⟩) (broadcastInDim S64x16 ![] bcast_S_S64x16),
   StableHlo.TRef.binary (.of main_while0b_call2_v2 : StableHlo.TRef sig ⟨S64x16, .i32⟩) (.of main_while0b_call2_v12 : StableHlo.TRef sig ⟨S64x16, .i32⟩) (.of main_while0b_call2_v13 : StableHlo.TRef sig ⟨S64x16, .i32⟩) subi,
   StableHlo.TRef.ternary (.of main_while0b_call2_v11 : StableHlo.TRef sig ⟨S64x16, .i1⟩) (.of main_while0b_call2_v13 : StableHlo.TRef sig ⟨S64x16, .i32⟩) (.of main_while0b_call2_v2 : StableHlo.TRef sig ⟨S64x16, .i32⟩) (.of main_while0b_v68 : StableHlo.TRef sig ⟨S64x16, .i32⟩) select]

theorem w03_sub : ∀ op ∈ (w03 : List (HloOp τ sig (Elt F))), op.bufs ⊆ tcRefs τ sig := by
  unfold w03; simp only [List.forall_mem_cons, List.not_mem_nil, false_imp_iff, implies_true, and_true]
  simp
theorem w03_fresh : ∀ op ∈ (w03 : List (HloOp τ sig (Elt F))), op.fresh = ∅ := by
  unfold w03; simp only [List.forall_mem_cons, List.not_mem_nil, false_imp_iff, implies_true, and_true]
  repeat' first | constructor | rfl

/-- A stretch of operations of the first loop body. -/
def w04 : List (HloOp τ sig (Elt F)) :=
  [StableHlo.nullary main_while0b_c_24 (constantI S_ 32 1024#32)]

theorem w04_sub : ∀ op ∈ (w04 : List (HloOp τ sig (Elt F))), op.bufs ⊆ tcRefs τ sig := by
  unfold w04; simp only [List.forall_mem_cons, List.not_mem_nil, false_imp_iff, implies_true, and_true]
  simp
theorem w04_fresh : ∀ op ∈ (w04 : List (HloOp τ sig (Elt F))), op.fresh = ∅ := by
  unfold w04; simp only [List.forall_mem_cons, List.not_mem_nil, false_imp_iff, implies_true, and_true]
  repeat' first | constructor | rfl

/-- The operations of one call of the first loop body. -/
def w05 : List (HloOp τ sig (Elt F)) :=
  [StableHlo.TRef.unary (.of main_while0b_c_24 : StableHlo.TRef sig ⟨S_, .i32⟩) (.of main_while0b_call3_v0 : StableHlo.TRef sig ⟨S_, .i32⟩) id,
   StableHlo.TRef.nullary (.of main_while0b_call3_c : StableHlo.TRef sig ⟨S_, .i32⟩) (constantI S_ 32 0#32),
   StableHlo.TRef.binary (.of main_while0b_call3_v0 : StableHlo.TRef sig ⟨S_, .i32⟩) (.of main_while0b_call3_c : StableHlo.TRef sig ⟨S_, .i32⟩) (.of main_while0b_call3_v1 : StableHlo.TRef sig ⟨S_, .i1⟩) (cmpi .eq),
   StableHlo.TRef.nullary (.of main_while0b_call3_c_0 : StableHlo.TRef sig ⟨S_, .i32⟩) (constantI S_ 32 1#32),
   StableHlo.TRef.ternary (.of main_while0b_call3_v1 : StableHlo.TRef sig ⟨S_, .i1⟩) (.of main_while0b_call3_c_0 : StableHlo.TRef sig ⟨S_, .i32⟩) (.of main_while0b_call3_v0 : StableHlo.TRef sig ⟨S_, .i32⟩) (.of main_while0b_call3_v2 : StableHlo.TRef sig ⟨S_, .i32⟩) select,
   StableHlo.TRef.unary (.of main_while0b_call3_v2 : StableHlo.TRef sig ⟨S_, .i32⟩) (.of main_while0b_call3_v3 : StableHlo.TRef sig ⟨S64x16, .i32⟩) (broadcastInDim S64x16 ![] bcast_S_S64x16),
   StableHlo.TRef.binary (.of main_while0b_indices : StableHlo.TRef sig ⟨S64x16, .i32⟩) (.of main_while0b_call3_v3 : StableHlo.TRef sig ⟨S64x16, .i32⟩) (.of main_while0b_call3_v4 : StableHlo.TRef sig ⟨S64x16, .i32⟩) Host.remsi,
   StableHlo.TRef.nullary (.of main_while0b_call3_c_1 : StableHlo.TRef sig ⟨S_, .i32⟩) (constantI S_ 32 0#32),
   StableHlo.TRef.unary (.of main_while0b_call3_c_1 : StableHlo.TRef sig ⟨S_, .i32⟩) (.of main_while0b_call3_v5 : StableHlo.TRef sig ⟨S64x16, .i32⟩) (broadcastInDim S64x16 ![] bcast_S_S64x16),
   StableHlo.TRef.binary (.of main_while0b_call3_v4 : StableHlo.TRef sig ⟨S64x16, .i32⟩) (.of main_while0b_call3_v5 : StableHlo.TRef sig ⟨S64x16, .i32⟩) (.of main_while0b_call3_v6 : StableHlo.TRef sig ⟨S64x16, .i1⟩) (cmpi .ne),
   StableHlo.TRef.nullary (.of main_while0b_call3_c_2 : StableHlo.TRef sig ⟨S_, .i32⟩) (constantI S_ 32 0#32),
   StableHlo.TRef.unary (.of main_while0b_call3_c_2 : StableHlo.TRef sig ⟨S_, .i32⟩) (.of main_while0b_call3_v7 : StableHlo.TRef sig ⟨S64x16, .i32⟩) (broadcastInDim S64x16 ![] bcast_S_S64x16),
   StableHlo.TRef.binary (.of main_while0b_call3_v4 : StableHlo.TRef sig ⟨S64x16, .i32⟩) (.of main_while0b_call3_v7 : StableHlo.TRef sig ⟨S64x16, .i32⟩) (.of main_while0b_call3_v8 : StableHlo.TRef sig ⟨S64x16, .i1⟩) (cmpi .slt),
   StableHlo.TRef.nullary (.of main_while0b_call3_c_3 : StableHlo.TRef sig ⟨S_, .i32⟩) (constantI S_ 32 0#32),
   StableHlo.TRef.binary (.of main_while0b_call3_v2 : StableHlo.TRef sig ⟨S_, .i32⟩) (.of main_while0b_call3_c_3 : StableHlo.TRef sig ⟨S_, .i32⟩) (.of main_while0b_call3_v9 : StableHlo.TRef sig ⟨S_, .i1⟩) (cmpi .slt),
   StableHlo.TRef.unary (.of main_while0b_call3_v9 : StableHlo.TRef sig ⟨S_, .i1⟩) (.of main_while0b_call3_v10 : StableHlo.TRef sig ⟨S64x16, .i1⟩) (broadcastInDim S64x16 ![] bcast_S_S64x16),
   StableHlo.TRef.binary (.of main_while0b_call3_v8 : StableHlo.TRef sig ⟨S64x16, .i1⟩) (.of main_while0b_call3_v10 : StableHlo.TRef sig ⟨S64x16, .i1⟩) (.of main_while0b_call3_v11 : StableHlo.TRef sig ⟨S64x16, .i1⟩) (cmpi .ne),
   StableHlo.TRef.binary (.of main_while0b_call3_v11 : StableHlo.TRef sig ⟨S64x16, .i1⟩) (.of main_while0b_call3_v6 : StableHlo.TRef sig ⟨S64x16, .i1⟩) (.of main_while0b_call3_v12 : StableHlo.TRef sig ⟨S64x16, .i1⟩) andi,
   StableHlo.TRef.unary (.of main_while0b_call3_v2 : StableHlo.TRef sig ⟨S_, .i32⟩) (.of main_while0b_call3_v13 : StableHlo.TRef sig ⟨S64x16, .i32⟩) (broadcastInDim S64x16 ![] bcast_S_S64x16),
   StableHlo.TRef.binary (.of main_while0b_call3_v4 : StableHlo.TRef sig ⟨S64x16, .i32⟩) (.of main_while0b_call3_v13 : StableHlo.TRef sig ⟨S64x16, .i32⟩) (.of main_while0b_call3_v14 : StableHlo.TRef sig ⟨S64x16, .i32⟩) addi,
   StableHlo.TRef.ternary (.of main_while0b_call3_v12 : StableHlo.TRef sig ⟨S64x16, .i1⟩) (.of main_while0b_call3_v14 : StableHlo.TRef sig ⟨S64x16, .i32⟩) (.of main_while0b_call3_v4 : StableHlo.TRef sig ⟨S64x16, .i32⟩) (.of main_while0b_v69 : StableHlo.TRef sig ⟨S64x16, .i32⟩) select]

theorem w05_sub : ∀ op ∈ (w05 : List (HloOp τ sig (Elt F))), op.bufs ⊆ tcRefs τ sig := by
  unfold w05; simp only [List.forall_mem_cons, List.not_mem_nil, false_imp_iff, implies_true, and_true]
  simp
theorem w05_fresh : ∀ op ∈ (w05 : List (HloOp τ sig (Elt F))), op.fresh = ∅ := by
  unfold w05; simp only [List.forall_mem_cons, List.not_mem_nil, false_imp_iff, implies_true, and_true]
  repeat' first | constructor | rfl

/-- A stretch of operations of the first loop body. -/
def w06 : List (HloOp τ sig (Elt F)) :=
  [StableHlo.unary main_while0b_v61 main_while0b_v70 (broadcastInDim S64 ![] bcast_S_S64 : (⟨S_, .i32⟩ : BufTy).Contents (Elt F) → (⟨S64, .i32⟩ : BufTy).Contents (Elt F)),
   StableHlo.binary main_while0b_v70 main_v12_2 main_while0b_v71 (cmpi .slt : (⟨S64, .i32⟩ : BufTy).Contents (Elt F) → (⟨S64, .i32⟩ : BufTy).Contents (Elt F) → (⟨S64, .i1⟩ : BufTy).Contents (Elt F)),
   StableHlo.unary main_while0b_v71 main_while0b_v72 (broadcastInDim S64x1 ![0] bcast_S64_S64x1_0 : (⟨S64, .i1⟩ : BufTy).Contents (Elt F) → (⟨S64x1, .i1⟩ : BufTy).Contents (Elt F))]

theorem w06_sub : ∀ op ∈ (w06 : List (HloOp τ sig (Elt F))), op.bufs ⊆ tcRefs τ sig := by
  unfold w06; simp only [List.forall_mem_cons, List.not_mem_nil, false_imp_iff, implies_true, and_true]
  simp
theorem w06_fresh : ∀ op ∈ (w06 : List (HloOp τ sig (Elt F))), op.fresh = ∅ := by
  unfold w06; simp only [List.forall_mem_cons, List.not_mem_nil, false_imp_iff, implies_true, and_true]
  repeat' first | constructor | rfl

/-- The operations of one call of the first loop body. -/
def w07 : List (HloOp τ sig (Elt F)) :=
  [StableHlo.TRef.unary (.of main_while0b_v72 : StableHlo.TRef sig ⟨S64x1, .i1⟩) (.of main_while0b_call4_v0 : StableHlo.TRef sig ⟨S64x16, .i1⟩) (broadcastInDim S64x16 ![0, 1] bcast_S64x1_S64x16_0_1),
   StableHlo.TRef.ternary (.of main_while0b_call4_v0 : StableHlo.TRef sig ⟨S64x16, .i1⟩) (.of main_while0b_values : StableHlo.TRef sig ⟨S64x16, .f32⟩) (.of main_v12_5 : StableHlo.TRef sig ⟨S64x16, .f32⟩) (.of main_while0b_v73 : StableHlo.TRef sig ⟨S64x16, .f32⟩) select]

theorem w07_sub : ∀ op ∈ (w07 : List (HloOp τ sig (Elt F))), op.bufs ⊆ tcRefs τ sig := by
  unfold w07; simp only [List.forall_mem_cons, List.not_mem_nil, false_imp_iff, implies_true, and_true]
  simp
theorem w07_fresh : ∀ op ∈ (w07 : List (HloOp τ sig (Elt F))), op.fresh = ∅ := by
  unfold w07; simp only [List.forall_mem_cons, List.not_mem_nil, false_imp_iff, implies_true, and_true]
  repeat' first | constructor | rfl

/-- The operations of one call of the first loop body. -/
def w08 : List (HloOp τ sig (Elt F)) :=
  [StableHlo.TRef.unary (.of main_while0b_v72 : StableHlo.TRef sig ⟨S64x1, .i1⟩) (.of main_while0b_call5_v0 : StableHlo.TRef sig ⟨S64x16, .i1⟩) (broadcastInDim S64x16 ![0, 1] bcast_S64x1_S64x16_0_1),
   StableHlo.TRef.ternary (.of main_while0b_call5_v0 : StableHlo.TRef sig ⟨S64x16, .i1⟩) (.of main_while0b_v68 : StableHlo.TRef sig ⟨S64x16, .i32⟩) (.of main_v12_3 : StableHlo.TRef sig ⟨S64x16, .i32⟩) (.of main_while0b_v74 : StableHlo.TRef sig ⟨S64x16, .i32⟩) select]

theorem w08_sub : ∀ op ∈ (w08 : List (HloOp τ sig (Elt F))), op.bufs ⊆ tcRefs τ sig := by
  unfold w08; simp only [List.forall_mem_cons, List.not_mem_nil, false_imp_iff, implies_true, and_true]
  simp
theorem w08_fresh : ∀ op ∈ (w08 : List (HloOp τ sig (Elt F))), op.fresh = ∅ := by
  unfold w08; simp only [List.forall_mem_cons, List.not_mem_nil, false_imp_iff, implies_true, and_true]
  repeat' first | constructor | rfl

/-- A stretch of operations of the first loop body. -/
def w09 : List (HloOp τ sig (Elt F)) :=
  [StableHlo.nullary main_while0b_c_25 (constantI S_ 32 0#32),
   StableHlo.unary main_while0b_c_25 main_while0b_v75 (broadcastInDim S64x16 ![] bcast_S_S64x16 : (⟨S_, .i32⟩ : BufTy).Contents (Elt F) → (⟨S64x16, .i32⟩ : BufTy).Contents (Elt F))]

theorem w09_sub : ∀ op ∈ (w09 : List (HloOp τ sig (Elt F))), op.bufs ⊆ tcRefs τ sig := by
  unfold w09; simp only [List.forall_mem_cons, List.not_mem_nil, false_imp_iff, implies_true, and_true]
  simp
theorem w09_fresh : ∀ op ∈ (w09 : List (HloOp τ sig (Elt F))), op.fresh = ∅ := by
  unfold w09; simp only [List.forall_mem_cons, List.not_mem_nil, false_imp_iff, implies_true, and_true]
  repeat' first | constructor | rfl

/-- The operations of one call of the first loop body. -/
def w010 : List (HloOp τ sig (Elt F)) :=
  [StableHlo.TRef.unary (.of main_while0b_v72 : StableHlo.TRef sig ⟨S64x1, .i1⟩) (.of main_while0b_call6_v0 : StableHlo.TRef sig ⟨S64x16, .i1⟩) (broadcastInDim S64x16 ![0, 1] bcast_S64x1_S64x16_0_1),
   StableHlo.TRef.ternary (.of main_while0b_call6_v0 : StableHlo.TRef sig ⟨S64x16, .i1⟩) (.of main_while0b_v69 : StableHlo.TRef sig ⟨S64x16, .i32⟩) (.of main_while0b_v75 : StableHlo.TRef sig ⟨S64x16, .i32⟩) (.of main_while0b_v76 : StableHlo.TRef sig ⟨S64x16, .i32⟩) select]

theorem w010_sub : ∀ op ∈ (w010 : List (HloOp τ sig (Elt F))), op.bufs ⊆ tcRefs τ sig := by
  unfold w010; simp only [List.forall_mem_cons, List.not_mem_nil, false_imp_iff, implies_true, and_true]
  simp
theorem w010_fresh : ∀ op ∈ (w010 : List (HloOp τ sig (Elt F))), op.fresh = ∅ := by
  unfold w010; simp only [List.forall_mem_cons, List.not_mem_nil, false_imp_iff, implies_true, and_true]
  repeat' first | constructor | rfl

/-- The operations of one call of the first loop body. -/
def w011 : List (HloOp τ sig (Elt F)) :=
  [StableHlo.TRef.unary (.of main_while0b_v74 : StableHlo.TRef sig ⟨S64x16, .i32⟩) (.of main_while0b_call7_v0 : StableHlo.TRef sig ⟨S1x64x16, .i32⟩) (broadcastInDim S1x64x16 ![1, 2] bcast_S64x16_S1x64x16_1_2),
   StableHlo.TRef.nullary (.of main_while0b_call7_c : StableHlo.TRef sig ⟨S_, .i32⟩) (constantI S_ 32 0#32),
   StableHlo.TRef.nullary (.of main_while0b_call7_c_0 : StableHlo.TRef sig ⟨S_, .i32⟩) (constantI S_ 32 0#32),
   StableHlo.TRef.binaryIndexed (.of main_v12_6 : StableHlo.TRef sig ⟨S512x64x16, .i32⟩) (.of main_while0b_call7_v0 : StableHlo.TRef sig ⟨S1x64x16, .i32⟩) ![(.of main_v12_4 : StableHlo.TRef sig ⟨S_, .i32⟩), (.of main_while0b_call7_c : StableHlo.TRef sig ⟨S_, .i32⟩), (.of main_while0b_call7_c_0 : StableHlo.TRef sig ⟨S_, .i32⟩)] (.of main_while0b_v77 : StableHlo.TRef sig ⟨S512x64x16, .i32⟩) (fun x u i => Host.dynamicUpdateSlice x u (fun k => (i k (Shape.Idx.first h_S_)).toInt) updateFits_S512x64x16_S1x64x16)]

theorem w011_sub : ∀ op ∈ (w011 : List (HloOp τ sig (Elt F))), op.bufs ⊆ tcRefs τ sig := by
  unfold w011; simp only [List.forall_mem_cons, List.not_mem_nil, false_imp_iff, implies_true, and_true]
  simp
theorem w011_fresh : ∀ op ∈ (w011 : List (HloOp τ sig (Elt F))), op.fresh = ∅ := by
  unfold w011; simp only [List.forall_mem_cons, List.not_mem_nil, false_imp_iff, implies_true, and_true]
  repeat' first | constructor | rfl

/-- The operations of one call of the first loop body. -/
def w012 : List (HloOp τ sig (Elt F)) :=
  [StableHlo.TRef.unary (.of main_while0b_v76 : StableHlo.TRef sig ⟨S64x16, .i32⟩) (.of main_while0b_call8_v0 : StableHlo.TRef sig ⟨S1x64x16, .i32⟩) (broadcastInDim S1x64x16 ![1, 2] bcast_S64x16_S1x64x16_1_2),
   StableHlo.TRef.nullary (.of main_while0b_call8_c : StableHlo.TRef sig ⟨S_, .i32⟩) (constantI S_ 32 0#32),
   StableHlo.TRef.nullary (.of main_while0b_call8_c_0 : StableHlo.TRef sig ⟨S_, .i32⟩) (constantI S_ 32 0#32),
   StableHlo.TRef.binaryIndexed (.of main_v12_7 : StableHlo.TRef sig ⟨S512x64x16, .i32⟩) (.of main_while0b_call8_v0 : StableHlo.TRef sig ⟨S1x64x16, .i32⟩) ![(.of main_v12_4 : StableHlo.TRef sig ⟨S_, .i32⟩), (.of main_while0b_call8_c : StableHlo.TRef sig ⟨S_, .i32⟩), (.of main_while0b_call8_c_0 : StableHlo.TRef sig ⟨S_, .i32⟩)] (.of main_while0b_v78 : StableHlo.TRef sig ⟨S512x64x16, .i32⟩) (fun x u i => Host.dynamicUpdateSlice x u (fun k => (i k (Shape.Idx.first h_S_)).toInt) updateFits_S512x64x16_S1x64x16)]

theorem w012_sub : ∀ op ∈ (w012 : List (HloOp τ sig (Elt F))), op.bufs ⊆ tcRefs τ sig := by
  unfold w012; simp only [List.forall_mem_cons, List.not_mem_nil, false_imp_iff, implies_true, and_true]
  simp
theorem w012_fresh : ∀ op ∈ (w012 : List (HloOp τ sig (Elt F))), op.fresh = ∅ := by
  unfold w012; simp only [List.forall_mem_cons, List.not_mem_nil, false_imp_iff, implies_true, and_true]
  repeat' first | constructor | rfl

/-- A stretch of operations of the first loop body. -/
def w013 : List (HloOp τ sig (Elt F)) :=
  [StableHlo.nullary main_while0b_c_26 (constantI S_ 32 1#32),
   StableHlo.binary main_v12_4 main_while0b_c_26 main_while0b_v79 (addi : (⟨S_, .i32⟩ : BufTy).Contents (Elt F) → (⟨S_, .i32⟩ : BufTy).Contents (Elt F) → (⟨S_, .i32⟩ : BufTy).Contents (Elt F)),
   StableHlo.unary main_while0b_v79 main_v12_4 id,
   StableHlo.unary main_while0b_v73 main_v12_5 id,
   StableHlo.unary main_while0b_v77 main_v12_6 id,
   StableHlo.unary main_while0b_v78 main_v12_7 id]

theorem w013_sub : ∀ op ∈ (w013 : List (HloOp τ sig (Elt F))), op.bufs ⊆ tcRefs τ sig := by
  unfold w013; simp only [List.forall_mem_cons, List.not_mem_nil, false_imp_iff, implies_true, and_true]
  simp
theorem w013_fresh : ∀ op ∈ (w013 : List (HloOp τ sig (Elt F))), op.fresh = ∅ := by
  unfold w013; simp only [List.forall_mem_cons, List.not_mem_nil, false_imp_iff, implies_true, and_true]
  repeat' first | constructor | rfl

/-- A stretch of operations of the part between the loops. -/
def mid0 : List (HloOp τ sig (Elt F)) :=
  [StableHlo.nullary main_c_4 (constantI S_ 32 0#32),
   StableHlo.unary main_c_4 main_v13 (broadcastInDim S512x64x16 ![] bcast_S_S512x64x16 : (⟨S_, .i32⟩ : BufTy).Contents (Elt F) → (⟨S512x64x16, .i32⟩ : BufTy).Contents (Elt F)),
   StableHlo.nullary main_c_5 (constantI S_ 32 0#32),
   StableHlo.unary main_v12_6 main_v14_0 id,
   StableHlo.unary main_v12_7 main_v14_1 id,
   StableHlo.unary main_c_5 main_v14_2 id,
   StableHlo.unary main_v8 main_v14_3 id,
   StableHlo.unary main_v13 main_v14_4 id]

theorem mid0_sub : ∀ op ∈ (mid0 : List (HloOp τ sig (Elt F))), op.bufs ⊆ tcRefs τ sig := by
  unfold mid0; simp only [List.forall_mem_cons, List.not_mem_nil, false_imp_iff, implies_true, and_true]
  simp
theorem mid0_fresh : ∀ op ∈ (mid0 : List (HloOp τ sig (Elt F))), op.fresh = ∅ := by
  unfold mid0; simp only [List.forall_mem_cons, List.not_mem_nil, false_imp_iff, implies_true, and_true]
  repeat' first | constructor | rfl

/-- A stretch of operations of the second loop body. -/
def w10 : List (HloOp τ sig (Elt F)) :=
  [StableHlo.nullary main_while1b_c_20 (constantI S_ 32 512#32),
   StableHlo.binary main_while1b_c_20 main_v14_2 main_while1b_v60 (subi : (⟨S_, .i32⟩ : BufTy).Contents (Elt F) → (⟨S_, .i32⟩ : BufTy).Contents (Elt F) → (⟨S_, .i32⟩ : BufTy).Contents (Elt F)),
   StableHlo.nullary main_while1b_c_21 (constantI S_ 32 1#32),
   StableHlo.binary main_while1b_v60 main_while1b_c_21 main_while1b_v61 (subi : (⟨S_, .i32⟩ : BufTy).Contents (Elt F) → (⟨S_, .i32⟩ : BufTy).Contents (Elt F) → (⟨S_, .i32⟩ : BufTy).Contents (Elt F))]

theorem w10_sub : ∀ op ∈ (w10 : List (HloOp τ sig (Elt F))), op.bufs ⊆ tcRefs τ sig := by
  unfold w10; simp only [List.forall_mem_cons, List.not_mem_nil, false_imp_iff, implies_true, and_true]
  simp
theorem w10_fresh : ∀ op ∈ (w10 : List (HloOp τ sig (Elt F))), op.fresh = ∅ := by
  unfold w10; simp only [List.forall_mem_cons, List.not_mem_nil, false_imp_iff, implies_true, and_true]
  repeat' first | constructor | rfl

/-- The operations of one call of the second loop body. -/
def w11 : List (HloOp τ sig (Elt F)) :=
  [StableHlo.TRef.nullary (.of main_while1b_call9_c : StableHlo.TRef sig ⟨S_, .i32⟩) (constantI S_ 32 0#32),
   StableHlo.TRef.nullary (.of main_while1b_call9_c_0 : StableHlo.TRef sig ⟨S_, .i32⟩) (constantI S_ 32 0#32),
   StableHlo.TRef.unaryIndexed (.of main_v14_0 : StableHlo.TRef sig ⟨S512x64x16, .i32⟩) ![(.of main_while1b_v61 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x64x16, .i32⟩) (fun x i => Host.dynamicSlice S1x64x16 x (fun k => (i k (Shape.Idx.first h_S_)).toInt) sliceFits_S512x64x16_S1x64x16),
   StableHlo.TRef.reshape (.of main_while1b_call9_v0 : StableHlo.TRef sig ⟨S1x64x16, .i32⟩) (.of main_while1b_v62 : StableHlo.TRef sig ⟨S64x16, .i32⟩) (rfl : (.i32 : EltTy) = .i32) shapeCasts_S1x64x16_S64x16]

theorem w11_sub : ∀ op ∈ (w11 : List (HloOp τ sig (Elt F))), op.bufs ⊆ tcRefs τ sig := by
  unfold w11; simp only [List.forall_mem_cons, List.not_mem_nil, false_imp_iff, implies_true, and_true]
  simp
theorem w11_fresh : ∀ op ∈ (w11 : List (HloOp τ sig (Elt F))), op.fresh = ∅ := by
  unfold w11; simp only [List.forall_mem_cons, List.not_mem_nil, false_imp_iff, implies_true, and_true]
  repeat' first | constructor | rfl

/-- The operations of one call of the second loop body. -/
def w12 : List (HloOp τ sig (Elt F)) :=
  [StableHlo.TRef.nullary (.of main_while1b_call10_c : StableHlo.TRef sig ⟨S_, .i32⟩) (constantI S_ 32 0#32),
   StableHlo.TRef.nullary (.of main_while1b_call10_c_0 : StableHlo.TRef sig ⟨S_, .i32⟩) (constantI S_ 32 0#32),
   StableHlo.TRef.unaryIndexed (.of main_v14_1 : StableHlo.TRef sig ⟨S512x64x16, .i32⟩) ![(.of main_while1b_v61 : StableHlo.TRef sig ⟨S_, .i32⟩), (.of main_while1b_call10_c : StableHlo.TRef sig ⟨S_, .i32⟩), (.of main_while1b_call10_c_0 : StableHlo.TRef sig ⟨S_, .i32⟩)] (.of main_while1b_call10_v0 : StableHlo.TRef sig ⟨S1x64x16, .i32⟩) (fun x i => Host.dynamicSlice S1x64x16 x (fun k => (i k (Shape.Idx.first h_S_)).toInt) sliceFits_S512x64x16_S1x64x16),
   StableHlo.TRef.reshape (.of main_while1b_call10_v0 : StableHlo.TRef sig ⟨S1x64x16, .i32⟩) (.of main_while1b_v63 : StableHlo.TRef sig ⟨S64x16, .i32⟩) (rfl : (.i32 : EltTy) = .i32) shapeCasts_S1x64x16_S64x16]

theorem w12_sub : ∀ op ∈ (w12 : List (HloOp τ sig (Elt F))), op.bufs ⊆ tcRefs τ sig := by
  unfold w12; simp only [List.forall_mem_cons, List.not_mem_nil, false_imp_iff, implies_true, and_true]
  simp
theorem w12_fresh : ∀ op ∈ (w12 : List (HloOp τ sig (Elt F))), op.fresh = ∅ := by
  unfold w12; simp only [List.forall_mem_cons, List.not_mem_nil, false_imp_iff, implies_true, and_true]
  repeat' first | constructor | rfl

/-- The operations of one call of the second loop body. -/
def w13 : List (HloOp τ sig (Elt F)) :=
  [StableHlo.TRef.nullary (.of main_while1b_call11_c : StableHlo.TRef sig ⟨S_, .i32⟩) (constantI S_ 32 0#32),
   StableHlo.TRef.unary (.of main_while1b_call11_c : StableHlo.TRef sig ⟨S_, .i32⟩) (.of main_while1b_call11_v0 : StableHlo.TRef sig ⟨S64x16, .i32⟩) (broadcastInDim S64x16 ![] bcast_S_S64x16),
   StableHlo.TRef.binary (.of main_v14_3 : StableHlo.TRef sig ⟨S64x16, .i32⟩) (.of main_while1b_call11_v0 : StableHlo.TRef sig ⟨S64x16, .i32⟩) (.of main_while1b_call11_v1 : StableHlo.TRef sig ⟨S64x16, .i1⟩) (cmpi .slt),
   StableHlo.TRef.nullary (.of main_while1b_call11_c_0 : StableHlo.TRef sig ⟨S_, .i32⟩) (constantI S_ 32 16#32),
   StableHlo.TRef.unary (.of main_while1b_call11_c_0 : StableHlo.TRef sig ⟨S_, .i32⟩) (.of main_while1b_call11_v2 : StableHlo.TRef sig ⟨S64x16, .i32⟩) (broadcastInDim S64x16 ![] bcast_S_S64x16),
   StableHlo.TRef.binary (.of main_v14_3 : StableHlo.TRef sig ⟨S64x16, .i32⟩) (.of main_while1b_call11_v2 : StableHlo.TRef sig ⟨S64x16, .i32⟩) (.of main_while1b_call11_v3 : StableHlo.TRef sig ⟨S64x16, .i32⟩) addi,
   StableHlo.TRef.ternary (.of main_while1b_call11_v1 : StableHlo.TRef sig ⟨S64x16, .i1⟩) (.of main_while1b_call11_v3 : StableHlo.TRef sig ⟨S64x16, .i32⟩) (.of main_v14_3 : StableHlo.TRef sig ⟨S64x16, .i32⟩) (.of main_while1b_call11_v4 : StableHlo.TRef sig ⟨S64x16, .i32⟩) select,
   StableHlo.TRef.reshape (.of main_while1b_call11_v4 : StableHlo.TRef sig ⟨S64x16, .i32⟩) (.of main_while1b_call11_v5 : StableHlo.TRef sig ⟨S64x16x1, .i32⟩) (rfl : (.i32 : EltTy) = .i32) shapeCasts_S64x16_S64x16x1,
   StableHlo.TRef.nullary (.of main_while1b_call11_c_1 : StableHlo.TRef sig ⟨S1, .i32⟩) (constantI S1 32 15#32),
   StableHlo.TRef.nullary (.of main_while1b_call11_c_2 : StableHlo.TRef sig ⟨S_, .i32⟩) (constantI S_ 32 0#32),
   StableHlo.TRef.unary (.of main_while1b_call11_c_2 : StableHlo.TRef sig ⟨S_, .i32⟩) (.of main_while1b_call11_v6 : StableHlo.TRef sig ⟨S64x16x1, .i32⟩) (broadcastInDim S64x16x1 ![] bcast_S_S64x16x1),
   StableHlo.TRef.binary (.of main_while1b_call11_v5 : StableHlo.TRef sig ⟨S64x16x1, .i32⟩) (.of main_while1b_call11_v6 : StableHlo.TRef sig ⟨S64x16x1, .i32⟩) (.of main_while1b_call11_v7 : StableHlo.TRef sig ⟨S64x16x1, .i1⟩) (cmpi .sge),
   StableHlo.TRef.unary (.of main_while1b_call11_c_1 : StableHlo.TRef sig ⟨S1, .i32⟩) (.of main_while1b_call11_v8 : StableHlo.TRef sig ⟨S1x1x1, .i32⟩) (broadcastInDim S1x1x1 ![2] bcast_S1_S1x1x1_2),
   StableHlo.TRef.unary (.of main_while1b_call11_v8 : StableHlo.TRef sig ⟨S1x1x1, .i32⟩) (.of main_while1b_call11_v9 : StableHlo.TRef sig ⟨S64x16x1, .i32⟩) (broadcastInDim S64x16x1 ![0, 1, 2] bcast_S1x1x1_S64x16x1_0_1_2),
   StableHlo.TRef.binary (.of main_while1b_call11_v5 : StableHlo.TRef sig ⟨S64x16x1, .i32⟩) (.of main_while1b_call11_v9 : StableHlo.TRef sig ⟨S64x16x1, .i32⟩) (.of main_while1b_call11_v10 : StableHlo.TRef sig ⟨S64x16x1, .i1⟩) (cmpi .sle),
   StableHlo.TRef.binary (.of main_while1b_call11_v7 : StableHlo.TRef sig ⟨S64x16x1, .i1⟩) (.of main_while1b_call11_v10 : StableHlo.TRef sig ⟨S64x16x1, .i1⟩) (.of main_while1b_call11_v11 : StableHlo.TRef sig ⟨S64x16x1, .i1⟩) andi,
   StableHlo.TRef.nullary (.of main_while1b_call11_c_3 : StableHlo.TRef sig ⟨S_, .i1⟩) (constantI S_ 1 1#1),
   StableHlo.TRef.binary (.of main_while1b_call11_v11 : StableHlo.TRef sig ⟨S64x16x1, .i1⟩) (.of main_while1b_call11_c_3 : StableHlo.TRef sig ⟨S_, .i1⟩) (.of main_while1b_call11_v12 : StableHlo.TRef sig ⟨S64x16, .i1⟩) (fun x v => Host.reduce IntOp.andi x v reducesTo_S64x16x1_S64x16_d2 h_S_),
   StableHlo.TRef.binary (.of main_while1b_v63 : StableHlo.TRef sig ⟨S64x16, .i32⟩) (.of main_while1b_call11_v5 : StableHlo.TRef sig ⟨S64x16x1, .i32⟩) (.of main_while1b_call11_v13 : StableHlo.TRef sig ⟨S64x16, .i32⟩) (fun x i => Host.gather gather_S64x16_S64x16x1_S64x16_n_1_0_0_1_2_11 x i),
   StableHlo.TRef.nullary (.of main_while1b_call11_c_4 : StableHlo.TRef sig ⟨S_, .i32⟩) (constantI S_ 32 2147483648#32),
   StableHlo.TRef.unary (.of main_while1b_call11_c_4 : StableHlo.TRef sig ⟨S_, .i32⟩) (.of main_while1b_call11_v14 : StableHlo.TRef sig ⟨S64x16, .i32⟩) (broadcastInDim S64x16 ![] bcast_S_S64x16),
   StableHlo.TRef.ternary (.of main_while1b_call11_v12 : StableHlo.TRef sig ⟨S64x16, .i1⟩) (.of main_while1b_call11_v13 : StableHlo.TRef sig ⟨S64x16, .i32⟩) (.of main_while1b_call11_v14 : StableHlo.TRef sig ⟨S64x16, .i32⟩) (.of main_while1b_v64 : StableHlo.TRef sig ⟨S64x16, .i32⟩) select]

theorem w13_sub : ∀ op ∈ (w13 : List (HloOp τ sig (Elt F))), op.bufs ⊆ tcRefs τ sig := by
  unfold w13; simp only [List.forall_mem_cons, List.not_mem_nil, false_imp_iff, implies_true, and_true]
  simp
theorem w13_fresh : ∀ op ∈ (w13 : List (HloOp τ sig (Elt F))), op.fresh = ∅ := by
  unfold w13; simp only [List.forall_mem_cons, List.not_mem_nil, false_imp_iff, implies_true, and_true]
  repeat' first | constructor | rfl

/-- The operations of one call of the second loop body. -/
def w14 : List (HloOp τ sig (Elt F)) :=
  [StableHlo.TRef.nullary (.of main_while1b_call12_c : StableHlo.TRef sig ⟨S_, .i32⟩) (constantI S_ 32 0#32),
   StableHlo.TRef.unary (.of main_while1b_call12_c : StableHlo.TRef sig ⟨S_, .i32⟩) (.of main_while1b_call12_v0 : StableHlo.TRef sig ⟨S64x16, .i32⟩) (broadcastInDim S64x16 ![] bcast_S_S64x16),
   StableHlo.TRef.binary (.of main_v14_3 : StableHlo.TRef sig ⟨S64x16, .i32⟩) (.of main_while1b_call12_v0 : StableHlo.TRef sig ⟨S64x16, .i32⟩) (.of main_while1b_call12_v1 : StableHlo.TRef sig ⟨S64x16, .i1⟩) (cmpi .slt),
   StableHlo.TRef.nullary (.of main_while1b_call12_c_0 : StableHlo.TRef sig ⟨S_, .i32⟩) (constantI S_ 32 16#32),
   StableHlo.TRef.unary (.of main_while1b_call12_c_0 : StableHlo.TRef sig ⟨S_, .i32⟩) (.of main_while1b_call12_v2 : StableHlo.TRef sig ⟨S64x16, .i32⟩) (broadcastInDim S64x16 ![] bcast_S_S64x16),
   StableHlo.TRef.binary (.of main_v14_3 : StableHlo.TRef sig ⟨S64x16, .i32⟩) (.of main_while1b_call12_v2 : StableHlo.TRef sig ⟨S64x16, .i32⟩) (.of main_while1b_call12_v3 : StableHlo.TRef sig ⟨S64x16, .i32⟩) addi,
   StableHlo.TRef.ternary (.of main_while1b_call12_v1 : StableHlo.TRef sig ⟨S64x16, .i1⟩) (.of main_while1b_call12_v3 : StableHlo.TRef sig ⟨S64x16, .i32⟩) (.of main_v14_3 : StableHlo.TRef sig ⟨S64x16, .i32⟩) (.of main_while1b_call12_v4 : StableHlo.TRef sig ⟨S64x16, .i32⟩) select,
   StableHlo.TRef.reshape (.of main_while1b_call12_v4 : StableHlo.TRef sig ⟨S64x16, .i32⟩) (.of main_while1b_call12_v5 : StableHlo.TRef sig ⟨S64x16x1, .i32⟩) (rfl : (.i32 : EltTy) = .i32) shapeCasts_S64x16_S64x16x1,
   StableHlo.TRef.nullary (.of main_while1b_call12_c_1 : StableHlo.TRef sig ⟨S1, .i32⟩) (constantI S1 32 15#32),
   StableHlo.TRef.nullary (.of main_while1b_call12_c_2 : StableHlo.TRef sig ⟨S_, .i32⟩) (constantI S_ 32 0#32),
   StableHlo.TRef.unary (.of main_while1b_call12_c_2 : StableHlo.TRef sig ⟨S_, .i32⟩) (.of main_while1b_call12_v6 : StableHlo.TRef sig ⟨S64x16x1, .i32⟩) (broadcastInDim S64x16x1 ![] bcast_S_S64x16x1),
   StableHlo.TRef.binary (.of main_while1b_call12_v5 : StableHlo.TRef sig ⟨S64x16x1, .i32⟩) (.of main_while1b_call12_v6 : StableHlo.TRef sig ⟨S64x16x1, .i32⟩) (.of main_while1b_call12_v7 : StableHlo.TRef sig ⟨S64x16x1, .i1⟩) (cmpi .sge),
   StableHlo.TRef.unary (.of main_while1b_call12_c_1 : StableHlo.TRef sig ⟨S1, .i32⟩) (.of main_while1b_call12_v8 : StableHlo.TRef sig ⟨S1x1x1, .i32⟩) (broadcastInDim S1x1x1 ![2] bcast_S1_S1x1x1_2),
   StableHlo.TRef.unary (.of main_while1b_call12_v8 : StableHlo.TRef sig ⟨S1x1x1, .i32⟩) (.of main_while1b_call12_v9 : StableHlo.TRef sig ⟨S64x16x1, .i32⟩) (broadcastInDim S64x16x1 ![0, 1, 2] bcast_S1x1x1_S64x16x1_0_1_2),
   StableHlo.TRef.binary (.of main_while1b_call12_v5 : StableHlo.TRef sig ⟨S64x16x1, .i32⟩) (.of main_while1b_call12_v9 : StableHlo.TRef sig ⟨S64x16x1, .i32⟩) (.of main_while1b_call12_v10 : StableHlo.TRef sig ⟨S64x16x1, .i1⟩) (cmpi .sle),
   StableHlo.TRef.binary (.of main_while1b_call12_v7 : StableHlo.TRef sig ⟨S64x16x1, .i1⟩) (.of main_while1b_call12_v10 : StableHlo.TRef sig ⟨S64x16x1, .i1⟩) (.of main_while1b_call12_v11 : StableHlo.TRef sig ⟨S64x16x1, .i1⟩) andi,
   StableHlo.TRef.nullary (.of main_while1b_call12_c_3 : StableHlo.TRef sig ⟨S_, .i1⟩) (constantI S_ 1 1#1),
   StableHlo.TRef.binary (.of main_while1b_call12_v11 : StableHlo.TRef sig ⟨S64x16x1, .i1⟩) (.of main_while1b_call12_c_3 : StableHlo.TRef sig ⟨S_, .i1⟩) (.of main_while1b_call12_v12 : StableHlo.TRef sig ⟨S64x16, .i1⟩) (fun x v => Host.reduce IntOp.andi x v reducesTo_S64x16x1_S64x16_d2 h_S_),
   StableHlo.TRef.binary (.of main_while1b_v62 : StableHlo.TRef sig ⟨S64x16, .i32⟩) (.of main_while1b_call12_v5 : StableHlo.TRef sig ⟨S64x16x1, .i32⟩) (.of main_while1b_call12_v13 : StableHlo.TRef sig ⟨S64x16, .i32⟩) (fun x i => Host.gather gather_S64x16_S64x16x1_S64x16_n_1_0_0_1_2_11 x i),
   StableHlo.TRef.nullary (.of main_while1b_call12_c_4 : StableHlo.TRef sig ⟨S_, .i32⟩) (constantI S_ 32 2147483648#32),
   StableHlo.TRef.unary (.of main_while1b_call12_c_4 : StableHlo.TRef sig ⟨S_, .i32⟩) (.of main_while1b_call12_v14 : StableHlo.TRef sig ⟨S64x16, .i32⟩) (broadcastInDim S64x16 ![] bcast_S_S64x16),
   StableHlo.TRef.ternary (.of main_while1b_call12_v12 : StableHlo.TRef sig ⟨S64x16, .i1⟩) (.of main_while1b_call12_v13 : StableHlo.TRef sig ⟨S64x16, .i32⟩) (.of main_while1b_call12_v14 : StableHlo.TRef sig ⟨S64x16, .i32⟩) (.of main_while1b_v65 : StableHlo.TRef sig ⟨S64x16, .i32⟩) select]

theorem w14_sub : ∀ op ∈ (w14 : List (HloOp τ sig (Elt F))), op.bufs ⊆ tcRefs τ sig := by
  unfold w14; simp only [List.forall_mem_cons, List.not_mem_nil, false_imp_iff, implies_true, and_true]
  simp
theorem w14_fresh : ∀ op ∈ (w14 : List (HloOp τ sig (Elt F))), op.fresh = ∅ := by
  unfold w14; simp only [List.forall_mem_cons, List.not_mem_nil, false_imp_iff, implies_true, and_true]
  repeat' first | constructor | rfl

/-- The operations of one call of the second loop body. -/
def w15 : List (HloOp τ sig (Elt F)) :=
  [StableHlo.TRef.unary (.of main_while1b_v64 : StableHlo.TRef sig ⟨S64x16, .i32⟩) (.of main_while1b_call13_v0 : StableHlo.TRef sig ⟨S1x64x16, .i32⟩) (broadcastInDim S1x64x16 ![1, 2] bcast_S64x16_S1x64x16_1_2),
   StableHlo.TRef.nullary (.of main_while1b_call13_c : StableHlo.TRef sig ⟨S_, .i32⟩) (constantI S_ 32 0#32),
   StableHlo.TRef.nullary (.of main_while1b_call13_c_0 : StableHlo.TRef sig ⟨S_, .i32⟩) (constantI S_ 32 0#32),
   StableHlo.TRef.binaryIndexed (.of main_v14_4 : StableHlo.TRef sig ⟨S512x64x16, .i32⟩) (.of main_while1b_call13_v0 : StableHlo.TRef sig ⟨S1x64x16, .i32⟩) ![(.of main_while1b_v61 : StableHlo.TRef sig ⟨S_, .i32⟩), (.of main_while1b_call13_c : StableHlo.TRef sig ⟨S_, .i32⟩), (.of main_while1b_call13_c_0 : StableHlo.TRef sig ⟨S_, .i32⟩)] (.of main_while1b_v66 : StableHlo.TRef sig ⟨S512x64x16, .i32⟩) (fun x u i => Host.dynamicUpdateSlice x u (fun k => (i k (Shape.Idx.first h_S_)).toInt) updateFits_S512x64x16_S1x64x16)]

theorem w15_sub : ∀ op ∈ (w15 : List (HloOp τ sig (Elt F))), op.bufs ⊆ tcRefs τ sig := by
  unfold w15; simp only [List.forall_mem_cons, List.not_mem_nil, false_imp_iff, implies_true, and_true]
  simp
theorem w15_fresh : ∀ op ∈ (w15 : List (HloOp τ sig (Elt F))), op.fresh = ∅ := by
  unfold w15; simp only [List.forall_mem_cons, List.not_mem_nil, false_imp_iff, implies_true, and_true]
  repeat' first | constructor | rfl

/-- A stretch of operations of the second loop body. -/
def w16 : List (HloOp τ sig (Elt F)) :=
  [StableHlo.nullary main_while1b_c_22 (constantI S_ 32 1#32),
   StableHlo.binary main_v14_2 main_while1b_c_22 main_while1b_v67 (addi : (⟨S_, .i32⟩ : BufTy).Contents (Elt F) → (⟨S_, .i32⟩ : BufTy).Contents (Elt F) → (⟨S_, .i32⟩ : BufTy).Contents (Elt F)),
   StableHlo.unary main_while1b_v67 main_v14_2 id,
   StableHlo.unary main_while1b_v65 main_v14_3 id,
   StableHlo.unary main_while1b_v66 main_v14_4 id]

theorem w16_sub : ∀ op ∈ (w16 : List (HloOp τ sig (Elt F))), op.bufs ⊆ tcRefs τ sig := by
  unfold w16; simp only [List.forall_mem_cons, List.not_mem_nil, false_imp_iff, implies_true, and_true]
  simp
theorem w16_fresh : ∀ op ∈ (w16 : List (HloOp τ sig (Elt F))), op.fresh = ∅ := by
  unfold w16; simp only [List.forall_mem_cons, List.not_mem_nil, false_imp_iff, implies_true, and_true]
  repeat' first | constructor | rfl

/-- A stretch of operations of the part after the second loop. -/
def postA0 : List (HloOp τ sig (Elt F)) :=
  [StableHlo.unary main_v12_5 main_v15 ((extractStridedSlice S64x1 ![0, 0] · slices_S64x16_S64x1_0_0) : (⟨S64x16, .f32⟩ : BufTy).Contents (Elt F) → (⟨S64x1, .f32⟩ : BufTy).Contents (Elt F)),
   StableHlo.unary main_v14_4 main_v16 ((transpose S64x16x512 [1, 2, 0] · transposes_S512x64x16_S64x16x512_1_2_0) : (⟨S512x64x16, .i32⟩ : BufTy).Contents (Elt F) → (⟨S64x16x512, .i32⟩ : BufTy).Contents (Elt F)),
   StableHlo.unary main_v16 main_v17 ((extractStridedSlice S64x1x512 ![0, 0, 0] · slices_S64x16x512_S64x1x512_0_0_0) : (⟨S64x16x512, .i32⟩ : BufTy).Contents (Elt F) → (⟨S64x1x512, .i32⟩ : BufTy).Contents (Elt F)),
   StableHlo.reshape main_v17 main_v18 (rfl : (.i32 : EltTy) = .i32) shapeCasts_S64x1x512_S64x512,
   StableHlo.nullary main_v19 (iotaInDim S512 32 0),
   StableHlo.unary main_v19 main_v20 (broadcastInDim S1x512 ![1] bcast_S512_S1x512_1 : (⟨S512, .i32⟩ : BufTy).Contents (Elt F) → (⟨S1x512, .i32⟩ : BufTy).Contents (Elt F)),
   StableHlo.unary main_arg1 main_v21 (broadcastInDim S64x1 ![0] bcast_S64_S64x1_0 : (⟨S64, .i32⟩ : BufTy).Contents (Elt F) → (⟨S64x1, .i32⟩ : BufTy).Contents (Elt F)),
   StableHlo.unary main_v20 main_v22 (broadcastInDim S64x512 ![0, 1] bcast_S1x512_S64x512_0_1 : (⟨S1x512, .i32⟩ : BufTy).Contents (Elt F) → (⟨S64x512, .i32⟩ : BufTy).Contents (Elt F)),
   StableHlo.unary main_v21 main_v23 (broadcastInDim S64x512 ![0, 1] bcast_S64x1_S64x512_0_1 : (⟨S64x1, .i32⟩ : BufTy).Contents (Elt F) → (⟨S64x512, .i32⟩ : BufTy).Contents (Elt F)),
   StableHlo.binary main_v22 main_v23 main_v24 (cmpi .slt : (⟨S64x512, .i32⟩ : BufTy).Contents (Elt F) → (⟨S64x512, .i32⟩ : BufTy).Contents (Elt F) → (⟨S64x512, .i1⟩ : BufTy).Contents (Elt F)),
   StableHlo.nullary main_c_6 (constantI S_ 32 4294967295#32),
   StableHlo.unary main_c_6 main_v25 (broadcastInDim S64x1 ![] bcast_S_S64x1 : (⟨S_, .i32⟩ : BufTy).Contents (Elt F) → (⟨S64x1, .i32⟩ : BufTy).Contents (Elt F)),
   StableHlo.unary main_v18 main_v26 ((extractStridedSlice S64x511 ![0, 0] · slices_S64x512_S64x511_0_0) : (⟨S64x512, .i32⟩ : BufTy).Contents (Elt F) → (⟨S64x511, .i32⟩ : BufTy).Contents (Elt F)),
   StableHlo.binary main_v25 main_v26 main_v27 ((fun a b => concatenate S64x512 1 [⟨S64x1, a⟩, ⟨S64x511, b⟩] concatenates_S64x1_S64x511_S64x512_d1) : (⟨S64x1, .i32⟩ : BufTy).Contents (Elt F) → (⟨S64x511, .i32⟩ : BufTy).Contents (Elt F) → (⟨S64x512, .i32⟩ : BufTy).Contents (Elt F)),
   StableHlo.nullary main_c_7 (constantI S_ 32 0#32),
   StableHlo.unary main_c_7 main_v28 (broadcastInDim S64x512 ![] bcast_S_S64x512 : (⟨S_, .i32⟩ : BufTy).Contents (Elt F) → (⟨S64x512, .i32⟩ : BufTy).Contents (Elt F)),
   StableHlo.binary main_v18 main_v28 main_v29 (cmpi .ne : (⟨S64x512, .i32⟩ : BufTy).Contents (Elt F) → (⟨S64x512, .i32⟩ : BufTy).Contents (Elt F) → (⟨S64x512, .i1⟩ : BufTy).Contents (Elt F)),
   StableHlo.binary main_v24 main_v29 main_v30 (andi : (⟨S64x512, .i1⟩ : BufTy).Contents (Elt F) → (⟨S64x512, .i1⟩ : BufTy).Contents (Elt F) → (⟨S64x512, .i1⟩ : BufTy).Contents (Elt F)),
   StableHlo.binary main_v18 main_v27 main_v31 (cmpi .ne : (⟨S64x512, .i32⟩ : BufTy).Contents (Elt F) → (⟨S64x512, .i32⟩ : BufTy).Contents (Elt F) → (⟨S64x512, .i1⟩ : BufTy).Contents (Elt F)),
   StableHlo.binary main_v30 main_v31 main_v32 (andi : (⟨S64x512, .i1⟩ : BufTy).Contents (Elt F) → (⟨S64x512, .i1⟩ : BufTy).Contents (Elt F) → (⟨S64x512, .i1⟩ : BufTy).Contents (Elt F))]

theorem postA0_sub : ∀ op ∈ (postA0 : List (HloOp τ sig (Elt F))), op.bufs ⊆ tcRefs τ sig := by
  unfold postA0; simp only [List.forall_mem_cons, List.not_mem_nil, false_imp_iff, implies_true, and_true]
  simp
theorem postA0_fresh : ∀ op ∈ (postA0 : List (HloOp τ sig (Elt F))), op.fresh = ∅ := by
  unfold postA0; simp only [List.forall_mem_cons, List.not_mem_nil, false_imp_iff, implies_true, and_true]
  repeat' first | constructor | rfl

/-- The operations of one call of the part after the second loop. -/
def postA1 : List (HloOp τ sig (Elt F)) :=
  [StableHlo.TRef.unary (.of main_v32 : StableHlo.TRef sig ⟨S64x512, .i1⟩) (.of main_call14_v0 : StableHlo.TRef sig ⟨S64x512, .i32⟩) (extui 32 · natLt_1_32),
   StableHlo.TRef.nullary (.of main_call14_call0_c : StableHlo.TRef sig ⟨S_, .i32⟩) (constantI S_ 32 0#32),
   StableHlo.TRef.unary (.of main_call14_call0_c : StableHlo.TRef sig ⟨S_, .i32⟩) (.of main_call14_call0_v0 : StableHlo.TRef sig ⟨S_, .i32⟩) (broadcastInDim S_ ![] bcast_S_S_),
   StableHlo.TRef.binary (.of main_call14_v0 : StableHlo.TRef sig ⟨S64x512, .i32⟩) (.of main_call14_call0_v0 : StableHlo.TRef sig ⟨S_, .i32⟩) (.of main_v33 : StableHlo.TRef sig ⟨S64x512, .i32⟩) (fun x v => Host.reduceWindow IntOp.addi ![1, 512] ![1, 1] ![0, 511] ![0, 0] x v reduceWindows_S64x512_S64x512_w1s1p0_0_w512s1p511_0 h_S_)]

theorem postA1_sub : ∀ op ∈ (postA1 : List (HloOp τ sig (Elt F))), op.bufs ⊆ tcRefs τ sig := by
  unfold postA1; simp only [List.forall_mem_cons, List.not_mem_nil, false_imp_iff, implies_true, and_true]
  simp
theorem postA1_fresh : ∀ op ∈ (postA1 : List (HloOp τ sig (Elt F))), op.fresh = ∅ := by
  unfold postA1; simp only [List.forall_mem_cons, List.not_mem_nil, false_imp_iff, implies_true, and_true]
  repeat' first | constructor | rfl

/-- A stretch of operations of the part after the second loop. -/
def postA2 : List (HloOp τ sig (Elt F)) :=
  [StableHlo.nullary main_c_8 (constantI S_ 32 1#32),
   StableHlo.unary main_c_8 main_v34 (broadcastInDim S64x512 ![] bcast_S_S64x512 : (⟨S_, .i32⟩ : BufTy).Contents (Elt F) → (⟨S64x512, .i32⟩ : BufTy).Contents (Elt F)),
   StableHlo.binary main_v33 main_v34 main_v35 (subi : (⟨S64x512, .i32⟩ : BufTy).Contents (Elt F) → (⟨S64x512, .i32⟩ : BufTy).Contents (Elt F) → (⟨S64x512, .i32⟩ : BufTy).Contents (Elt F))]

theorem postA2_sub : ∀ op ∈ (postA2 : List (HloOp τ sig (Elt F))), op.bufs ⊆ tcRefs τ sig := by
  unfold postA2; simp only [List.forall_mem_cons, List.not_mem_nil, false_imp_iff, implies_true, and_true]
  simp
theorem postA2_fresh : ∀ op ∈ (postA2 : List (HloOp τ sig (Elt F))), op.fresh = ∅ := by
  unfold postA2; simp only [List.forall_mem_cons, List.not_mem_nil, false_imp_iff, implies_true, and_true]
  repeat' first | constructor | rfl

/-- A stretch of operations of the last part. -/
def postB0 : List (HloOp τ sig (Elt F)) :=
  [StableHlo.nullary main_c_9 (constantI S_ 32 512#32)]

theorem postB0_sub : ∀ op ∈ (postB0 : List (HloOp τ sig (Elt F))), op.bufs ⊆ tcRefs τ sig := by
  unfold postB0; simp only [List.forall_mem_cons, List.not_mem_nil, false_imp_iff, implies_true, and_true]
  simp
theorem postB0_fresh : ∀ op ∈ (postB0 : List (HloOp τ sig (Elt F))), op.fresh = ∅ := by
  unfold postB0; simp only [List.forall_mem_cons, List.not_mem_nil, false_imp_iff, implies_true, and_true]
  repeat' first | constructor | rfl

/-- The operations of one call of the last part. -/
def postB1 : List (HloOp τ sig (Elt F)) :=
  [StableHlo.TRef.unary (.of main_c_9 : StableHlo.TRef sig ⟨S_, .i32⟩) (.of main_call15_v0 : StableHlo.TRef sig ⟨S_, .i32⟩) id,
   StableHlo.TRef.unary (.of main_call15_v0 : StableHlo.TRef sig ⟨S_, .i32⟩) (.of main_call15_v1 : StableHlo.TRef sig ⟨S64x512, .i32⟩) (broadcastInDim S64x512 ![] bcast_S_S64x512),
   StableHlo.TRef.ternary (.of main_v32 : StableHlo.TRef sig ⟨S64x512, .i1⟩) (.of main_v35 : StableHlo.TRef sig ⟨S64x512, .i32⟩) (.of main_call15_v1 : StableHlo.TRef sig ⟨S64x512, .i32⟩) (.of main_v36 : StableHlo.TRef sig ⟨S64x512, .i32⟩) select]

theorem postB1_sub : ∀ op ∈ (postB1 : List (HloOp τ sig (Elt F))), op.bufs ⊆ tcRefs τ sig := by
  unfold postB1; simp only [List.forall_mem_cons, List.not_mem_nil, false_imp_iff, implies_true, and_true]
  simp
theorem postB1_fresh : ∀ op ∈ (postB1 : List (HloOp τ sig (Elt F))), op.fresh = ∅ := by
  unfold postB1; simp only [List.forall_mem_cons, List.not_mem_nil, false_imp_iff, implies_true, and_true]
  repeat' first | constructor | rfl

/-- A stretch of operations of the last part. -/
def postB2 : List (HloOp τ sig (Elt F)) :=
  [StableHlo.nullary main_c_10 (constantI S_ 32 4294967295#32),
   StableHlo.unary main_c_10 main_v37 (broadcastInDim S64x512 ![] bcast_S_S64x512 : (⟨S_, .i32⟩ : BufTy).Contents (Elt F) → (⟨S64x512, .i32⟩ : BufTy).Contents (Elt F)),
   StableHlo.nullary main_v38 (iotaInDim S64 32 0),
   StableHlo.unary main_v38 main_v39 (broadcastInDim S64x1 ![0] bcast_S64_S64x1_0 : (⟨S64, .i32⟩ : BufTy).Contents (Elt F) → (⟨S64x1, .i32⟩ : BufTy).Contents (Elt F)),
   StableHlo.nullary main_c_11 (constantI S_ 32 0#32),
   StableHlo.unary main_c_11 main_v40 (broadcastInDim S64x1 ![] bcast_S_S64x1 : (⟨S_, .i32⟩ : BufTy).Contents (Elt F) → (⟨S64x1, .i32⟩ : BufTy).Contents (Elt F)),
   StableHlo.binary main_v39 main_v40 main_v41 (cmpi .slt : (⟨S64x1, .i32⟩ : BufTy).Contents (Elt F) → (⟨S64x1, .i32⟩ : BufTy).Contents (Elt F) → (⟨S64x1, .i1⟩ : BufTy).Contents (Elt F)),
   StableHlo.nullary main_c_12 (constantI S_ 32 64#32),
   StableHlo.unary main_c_12 main_v42 (broadcastInDim S64x1 ![] bcast_S_S64x1 : (⟨S_, .i32⟩ : BufTy).Contents (Elt F) → (⟨S64x1, .i32⟩ : BufTy).Contents (Elt F)),
   StableHlo.binary main_v39 main_v42 main_v43 (addi : (⟨S64x1, .i32⟩ : BufTy).Contents (Elt F) → (⟨S64x1, .i32⟩ : BufTy).Contents (Elt F) → (⟨S64x1, .i32⟩ : BufTy).Contents (Elt F)),
   StableHlo.ternary main_v41 main_v43 main_v39 main_v44 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
   StableHlo.nullary main_c_13 (constantI S_ 32 0#32),
   StableHlo.unary main_c_13 main_v45 (broadcastInDim S64x512 ![] bcast_S_S64x512 : (⟨S_, .i32⟩ : BufTy).Contents (Elt F) → (⟨S64x512, .i32⟩ : BufTy).Contents (Elt F)),
   StableHlo.binary main_v36 main_v45 main_v46 (cmpi .slt : (⟨S64x512, .i32⟩ : BufTy).Contents (Elt F) → (⟨S64x512, .i32⟩ : BufTy).Contents (Elt F) → (⟨S64x512, .i1⟩ : BufTy).Contents (Elt F)),
   StableHlo.nullary main_c_14 (constantI S_ 32 512#32),
   StableHlo.unary main_c_14 main_v47 (broadcastInDim S64x512 ![] bcast_S_S64x512 : (⟨S_, .i32⟩ : BufTy).Contents (Elt F) → (⟨S64x512, .i32⟩ : BufTy).Contents (Elt F)),
   StableHlo.binary main_v36 main_v47 main_v48 (addi : (⟨S64x512, .i32⟩ : BufTy).Contents (Elt F) → (⟨S64x512, .i32⟩ : BufTy).Contents (Elt F) → (⟨S64x512, .i32⟩ : BufTy).Contents (Elt F)),
   StableHlo.ternary main_v46 main_v48 main_v36 main_v49 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
   StableHlo.unary main_v44 main_v50 (broadcastInDim S64x512 ![0, 1] bcast_S64x1_S64x512_0_1 : (⟨S64x1, .i32⟩ : BufTy).Contents (Elt F) → (⟨S64x512, .i32⟩ : BufTy).Contents (Elt F)),
   StableHlo.unary main_v50 main_v51 (broadcastInDim S64x512x1 ![0, 1] bcast_S64x512_S64x512x1_0_1 : (⟨S64x512, .i32⟩ : BufTy).Contents (Elt F) → (⟨S64x512x1, .i32⟩ : BufTy).Contents (Elt F)),
   StableHlo.unary main_v49 main_v52 (broadcastInDim S64x512x1 ![0, 1] bcast_S64x512_S64x512x1_0_1 : (⟨S64x512, .i32⟩ : BufTy).Contents (Elt F) → (⟨S64x512x1, .i32⟩ : BufTy).Contents (Elt F)),
   StableHlo.binary main_v51 main_v52 main_v53 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
   StableHlo.ternary main_v37 main_v53 main_v18 main_v54 ((fun x i u => Host.scatter scatter_S64x512_S64x512x2_S64x512_n_01_01_2 (fun _ b => b) x i u) : (⟨S64x512, .i32⟩ : BufTy).Contents (Elt F) → (⟨S64x512x2, .i32⟩ : BufTy).Contents (Elt F) → (⟨S64x512, .i32⟩ : BufTy).Contents (Elt F) → (⟨S64x512, .i32⟩ : BufTy).Contents (Elt F)),
   StableHlo.unary main_v54 main_v55 (broadcastInDim S64x1x512 ![0, 2] bcast_S64x512_S64x1x512_0_2 : (⟨S64x512, .i32⟩ : BufTy).Contents (Elt F) → (⟨S64x1x512, .i32⟩ : BufTy).Contents (Elt F)),
   StableHlo.unary main_v32 main_v56 ((extui 32 · natLt_1_32) : (⟨S64x512, .i1⟩ : BufTy).Contents (Elt F) → (⟨S64x512, .i32⟩ : BufTy).Contents (Elt F)),
   StableHlo.nullary main_c_15 (constantI S_ 32 0#32),
   StableHlo.binary main_v56 main_c_15 main_v57 ((fun x v => Host.reduce IntOp.addi x v reducesTo_S64x512_S64_d1 h_S_) : (⟨S64x512, .i32⟩ : BufTy).Contents (Elt F) → (⟨S_, .i32⟩ : BufTy).Contents (Elt F) → (⟨S64, .i32⟩ : BufTy).Contents (Elt F)),
   StableHlo.unary main_v57 main_v58 (broadcastInDim S64x1 ![0] bcast_S64_S64x1_0 : (⟨S64, .i32⟩ : BufTy).Contents (Elt F) → (⟨S64x1, .i32⟩ : BufTy).Contents (Elt F)),
   StableHlo.unary main_v15 main_v59 (Host.negf : (⟨S64x1, .f32⟩ : BufTy).Contents (Elt F) → (⟨S64x1, .f32⟩ : BufTy).Contents (Elt F))]

theorem postB2_sub : ∀ op ∈ (postB2 : List (HloOp τ sig (Elt F))), op.bufs ⊆ tcRefs τ sig := by
  unfold postB2; simp only [List.forall_mem_cons, List.not_mem_nil, false_imp_iff, implies_true, and_true]
  simp
theorem postB2_fresh : ∀ op ∈ (postB2 : List (HloOp τ sig (Elt F))), op.fresh = ∅ := by
  unfold postB2; simp only [List.forall_mem_cons, List.not_mem_nil, false_imp_iff, implies_true, and_true]
  repeat' first | constructor | rfl

/-- The stretches in order. -/
def preI : List (List (HloOp τ sig (Elt F))) := [pre0]

theorem preI_plain : Plain (preI : List (List (HloOp τ sig (Elt F)))) := Plain.cons (List.forall_iff_forall_mem.2 pre0_sub) Plain.nil pre0_fresh

/-- The stretches in order. -/
def body0I : List (List (HloOp τ sig (Elt F))) := [w00, w01, w02, w03, w04, w05, w06, w07, w08, w09, w010, w011, w012, w013]

theorem body0I_plain : Plain (body0I : List (List (HloOp τ sig (Elt F)))) := Plain.cons (List.forall_iff_forall_mem.2 w00_sub) (Plain.cons (List.forall_iff_forall_mem.2 w01_sub) (Plain.cons (List.forall_iff_forall_mem.2 w02_sub) (Plain.cons (List.forall_iff_forall_mem.2 w03_sub) (Plain.cons (List.forall_iff_forall_mem.2 w04_sub) (Plain.cons (List.forall_iff_forall_mem.2 w05_sub) (Plain.cons (List.forall_iff_forall_mem.2 w06_sub) (Plain.cons (List.forall_iff_forall_mem.2 w07_sub) (Plain.cons (List.forall_iff_forall_mem.2 w08_sub) (Plain.cons (List.forall_iff_forall_mem.2 w09_sub) (Plain.cons (List.forall_iff_forall_mem.2 w010_sub) (Plain.cons (List.forall_iff_forall_mem.2 w011_sub) (Plain.cons (List.forall_iff_forall_mem.2 w012_sub) (Plain.cons (List.forall_iff_forall_mem.2 w013_sub) Plain.nil w013_fresh) w012_fresh) w011_fresh) w010_fresh) w09_fresh) w08_fresh) w07_fresh) w06_fresh) w05_fresh) w04_fresh) w03_fresh) w02_fresh) w01_fresh) w00_fresh

/-- The stretches in order. -/
def midI : List (List (HloOp τ sig (Elt F))) := [mid0]

theorem midI_plain : Plain (midI : List (List (HloOp τ sig (Elt F)))) := Plain.cons (List.forall_iff_forall_mem.2 mid0_sub) Plain.nil mid0_fresh

/-- The stretches in order. -/
def body1I : List (List (HloOp τ sig (Elt F))) := [w10, w11, w12, w13, w14, w15, w16]

theorem body1I_plain : Plain (body1I : List (List (HloOp τ sig (Elt F)))) := Plain.cons (List.forall_iff_forall_mem.2 w10_sub) (Plain.cons (List.forall_iff_forall_mem.2 w11_sub) (Plain.cons (List.forall_iff_forall_mem.2 w12_sub) (Plain.cons (List.forall_iff_forall_mem.2 w13_sub) (Plain.cons (List.forall_iff_forall_mem.2 w14_sub) (Plain.cons (List.forall_iff_forall_mem.2 w15_sub) (Plain.cons (List.forall_iff_forall_mem.2 w16_sub) Plain.nil w16_fresh) w15_fresh) w14_fresh) w13_fresh) w12_fresh) w11_fresh) w10_fresh

/-- The stretches in order. -/
def postI : List (List (HloOp τ sig (Elt F))) := [postA0, postA1, postA2, postB0, postB1, postB2]

theorem postI_plain : Plain (postI : List (List (HloOp τ sig (Elt F)))) := Plain.cons (List.forall_iff_forall_mem.2 postA0_sub) (Plain.cons (List.forall_iff_forall_mem.2 postA1_sub) (Plain.cons (List.forall_iff_forall_mem.2 postA2_sub) (Plain.cons (List.forall_iff_forall_mem.2 postB0_sub) (Plain.cons (List.forall_iff_forall_mem.2 postB1_sub) (Plain.cons (List.forall_iff_forall_mem.2 postB2_sub) Plain.nil postB2_fresh) postB1_fresh) postB0_fresh) postA2_fresh) postA1_fresh) postA0_fresh

theorem main_while0_body_chain : (main_while0_body : Prog (TpuEff nD τ sig (Elt F) (HostLoop.Sig (Pipeline.Sig Λ₀ (Fin 0) fun p => (pcfgs (F := F) p).Adm) 2) .tc) PUnit) = Pipeline.chain [seq w00, seq w01, seq w02, seq w03, seq w04, seq w05, seq w06, seq w07, seq w08, seq w09, seq w010, seq w011, seq w012, seq w013] := by
  rewrite [Pipeline.chain_cons, Pipeline.chain_cons, chain_seq_cons, Pipeline.chain_cons, chain_seq_cons, Pipeline.chain_cons, chain_seq_cons, Pipeline.chain_cons, Pipeline.chain_cons, chain_seq_cons, Pipeline.chain_cons, Pipeline.chain_cons, Pipeline.chain_cons, chain_seq_cons]
  chain_rfl

theorem main_while1_body_chain : (main_while1_body : Prog (TpuEff nD τ sig (Elt F) (HostLoop.Sig (Pipeline.Sig Λ₀ (Fin 0) fun p => (pcfgs (F := F) p).Adm) 2) .tc) PUnit) = Pipeline.chain [seq w10, seq w11, seq w12, seq w13, seq w14, seq w15, seq w16] := by
  rewrite [chain_seq_cons, Pipeline.chain_cons, Pipeline.chain_cons, Pipeline.chain_cons, Pipeline.chain_cons, Pipeline.chain_cons, chain_seq_cons]
  chain_rfl

theorem main_part0_chain (d : Dev nD) : (main_part0 d : Prog (TpuEff nD τ sig (Elt F) (HostLoop.Sig (Pipeline.Sig Λ₀ (Fin 0) fun p => (pcfgs (F := F) p).Adm) 2) .tc) PUnit) = Pipeline.chainK [seq pre0, HostLoop.enter 0, seq mid0, HostLoop.enter 1, seq postA0, seq postA1] (seq postA2) := by
  rewrite [chainK_seq_cons, Pipeline.chainK_cons, chainK_seq_cons, Pipeline.chainK_cons, chainK_seq_cons, Pipeline.chainK_cons]
  chain_rfl

theorem main_part1_chain (d : Dev nD) : (main_part1 d : Prog (TpuEff nD τ sig (Elt F) (HostLoop.Sig (Pipeline.Sig Λ₀ (Fin 0) fun p => (pcfgs (F := F) p).Adm) 2) .tc) PUnit) = Pipeline.chain [seq postB0, seq postB1, seq postB2] := by
  rewrite [chain_seq_cons, Pipeline.chain_cons, chain_seq_cons]
  chain_rfl

end Cert.BeamRef
-- ==== Proof.RefRun.lean ====
/- The reference program's run: @main's stretches around its two counted loops, from any memory, and what every buffer
   holds at the end as the fold of the operations. -/
module

public import proofs.«01_k».proof.Proof.RefOps
public import Idealize.ShloMosaic.Lib.Quiescent

@[expose] public section

noncomputable section

namespace Cert.BeamRef

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.StableHlo Idealize.ShloMosaic.TcCoe
open Idealize.ShloMosaic.Pipeline (CSeg Ticket PCfg ucRefs)
open Cert.ReferenceIdeal Cert.ReferenceIdeal.Gen

variable {F : FTy → Type} [FloatOps F]

/-- The first loop's condition. -/
def cond0Ops : List (HloOp τ sig (Elt F)) :=
  [StableHlo.nullary main_while0c_c_23 (constantI S_ 32 512#32),
   StableHlo.binary main_v12_4 main_while0c_c_23 main_while0c_v60 (cmpi .slt : (⟨S_, .i32⟩ : BufTy).Contents (Elt F) → (⟨S_, .i32⟩ : BufTy).Contents (Elt F) → (⟨S_, .i1⟩ : BufTy).Contents (Elt F))]

/-- The second loop's condition. -/
def cond1Ops : List (HloOp τ sig (Elt F)) :=
  [StableHlo.nullary main_while1c_c_20 (constantI S_ 32 512#32),
   StableHlo.binary main_v14_2 main_while1c_c_20 main_while1c_v60 (cmpi .slt : (⟨S_, .i32⟩ : BufTy).Contents (Elt F) → (⟨S_, .i32⟩ : BufTy).Contents (Elt F) → (⟨S_, .i1⟩ : BufTy).Contents (Elt F))]

local notation "𝕄" => MT nD τ sig Unit (Elt F) ℕ (Option PUnit) ℕ

/-- No pipeline is launched, so none is admitted and none has a ticket. -/
abbrev adm : (p : Fin 0) → ((pcfgs (F := F)) p).Adm := fun p => p.elim0
@[inherit_doc adm]
abbrev tk : Fin 0 → Ticket (Ix := Unit) (Name := ℕ) (U := Option PUnit) (Lvl := ℕ) (nD := nD) (τ := τ) (pcfgs (F := F)) adm := fun j => j.elim0
/-- No cell has a level. -/
abbrev L : GSem nD τ sig → Finset Unit := fun _ => ∅
@[inherit_doc L]
abbrev lv : GSem nD τ sig → Unit → ℕ := fun _ _ => 0

/-- What rides beside the buffers: that the core owes nothing. -/
abbrev owesNone (c : Dev nD) : sProp 𝕄 := iprop(∃ W, owes (c : Thread nD τ) (0 : CellTallies nD τ sig Unit) W)

theorem slt_ofNat (k : ℕ) (hk : k ≤ 512) : IntOp.cmpi .slt (BitVec.ofNat 32 k) 512#32 = 1#1 ↔ k < 512 := by
  have h : (BitVec.ofNat 32 k).slt 512#32 = decide (k < 512) := by
    rw [BitVec.slt_eq_decide, BitVec.toInt_eq_toNat_of_lt (by rw [BitVec.toNat_ofNat]; omega), BitVec.toNat_ofNat,
      Nat.mod_eq_of_lt (by omega)]
    show decide ((k : ℤ) < 512) = _
    exact decide_eq_decide.2 (by omega)
  show BitVec.ofBool ((BitVec.ofNat 32 k).slt 512#32) = 1#1 ↔ _
  rw [h]
  by_cases hlt : k < 512 <;> simp [hlt]

section Run

variable (m : (ℓ : Loc nD τ sig) → Buf (Elt F) ℓ)

/-- The buffers at the first loop's entry. -/
def V0 (c : Dev nD) : Valuation τ sig (Elt F) := afterL preI (launchContents m c)
/-- The buffers before the first loop's `k`-th test. -/
def T0 (k : ℕ) : Dev nD → Valuation τ sig (Elt F) := atTrip cond0Ops body0I (V0 m) k
/-- The buffers at the second loop's entry. -/
def V1 (c : Dev nD) : Valuation τ sig (Elt F) := afterL midI (after cond0Ops (T0 m 512 c))
/-- The buffers before the second loop's `k`-th test. -/
def T1 (k : ℕ) : Dev nD → Valuation τ sig (Elt F) := atTrip cond1Ops body1I (V1 m) k
/-- The buffers at the end. -/
def V2 (c : Dev nD) : Valuation τ sig (Elt F) := afterL postI (after cond1Ops (T1 m 512 c))

set_option backward.isDefEq.respectTransparency.types false in
theorem cond0_spec (hI : ∀ k ≤ 512, ∀ c, T0 m k c (Proc.devRef .tc main_v12_4) = fun _ => (BitVec.ofNat 32 k)) :
    LoopCond (pcfgs (F := F)) defs₀ Variants.none loops owesNone main_while0_cond cond0Ops body0I (V0 m) 512 := fun k hk c bd => by
  have hctr := hI k hk c
  simp only [main_while0_cond, bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v12_4 HostLoop.idx0)
        (HloOp.result _ (T0 m k c) main_while0c_c_23 HostLoop.idx0) = 1#1) (k < 512)
    rw [StableHlo.nullary_result_ne _ _ _ _ (by decide), StableHlo.nullary_result, hctr]
    exact slt_ofNat k hk
  isplitl [Hb]; · iexact Hb
  isplitl [Hh]; · unfold cond0Ops; rw [StableHlo.after_cons, StableHlo.after_cons, StableHlo.after_nil]; iexact Hh
  iexact HR

set_option backward.isDefEq.respectTransparency.types false in
theorem cond1_spec (hI : ∀ k ≤ 512, ∀ c, T1 m k c (Proc.devRef .tc main_v14_2) = fun _ => (BitVec.ofNat 32 k)) :
    LoopCond (pcfgs (F := F)) defs₀ Variants.none loops owesNone main_while1_cond cond1Ops body1I (V1 m) 512 := fun k hk c bd => by
  have hctr := hI k hk c
  simp only [main_while1_cond, bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v14_2 HostLoop.idx0)
        (HloOp.result _ (T1 m k c) main_while1c_c_20 HostLoop.idx0) = 1#1) (k < 512)
    rw [StableHlo.nullary_result_ne _ _ _ _ (by decide), StableHlo.nullary_result, hctr]
    exact slt_ofNat k hk
  isplitl [Hb]; · iexact Hb
  isplitl [Hh]; · unfold cond1Ops; rw [StableHlo.after_cons, StableHlo.after_cons, StableHlo.after_nil]; iexact Hh
  iexact HR

variable (h0 : ∀ k ≤ 512, ∀ c, T0 m k c (Proc.devRef .tc main_v12_4) = fun _ => (BitVec.ofNat 32 k))
  (h1 : ∀ k ≤ 512, ∀ c, T1 m k c (Proc.devRef .tc main_v14_2) = fun _ => (BitVec.ofNat 32 k))

/-- @main's segments: stretches, the first loop, stretches, the second loop, stretches. -/
def runSegs : List (CSeg (pcfgs (F := F)) adm defs₀ Variants.none L lv loops tk) :=
  segsOf _ _ _ _ _ _ _ _ owesNone preI preI_plain (launchContents m)
    ++ loopSeg _ _ _ _ _ _ _ _ 0 main_while0_cond main_while0_body rfl cond0Ops body0I body0I_plain main_while0_body_chain 512 (V0 m) owesNone (cond0_spec m h0)
      :: (segsOf _ _ _ _ _ _ _ _ owesNone midI midI_plain (fun c => after cond0Ops (T0 m 512 c))
        ++ loopSeg _ _ _ _ _ _ _ _ 1 main_while1_cond main_while1_body rfl cond1Ops body1I body1I_plain main_while1_body_chain 512 (V1 m) owesNone (cond1_spec m h1)
          :: segsOf _ _ _ _ _ _ _ _ owesNone postI postI_plain (fun c => after cond1Ops (T1 m 512 c)))

theorem runSegs_prog : (runSegs m h0 h1).map CSeg.prog
    = (preI.map fun ops => (seq ops : Prog _ PUnit)) ++ HostLoop.enter 0 :: ((midI.map fun ops => (seq ops : Prog _ PUnit))
        ++ HostLoop.enter 1 :: postI.map fun ops => (seq ops : Prog _ PUnit)) := by
  unfold runSegs
  rw [List.map_append, List.map_cons, List.map_append, List.map_cons, segsOf_prog, segsOf_prog, segsOf_prog]
  rfl

theorem runSegs_chains :
    CSeg.Chains (fun c => iprop(held (c : Thread nD τ) (ucRefs τ sig) (launchContents m c) ∗ owesNone c))
      (runSegs m h0 h1)
      (fun c => iprop(iprop(held (c : Thread nD τ) (ucRefs τ sig) (V2 m c)) ∗ ∃ W, owes (c : Thread nD τ) (0 : CellTallies nD τ sig Unit) W)) := by
  unfold runSegs
  exact CSeg.Chains.append (segsOf_chains _ _ _ _ _ _ _ _ owesNone preI preI_plain _) ⟨fun _ => .rfl,
    CSeg.Chains.append (segsOf_chains _ _ _ _ _ _ _ _ owesNone midI midI_plain _) ⟨fun _ => .rfl,
      segsOf_chains _ _ _ _ _ _ _ _ owesNone postI postI_plain _⟩⟩

theorem main_chain (d : Dev nD) : (main d : Prog (TpuEff nD τ sig (Elt F) (HostLoop.Sig (Pipeline.Sig Λ₀ (Fin 0) fun p => (pcfgs (F := F) p).Adm) 2) .tc) PUnit)
    = Pipeline.chain ((preI.map fun ops => (seq ops : Prog _ PUnit)) ++ HostLoop.enter 0 :: ((midI.map fun ops => (seq ops : Prog _ PUnit))
        ++ HostLoop.enter 1 :: postI.map fun ops => (seq ops : Prog _ PUnit))) :=
  (Pipeline.chain_of_window (main_part0_chain d) (main_part1_chain d)).trans (by chain_rfl)

include h0 h1 in
/-- Every run of the reference ends with its buffers at the fold of its operations. -/
theorem run_ref [∀ e, Nonempty (Elt F e)] (ρ : Dev nD → PrngReg) :
    θ_run (Cert.ReferenceIdeal.defs (F := F)) (onTc (τ := τ) (Cert.ReferenceIdeal.main (F := F))) ⟨m, fun _ => 0, ρ⟩
      (fun r => (∀ (c : Dev nD) (b : Ref sig .tc), (Proc.devRef .tc b : DevRef τ sig).isScoped = false →
        r.2.mem ((c.tc : Thread nD τ).loc b) = V2 m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    pcfgs adm (fun k => k.1.elim0) defs₀ Variants.none L lv loops tk m ρ main
    (runSegs m h0 h1)
    (fun c Q => by
      rw [main_chain c, ← runSegs_prog m h0 h1]
      exact Laws.entails_refl _)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owesNone c))
    (Tₙ := fun c => iprop(held (c : Thread nD τ) (ucRefs τ sig) (V2 m c)))
    (hch := runSegs_chains m h0 h1)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = V2 m c b)
    (hfin := fun c s' => by
      unfold held
      iintro ⟨Hh, HSI⟩
      ihave Hr := (pointsTo_read_all (ucRefs τ sig) (fun b => ((c : Dev nD), b)) (fun b => V2 m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems (by decide) s⟩)

end Run

end Cert.BeamRef
-- ==== Proof.RefVal.lean ====
/- What the reference program's stretches compute, as functions of the contents they read. -/
module

public import proofs.«01_k».proof.Proof.Gen.ReferenceIdeal

@[expose] public section

noncomputable section

namespace Cert.BeamRef

open Idealize.ShloMosaic Idealize.SL.Sem
open Cert.ReferenceIdeal Cert.ReferenceIdeal.Gen

variable {F : FTy → Type} [FloatOps F]

/-- The value of @dynamic_index_in_dim. -/
def pfn_dynamic_index_in_dim (arg0 : (⟨S512x64x1024, .f32⟩ : BufTy).Contents (Elt F)) (arg1 : (⟨S_, .i32⟩ : BufTy).Contents (Elt F)) : (⟨S64x1024, .f32⟩ : BufTy).Contents (Elt F) :=
  let c : (⟨S_, .i32⟩ : BufTy).Contents (Elt F) := (constantI S_ 32 0#32)
  let c_0 : (⟨S_, .i32⟩ : BufTy).Contents (Elt F) := (constantI S_ 32 0#32)
  let v0 : (⟨S1x64x1024, .f32⟩ : BufTy).Contents (Elt F) := (fun x i => Host.dynamicSlice S1x64x1024 x (fun k => (i k (Shape.Idx.first h_S_)).toInt) sliceFits_S512x64x1024_S1x64x1024) arg0 ![arg1, c, c_0]
  let v1 : (⟨S64x1024, .f32⟩ : BufTy).Contents (Elt F) := shapeCast S64x1024 v0 shapeCasts_S1x64x1024_S64x1024
  v1

/-- The value of @dynamic_index_in_dim_0. -/
def pfn_dynamic_index_in_dim_0 (arg0 : (⟨S512, .i32⟩ : BufTy).Contents (Elt F)) (arg1 : (⟨S_, .i32⟩ : BufTy).Contents (Elt F)) : (⟨S_, .i32⟩ : BufTy).Contents (Elt F) :=
  let v0 : (⟨S1, .i32⟩ : BufTy).Contents (Elt F) := (fun x i => Host.dynamicSlice S1 x (fun k => (i k (Shape.Idx.first h_S_)).toInt) sliceFits_S512_S1) arg0 ![arg1]
  let v1 : (⟨S_, .i32⟩ : BufTy).Contents (Elt F) := shapeCast S_ v0 shapeCasts_S1_S_
  v1

/-- The value of @where. -/
def pfn_where (arg0 : (⟨S64x16, .i1⟩ : BufTy).Contents (Elt F)) (arg1 : (⟨S64x16, .i32⟩ : BufTy).Contents (Elt F)) (arg2 : (⟨S64x16, .i32⟩ : BufTy).Contents (Elt F)) : (⟨S64x16, .i32⟩ : BufTy).Contents (Elt F) :=
  let v0 : (⟨S64x16, .i32⟩ : BufTy).Contents (Elt F) := select arg0 arg1 arg2
  v0

/-- The value of @floor_divide. -/
def pfn_floor_divide (arg0 : (⟨S64x16, .i32⟩ : BufTy).Contents (Elt F)) (arg1 : (⟨S_, .i32⟩ : BufTy).Contents (Elt F)) : (⟨S64x16, .i32⟩ : BufTy).Contents (Elt F) :=
  let v0 : (⟨S_, .i32⟩ : BufTy).Contents (Elt F) := id arg1
  let v1 : (⟨S64x16, .i32⟩ : BufTy).Contents (Elt F) := (broadcastInDim S64x16 ![] bcast_S_S64x16) v0
  let v2 : (⟨S64x16, .i32⟩ : BufTy).Contents (Elt F) := Host.divsi arg0 v1
  let v3 : (⟨S64x16, .i32⟩ : BufTy).Contents (Elt F) := signi arg0
  let v4 : (⟨S_, .i32⟩ : BufTy).Contents (Elt F) := signi v0
  let v5 : (⟨S64x16, .i32⟩ : BufTy).Contents (Elt F) := (broadcastInDim S64x16 ![] bcast_S_S64x16) v4
  let v6 : (⟨S64x16, .i1⟩ : BufTy).Contents (Elt F) := (cmpi .ne) v3 v5
  let v7 : (⟨S64x16, .i32⟩ : BufTy).Contents (Elt F) := (broadcastInDim S64x16 ![] bcast_S_S64x16) v0
  let v8 : (⟨S64x16, .i32⟩ : BufTy).Contents (Elt F) := Host.remsi arg0 v7
  let c : (⟨S_, .i32⟩ : BufTy).Contents (Elt F) := (constantI S_ 32 0#32)
  let v9 : (⟨S64x16, .i32⟩ : BufTy).Contents (Elt F) := (broadcastInDim S64x16 ![] bcast_S_S64x16) c
  let v10 : (⟨S64x16, .i1⟩ : BufTy).Contents (Elt F) := (cmpi .ne) v8 v9
  let v11 : (⟨S64x16, .i1⟩ : BufTy).Contents (Elt F) := andi v6 v10
  let c_0 : (⟨S_, .i32⟩ : BufTy).Contents (Elt F) := (constantI S_ 32 1#32)
  let v12 : (⟨S64x16, .i32⟩ : BufTy).Contents (Elt F) := (broadcastInDim S64x16 ![] bcast_S_S64x16) c_0
  let v13 : (⟨S64x16, .i32⟩ : BufTy).Contents (Elt F) := subi v2 v12
  let call0_v0 : (⟨S64x16, .i32⟩ : BufTy).Contents (Elt F) := pfn_where v11 v13 v2
  call0_v0

/-- The value of @where_1. -/
def pfn_where_1 (arg0 : (⟨S_, .i1⟩ : BufTy).Contents (Elt F)) (arg1 : (⟨S_, .i32⟩ : BufTy).Contents (Elt F)) (arg2 : (⟨S_, .i32⟩ : BufTy).Contents (Elt F)) : (⟨S_, .i32⟩ : BufTy).Contents (Elt F) :=
  let v0 : (⟨S_, .i32⟩ : BufTy).Contents (Elt F) := select arg0 arg1 arg2
  v0

/-- The value of @remainder. -/
def pfn_remainder (arg0 : (⟨S64x16, .i32⟩ : BufTy).Contents (Elt F)) (arg1 : (⟨S_, .i32⟩ : BufTy).Contents (Elt F)) : (⟨S64x16, .i32⟩ : BufTy).Contents (Elt F) :=
  let v0 : (⟨S_, .i32⟩ : BufTy).Contents (Elt F) := id arg1
  let c : (⟨S_, .i32⟩ : BufTy).Contents (Elt F) := (constantI S_ 32 0#32)
  let v1 : (⟨S_, .i1⟩ : BufTy).Contents (Elt F) := (cmpi .eq) v0 c
  let c_0 : (⟨S_, .i32⟩ : BufTy).Contents (Elt F) := (constantI S_ 32 1#32)
  let call0_v0 : (⟨S_, .i32⟩ : BufTy).Contents (Elt F) := pfn_where_1 v1 c_0 v0
  let v3 : (⟨S64x16, .i32⟩ : BufTy).Contents (Elt F) := (broadcastInDim S64x16 ![] bcast_S_S64x16) call0_v0
  let v4 : (⟨S64x16, .i32⟩ : BufTy).Contents (Elt F) := Host.remsi arg0 v3
  let c_1 : (⟨S_, .i32⟩ : BufTy).Contents (Elt F) := (constantI S_ 32 0#32)
  let v5 : (⟨S64x16, .i32⟩ : BufTy).Contents (Elt F) := (broadcastInDim S64x16 ![] bcast_S_S64x16) c_1
  let v6 : (⟨S64x16, .i1⟩ : BufTy).Contents (Elt F) := (cmpi .ne) v4 v5
  let c_2 : (⟨S_, .i32⟩ : BufTy).Contents (Elt F) := (constantI S_ 32 0#32)
  let v7 : (⟨S64x16, .i32⟩ : BufTy).Contents (Elt F) := (broadcastInDim S64x16 ![] bcast_S_S64x16) c_2
  let v8 : (⟨S64x16, .i1⟩ : BufTy).Contents (Elt F) := (cmpi .slt) v4 v7
  let c_3 : (⟨S_, .i32⟩ : BufTy).Contents (Elt F) := (constantI S_ 32 0#32)
  let v9 : (⟨S_, .i1⟩ : BufTy).Contents (Elt F) := (cmpi .slt) call0_v0 c_3
  let v10 : (⟨S64x16, .i1⟩ : BufTy).Contents (Elt F) := (broadcastInDim S64x16 ![] bcast_S_S64x16) v9
  let v11 : (⟨S64x16, .i1⟩ : BufTy).Contents (Elt F) := (cmpi .ne) v8 v10
  let v12 : (⟨S64x16, .i1⟩ : BufTy).Contents (Elt F) := andi v11 v6
  let v13 : (⟨S64x16, .i32⟩ : BufTy).Contents (Elt F) := (broadcastInDim S64x16 ![] bcast_S_S64x16) call0_v0
  let v14 : (⟨S64x16, .i32⟩ : BufTy).Contents (Elt F) := addi v4 v13
  let v15 : (⟨S64x16, .i32⟩ : BufTy).Contents (Elt F) := select v12 v14 v4
  v15

/-- The value of @where_2. -/
def pfn_where_2 (arg0 : (⟨S64x1, .i1⟩ : BufTy).Contents (Elt F)) (arg1 : (⟨S64x16, .f32⟩ : BufTy).Contents (Elt F)) (arg2 : (⟨S64x16, .f32⟩ : BufTy).Contents (Elt F)) : (⟨S64x16, .f32⟩ : BufTy).Contents (Elt F) :=
  let v0 : (⟨S64x16, .i1⟩ : BufTy).Contents (Elt F) := (broadcastInDim S64x16 ![0, 1] bcast_S64x1_S64x16_0_1) arg0
  let v1 : (⟨S64x16, .f32⟩ : BufTy).Contents (Elt F) := select v0 arg1 arg2
  v1

/-- The value of @where_3. -/
def pfn_where_3 (arg0 : (⟨S64x1, .i1⟩ : BufTy).Contents (Elt F)) (arg1 : (⟨S64x16, .i32⟩ : BufTy).Contents (Elt F)) (arg2 : (⟨S64x16, .i32⟩ : BufTy).Contents (Elt F)) : (⟨S64x16, .i32⟩ : BufTy).Contents (Elt F) :=
  let v0 : (⟨S64x16, .i1⟩ : BufTy).Contents (Elt F) := (broadcastInDim S64x16 ![0, 1] bcast_S64x1_S64x16_0_1) arg0
  let v1 : (⟨S64x16, .i32⟩ : BufTy).Contents (Elt F) := select v0 arg1 arg2
  v1

/-- The value of @dynamic_update_index_in_dim. -/
def pfn_dynamic_update_index_in_dim (arg0 : (⟨S512x64x16, .i32⟩ : BufTy).Contents (Elt F)) (arg1 : (⟨S64x16, .i32⟩ : BufTy).Contents (Elt F)) (arg2 : (⟨S_, .i32⟩ : BufTy).Contents (Elt F)) : (⟨S512x64x16, .i32⟩ : BufTy).Contents (Elt F) :=
  let v0 : (⟨S1x64x16, .i32⟩ : BufTy).Contents (Elt F) := (broadcastInDim S1x64x16 ![1, 2] bcast_S64x16_S1x64x16_1_2) arg1
  let c : (⟨S_, .i32⟩ : BufTy).Contents (Elt F) := (constantI S_ 32 0#32)
  let c_0 : (⟨S_, .i32⟩ : BufTy).Contents (Elt F) := (constantI S_ 32 0#32)
  let v1 : (⟨S512x64x16, .i32⟩ : BufTy).Contents (Elt F) := (fun x u i => Host.dynamicUpdateSlice x u (fun k => (i k (Shape.Idx.first h_S_)).toInt) updateFits_S512x64x16_S1x64x16) arg0 v0 ![arg2, c, c_0]
  v1

/-- The value of @dynamic_index_in_dim_4. -/
def pfn_dynamic_index_in_dim_4 (arg0 : (⟨S512x64x16, .i32⟩ : BufTy).Contents (Elt F)) (arg1 : (⟨S_, .i32⟩ : BufTy).Contents (Elt F)) : (⟨S64x16, .i32⟩ : BufTy).Contents (Elt F) :=
  let c : (⟨S_, .i32⟩ : BufTy).Contents (Elt F) := (constantI S_ 32 0#32)
  let c_0 : (⟨S_, .i32⟩ : BufTy).Contents (Elt F) := (constantI S_ 32 0#32)
  let v0 : (⟨S1x64x16, .i32⟩ : BufTy).Contents (Elt F) := (fun x i => Host.dynamicSlice S1x64x16 x (fun k => (i k (Shape.Idx.first h_S_)).toInt) sliceFits_S512x64x16_S1x64x16) arg0 ![arg1, c, c_0]
  let v1 : (⟨S64x16, .i32⟩ : BufTy).Contents (Elt F) := shapeCast S64x16 v0 shapeCasts_S1x64x16_S64x16
  v1

/-- The value of @take_along_axis. -/
def pfn_take_along_axis (arg0 : (⟨S64x16, .i32⟩ : BufTy).Contents (Elt F)) (arg1 : (⟨S64x16, .i32⟩ : BufTy).Contents (Elt F)) : (⟨S64x16, .i32⟩ : BufTy).Contents (Elt F) :=
  let c : (⟨S_, .i32⟩ : BufTy).Contents (Elt F) := (constantI S_ 32 0#32)
  let v0 : (⟨S64x16, .i32⟩ : BufTy).Contents (Elt F) := (broadcastInDim S64x16 ![] bcast_S_S64x16) c
  let v1 : (⟨S64x16, .i1⟩ : BufTy).Contents (Elt F) := (cmpi .slt) arg1 v0
  let c_0 : (⟨S_, .i32⟩ : BufTy).Contents (Elt F) := (constantI S_ 32 16#32)
  let v2 : (⟨S64x16, .i32⟩ : BufTy).Contents (Elt F) := (broadcastInDim S64x16 ![] bcast_S_S64x16) c_0
  let v3 : (⟨S64x16, .i32⟩ : BufTy).Contents (Elt F) := addi arg1 v2
  let v4 : (⟨S64x16, .i32⟩ : BufTy).Contents (Elt F) := select v1 v3 arg1
  let v5 : (⟨S64x16x1, .i32⟩ : BufTy).Contents (Elt F) := shapeCast S64x16x1 v4 shapeCasts_S64x16_S64x16x1
  let c_1 : (⟨S1, .i32⟩ : BufTy).Contents (Elt F) := (constantI S1 32 15#32)
  let c_2 : (⟨S_, .i32⟩ : BufTy).Contents (Elt F) := (constantI S_ 32 0#32)
  let v6 : (⟨S64x16x1, .i32⟩ : BufTy).Contents (Elt F) := (broadcastInDim S64x16x1 ![] bcast_S_S64x16x1) c_2
  let v7 : (⟨S64x16x1, .i1⟩ : BufTy).Contents (Elt F) := (cmpi .sge) v5 v6
  let v8 : (⟨S1x1x1, .i32⟩ : BufTy).Contents (Elt F) := (broadcastInDim S1x1x1 ![2] bcast_S1_S1x1x1_2) c_1
  let v9 : (⟨S64x16x1, .i32⟩ : BufTy).Contents (Elt F) := (broadcastInDim S64x16x1 ![0, 1, 2] bcast_S1x1x1_S64x16x1_0_1_2) v8
  let v10 : (⟨S64x16x1, .i1⟩ : BufTy).Contents (Elt F) := (cmpi .sle) v5 v9
  let v11 : (⟨S64x16x1, .i1⟩ : BufTy).Contents (Elt F) := andi v7 v10
  let c_3 : (⟨S_, .i1⟩ : BufTy).Contents (Elt F) := (constantI S_ 1 1#1)
  let v12 : (⟨S64x16, .i1⟩ : BufTy).Contents (Elt F) := (fun x v => Host.reduce IntOp.andi x v reducesTo_S64x16x1_S64x16_d2 h_S_) v11 c_3
  let v13 : (⟨S64x16, .i32⟩ : BufTy).Contents (Elt F) := (fun x i => Host.gather gather_S64x16_S64x16x1_S64x16_n_1_0_0_1_2_11 x i) arg0 v5
  let c_4 : (⟨S_, .i32⟩ : BufTy).Contents (Elt F) := (constantI S_ 32 2147483648#32)
  let v14 : (⟨S64x16, .i32⟩ : BufTy).Contents (Elt F) := (broadcastInDim S64x16 ![] bcast_S_S64x16) c_4
  let v15 : (⟨S64x16, .i32⟩ : BufTy).Contents (Elt F) := select v12 v13 v14
  v15

/-- The value of @cumsum_5. -/
def pfn_cumsum_5 (arg0 : (⟨S64x512, .i32⟩ : BufTy).Contents (Elt F)) : (⟨S64x512, .i32⟩ : BufTy).Contents (Elt F) :=
  let c : (⟨S_, .i32⟩ : BufTy).Contents (Elt F) := (constantI S_ 32 0#32)
  let v0 : (⟨S_, .i32⟩ : BufTy).Contents (Elt F) := (broadcastInDim S_ ![] bcast_S_S_) c
  let v1 : (⟨S64x512, .i32⟩ : BufTy).Contents (Elt F) := (fun x v => Host.reduceWindow IntOp.addi ![1, 512] ![1, 1] ![0, 511] ![0, 0] x v reduceWindows_S64x512_S64x512_w1s1p0_0_w512s1p511_0 h_S_) arg0 v0
  v1

/-- The value of @cumsum. -/
def pfn_cumsum (arg0 : (⟨S64x512, .i1⟩ : BufTy).Contents (Elt F)) : (⟨S64x512, .i32⟩ : BufTy).Contents (Elt F) :=
  let v0 : (⟨S64x512, .i32⟩ : BufTy).Contents (Elt F) := (extui 32 · natLt_1_32) arg0
  let call0_v1 : (⟨S64x512, .i32⟩ : BufTy).Contents (Elt F) := pfn_cumsum_5 v0
  call0_v1

/-- The value of @where_6. -/
def pfn_where_6 (arg0 : (⟨S64x512, .i1⟩ : BufTy).Contents (Elt F)) (arg1 : (⟨S64x512, .i32⟩ : BufTy).Contents (Elt F)) (arg2 : (⟨S_, .i32⟩ : BufTy).Contents (Elt F)) : (⟨S64x512, .i32⟩ : BufTy).Contents (Elt F) :=
  let v0 : (⟨S_, .i32⟩ : BufTy).Contents (Elt F) := id arg2
  let v1 : (⟨S64x512, .i32⟩ : BufTy).Contents (Elt F) := (broadcastInDim S64x512 ![] bcast_S_S64x512) v0
  let v2 : (⟨S64x512, .i32⟩ : BufTy).Contents (Elt F) := select arg0 arg1 v1
  v2

/-- A value before the loops. -/
def r_v3  : (⟨S64x16, .f32⟩ : BufTy).Contents (Elt F) :=
  let main_cst : (⟨S_, .f32⟩ : BufTy).Contents (Elt F) := (constant S_ .f32 0xF149F2CA#32)
  let main_v0 : (⟨S64x16, .f32⟩ : BufTy).Contents (Elt F) := (broadcastInDim S64x16 ![] bcast_S_S64x16 : (⟨S_, .f32⟩ : BufTy).Contents (Elt F) → (⟨S64x16, .f32⟩ : BufTy).Contents (Elt F)) main_cst
  let main_c : (⟨S_, .i32⟩ : BufTy).Contents (Elt F) := (constantI S_ 32 0#32)
  let main_v1 : (⟨S1, .i32⟩ : BufTy).Contents (Elt F) := (broadcastInDim S1 ![] bcast_S_S1 : (⟨S_, .i32⟩ : BufTy).Contents (Elt F) → (⟨S1, .i32⟩ : BufTy).Contents (Elt F)) main_c
  let main_cst_0 : (⟨S_, .f32⟩ : BufTy).Contents (Elt F) := (constant S_ .f32 0x00000000#32)
  let main_v2 : (⟨S64, .f32⟩ : BufTy).Contents (Elt F) := (broadcastInDim S64 ![] bcast_S_S64 : (⟨S_, .f32⟩ : BufTy).Contents (Elt F) → (⟨S64, .f32⟩ : BufTy).Contents (Elt F)) main_cst_0
  let main_v3 : (⟨S64x16, .f32⟩ : BufTy).Contents (Elt F) := ((fun x i u => Host.scatter scatter_S64x16_S1_S64_0_1_1_0 (fun _ b => b) x i u) : (⟨S64x16, .f32⟩ : BufTy).Contents (Elt F) → (⟨S1, .i32⟩ : BufTy).Contents (Elt F) → (⟨S64, .f32⟩ : BufTy).Contents (Elt F) → (⟨S64x16, .f32⟩ : BufTy).Contents (Elt F)) main_v0 main_v1 main_v2
  main_v3

/-- A value before the loops. -/
def r_v8  : (⟨S64x16, .i32⟩ : BufTy).Contents (Elt F) :=
  let main_v4 : (⟨S16, .i32⟩ : BufTy).Contents (Elt F) := (iotaInDim S16 32 0)
  let main_v5 : (⟨S1x16, .i32⟩ : BufTy).Contents (Elt F) := (broadcastInDim S1x16 ![1] bcast_S16_S1x16_1 : (⟨S16, .i32⟩ : BufTy).Contents (Elt F) → (⟨S1x16, .i32⟩ : BufTy).Contents (Elt F)) main_v4
  let main_v6 : (⟨S1x1x1x16, .i32⟩ : BufTy).Contents (Elt F) := shapeCast S1x1x1x16 main_v5 shapeCasts_S1x16_S1x1x1x16
  let main_v7 : (⟨S64x1x1x16, .i32⟩ : BufTy).Contents (Elt F) := (broadcastInDim S64x1x1x16 ![0, 1, 2, 3] bcast_S1x1x1x16_S64x1x1x16_0_1_2_3 : (⟨S1x1x1x16, .i32⟩ : BufTy).Contents (Elt F) → (⟨S64x1x1x16, .i32⟩ : BufTy).Contents (Elt F)) main_v6
  let main_v8 : (⟨S64x16, .i32⟩ : BufTy).Contents (Elt F) := shapeCast S64x16 main_v7 shapeCasts_S64x1x1x16_S64x16
  main_v8

/-- A value of the first loop body. -/
def r0_v67 (main_v12_0 : (⟨S512x64x1024, .f32⟩ : BufTy).Contents (Elt F)) (main_v12_4 : (⟨S_, .i32⟩ : BufTy).Contents (Elt F)) (main_v12_5 : (⟨S64x16, .f32⟩ : BufTy).Contents (Elt F)) : (⟨S64x16384, .f32⟩ : BufTy).Contents (Elt F) :=
  let main_while0b_v60 : (⟨S64x1024, .f32⟩ : BufTy).Contents (Elt F) := pfn_dynamic_index_in_dim main_v12_0 main_v12_4
  let main_while0b_v62 : (⟨S64x16x1, .f32⟩ : BufTy).Contents (Elt F) := (broadcastInDim S64x16x1 ![0, 1] bcast_S64x16_S64x16x1_0_1 : (⟨S64x16, .f32⟩ : BufTy).Contents (Elt F) → (⟨S64x16x1, .f32⟩ : BufTy).Contents (Elt F)) main_v12_5
  let main_while0b_v63 : (⟨S64x1x1024, .f32⟩ : BufTy).Contents (Elt F) := (broadcastInDim S64x1x1024 ![0, 2] bcast_S64x1024_S64x1x1024_0_2 : (⟨S64x1024, .f32⟩ : BufTy).Contents (Elt F) → (⟨S64x1x1024, .f32⟩ : BufTy).Contents (Elt F)) main_while0b_v60
  let main_while0b_v64 : (⟨S64x16x1024, .f32⟩ : BufTy).Contents (Elt F) := (broadcastInDim S64x16x1024 ![0, 1, 2] bcast_S64x16x1_S64x16x1024_0_1_2 : (⟨S64x16x1, .f32⟩ : BufTy).Contents (Elt F) → (⟨S64x16x1024, .f32⟩ : BufTy).Contents (Elt F)) main_while0b_v62
  let main_while0b_v65 : (⟨S64x16x1024, .f32⟩ : BufTy).Contents (Elt F) := (broadcastInDim S64x16x1024 ![0, 1, 2] bcast_S64x1x1024_S64x16x1024_0_1_2 : (⟨S64x1x1024, .f32⟩ : BufTy).Contents (Elt F) → (⟨S64x16x1024, .f32⟩ : BufTy).Contents (Elt F)) main_while0b_v63
  let main_while0b_v66 : (⟨S64x16x1024, .f32⟩ : BufTy).Contents (Elt F) := (addf : (⟨S64x16x1024, .f32⟩ : BufTy).Contents (Elt F) → (⟨S64x16x1024, .f32⟩ : BufTy).Contents (Elt F) → (⟨S64x16x1024, .f32⟩ : BufTy).Contents (Elt F)) main_while0b_v64 main_while0b_v65
  let main_while0b_v67 : (⟨S64x16384, .f32⟩ : BufTy).Contents (Elt F) := shapeCast S64x16384 main_while0b_v66 shapeCasts_S64x16x1024_S64x16384
  main_while0b_v67

/-- A value of the first loop body. -/
def r0_v73 (main_v12_0 : (⟨S512x64x1024, .f32⟩ : BufTy).Contents (Elt F)) (main_v12_1 : (⟨S512, .i32⟩ : BufTy).Contents (Elt F)) (main_v12_2 : (⟨S64, .i32⟩ : BufTy).Contents (Elt F)) (main_v12_4 : (⟨S_, .i32⟩ : BufTy).Contents (Elt F)) (main_v12_5 : (⟨S64x16, .f32⟩ : BufTy).Contents (Elt F)) : (⟨S64x16, .f32⟩ : BufTy).Contents (Elt F) :=
  let main_while0b_v60 : (⟨S64x1024, .f32⟩ : BufTy).Contents (Elt F) := pfn_dynamic_index_in_dim main_v12_0 main_v12_4
  let main_while0b_v61 : (⟨S_, .i32⟩ : BufTy).Contents (Elt F) := pfn_dynamic_index_in_dim_0 main_v12_1 main_v12_4
  let main_while0b_v62 : (⟨S64x16x1, .f32⟩ : BufTy).Contents (Elt F) := (broadcastInDim S64x16x1 ![0, 1] bcast_S64x16_S64x16x1_0_1 : (⟨S64x16, .f32⟩ : BufTy).Contents (Elt F) → (⟨S64x16x1, .f32⟩ : BufTy).Contents (Elt F)) main_v12_5
  let main_while0b_v63 : (⟨S64x1x1024, .f32⟩ : BufTy).Contents (Elt F) := (broadcastInDim S64x1x1024 ![0, 2] bcast_S64x1024_S64x1x1024_0_2 : (⟨S64x1024, .f32⟩ : BufTy).Contents (Elt F) → (⟨S64x1x1024, .f32⟩ : BufTy).Contents (Elt F)) main_while0b_v60
  let main_while0b_v64 : (⟨S64x16x1024, .f32⟩ : BufTy).Contents (Elt F) := (broadcastInDim S64x16x1024 ![0, 1, 2] bcast_S64x16x1_S64x16x1024_0_1_2 : (⟨S64x16x1, .f32⟩ : BufTy).Contents (Elt F) → (⟨S64x16x1024, .f32⟩ : BufTy).Contents (Elt F)) main_while0b_v62
  let main_while0b_v65 : (⟨S64x16x1024, .f32⟩ : BufTy).Contents (Elt F) := (broadcastInDim S64x16x1024 ![0, 1, 2] bcast_S64x1x1024_S64x16x1024_0_1_2 : (⟨S64x1x1024, .f32⟩ : BufTy).Contents (Elt F) → (⟨S64x16x1024, .f32⟩ : BufTy).Contents (Elt F)) main_while0b_v63
  let main_while0b_v66 : (⟨S64x16x1024, .f32⟩ : BufTy).Contents (Elt F) := (addf : (⟨S64x16x1024, .f32⟩ : BufTy).Contents (Elt F) → (⟨S64x16x1024, .f32⟩ : BufTy).Contents (Elt F) → (⟨S64x16x1024, .f32⟩ : BufTy).Contents (Elt F)) main_while0b_v64 main_while0b_v65
  let main_while0b_v67 : (⟨S64x16384, .f32⟩ : BufTy).Contents (Elt F) := shapeCast S64x16384 main_while0b_v66 shapeCasts_S64x16x1024_S64x16384
  let main_while0b_values : (⟨S64x16, .f32⟩ : BufTy).Contents (Elt F) := ((fun x => (Host.topK S64x16 1 (FloatOps.cmpfTotal .gt) x sliceFits_S64x16384_S64x16).1) : (⟨S64x16384, .f32⟩ : BufTy).Contents (Elt F) → (⟨S64x16, .f32⟩ : BufTy).Contents (Elt F)) main_while0b_v67
  let main_while0b_v70 : (⟨S64, .i32⟩ : BufTy).Contents (Elt F) := (broadcastInDim S64 ![] bcast_S_S64 : (⟨S_, .i32⟩ : BufTy).Contents (Elt F) → (⟨S64, .i32⟩ : BufTy).Contents (Elt F)) main_while0b_v61
  let main_while0b_v71 : (⟨S64, .i1⟩ : BufTy).Contents (Elt F) := (cmpi .slt : (⟨S64, .i32⟩ : BufTy).Contents (Elt F) → (⟨S64, .i32⟩ : BufTy).Contents (Elt F) → (⟨S64, .i1⟩ : BufTy).Contents (Elt F)) main_while0b_v70 main_v12_2
  let main_while0b_v72 : (⟨S64x1, .i1⟩ : BufTy).Contents (Elt F) := (broadcastInDim S64x1 ![0] bcast_S64_S64x1_0 : (⟨S64, .i1⟩ : BufTy).Contents (Elt F) → (⟨S64x1, .i1⟩ : BufTy).Contents (Elt F)) main_while0b_v71
  let main_while0b_v73 : (⟨S64x16, .f32⟩ : BufTy).Contents (Elt F) := pfn_where_2 main_while0b_v72 main_while0b_values main_v12_5
  main_while0b_v73

/-- A value of the first loop body. -/
def r0_v77 (main_v12_0 : (⟨S512x64x1024, .f32⟩ : BufTy).Contents (Elt F)) (main_v12_1 : (⟨S512, .i32⟩ : BufTy).Contents (Elt F)) (main_v12_2 : (⟨S64, .i32⟩ : BufTy).Contents (Elt F)) (main_v12_3 : (⟨S64x16, .i32⟩ : BufTy).Contents (Elt F)) (main_v12_4 : (⟨S_, .i32⟩ : BufTy).Contents (Elt F)) (main_v12_5 : (⟨S64x16, .f32⟩ : BufTy).Contents (Elt F)) (main_v12_6 : (⟨S512x64x16, .i32⟩ : BufTy).Contents (Elt F)) : (⟨S512x64x16, .i32⟩ : BufTy).Contents (Elt F) :=
  let main_while0b_v60 : (⟨S64x1024, .f32⟩ : BufTy).Contents (Elt F) := pfn_dynamic_index_in_dim main_v12_0 main_v12_4
  let main_while0b_v61 : (⟨S_, .i32⟩ : BufTy).Contents (Elt F) := pfn_dynamic_index_in_dim_0 main_v12_1 main_v12_4
  let main_while0b_v62 : (⟨S64x16x1, .f32⟩ : BufTy).Contents (Elt F) := (broadcastInDim S64x16x1 ![0, 1] bcast_S64x16_S64x16x1_0_1 : (⟨S64x16, .f32⟩ : BufTy).Contents (Elt F) → (⟨S64x16x1, .f32⟩ : BufTy).Contents (Elt F)) main_v12_5
  let main_while0b_v63 : (⟨S64x1x1024, .f32⟩ : BufTy).Contents (Elt F) := (broadcastInDim S64x1x1024 ![0, 2] bcast_S64x1024_S64x1x1024_0_2 : (⟨S64x1024, .f32⟩ : BufTy).Contents (Elt F) → (⟨S64x1x1024, .f32⟩ : BufTy).Contents (Elt F)) main_while0b_v60
  let main_while0b_v64 : (⟨S64x16x1024, .f32⟩ : BufTy).Contents (Elt F) := (broadcastInDim S64x16x1024 ![0, 1, 2] bcast_S64x16x1_S64x16x1024_0_1_2 : (⟨S64x16x1, .f32⟩ : BufTy).Contents (Elt F) → (⟨S64x16x1024, .f32⟩ : BufTy).Contents (Elt F)) main_while0b_v62
  let main_while0b_v65 : (⟨S64x16x1024, .f32⟩ : BufTy).Contents (Elt F) := (broadcastInDim S64x16x1024 ![0, 1, 2] bcast_S64x1x1024_S64x16x1024_0_1_2 : (⟨S64x1x1024, .f32⟩ : BufTy).Contents (Elt F) → (⟨S64x16x1024, .f32⟩ : BufTy).Contents (Elt F)) main_while0b_v63
  let main_while0b_v66 : (⟨S64x16x1024, .f32⟩ : BufTy).Contents (Elt F) := (addf : (⟨S64x16x1024, .f32⟩ : BufTy).Contents (Elt F) → (⟨S64x16x1024, .f32⟩ : BufTy).Contents (Elt F) → (⟨S64x16x1024, .f32⟩ : BufTy).Contents (Elt F)) main_while0b_v64 main_while0b_v65
  let main_while0b_v67 : (⟨S64x16384, .f32⟩ : BufTy).Contents (Elt F) := shapeCast S64x16384 main_while0b_v66 shapeCasts_S64x16x1024_S64x16384
  let main_while0b_indices : (⟨S64x16, .i32⟩ : BufTy).Contents (Elt F) := ((fun x => (Host.topK S64x16 1 (FloatOps.cmpfTotal .gt) x sliceFits_S64x16384_S64x16).2) : (⟨S64x16384, .f32⟩ : BufTy).Contents (Elt F) → (⟨S64x16, .i32⟩ : BufTy).Contents (Elt F)) main_while0b_v67
  let main_while0b_c_23 : (⟨S_, .i32⟩ : BufTy).Contents (Elt F) := (constantI S_ 32 1024#32)
  let main_while0b_v68 : (⟨S64x16, .i32⟩ : BufTy).Contents (Elt F) := pfn_floor_divide main_while0b_indices main_while0b_c_23
  let main_while0b_v70 : (⟨S64, .i32⟩ : BufTy).Contents (Elt F) := (broadcastInDim S64 ![] bcast_S_S64 : (⟨S_, .i32⟩ : BufTy).Contents (Elt F) → (⟨S64, .i32⟩ : BufTy).Contents (Elt F)) main_while0b_v61
  let main_while0b_v71 : (⟨S64, .i1⟩ : BufTy).Contents (Elt F) := (cmpi .slt : (⟨S64, .i32⟩ : BufTy).Contents (Elt F) → (⟨S64, .i32⟩ : BufTy).Contents (Elt F) → (⟨S64, .i1⟩ : BufTy).Contents (Elt F)) main_while0b_v70 main_v12_2
  let main_while0b_v72 : (⟨S64x1, .i1⟩ : BufTy).Contents (Elt F) := (broadcastInDim S64x1 ![0] bcast_S64_S64x1_0 : (⟨S64, .i1⟩ : BufTy).Contents (Elt F) → (⟨S64x1, .i1⟩ : BufTy).Contents (Elt F)) main_while0b_v71
  let main_while0b_v74 : (⟨S64x16, .i32⟩ : BufTy).Contents (Elt F) := pfn_where_3 main_while0b_v72 main_while0b_v68 main_v12_3
  let main_while0b_v77 : (⟨S512x64x16, .i32⟩ : BufTy).Contents (Elt F) := pfn_dynamic_update_index_in_dim main_v12_6 main_while0b_v74 main_v12_4
  main_while0b_v77

/-- A value of the first loop body. -/
def r0_v78 (main_v12_0 : (⟨S512x64x1024, .f32⟩ : BufTy).Contents (Elt F)) (main_v12_1 : (⟨S512, .i32⟩ : BufTy).Contents (Elt F)) (main_v12_2 : (⟨S64, .i32⟩ : BufTy).Contents (Elt F)) (main_v12_4 : (⟨S_, .i32⟩ : BufTy).Contents (Elt F)) (main_v12_5 : (⟨S64x16, .f32⟩ : BufTy).Contents (Elt F)) (main_v12_7 : (⟨S512x64x16, .i32⟩ : BufTy).Contents (Elt F)) : (⟨S512x64x16, .i32⟩ : BufTy).Contents (Elt F) :=
  let main_while0b_v60 : (⟨S64x1024, .f32⟩ : BufTy).Contents (Elt F) := pfn_dynamic_index_in_dim main_v12_0 main_v12_4
  let main_while0b_v61 : (⟨S_, .i32⟩ : BufTy).Contents (Elt F) := pfn_dynamic_index_in_dim_0 main_v12_1 main_v12_4
  let main_while0b_v62 : (⟨S64x16x1, .f32⟩ : BufTy).Contents (Elt F) := (broadcastInDim S64x16x1 ![0, 1] bcast_S64x16_S64x16x1_0_1 : (⟨S64x16, .f32⟩ : BufTy).Contents (Elt F) → (⟨S64x16x1, .f32⟩ : BufTy).Contents (Elt F)) main_v12_5
  let main_while0b_v63 : (⟨S64x1x1024, .f32⟩ : BufTy).Contents (Elt F) := (broadcastInDim S64x1x1024 ![0, 2] bcast_S64x1024_S64x1x1024_0_2 : (⟨S64x1024, .f32⟩ : BufTy).Contents (Elt F) → (⟨S64x1x1024, .f32⟩ : BufTy).Contents (Elt F)) main_while0b_v60
  let main_while0b_v64 : (⟨S64x16x1024, .f32⟩ : BufTy).Contents (Elt F) := (broadcastInDim S64x16x1024 ![0, 1, 2] bcast_S64x16x1_S64x16x1024_0_1_2 : (⟨S64x16x1, .f32⟩ : BufTy).Contents (Elt F) → (⟨S64x16x1024, .f32⟩ : BufTy).Contents (Elt F)) main_while0b_v62
  let main_while0b_v65 : (⟨S64x16x1024, .f32⟩ : BufTy).Contents (Elt F) := (broadcastInDim S64x16x1024 ![0, 1, 2] bcast_S64x1x1024_S64x16x1024_0_1_2 : (⟨S64x1x1024, .f32⟩ : BufTy).Contents (Elt F) → (⟨S64x16x1024, .f32⟩ : BufTy).Contents (Elt F)) main_while0b_v63
  let main_while0b_v66 : (⟨S64x16x1024, .f32⟩ : BufTy).Contents (Elt F) := (addf : (⟨S64x16x1024, .f32⟩ : BufTy).Contents (Elt F) → (⟨S64x16x1024, .f32⟩ : BufTy).Contents (Elt F) → (⟨S64x16x1024, .f32⟩ : BufTy).Contents (Elt F)) main_while0b_v64 main_while0b_v65
  let main_while0b_v67 : (⟨S64x16384, .f32⟩ : BufTy).Contents (Elt F) := shapeCast S64x16384 main_while0b_v66 shapeCasts_S64x16x1024_S64x16384
  let main_while0b_indices : (⟨S64x16, .i32⟩ : BufTy).Contents (Elt F) := ((fun x => (Host.topK S64x16 1 (FloatOps.cmpfTotal .gt) x sliceFits_S64x16384_S64x16).2) : (⟨S64x16384, .f32⟩ : BufTy).Contents (Elt F) → (⟨S64x16, .i32⟩ : BufTy).Contents (Elt F)) main_while0b_v67
  let main_while0b_c_24 : (⟨S_, .i32⟩ : BufTy).Contents (Elt F) := (constantI S_ 32 1024#32)
  let main_while0b_v69 : (⟨S64x16, .i32⟩ : BufTy).Contents (Elt F) := pfn_remainder main_while0b_indices main_while0b_c_24
  let main_while0b_v70 : (⟨S64, .i32⟩ : BufTy).Contents (Elt F) := (broadcastInDim S64 ![] bcast_S_S64 : (⟨S_, .i32⟩ : BufTy).Contents (Elt F) → (⟨S64, .i32⟩ : BufTy).Contents (Elt F)) main_while0b_v61
  let main_while0b_v71 : (⟨S64, .i1⟩ : BufTy).Contents (Elt F) := (cmpi .slt : (⟨S64, .i32⟩ : BufTy).Contents (Elt F) → (⟨S64, .i32⟩ : BufTy).Contents (Elt F) → (⟨S64, .i1⟩ : BufTy).Contents (Elt F)) main_while0b_v70 main_v12_2
  let main_while0b_v72 : (⟨S64x1, .i1⟩ : BufTy).Contents (Elt F) := (broadcastInDim S64x1 ![0] bcast_S64_S64x1_0 : (⟨S64, .i1⟩ : BufTy).Contents (Elt F) → (⟨S64x1, .i1⟩ : BufTy).Contents (Elt F)) main_while0b_v71
  let main_while0b_c_25 : (⟨S_, .i32⟩ : BufTy).Contents (Elt F) := (constantI S_ 32 0#32)
  let main_while0b_v75 : (⟨S64x16, .i32⟩ : BufTy).Contents (Elt F) := (broadcastInDim S64x16 ![] bcast_S_S64x16 : (⟨S_, .i32⟩ : BufTy).Contents (Elt F) → (⟨S64x16, .i32⟩ : BufTy).Contents (Elt F)) main_while0b_c_25
  let main_while0b_v76 : (⟨S64x16, .i32⟩ : BufTy).Contents (Elt F) := pfn_where_3 main_while0b_v72 main_while0b_v69 main_while0b_v75
  let main_while0b_v78 : (⟨S512x64x16, .i32⟩ : BufTy).Contents (Elt F) := pfn_dynamic_update_index_in_dim main_v12_7 main_while0b_v76 main_v12_4
  main_while0b_v78

/-- A value of the first loop body. -/
def r0_v79 (main_v12_4 : (⟨S_, .i32⟩ : BufTy).Contents (Elt F)) : (⟨S_, .i32⟩ : BufTy).Contents (Elt F) :=
  let main_while0b_c_26 : (⟨S_, .i32⟩ : BufTy).Contents (Elt F) := (constantI S_ 32 1#32)
  let main_while0b_v79 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) main_v12_4 main_while0b_c_26
  main_while0b_v79

/-- A value of the second loop body. -/
def r1_v65 (main_v14_0 : (⟨S512x64x16, .i32⟩ : BufTy).Contents (Elt F)) (main_v14_2 : (⟨S_, .i32⟩ : BufTy).Contents (Elt F)) (main_v14_3 : (⟨S64x16, .i32⟩ : BufTy).Contents (Elt F)) : (⟨S64x16, .i32⟩ : BufTy).Contents (Elt F) :=
  let main_while1b_c_20 : (⟨S_, .i32⟩ : BufTy).Contents (Elt F) := (constantI S_ 32 512#32)
  let main_while1b_v60 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) main_while1b_c_20 main_v14_2
  let main_while1b_c_21 : (⟨S_, .i32⟩ : BufTy).Contents (Elt F) := (constantI S_ 32 1#32)
  let main_while1b_v61 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) main_while1b_v60 main_while1b_c_21
  let main_while1b_v62 : (⟨S64x16, .i32⟩ : BufTy).Contents (Elt F) := pfn_dynamic_index_in_dim_4 main_v14_0 main_while1b_v61
  let main_while1b_v65 : (⟨S64x16, .i32⟩ : BufTy).Contents (Elt F) := pfn_take_along_axis main_while1b_v62 main_v14_3
  main_while1b_v65

/-- A value of the second loop body. -/
def r1_v66 (main_v14_1 : (⟨S512x64x16, .i32⟩ : BufTy).Contents (Elt F)) (main_v14_2 : (⟨S_, .i32⟩ : BufTy).Contents (Elt F)) (main_v14_3 : (⟨S64x16, .i32⟩ : BufTy).Contents (Elt F)) (main_v14_4 : (⟨S512x64x16, .i32⟩ : BufTy).Contents (Elt F)) : (⟨S512x64x16, .i32⟩ : BufTy).Contents (Elt F) :=
  let main_while1b_c_20 : (⟨S_, .i32⟩ : BufTy).Contents (Elt F) := (constantI S_ 32 512#32)
  let main_while1b_v60 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) main_while1b_c_20 main_v14_2
  let main_while1b_c_21 : (⟨S_, .i32⟩ : BufTy).Contents (Elt F) := (constantI S_ 32 1#32)
  let main_while1b_v61 : (⟨S_, .i32⟩ : BufTy).Contents (Elt F) := (subi : (⟨S_, .i32⟩ : BufTy).Contents (Elt F) → (⟨S_, .i32⟩ : BufTy).Contents (Elt F) → (⟨S_, .i32⟩ : BufTy).Contents (Elt F)) main_while1b_v60 main_while1b_c_21
  let main_while1b_v63 : (⟨S64x16, .i32⟩ : BufTy).Contents (Elt F) := pfn_dynamic_index_in_dim_4 main_v14_1 main_while1b_v61
  let main_while1b_v64 : (⟨S64x16, .i32⟩ : BufTy).Contents (Elt F) := pfn_take_along_axis main_while1b_v63 main_v14_3
  let main_while1b_v66 : (⟨S512x64x16, .i32⟩ : BufTy).Contents (Elt F) := pfn_dynamic_update_index_in_dim main_v14_4 main_while1b_v64 main_while1b_v61
  main_while1b_v66

/-- A value of the second loop body. -/
def r1_v67 (main_v14_2 : (⟨S_, .i32⟩ : BufTy).Contents (Elt F)) : (⟨S_, .i32⟩ : BufTy).Contents (Elt F) :=
  let main_while1b_c_22 : (⟨S_, .i32⟩ : BufTy).Contents (Elt F) := (constantI S_ 32 1#32)
  let main_while1b_v67 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) main_v14_2 main_while1b_c_22
  main_while1b_v67

/-- The label sequence. -/
def r2_v18 (main_v14_4 : (⟨S512x64x16, .i32⟩ : BufTy).Contents (Elt F)) : (⟨S64x512, .i32⟩ : BufTy).Contents (Elt F) :=
  let main_v16 : (⟨S64x16x512, .i32⟩ : BufTy).Contents (Elt F) := ((transpose S64x16x512 [1, 2, 0] · transposes_S512x64x16_S64x16x512_1_2_0) : (⟨S512x64x16, .i32⟩ : BufTy).Contents (Elt F) → (⟨S64x16x512, .i32⟩ : BufTy).Contents (Elt F)) main_v14_4
  let main_v17 : (⟨S64x1x512, .i32⟩ : BufTy).Contents (Elt F) := ((extractStridedSlice S64x1x512 ![0, 0, 0] · slices_S64x16x512_S64x1x512_0_0_0) : (⟨S64x16x512, .i32⟩ : BufTy).Contents (Elt F) → (⟨S64x1x512, .i32⟩ : BufTy).Contents (Elt F)) main_v16
  let main_v18 : (⟨S64x512, .i32⟩ : BufTy).Contents (Elt F) := shapeCast S64x512 main_v17 shapeCasts_S64x1x512_S64x512
  main_v18

/-- A value after the loops. -/
def r2_v32 (main_v18 : (⟨S64x512, .i32⟩ : BufTy).Contents (Elt F)) (main_arg1 : (⟨S64, .i32⟩ : BufTy).Contents (Elt F)) : (⟨S64x512, .i1⟩ : BufTy).Contents (Elt F) :=
  let main_v19 : (⟨S512, .i32⟩ : BufTy).Contents (Elt F) := (iotaInDim S512 32 0)
  let main_v20 : (⟨S1x512, .i32⟩ : BufTy).Contents (Elt F) := (broadcastInDim S1x512 ![1] bcast_S512_S1x512_1 : (⟨S512, .i32⟩ : BufTy).Contents (Elt F) → (⟨S1x512, .i32⟩ : BufTy).Contents (Elt F)) main_v19
  let main_v21 : (⟨S64x1, .i32⟩ : BufTy).Contents (Elt F) := (broadcastInDim S64x1 ![0] bcast_S64_S64x1_0 : (⟨S64, .i32⟩ : BufTy).Contents (Elt F) → (⟨S64x1, .i32⟩ : BufTy).Contents (Elt F)) main_arg1
  let main_v22 : (⟨S64x512, .i32⟩ : BufTy).Contents (Elt F) := (broadcastInDim S64x512 ![0, 1] bcast_S1x512_S64x512_0_1 : (⟨S1x512, .i32⟩ : BufTy).Contents (Elt F) → (⟨S64x512, .i32⟩ : BufTy).Contents (Elt F)) main_v20
  let main_v23 : (⟨S64x512, .i32⟩ : BufTy).Contents (Elt F) := (broadcastInDim S64x512 ![0, 1] bcast_S64x1_S64x512_0_1 : (⟨S64x1, .i32⟩ : BufTy).Contents (Elt F) → (⟨S64x512, .i32⟩ : BufTy).Contents (Elt F)) main_v21
  let main_v24 : (⟨S64x512, .i1⟩ : BufTy).Contents (Elt F) := (cmpi .slt : (⟨S64x512, .i32⟩ : BufTy).Contents (Elt F) → (⟨S64x512, .i32⟩ : BufTy).Contents (Elt F) → (⟨S64x512, .i1⟩ : BufTy).Contents (Elt F)) main_v22 main_v23
  let main_c_6 : (⟨S_, .i32⟩ : BufTy).Contents (Elt F) := (constantI S_ 32 4294967295#32)
  let main_v25 : (⟨S64x1, .i32⟩ : BufTy).Contents (Elt F) := (broadcastInDim S64x1 ![] bcast_S_S64x1 : (⟨S_, .i32⟩ : BufTy).Contents (Elt F) → (⟨S64x1, .i32⟩ : BufTy).Contents (Elt F)) main_c_6
  let main_v26 : (⟨S64x511, .i32⟩ : BufTy).Contents (Elt F) := ((extractStridedSlice S64x511 ![0, 0] · slices_S64x512_S64x511_0_0) : (⟨S64x512, .i32⟩ : BufTy).Contents (Elt F) → (⟨S64x511, .i32⟩ : BufTy).Contents (Elt F)) main_v18
  let main_v27 : (⟨S64x512, .i32⟩ : BufTy).Contents (Elt F) := ((fun a b => concatenate S64x512 1 [⟨S64x1, a⟩, ⟨S64x511, b⟩] concatenates_S64x1_S64x511_S64x512_d1) : (⟨S64x1, .i32⟩ : BufTy).Contents (Elt F) → (⟨S64x511, .i32⟩ : BufTy).Contents (Elt F) → (⟨S64x512, .i32⟩ : BufTy).Contents (Elt F)) main_v25 main_v26
  let main_c_7 : (⟨S_, .i32⟩ : BufTy).Contents (Elt F) := (constantI S_ 32 0#32)
  let main_v28 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_7
  let main_v29 : (⟨S64x512, .i1⟩ : BufTy).Contents (Elt F) := (cmpi .ne : (⟨S64x512, .i32⟩ : BufTy).Contents (Elt F) → (⟨S64x512, .i32⟩ : BufTy).Contents (Elt F) → (⟨S64x512, .i1⟩ : BufTy).Contents (Elt F)) main_v18 main_v28
  let main_v30 : (⟨S64x512, .i1⟩ : BufTy).Contents (Elt F) := (andi : (⟨S64x512, .i1⟩ : BufTy).Contents (Elt F) → (⟨S64x512, .i1⟩ : BufTy).Contents (Elt F) → (⟨S64x512, .i1⟩ : BufTy).Contents (Elt F)) main_v24 main_v29
  let main_v31 : (⟨S64x512, .i1⟩ : BufTy).Contents (Elt F) := (cmpi .ne : (⟨S64x512, .i32⟩ : BufTy).Contents (Elt F) → (⟨S64x512, .i32⟩ : BufTy).Contents (Elt F) → (⟨S64x512, .i1⟩ : BufTy).Contents (Elt F)) main_v18 main_v27
  let main_v32 : (⟨S64x512, .i1⟩ : BufTy).Contents (Elt F) := (andi : (⟨S64x512, .i1⟩ : BufTy).Contents (Elt F) → (⟨S64x512, .i1⟩ : BufTy).Contents (Elt F) → (⟨S64x512, .i1⟩ : BufTy).Contents (Elt F)) main_v30 main_v31
  main_v32

/-- A value after the loops. -/
def r2_v54 (main_v18 : (⟨S64x512, .i32⟩ : BufTy).Contents (Elt F)) (main_v32 : (⟨S64x512, .i1⟩ : BufTy).Contents (Elt F)) : (⟨S64x512, .i32⟩ : BufTy).Contents (Elt F) :=
  let main_v33 : (⟨S64x512, .i32⟩ : BufTy).Contents (Elt F) := pfn_cumsum main_v32
  let main_c_8 : (⟨S_, .i32⟩ : BufTy).Contents (Elt F) := (constantI S_ 32 1#32)
  let main_v34 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_8
  let main_v35 : (⟨S64x512, .i32⟩ : BufTy).Contents (Elt F) := (subi : (⟨S64x512, .i32⟩ : BufTy).Contents (Elt F) → (⟨S64x512, .i32⟩ : BufTy).Contents (Elt F) → (⟨S64x512, .i32⟩ : BufTy).Contents (Elt F)) main_v33 main_v34
  let main_c_9 : (⟨S_, .i32⟩ : BufTy).Contents (Elt F) := (constantI S_ 32 512#32)
  let main_v36 : (⟨S64x512, .i32⟩ : BufTy).Contents (Elt F) := pfn_where_6 main_v32 main_v35 main_c_9
  let main_c_10 : (⟨S_, .i32⟩ : BufTy).Contents (Elt F) := (constantI S_ 32 4294967295#32)
  let main_v37 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_10
  let main_v38 : (⟨S64, .i32⟩ : BufTy).Contents (Elt F) := (iotaInDim S64 32 0)
  let main_v39 : (⟨S64x1, .i32⟩ : BufTy).Contents (Elt F) := (broadcastInDim S64x1 ![0] bcast_S64_S64x1_0 : (⟨S64, .i32⟩ : BufTy).Contents (Elt F) → (⟨S64x1, .i32⟩ : BufTy).Contents (Elt F)) main_v38
  let main_c_11 : (⟨S_, .i32⟩ : BufTy).Contents (Elt F) := (constantI S_ 32 0#32)
  let main_v40 : (⟨S64x1, .i32⟩ : BufTy).Contents (Elt F) := (broadcastInDim S64x1 ![] bcast_S_S64x1 : (⟨S_, .i32⟩ : BufTy).Contents (Elt F) → (⟨S64x1, .i32⟩ : BufTy).Contents (Elt F)) main_c_11
  let main_v41 : (⟨S64x1, .i1⟩ : BufTy).Contents (Elt F) := (cmpi .slt : (⟨S64x1, .i32⟩ : BufTy).Contents (Elt F) → (⟨S64x1, .i32⟩ : BufTy).Contents (Elt F) → (⟨S64x1, .i1⟩ : BufTy).Contents (Elt F)) main_v39 main_v40
  let main_c_12 : (⟨S_, .i32⟩ : BufTy).Contents (Elt F) := (constantI S_ 32 64#32)
  let main_v42 : (⟨S64x1, .i32⟩ : BufTy).Contents (Elt F) := (broadcastInDim S64x1 ![] bcast_S_S64x1 : (⟨S_, .i32⟩ : BufTy).Contents (Elt F) → (⟨S64x1, .i32⟩ : BufTy).Contents (Elt F)) main_c_12
  let main_v43 : (⟨S64x1, .i32⟩ : BufTy).Contents (Elt F) := (addi : (⟨S64x1, .i32⟩ : BufTy).Contents (Elt F) → (⟨S64x1, .i32⟩ : BufTy).Contents (Elt F) → (⟨S64x1, .i32⟩ : BufTy).Contents (Elt F)) main_v39 main_v42
  let main_v44 : (⟨S64x1, .i32⟩ : BufTy).Contents (Elt F) := (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)) main_v41 main_v43 main_v39
  let main_c_13 : (⟨S_, .i32⟩ : BufTy).Contents (Elt F) := (constantI S_ 32 0#32)
  let main_v45 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_13
  let main_v46 : (⟨S64x512, .i1⟩ : BufTy).Contents (Elt F) := (cmpi .slt : (⟨S64x512, .i32⟩ : BufTy).Contents (Elt F) → (⟨S64x512, .i32⟩ : BufTy).Contents (Elt F) → (⟨S64x512, .i1⟩ : BufTy).Contents (Elt F)) main_v36 main_v45
  let main_c_14 : (⟨S_, .i32⟩ : BufTy).Contents (Elt F) := (constantI S_ 32 512#32)
  let main_v47 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_14
  let main_v48 : (⟨S64x512, .i32⟩ : BufTy).Contents (Elt F) := (addi : (⟨S64x512, .i32⟩ : BufTy).Contents (Elt F) → (⟨S64x512, .i32⟩ : BufTy).Contents (Elt F) → (⟨S64x512, .i32⟩ : BufTy).Contents (Elt F)) main_v36 main_v47
  let main_v49 : (⟨S64x512, .i32⟩ : BufTy).Contents (Elt F) := (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)) main_v46 main_v48 main_v36
  let main_v50 : (⟨S64x512, .i32⟩ : BufTy).Contents (Elt F) := (broadcastInDim S64x512 ![0, 1] bcast_S64x1_S64x512_0_1 : (⟨S64x1, .i32⟩ : BufTy).Contents (Elt F) → (⟨S64x512, .i32⟩ : BufTy).Contents (Elt F)) main_v44
  let main_v51 : (⟨S64x512x1, .i32⟩ : BufTy).Contents (Elt F) := (broadcastInDim S64x512x1 ![0, 1] bcast_S64x512_S64x512x1_0_1 : (⟨S64x512, .i32⟩ : BufTy).Contents (Elt F) → (⟨S64x512x1, .i32⟩ : BufTy).Contents (Elt F)) main_v50
  let main_v52 : (⟨S64x512x1, .i32⟩ : BufTy).Contents (Elt F) := (broadcastInDim S64x512x1 ![0, 1] bcast_S64x512_S64x512x1_0_1 : (⟨S64x512, .i32⟩ : BufTy).Contents (Elt F) → (⟨S64x512x1, .i32⟩ : BufTy).Contents (Elt F)) main_v49
  let main_v53 : (⟨S64x512x2, .i32⟩ : BufTy).Contents (Elt F) := ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)) main_v51 main_v52
  let main_v54 : (⟨S64x512, .i32⟩ : BufTy).Contents (Elt F) := ((fun x i u => Host.scatter scatter_S64x512_S64x512x2_S64x512_n_01_01_2 (fun _ b => b) x i u) : (⟨S64x512, .i32⟩ : BufTy).Contents (Elt F) → (⟨S64x512x2, .i32⟩ : BufTy).Contents (Elt F) → (⟨S64x512, .i32⟩ : BufTy).Contents (Elt F) → (⟨S64x512, .i32⟩ : BufTy).Contents (Elt F)) main_v37 main_v53 main_v18
  main_v54

/-- A value after the loops. -/
def r2_v58 (main_v32 : (⟨S64x512, .i1⟩ : BufTy).Contents (Elt F)) : (⟨S64x1, .i32⟩ : BufTy).Contents (Elt F) :=
  let main_v56 : (⟨S64x512, .i32⟩ : BufTy).Contents (Elt F) := ((extui 32 · natLt_1_32) : (⟨S64x512, .i1⟩ : BufTy).Contents (Elt F) → (⟨S64x512, .i32⟩ : BufTy).Contents (Elt F)) main_v32
  let main_c_15 : (⟨S_, .i32⟩ : BufTy).Contents (Elt F) := (constantI S_ 32 0#32)
  let main_v57 : (⟨S64, .i32⟩ : BufTy).Contents (Elt F) := ((fun x v => Host.reduce IntOp.addi x v reducesTo_S64x512_S64_d1 h_S_) : (⟨S64x512, .i32⟩ : BufTy).Contents (Elt F) → (⟨S_, .i32⟩ : BufTy).Contents (Elt F) → (⟨S64, .i32⟩ : BufTy).Contents (Elt F)) main_v56 main_c_15
  let main_v58 : (⟨S64x1, .i32⟩ : BufTy).Contents (Elt F) := (broadcastInDim S64x1 ![0] bcast_S64_S64x1_0 : (⟨S64, .i32⟩ : BufTy).Contents (Elt F) → (⟨S64x1, .i32⟩ : BufTy).Contents (Elt F)) main_v57
  main_v58

/-- A value after the loops. -/
def r2_v59 (main_v12_5 : (⟨S64x16, .f32⟩ : BufTy).Contents (Elt F)) : (⟨S64x1, .f32⟩ : BufTy).Contents (Elt F) :=
  let main_v15 : (⟨S64x1, .f32⟩ : BufTy).Contents (Elt F) := ((extractStridedSlice S64x1 ![0, 0] · slices_S64x16_S64x1_0_0) : (⟨S64x16, .f32⟩ : BufTy).Contents (Elt F) → (⟨S64x1, .f32⟩ : BufTy).Contents (Elt F)) main_v12_5
  let main_v59 : (⟨S64x1, .f32⟩ : BufTy).Contents (Elt F) := (Host.negf : (⟨S64x1, .f32⟩ : BufTy).Contents (Elt F) → (⟨S64x1, .f32⟩ : BufTy).Contents (Elt F)) main_v15
  main_v59

/-- A value after the loops. -/
def r2_v55 (main_v54 : (⟨S64x512, .i32⟩ : BufTy).Contents (Elt F)) : (⟨S64x1x512, .i32⟩ : BufTy).Contents (Elt F) :=
  let main_v55 : (⟨S64x1x512, .i32⟩ : BufTy).Contents (Elt F) := (broadcastInDim S64x1x512 ![0, 2] bcast_S64x512_S64x1x512_0_2 : (⟨S64x512, .i32⟩ : BufTy).Contents (Elt F) → (⟨S64x1x512, .i32⟩ : BufTy).Contents (Elt F)) main_v54
  main_v55

end Cert.BeamRef
-- ==== Proof.RefEval.lean ====
/- What the reference program's stretches leave, read off as the value functions. -/
module

public import proofs.«01_k».proof.Proof.RefRun
public import proofs.«01_k».proof.Proof.RefVal
public import Idealize.ShloMosaic.Lib.StableHlo.RunClose

@[expose] public section

noncomputable section

namespace Cert.BeamRef

open Idealize.SL Idealize.SL.Sem
open Idealize.ShloMosaic Idealize.ShloMosaic.StableHlo Idealize.ShloMosaic.TcCoe
open Cert.ReferenceIdeal Cert.ReferenceIdeal.Gen

variable {F : FTy → Type} [FloatOps F]

/-- Which rows step: the trip's index is below the row's length. -/
def actOf (v61 : (⟨S_, .i32⟩ : BufTy).Contents (Elt F)) (len : (⟨S64, .i32⟩ : BufTy).Contents (Elt F)) : (⟨S64x1, .i1⟩ : BufTy).Contents (Elt F) :=
  broadcastInDim S64x1 ![0] bcast_S64_S64x1_0 (cmpi .slt (broadcastInDim S64 ![] bcast_S_S64 v61) len)

/-- The candidates' largest values. -/
def topV (v67 : (⟨S64x16384, .f32⟩ : BufTy).Contents (Elt F)) : (⟨S64x16, .f32⟩ : BufTy).Contents (Elt F) :=
  (Host.topK S64x16 1 (FloatOps.cmpfTotal .gt) v67 sliceFits_S64x16384_S64x16).1
/-- The candidates' largest values' places. -/
def topI (v67 : (⟨S64x16384, .f32⟩ : BufTy).Contents (Elt F)) : (⟨S64x16, .i32⟩ : BufTy).Contents (Elt F) :=
  (Host.topK S64x16 1 (FloatOps.cmpfTotal .gt) v67 sliceFits_S64x16384_S64x16).2

/-- The labels put at the places `main_v36` names. -/
def scatOf (main_v18 : (⟨S64x512, .i32⟩ : BufTy).Contents (Elt F)) (main_v36 : (⟨S64x512, .i32⟩ : BufTy).Contents (Elt F)) : (⟨S64x512, .i32⟩ : BufTy).Contents (Elt F) :=
  let main_c_10 : (⟨S_, .i32⟩ : BufTy).Contents (Elt F) := (constantI S_ 32 4294967295#32)
  let main_v37 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_10
  let main_v38 : (⟨S64, .i32⟩ : BufTy).Contents (Elt F) := (iotaInDim S64 32 0)
  let main_v39 : (⟨S64x1, .i32⟩ : BufTy).Contents (Elt F) := (broadcastInDim S64x1 ![0] bcast_S64_S64x1_0 : (⟨S64, .i32⟩ : BufTy).Contents (Elt F) → (⟨S64x1, .i32⟩ : BufTy).Contents (Elt F)) main_v38
  let main_c_11 : (⟨S_, .i32⟩ : BufTy).Contents (Elt F) := (constantI S_ 32 0#32)
  let main_v40 : (⟨S64x1, .i32⟩ : BufTy).Contents (Elt F) := (broadcastInDim S64x1 ![] bcast_S_S64x1 : (⟨S_, .i32⟩ : BufTy).Contents (Elt F) → (⟨S64x1, .i32⟩ : BufTy).Contents (Elt F)) main_c_11
  let main_v41 : (⟨S64x1, .i1⟩ : BufTy).Contents (Elt F) := (cmpi .slt : (⟨S64x1, .i32⟩ : BufTy).Contents (Elt F) → (⟨S64x1, .i32⟩ : BufTy).Contents (Elt F) → (⟨S64x1, .i1⟩ : BufTy).Contents (Elt F)) main_v39 main_v40
  let main_c_12 : (⟨S_, .i32⟩ : BufTy).Contents (Elt F) := (constantI S_ 32 64#32)
  let main_v42 : (⟨S64x1, .i32⟩ : BufTy).Contents (Elt F) := (broadcastInDim S64x1 ![] bcast_S_S64x1 : (⟨S_, .i32⟩ : BufTy).Contents (Elt F) → (⟨S64x1, .i32⟩ : BufTy).Contents (Elt F)) main_c_12
  let main_v43 : (⟨S64x1, .i32⟩ : BufTy).Contents (Elt F) := (addi : (⟨S64x1, .i32⟩ : BufTy).Contents (Elt F) → (⟨S64x1, .i32⟩ : BufTy).Contents (Elt F) → (⟨S64x1, .i32⟩ : BufTy).Contents (Elt F)) main_v39 main_v42
  let main_v44 : (⟨S64x1, .i32⟩ : BufTy).Contents (Elt F) := (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)) main_v41 main_v43 main_v39
  let main_c_13 : (⟨S_, .i32⟩ : BufTy).Contents (Elt F) := (constantI S_ 32 0#32)
  let main_v45 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_13
  let main_v46 : (⟨S64x512, .i1⟩ : BufTy).Contents (Elt F) := (cmpi .slt : (⟨S64x512, .i32⟩ : BufTy).Contents (Elt F) → (⟨S64x512, .i32⟩ : BufTy).Contents (Elt F) → (⟨S64x512, .i1⟩ : BufTy).Contents (Elt F)) main_v36 main_v45
  let main_c_14 : (⟨S_, .i32⟩ : BufTy).Contents (Elt F) := (constantI S_ 32 512#32)
  let main_v47 : (⟨S64x512, .i32⟩ : BufTy).Contents (Elt F) := (broadcastInDim S64x512 ![] bcast_S_S64x512 : (⟨S_, .i32⟩ : BufTy).Contents (Elt F) → (⟨S64x512, .i32⟩ : BufTy).Contents (Elt F)) main_c_14
  let main_v48 : (⟨S64x512, .i32⟩ : BufTy).Contents (Elt F) := (addi : (⟨S64x512, .i32⟩ : BufTy).Contents (Elt F) → (⟨S64x512, .i32⟩ : BufTy).Contents (Elt F) → (⟨S64x512, .i32⟩ : BufTy).Contents (Elt F)) main_v36 main_v47
  let main_v49 : (⟨S64x512, .i32⟩ : BufTy).Contents (Elt F) := (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)) main_v46 main_v48 main_v36
  let main_v50 : (⟨S64x512, .i32⟩ : BufTy).Contents (Elt F) := (broadcastInDim S64x512 ![0, 1] bcast_S64x1_S64x512_0_1 : (⟨S64x1, .i32⟩ : BufTy).Contents (Elt F) → (⟨S64x512, .i32⟩ : BufTy).Contents (Elt F)) main_v44
  let main_v51 : (⟨S64x512x1, .i32⟩ : BufTy).Contents (Elt F) := (broadcastInDim S64x512x1 ![0, 1] bcast_S64x512_S64x512x1_0_1 : (⟨S64x512, .i32⟩ : BufTy).Contents (Elt F) → (⟨S64x512x1, .i32⟩ : BufTy).Contents (Elt F)) main_v50
  let main_v52 : (⟨S64x512x1, .i32⟩ : BufTy).Contents (Elt F) := (broadcastInDim S64x512x1 ![0, 1] bcast_S64x512_S64x512x1_0_1 : (⟨S64x512, .i32⟩ : BufTy).Contents (Elt F) → (⟨S64x512x1, .i32⟩ : BufTy).Contents (Elt F)) main_v49
  let main_v53 : (⟨S64x512x2, .i32⟩ : BufTy).Contents (Elt F) := ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)) main_v51 main_v52
  let main_v54 : (⟨S64x512, .i32⟩ : BufTy).Contents (Elt F) := ((fun x i u => Host.scatter scatter_S64x512_S64x512x2_S64x512_n_01_01_2 (fun _ b => b) x i u) : (⟨S64x512, .i32⟩ : BufTy).Contents (Elt F) → (⟨S64x512x2, .i32⟩ : BufTy).Contents (Elt F) → (⟨S64x512, .i32⟩ : BufTy).Contents (Elt F) → (⟨S64x512, .i32⟩ : BufTy).Contents (Elt F)) main_v37 main_v53 main_v18
  main_v54

section Eval

variable (X : Valuation τ sig (Elt F))

/-- What a valuation gives the TensorCore's buffer `r`. -/
abbrev rd (X : Valuation τ sig (Elt F)) (r : Ref sig .tc) : r.ty.Contents (Elt F) := X (Proc.devRef .tc r)

set_option maxHeartbeats 1000000 in
set_option maxRecDepth 20000 in
theorem b0a_0 : rd (afterL ([w00, w01, w02] : List (List (HloOp τ sig (Elt F)))) X) main_v12_0 = (rd X main_v12_0) := by
  unfold w00 w01 w02
  simp only [afterL_cons, afterL_nil]
  after_results_simp_entrywise
  all_goals rfl

set_option maxHeartbeats 1000000 in
set_option maxRecDepth 20000 in
theorem b0a_1 : rd (afterL ([w00, w01, w02] : List (List (HloOp τ sig (Elt F)))) X) main_v12_1 = (rd X main_v12_1) := by
  unfold w00 w01 w02
  simp only [afterL_cons, afterL_nil]
  after_results_simp_entrywise
  all_goals rfl

set_option maxHeartbeats 1000000 in
set_option maxRecDepth 20000 in
theorem b0a_2 : rd (afterL ([w00, w01, w02] : List (List (HloOp τ sig (Elt F)))) X) main_v12_2 = (rd X main_v12_2) := by
  unfold w00 w01 w02
  simp only [afterL_cons, afterL_nil]
  after_results_simp_entrywise
  all_goals rfl

set_option maxHeartbeats 1000000 in
set_option maxRecDepth 20000 in
theorem b0a_3 : rd (afterL ([w00, w01, w02] : List (List (HloOp τ sig (Elt F)))) X) main_v12_3 = (rd X main_v12_3) := by
  unfold w00 w01 w02
  simp only [afterL_cons, afterL_nil]
  after_results_simp_entrywise
  all_goals rfl

set_option maxHeartbeats 1000000 in
set_option maxRecDepth 20000 in
theorem b0a_4 : rd (afterL ([w00, w01, w02] : List (List (HloOp τ sig (Elt F)))) X) main_v12_4 = (rd X main_v12_4) := by
  unfold w00 w01 w02
  simp only [afterL_cons, afterL_nil]
  after_results_simp_entrywise
  all_goals rfl

set_option maxHeartbeats 1000000 in
set_option maxRecDepth 20000 in
theorem b0a_5 : rd (afterL ([w00, w01, w02] : List (List (HloOp τ sig (Elt F)))) X) main_v12_5 = (rd X main_v12_5) := by
  unfold w00 w01 w02
  simp only [afterL_cons, afterL_nil]
  after_results_simp_entrywise
  all_goals rfl

set_option maxHeartbeats 1000000 in
set_option maxRecDepth 20000 in
theorem b0a_6 : rd (afterL ([w00, w01, w02] : List (List (HloOp τ sig (Elt F)))) X) main_v12_6 = (rd X main_v12_6) := by
  unfold w00 w01 w02
  simp only [afterL_cons, afterL_nil]
  after_results_simp_entrywise
  all_goals rfl

set_option maxHeartbeats 1000000 in
set_option maxRecDepth 20000 in
theorem b0a_7 : rd (afterL ([w00, w01, w02] : List (List (HloOp τ sig (Elt F)))) X) main_v12_7 = (rd X main_v12_7) := by
  unfold w00 w01 w02
  simp only [afterL_cons, afterL_nil]
  after_results_simp_entrywise
  all_goals rfl

set_option maxHeartbeats 1000000 in
set_option maxRecDepth 20000 in
theorem b0a_61 : rd (afterL ([w00, w01, w02] : List (List (HloOp τ sig (Elt F)))) X) main_while0b_v61 = pfn_dynamic_index_in_dim_0 (rd X main_v12_1) (rd X main_v12_4) := by
  unfold w00 w01 w02
  simp only [afterL_cons, afterL_nil]
  after_results_simp_entrywise
  all_goals rfl

set_option maxHeartbeats 1000000 in
set_option maxRecDepth 20000 in
theorem b0a_values : rd (afterL ([w00, w01, w02] : List (List (HloOp τ sig (Elt F)))) X) main_while0b_values = topV (r0_v67 (rd X main_v12_0) (rd X main_v12_4) (rd X main_v12_5)) := by
  unfold w00 w01 w02
  simp only [afterL_cons, afterL_nil]
  after_results_simp_entrywise
  all_goals rfl

set_option maxHeartbeats 1000000 in
set_option maxRecDepth 20000 in
theorem b0a_indices : rd (afterL ([w00, w01, w02] : List (List (HloOp τ sig (Elt F)))) X) main_while0b_indices = topI (r0_v67 (rd X main_v12_0) (rd X main_v12_4) (rd X main_v12_5)) := by
  unfold w00 w01 w02
  simp only [afterL_cons, afterL_nil]
  after_results_simp_entrywise
  all_goals rfl

set_option maxHeartbeats 1000000 in
set_option maxRecDepth 20000 in
theorem b0b_0 : rd (afterL ([w03, w04, w05, w06, w07, w08, w09, w010, w011, w012, w013] : List (List (HloOp τ sig (Elt F)))) X) main_v12_0 = (rd X main_v12_0) := by
  unfold w03 w04 w05 w06 w07 w08 w09 w010 w011 w012 w013
  simp only [afterL_cons, afterL_nil]
  after_results_simp_entrywise
  all_goals rfl

set_option maxHeartbeats 1000000 in
set_option maxRecDepth 20000 in
theorem b0b_1 : rd (afterL ([w03, w04, w05, w06, w07, w08, w09, w010, w011, w012, w013] : List (List (HloOp τ sig (Elt F)))) X) main_v12_1 = (rd X main_v12_1) := by
  unfold w03 w04 w05 w06 w07 w08 w09 w010 w011 w012 w013
  simp only [afterL_cons, afterL_nil]
  after_results_simp_entrywise
  all_goals rfl

set_option maxHeartbeats 1000000 in
set_option maxRecDepth 20000 in
theorem b0b_2 : rd (afterL ([w03, w04, w05, w06, w07, w08, w09, w010, w011, w012, w013] : List (List (HloOp τ sig (Elt F)))) X) main_v12_2 = (rd X main_v12_2) := by
  unfold w03 w04 w05 w06 w07 w08 w09 w010 w011 w012 w013
  simp only [afterL_cons, afterL_nil]
  after_results_simp_entrywise
  all_goals rfl

set_option maxHeartbeats 1000000 in
set_option maxRecDepth 20000 in
theorem b0b_3 : rd (afterL ([w03, w04, w05, w06, w07, w08, w09, w010, w011, w012, w013] : List (List (HloOp τ sig (Elt F)))) X) main_v12_3 = (rd X main_v12_3) := by
  unfold w03 w04 w05 w06 w07 w08 w09 w010 w011 w012 w013
  simp only [afterL_cons, afterL_nil]
  after_results_simp_entrywise
  all_goals rfl

set_option maxHeartbeats 1000000 in
set_option maxRecDepth 20000 in
theorem b0b_4 : rd (afterL ([w03, w04, w05, w06, w07, w08, w09, w010, w011, w012, w013] : List (List (HloOp τ sig (Elt F)))) X) main_v12_4 = r0_v79 (rd X main_v12_4) := by
  unfold w03 w04 w05 w06 w07 w08 w09 w010 w011 w012 w013
  simp only [afterL_cons, afterL_nil]
  after_results_simp_entrywise
  all_goals rfl

set_option maxHeartbeats 1000000 in
set_option maxRecDepth 20000 in
theorem b0b_5 : rd (afterL ([w03, w04, w05, w06, w07, w08, w09, w010, w011, w012, w013] : List (List (HloOp τ sig (Elt F)))) X) main_v12_5 = pfn_where_2 (actOf (rd X main_while0b_v61) (rd X main_v12_2)) (rd X main_while0b_values) (rd X main_v12_5) := by
  unfold w03 w04 w05 w06 w07 w08 w09 w010 w011 w012 w013
  simp only [afterL_cons, afterL_nil]
  after_results_simp_entrywise
  all_goals rfl

set_option maxHeartbeats 1000000 in
set_option maxRecDepth 20000 in
theorem b0b_6 : rd (afterL ([w03, w04, w05, w06, w07, w08, w09, w010, w011, w012, w013] : List (List (HloOp τ sig (Elt F)))) X) main_v12_6 = pfn_dynamic_update_index_in_dim (rd X main_v12_6) (pfn_where_3 (actOf (rd X main_while0b_v61) (rd X main_v12_2)) (pfn_floor_divide (rd X main_while0b_indices) (rd X main_while0b_c_23)) (rd X main_v12_3)) (rd X main_v12_4) := by
  unfold w03 w04 w05 w06 w07 w08 w09 w010 w011 w012 w013
  simp only [afterL_cons, afterL_nil]
  after_results_simp_entrywise
  all_goals rfl

set_option maxHeartbeats 1000000 in
set_option maxRecDepth 20000 in
theorem b0a_c23 : rd (afterL ([w00, w01, w02] : List (List (HloOp τ sig (Elt F)))) X) main_while0b_c_23 = constantI S_ 32 1024#32 := by
  unfold w00 w01 w02
  simp only [afterL_cons, afterL_nil]
  after_results_simp_entrywise
  all_goals rfl

set_option maxHeartbeats 1000000 in
set_option maxRecDepth 20000 in
theorem b0b_7 : rd (afterL ([w03, w04, w05, w06, w07, w08, w09, w010, w011, w012, w013] : List (List (HloOp τ sig (Elt F)))) X) main_v12_7 = pfn_dynamic_update_index_in_dim (rd X main_v12_7) (pfn_where_3 (actOf (rd X main_while0b_v61) (rd X main_v12_2)) (pfn_remainder (rd X main_while0b_indices) (constantI S_ 32 1024#32)) (broadcastInDim S64x16 ![] bcast_S_S64x16 (constantI S_ 32 0#32))) (rd X main_v12_4) := by
  unfold w03 w04 w05 w06 w07 w08 w09 w010 w011 w012 w013
  simp only [afterL_cons, afterL_nil]
  after_results_simp_entrywise
  all_goals rfl

set_option maxHeartbeats 1000000 in
set_option maxRecDepth 20000 in
theorem pre_0 : rd (afterL ([pre0] : List (List (HloOp τ sig (Elt F)))) X) main_v12_0 = (rd X main_arg0) := by
  unfold pre0
  simp only [afterL_cons, afterL_nil]
  after_results_simp_entrywise
  all_goals rfl

set_option maxHeartbeats 1000000 in
set_option maxRecDepth 20000 in
theorem pre_1 : rd (afterL ([pre0] : List (List (HloOp τ sig (Elt F)))) X) main_v12_1 = iotaInDim S512 32 0 := by
  unfold pre0
  simp only [afterL_cons, afterL_nil]
  after_results_simp_entrywise
  all_goals rfl

set_option maxHeartbeats 1000000 in
set_option maxRecDepth 20000 in
theorem pre_2 : rd (afterL ([pre0] : List (List (HloOp τ sig (Elt F)))) X) main_v12_2 = (rd X main_arg1) := by
  unfold pre0
  simp only [afterL_cons, afterL_nil]
  after_results_simp_entrywise
  all_goals rfl

set_option maxHeartbeats 1000000 in
set_option maxRecDepth 20000 in
theorem pre_3 : rd (afterL ([pre0] : List (List (HloOp τ sig (Elt F)))) X) main_v12_3 = r_v8 := by
  unfold pre0
  simp only [afterL_cons, afterL_nil]
  after_results_simp_entrywise
  all_goals rfl

set_option maxHeartbeats 1000000 in
set_option maxRecDepth 20000 in
theorem pre_4 : rd (afterL ([pre0] : List (List (HloOp τ sig (Elt F)))) X) main_v12_4 = constantI S_ 32 0#32 := by
  unfold pre0
  simp only [afterL_cons, afterL_nil]
  after_results_simp_entrywise
  all_goals rfl

set_option maxHeartbeats 1000000 in
set_option maxRecDepth 20000 in
theorem pre_5 : rd (afterL ([pre0] : List (List (HloOp τ sig (Elt F)))) X) main_v12_5 = r_v3 := by
  unfold pre0
  simp only [afterL_cons, afterL_nil]
  after_results_simp_entrywise
  all_goals rfl

set_option maxHeartbeats 1000000 in
set_option maxRecDepth 20000 in
theorem pre_8 : rd (afterL ([pre0] : List (List (HloOp τ sig (Elt F)))) X) main_v8 = r_v8 := by
  unfold pre0
  simp only [afterL_cons, afterL_nil]
  after_results_simp_entrywise
  all_goals rfl

set_option maxHeartbeats 1000000 in
set_option maxRecDepth 20000 in
theorem pre_arg0 : rd (afterL ([pre0] : List (List (HloOp τ sig (Elt F)))) X) main_arg0 = (rd X main_arg0) := by
  unfold pre0
  simp only [afterL_cons, afterL_nil]
  after_results_simp_entrywise
  all_goals rfl

set_option maxHeartbeats 1000000 in
set_option maxRecDepth 20000 in
theorem pre_arg1 : rd (afterL ([pre0] : List (List (HloOp τ sig (Elt F)))) X) main_arg1 = (rd X main_arg1) := by
  unfold pre0
  simp only [afterL_cons, afterL_nil]
  after_results_simp_entrywise
  all_goals rfl

set_option maxHeartbeats 1000000 in
set_option maxRecDepth 20000 in
theorem mid_0 : rd (afterL ([mid0] : List (List (HloOp τ sig (Elt F)))) X) main_v14_0 = (rd X main_v12_6) := by
  unfold mid0
  simp only [afterL_cons, afterL_nil]
  after_results_simp_entrywise
  all_goals rfl

set_option maxHeartbeats 1000000 in
set_option maxRecDepth 20000 in
theorem mid_1 : rd (afterL ([mid0] : List (List (HloOp τ sig (Elt F)))) X) main_v14_1 = (rd X main_v12_7) := by
  unfold mid0
  simp only [afterL_cons, afterL_nil]
  after_results_simp_entrywise
  all_goals rfl

set_option maxHeartbeats 1000000 in
set_option maxRecDepth 20000 in
theorem mid_2 : rd (afterL ([mid0] : List (List (HloOp τ sig (Elt F)))) X) main_v14_2 = constantI S_ 32 0#32 := by
  unfold mid0
  simp only [afterL_cons, afterL_nil]
  after_results_simp_entrywise
  all_goals rfl

set_option maxHeartbeats 1000000 in
set_option maxRecDepth 20000 in
theorem mid_3 : rd (afterL ([mid0] : List (List (HloOp τ sig (Elt F)))) X) main_v14_3 = (rd X main_v8) := by
  unfold mid0
  simp only [afterL_cons, afterL_nil]
  after_results_simp_entrywise
  all_goals rfl

set_option maxHeartbeats 1000000 in
set_option maxRecDepth 20000 in
theorem mid_5 : rd (afterL ([mid0] : List (List (HloOp τ sig (Elt F)))) X) main_v12_5 = (rd X main_v12_5) := by
  unfold mid0
  simp only [afterL_cons, afterL_nil]
  after_results_simp_entrywise
  all_goals rfl

set_option maxHeartbeats 1000000 in
set_option maxRecDepth 20000 in
theorem b1a_61 : rd (afterL ([w10, w11, w12] : List (List (HloOp τ sig (Elt F)))) X) main_while1b_v61 = subi (subi (constantI S_ 32 512#32) (rd X main_v14_2)) (constantI S_ 32 1#32) := by
  unfold w10 w11 w12
  simp only [afterL_cons, afterL_nil]
  after_results_simp_entrywise
  all_goals rfl

set_option maxHeartbeats 1000000 in
set_option maxRecDepth 20000 in
theorem b1a_62 : rd (afterL ([w10, w11, w12] : List (List (HloOp τ sig (Elt F)))) X) main_while1b_v62 = pfn_dynamic_index_in_dim_4 (rd X main_v14_0) (subi (subi (constantI S_ 32 512#32) (rd X main_v14_2)) (constantI S_ 32 1#32)) := by
  unfold w10 w11 w12
  simp only [afterL_cons, afterL_nil]
  after_results_simp_entrywise
  all_goals rfl

set_option maxHeartbeats 1000000 in
set_option maxRecDepth 20000 in
theorem b1a_63 : rd (afterL ([w10, w11, w12] : List (List (HloOp τ sig (Elt F)))) X) main_while1b_v63 = pfn_dynamic_index_in_dim_4 (rd X main_v14_1) (subi (subi (constantI S_ 32 512#32) (rd X main_v14_2)) (constantI S_ 32 1#32)) := by
  unfold w10 w11 w12
  simp only [afterL_cons, afterL_nil]
  after_results_simp_entrywise
  all_goals rfl

set_option maxHeartbeats 1000000 in
set_option maxRecDepth 20000 in
theorem b1a_0 : rd (afterL ([w10, w11, w12] : List (List (HloOp τ sig (Elt F)))) X) main_v14_0 = (rd X main_v14_0) := by
  unfold w10 w11 w12
  simp only [afterL_cons, afterL_nil]
  after_results_simp_entrywise
  all_goals rfl

set_option maxHeartbeats 1000000 in
set_option maxRecDepth 20000 in
theorem b1a_1 : rd (afterL ([w10, w11, w12] : List (List (HloOp τ sig (Elt F)))) X) main_v14_1 = (rd X main_v14_1) := by
  unfold w10 w11 w12
  simp only [afterL_cons, afterL_nil]
  after_results_simp_entrywise
  all_goals rfl

set_option maxHeartbeats 1000000 in
set_option maxRecDepth 20000 in
theorem b1a_2 : rd (afterL ([w10, w11, w12] : List (List (HloOp τ sig (Elt F)))) X) main_v14_2 = (rd X main_v14_2) := by
  unfold w10 w11 w12
  simp only [afterL_cons, afterL_nil]
  after_results_simp_entrywise
  all_goals rfl

set_option maxHeartbeats 1000000 in
set_option maxRecDepth 20000 in
theorem b1a_3 : rd (afterL ([w10, w11, w12] : List (List (HloOp τ sig (Elt F)))) X) main_v14_3 = (rd X main_v14_3) := by
  unfold w10 w11 w12
  simp only [afterL_cons, afterL_nil]
  after_results_simp_entrywise
  all_goals rfl

set_option maxHeartbeats 1000000 in
set_option maxRecDepth 20000 in
theorem b1a_4 : rd (afterL ([w10, w11, w12] : List (List (HloOp τ sig (Elt F)))) X) main_v14_4 = (rd X main_v14_4) := by
  unfold w10 w11 w12
  simp only [afterL_cons, afterL_nil]
  after_results_simp_entrywise
  all_goals rfl

set_option maxHeartbeats 1000000 in
set_option maxRecDepth 20000 in
theorem b1b_0 : rd (afterL ([w13, w14, w15, w16] : List (List (HloOp τ sig (Elt F)))) X) main_v14_0 = (rd X main_v14_0) := by
  unfold w13 w14 w15 w16
  simp only [afterL_cons, afterL_nil]
  after_results_simp_entrywise
  all_goals rfl

set_option maxHeartbeats 1000000 in
set_option maxRecDepth 20000 in
theorem b1b_1 : rd (afterL ([w13, w14, w15, w16] : List (List (HloOp τ sig (Elt F)))) X) main_v14_1 = (rd X main_v14_1) := by
  unfold w13 w14 w15 w16
  simp only [afterL_cons, afterL_nil]
  after_results_simp_entrywise
  all_goals rfl

set_option maxHeartbeats 1000000 in
set_option maxRecDepth 20000 in
theorem b1b_2 : rd (afterL ([w13, w14, w15, w16] : List (List (HloOp τ sig (Elt F)))) X) main_v14_2 = r1_v67 (rd X main_v14_2) := by
  unfold w13 w14 w15 w16
  simp only [afterL_cons, afterL_nil]
  after_results_simp_entrywise
  all_goals rfl

set_option maxHeartbeats 1000000 in
set_option maxRecDepth 20000 in
theorem b1b_3 : rd (afterL ([w13, w14, w15, w16] : List (List (HloOp τ sig (Elt F)))) X) main_v14_3 = pfn_take_along_axis (rd X main_while1b_v62) (rd X main_v14_3) := by
  unfold w13 w14 w15 w16
  simp only [afterL_cons, afterL_nil]
  after_results_simp_entrywise
  all_goals rfl

set_option maxHeartbeats 1000000 in
set_option maxRecDepth 20000 in
theorem b1b_4 : rd (afterL ([w13, w14, w15, w16] : List (List (HloOp τ sig (Elt F)))) X) main_v14_4 = pfn_dynamic_update_index_in_dim (rd X main_v14_4) (pfn_take_along_axis (rd X main_while1b_v63) (rd X main_v14_3)) (rd X main_while1b_v61) := by
  unfold w13 w14 w15 w16
  simp only [afterL_cons, afterL_nil]
  after_results_simp_entrywise
  all_goals rfl

set_option maxHeartbeats 1000000 in
set_option maxRecDepth 20000 in
theorem p0_18 : rd (afterL ([postA0] : List (List (HloOp τ sig (Elt F)))) X) main_v18 = r2_v18 (rd X main_v14_4) := by
  unfold postA0
  simp only [afterL_cons, afterL_nil]
  after_results_simp_entrywise
  all_goals rfl

set_option maxHeartbeats 1000000 in
set_option maxRecDepth 20000 in
theorem p0_32 : rd (afterL ([postA0] : List (List (HloOp τ sig (Elt F)))) X) main_v32 = r2_v32 (r2_v18 (rd X main_v14_4)) (rd X main_arg1) := by
  unfold postA0
  simp only [afterL_cons, afterL_nil]
  after_results_simp_entrywise
  all_goals rfl

set_option maxHeartbeats 1000000 in
set_option maxRecDepth 20000 in
theorem p0_15 : rd (afterL ([postA0] : List (List (HloOp τ sig (Elt F)))) X) main_v15 = extractStridedSlice S64x1 ![0, 0] (rd X main_v12_5) slices_S64x16_S64x1_0_0 := by
  unfold postA0
  simp only [afterL_cons, afterL_nil]
  after_results_simp_entrywise
  all_goals rfl

set_option maxHeartbeats 1000000 in
set_option maxRecDepth 20000 in
attribute [local irreducible] Host.reduceWindow in
theorem p1a_33 : rd (afterL ([postA1] : List (List (HloOp τ sig (Elt F)))) X) main_v33 = pfn_cumsum (rd X main_v32) := by
  unfold postA1
  simp only [afterL_cons, afterL_nil]
  after_results_simp_entrywise
  all_goals rfl

set_option maxHeartbeats 1000000 in
set_option maxRecDepth 20000 in
theorem p1b_36 : rd (afterL ([postA2, postB0, postB1] : List (List (HloOp τ sig (Elt F)))) X) main_v36 = pfn_where_6 (rd X main_v32) (subi (rd X main_v33) (broadcastInDim S64x512 ![] bcast_S_S64x512 (constantI S_ 32 1#32))) (constantI S_ 32 512#32) := by
  unfold postA2 postB0 postB1
  simp only [afterL_cons, afterL_nil]
  after_results_simp_entrywise
  all_goals rfl

set_option maxHeartbeats 1000000 in
set_option maxRecDepth 20000 in
theorem p1a_v15 : rd (afterL ([postA1] : List (List (HloOp τ sig (Elt F)))) X) main_v15 = (rd X main_v15) := by
  unfold postA1
  simp only [afterL_cons, afterL_nil]
  after_results_simp_entrywise
  all_goals rfl

set_option maxHeartbeats 1000000 in
set_option maxRecDepth 20000 in
theorem p1b_v15 : rd (afterL ([postA2, postB0, postB1] : List (List (HloOp τ sig (Elt F)))) X) main_v15 = (rd X main_v15) := by
  unfold postA2 postB0 postB1
  simp only [afterL_cons, afterL_nil]
  after_results_simp_entrywise
  all_goals rfl

set_option maxHeartbeats 1000000 in
set_option maxRecDepth 20000 in
theorem p1a_v18 : rd (afterL ([postA1] : List (List (HloOp τ sig (Elt F)))) X) main_v18 = (rd X main_v18) := by
  unfold postA1
  simp only [afterL_cons, afterL_nil]
  after_results_simp_entrywise
  all_goals rfl

set_option maxHeartbeats 1000000 in
set_option maxRecDepth 20000 in
theorem p1b_v18 : rd (afterL ([postA2, postB0, postB1] : List (List (HloOp τ sig (Elt F)))) X) main_v18 = (rd X main_v18) := by
  unfold postA2 postB0 postB1
  simp only [afterL_cons, afterL_nil]
  after_results_simp_entrywise
  all_goals rfl

set_option maxHeartbeats 1000000 in
set_option maxRecDepth 20000 in
theorem p1a_v32 : rd (afterL ([postA1] : List (List (HloOp τ sig (Elt F)))) X) main_v32 = (rd X main_v32) := by
  unfold postA1
  simp only [afterL_cons, afterL_nil]
  after_results_simp_entrywise
  all_goals rfl

set_option maxHeartbeats 1000000 in
set_option maxRecDepth 20000 in
theorem p1b_v32 : rd (afterL ([postA2, postB0, postB1] : List (List (HloOp τ sig (Elt F)))) X) main_v32 = (rd X main_v32) := by
  unfold postA2 postB0 postB1
  simp only [afterL_cons, afterL_nil]
  after_results_simp_entrywise
  all_goals rfl

set_option maxHeartbeats 1000000 in
set_option maxRecDepth 20000 in
theorem p2_55 : rd (afterL ([postB2] : List (List (HloOp τ sig (Elt F)))) X) main_v55 = r2_v55 (scatOf (rd X main_v18) (rd X main_v36)) := by
  unfold postB2
  simp only [afterL_cons, afterL_nil]
  after_results_simp_entrywise
  all_goals rfl

set_option maxHeartbeats 1000000 in
set_option maxRecDepth 20000 in
theorem p2_58 : rd (afterL ([postB2] : List (List (HloOp τ sig (Elt F)))) X) main_v58 = r2_v58 (rd X main_v32) := by
  unfold postB2
  simp only [afterL_cons, afterL_nil]
  after_results_simp_entrywise
  all_goals rfl

set_option maxHeartbeats 1000000 in
set_option maxRecDepth 20000 in
theorem p2_59 : rd (afterL ([postB2] : List (List (HloOp τ sig (Elt F)))) X) main_v59 = Host.negf (rd X main_v15) := by
  unfold postB2
  simp only [afterL_cons, afterL_nil]
  after_results_simp_entrywise
  all_goals rfl

set_option maxHeartbeats 1000000 in
set_option maxRecDepth 20000 in
theorem body0_arg0 : rd (afterL ([w00, w01, w02, w03, w04, w05, w06, w07, w08, w09, w010, w011, w012, w013] : List (List (HloOp τ sig (Elt F)))) X) main_arg0 = (rd X main_arg0) := by
  unfold w00 w01 w02 w03 w04 w05 w06 w07 w08 w09 w010 w011 w012 w013
  simp only [afterL_cons, afterL_nil]
  after_results_simp_entrywise
  all_goals rfl

set_option maxHeartbeats 1000000 in
set_option maxRecDepth 20000 in
theorem body0_arg1 : rd (afterL ([w00, w01, w02, w03, w04, w05, w06, w07, w08, w09, w010, w011, w012, w013] : List (List (HloOp τ sig (Elt F)))) X) main_arg1 = (rd X main_arg1) := by
  unfold w00 w01 w02 w03 w04 w05 w06 w07 w08 w09 w010 w011 w012 w013
  simp only [afterL_cons, afterL_nil]
  after_results_simp_entrywise
  all_goals rfl

set_option maxHeartbeats 1000000 in
set_option maxRecDepth 20000 in
theorem mid_arg0 : rd (afterL ([mid0] : List (List (HloOp τ sig (Elt F)))) X) main_arg0 = (rd X main_arg0) := by
  unfold mid0
  simp only [afterL_cons, afterL_nil]
  after_results_simp_entrywise
  all_goals rfl

set_option maxHeartbeats 1000000 in
set_option maxRecDepth 20000 in
theorem mid_arg1 : rd (afterL ([mid0] : List (List (HloOp τ sig (Elt F)))) X) main_arg1 = (rd X main_arg1) := by
  unfold mid0
  simp only [afterL_cons, afterL_nil]
  after_results_simp_entrywise
  all_goals rfl

set_option maxHeartbeats 1000000 in
set_option maxRecDepth 20000 in
theorem body1_arg0 : rd (afterL ([w10, w11, w12, w13, w14, w15, w16] : List (List (HloOp τ sig (Elt F)))) X) main_arg0 = (rd X main_arg0) := by
  unfold w10 w11 w12 w13 w14 w15 w16
  simp only [afterL_cons, afterL_nil]
  after_results_simp_entrywise
  all_goals rfl

set_option maxHeartbeats 1000000 in
set_option maxRecDepth 20000 in
theorem body1_arg1 : rd (afterL ([w10, w11, w12, w13, w14, w15, w16] : List (List (HloOp τ sig (Elt F)))) X) main_arg1 = (rd X main_arg1) := by
  unfold w10 w11 w12 w13 w14 w15 w16
  simp only [afterL_cons, afterL_nil]
  after_results_simp_entrywise
  all_goals rfl

set_option maxHeartbeats 1000000 in
set_option maxRecDepth 20000 in
theorem p0_arg0 : rd (afterL ([postA0] : List (List (HloOp τ sig (Elt F)))) X) main_arg0 = (rd X main_arg0) := by
  unfold postA0
  simp only [afterL_cons, afterL_nil]
  after_results_simp_entrywise
  all_goals rfl

set_option maxHeartbeats 1000000 in
set_option maxRecDepth 20000 in
theorem p0_arg1 : rd (afterL ([postA0] : List (List (HloOp τ sig (Elt F)))) X) main_arg1 = (rd X main_arg1) := by
  unfold postA0
  simp only [afterL_cons, afterL_nil]
  after_results_simp_entrywise
  all_goals rfl

set_option maxHeartbeats 1000000 in
set_option maxRecDepth 20000 in
theorem p1a_arg0 : rd (afterL ([postA1] : List (List (HloOp τ sig (Elt F)))) X) main_arg0 = (rd X main_arg0) := by
  unfold postA1
  simp only [afterL_cons, afterL_nil]
  after_results_simp_entrywise
  all_goals rfl

set_option maxHeartbeats 1000000 in
set_option maxRecDepth 20000 in
theorem p1a_arg1 : rd (afterL ([postA1] : List (List (HloOp τ sig (Elt F)))) X) main_arg1 = (rd X main_arg1) := by
  unfold postA1
  simp only [afterL_cons, afterL_nil]
  after_results_simp_entrywise
  all_goals rfl

set_option maxHeartbeats 1000000 in
set_option maxRecDepth 20000 in
theorem p1b_arg0 : rd (afterL ([postA2, postB0, postB1] : List (List (HloOp τ sig (Elt F)))) X) main_arg0 = (rd X main_arg0) := by
  unfold postA2 postB0 postB1
  simp only [afterL_cons, afterL_nil]
  after_results_simp_entrywise
  all_goals rfl

set_option maxHeartbeats 1000000 in
set_option maxRecDepth 20000 in
theorem p1b_arg1 : rd (afterL ([postA2, postB0, postB1] : List (List (HloOp τ sig (Elt F)))) X) main_arg1 = (rd X main_arg1) := by
  unfold postA2 postB0 postB1
  simp only [afterL_cons, afterL_nil]
  after_results_simp_entrywise
  all_goals rfl

set_option maxHeartbeats 1000000 in
set_option maxRecDepth 20000 in
theorem p2_arg0 : rd (afterL ([postB2] : List (List (HloOp τ sig (Elt F)))) X) main_arg0 = (rd X main_arg0) := by
  unfold postB2
  simp only [afterL_cons, afterL_nil]
  after_results_simp_entrywise
  all_goals rfl

set_option maxHeartbeats 1000000 in
set_option maxRecDepth 20000 in
theorem p2_arg1 : rd (afterL ([postB2] : List (List (HloOp τ sig (Elt F)))) X) main_arg1 = (rd X main_arg1) := by
  unfold postB2
  simp only [afterL_cons, afterL_nil]
  after_results_simp_entrywise
  all_goals rfl

set_option maxHeartbeats 1000000 in
set_option maxRecDepth 20000 in
theorem c0_arg0 : rd (afterL ([cond0Ops] : List (List (HloOp τ sig (Elt F)))) X) main_arg0 = (rd X main_arg0) := by
  unfold cond0Ops
  simp only [afterL_cons, afterL_nil]
  after_results_simp_entrywise
  all_goals rfl

set_option maxHeartbeats 1000000 in
set_option maxRecDepth 20000 in
theorem c0_arg1 : rd (afterL ([cond0Ops] : List (List (HloOp τ sig (Elt F)))) X) main_arg1 = (rd X main_arg1) := by
  unfold cond0Ops
  simp only [afterL_cons, afterL_nil]
  after_results_simp_entrywise
  all_goals rfl

set_option maxHeartbeats 1000000 in
set_option maxRecDepth 20000 in
theorem c1_arg0 : rd (afterL ([cond1Ops] : List (List (HloOp τ sig (Elt F)))) X) main_arg0 = (rd X main_arg0) := by
  unfold cond1Ops
  simp only [afterL_cons, afterL_nil]
  after_results_simp_entrywise
  all_goals rfl

set_option maxHeartbeats 1000000 in
set_option maxRecDepth 20000 in
theorem c1_arg1 : rd (afterL ([cond1Ops] : List (List (HloOp τ sig (Elt F)))) X) main_arg1 = (rd X main_arg1) := by
  unfold cond1Ops
  simp only [afterL_cons, afterL_nil]
  after_results_simp_entrywise
  all_goals rfl

set_option maxHeartbeats 1000000 in
set_option maxRecDepth 20000 in
theorem body0_8 : rd (afterL ([w00, w01, w02, w03, w04, w05, w06, w07, w08, w09, w010, w011, w012, w013] : List (List (HloOp τ sig (Elt F)))) X) main_v8 = (rd X main_v8) := by
  unfold w00 w01 w02 w03 w04 w05 w06 w07 w08 w09 w010 w011 w012 w013
  simp only [afterL_cons, afterL_nil]
  after_results_simp_entrywise
  all_goals rfl

set_option maxHeartbeats 1000000 in
set_option maxRecDepth 20000 in
theorem c0_8 : rd (afterL ([cond0Ops] : List (List (HloOp τ sig (Elt F)))) X) main_v8 = (rd X main_v8) := by
  unfold cond0Ops
  simp only [afterL_cons, afterL_nil]
  after_results_simp_entrywise
  all_goals rfl

set_option maxHeartbeats 1000000 in
set_option maxRecDepth 20000 in
theorem c0_0 : rd (afterL ([cond0Ops] : List (List (HloOp τ sig (Elt F)))) X) main_v12_0 = (rd X main_v12_0) := by
  unfold cond0Ops
  simp only [afterL_cons, afterL_nil]
  after_results_simp_entrywise
  all_goals rfl

set_option maxHeartbeats 1000000 in
set_option maxRecDepth 20000 in
theorem c0_1 : rd (afterL ([cond0Ops] : List (List (HloOp τ sig (Elt F)))) X) main_v12_1 = (rd X main_v12_1) := by
  unfold cond0Ops
  simp only [afterL_cons, afterL_nil]
  after_results_simp_entrywise
  all_goals rfl

set_option maxHeartbeats 1000000 in
set_option maxRecDepth 20000 in
theorem c0_2 : rd (afterL ([cond0Ops] : List (List (HloOp τ sig (Elt F)))) X) main_v12_2 = (rd X main_v12_2) := by
  unfold cond0Ops
  simp only [afterL_cons, afterL_nil]
  after_results_simp_entrywise
  all_goals rfl

set_option maxHeartbeats 1000000 in
set_option maxRecDepth 20000 in
theorem c0_3 : rd (afterL ([cond0Ops] : List (List (HloOp τ sig (Elt F)))) X) main_v12_3 = (rd X main_v12_3) := by
  unfold cond0Ops
  simp only [afterL_cons, afterL_nil]
  after_results_simp_entrywise
  all_goals rfl

set_option maxHeartbeats 1000000 in
set_option maxRecDepth 20000 in
theorem c0_4 : rd (afterL ([cond0Ops] : List (List (HloOp τ sig (Elt F)))) X) main_v12_4 = (rd X main_v12_4) := by
  unfold cond0Ops
  simp only [afterL_cons, afterL_nil]
  after_results_simp_entrywise
  all_goals rfl

set_option maxHeartbeats 1000000 in
set_option maxRecDepth 20000 in
theorem c0_5 : rd (afterL ([cond0Ops] : List (List (HloOp τ sig (Elt F)))) X) main_v12_5 = (rd X main_v12_5) := by
  unfold cond0Ops
  simp only [afterL_cons, afterL_nil]
  after_results_simp_entrywise
  all_goals rfl

set_option maxHeartbeats 1000000 in
set_option maxRecDepth 20000 in
theorem c0_6 : rd (afterL ([cond0Ops] : List (List (HloOp τ sig (Elt F)))) X) main_v12_6 = (rd X main_v12_6) := by
  unfold cond0Ops
  simp only [afterL_cons, afterL_nil]
  after_results_simp_entrywise
  all_goals rfl

set_option maxHeartbeats 1000000 in
set_option maxRecDepth 20000 in
theorem c0_7 : rd (afterL ([cond0Ops] : List (List (HloOp τ sig (Elt F)))) X) main_v12_7 = (rd X main_v12_7) := by
  unfold cond0Ops
  simp only [afterL_cons, afterL_nil]
  after_results_simp_entrywise
  all_goals rfl

set_option maxHeartbeats 1000000 in
set_option maxRecDepth 20000 in
theorem c1_0 : rd (afterL ([cond1Ops] : List (List (HloOp τ sig (Elt F)))) X) main_v14_0 = (rd X main_v14_0) := by
  unfold cond1Ops
  simp only [afterL_cons, afterL_nil]
  after_results_simp_entrywise
  all_goals rfl

set_option maxHeartbeats 1000000 in
set_option maxRecDepth 20000 in
theorem c1_1 : rd (afterL ([cond1Ops] : List (List (HloOp τ sig (Elt F)))) X) main_v14_1 = (rd X main_v14_1) := by
  unfold cond1Ops
  simp only [afterL_cons, afterL_nil]
  after_results_simp_entrywise
  all_goals rfl

set_option maxHeartbeats 1000000 in
set_option maxRecDepth 20000 in
theorem c1_2 : rd (afterL ([cond1Ops] : List (List (HloOp τ sig (Elt F)))) X) main_v14_2 = (rd X main_v14_2) := by
  unfold cond1Ops
  simp only [afterL_cons, afterL_nil]
  after_results_simp_entrywise
  all_goals rfl

set_option maxHeartbeats 1000000 in
set_option maxRecDepth 20000 in
theorem c1_3 : rd (afterL ([cond1Ops] : List (List (HloOp τ sig (Elt F)))) X) main_v14_3 = (rd X main_v14_3) := by
  unfold cond1Ops
  simp only [afterL_cons, afterL_nil]
  after_results_simp_entrywise
  all_goals rfl

set_option maxHeartbeats 1000000 in
set_option maxRecDepth 20000 in
theorem c1_4 : rd (afterL ([cond1Ops] : List (List (HloOp τ sig (Elt F)))) X) main_v14_4 = (rd X main_v14_4) := by
  unfold cond1Ops
  simp only [afterL_cons, afterL_nil]
  after_results_simp_entrywise
  all_goals rfl

set_option maxHeartbeats 1000000 in
set_option maxRecDepth 20000 in
theorem c1_s : rd (afterL ([cond1Ops] : List (List (HloOp τ sig (Elt F)))) X) main_v12_5 = (rd X main_v12_5) := by
  unfold cond1Ops
  simp only [afterL_cons, afterL_nil]
  after_results_simp_entrywise
  all_goals rfl

set_option maxHeartbeats 1000000 in
set_option maxRecDepth 20000 in
theorem body1_s : rd (afterL ([w10, w11, w12, w13, w14, w15, w16] : List (List (HloOp τ sig (Elt F)))) X) main_v12_5 = (rd X main_v12_5) := by
  unfold w10 w11 w12 w13 w14 w15 w16
  simp only [afterL_cons, afterL_nil]
  after_results_simp_entrywise
  all_goals rfl

end Eval

end Cert.BeamRef
-- ==== Proof.RefLoop.lean ====
/- The reference's two loops, trip by trip, and its results over what the loops leave. -/
module

public import proofs.«01_k».proof.Proof.RefEval
public import Idealize.ShloMosaic.Lib.StableHlo.RunHlo

@[expose] public section

noncomputable section

namespace Cert.BeamRef

open Idealize.SL Idealize.SL.Sem
open Idealize.ShloMosaic Idealize.ShloMosaic.StableHlo Idealize.ShloMosaic.TcCoe
open Cert.ReferenceIdeal Cert.ReferenceIdeal.Gen

variable {F : FTy → Type} [FloatOps F]

variable (X : Valuation τ sig (Elt F))

theorem body0_split : afterL body0I X = afterL [w03, w04, w05, w06, w07, w08, w09, w010, w011, w012, w013] (afterL [w00, w01, w02] X) := rfl
theorem body1_split : afterL body1I X = afterL [w13, w14, w15, w16] (afterL [w10, w11, w12] X) := rfl
theorem post_split : afterL postI X = afterL [postB2] (afterL [postA2, postB0, postB1] (afterL [postA1] (afterL [postA0] X))) := rfl
theorem cond0_after : after cond0Ops X = afterL [cond0Ops] X := rfl
theorem cond1_after : after cond1Ops X = afterL [cond1Ops] X := rfl
theorem mid_after : afterL midI X = afterL [mid0] X := rfl
theorem pre_after : afterL preI X = afterL [pre0] X := rfl
theorem body0_whole : afterL body0I X = afterL [w00, w01, w02, w03, w04, w05, w06, w07, w08, w09, w010, w011, w012, w013] X := rfl
theorem body1_whole : afterL body1I X = afterL [w10, w11, w12, w13, w14, w15, w16] X := rfl

section Loop

variable (m : (ℓ : Loc nD τ sig) → Buf (Elt F) ℓ)

theorem T0_zero (c : Dev nD) : T0 m 0 c = afterL preI (launchContents m c) := rfl
theorem T0_succ (k : ℕ) (c : Dev nD) : T0 m (k + 1) c = afterL body0I (after cond0Ops (T0 m k c)) := rfl
theorem T1_zero (c : Dev nD) : T1 m 0 c = afterL midI (after cond0Ops (T0 m 512 c)) := rfl
theorem T1_succ (k : ℕ) (c : Dev nD) : T1 m (k + 1) c = afterL body1I (after cond1Ops (T1 m k c)) := rfl

/-- The array argument. -/
abbrev a0 (c : Dev nD) : main_arg0.ty.Contents (Elt F) := m ((c.tc : Thread nD τ).loc main_arg0)
/-- The lengths. -/
abbrev a1 (c : Dev nD) : main_arg1.ty.Contents (Elt F) := m ((c.tc : Thread nD τ).loc main_arg1)

theorem T0_arg0 (c : Dev nD) : ∀ k, rd (T0 m k c) main_arg0 = a0 m c
  | 0 => by rw [T0_zero, pre_after, pre_arg0]
  | k + 1 => by rw [T0_succ, body0_whole, body0_arg0, cond0_after, c0_arg0, T0_arg0 c k]
theorem T0_arg1 (c : Dev nD) : ∀ k, rd (T0 m k c) main_arg1 = a1 m c
  | 0 => by rw [T0_zero, pre_after, pre_arg1]
  | k + 1 => by rw [T0_succ, body0_whole, body0_arg1, cond0_after, c0_arg1, T0_arg1 c k]
theorem T0_8 (c : Dev nD) : ∀ k, rd (T0 m k c) main_v8 = r_v8
  | 0 => by rw [T0_zero, pre_after, pre_8]
  | k + 1 => by rw [T0_succ, body0_whole, body0_8, cond0_after, c0_8, T0_8 c k]
theorem T0_0 (c : Dev nD) : ∀ k, rd (T0 m k c) main_v12_0 = a0 m c
  | 0 => by rw [T0_zero, pre_after, pre_0]
  | k + 1 => by rw [T0_succ, body0_split, b0b_0, b0a_0, cond0_after, c0_0, T0_0 c k]
theorem T0_1 (c : Dev nD) : ∀ k, rd (T0 m k c) main_v12_1 = iotaInDim S512 32 0
  | 0 => by rw [T0_zero, pre_after, pre_1]
  | k + 1 => by rw [T0_succ, body0_split, b0b_1, b0a_1, cond0_after, c0_1, T0_1 c k]
theorem T0_2 (c : Dev nD) : ∀ k, rd (T0 m k c) main_v12_2 = a1 m c
  | 0 => by rw [T0_zero, pre_after, pre_2]
  | k + 1 => by rw [T0_succ, body0_split, b0b_2, b0a_2, cond0_after, c0_2, T0_2 c k]
theorem T0_3 (c : Dev nD) : ∀ k, rd (T0 m k c) main_v12_3 = r_v8
  | 0 => by rw [T0_zero, pre_after, pre_3]
  | k + 1 => by rw [T0_succ, body0_split, b0b_3, b0a_3, cond0_after, c0_3, T0_3 c k]
/-- A trip's counter. -/
theorem T0_4 (c : Dev nD) : ∀ k, rd (T0 m k c) main_v12_4 = fun _ => BitVec.ofNat 32 k
  | 0 => by rw [T0_zero, pre_after, pre_4]; rfl
  | k + 1 => by
    rw [T0_succ, body0_split, b0b_4, b0a_4, cond0_after, c0_4, T0_4 c k]
    funext y
    show BitVec.ofNat 32 k + 1#32 = _
    rw [← BitVec.ofNat_add]

/-- The candidates of trip `k`. -/
def candOf (k : ℕ) (c : Dev nD) : (⟨S64x16384, .f32⟩ : BufTy).Contents (Elt F) :=
  r0_v67 (a0 m c) (fun _ => BitVec.ofNat 32 k) (rd (T0 m k c) main_v12_5)
/-- The rows that step on trip `k`. -/
def actK (k : ℕ) (c : Dev nD) : (⟨S64x1, .i1⟩ : BufTy).Contents (Elt F) :=
  actOf (pfn_dynamic_index_in_dim_0 (F := F) (iotaInDim S512 32 0) (fun _ => BitVec.ofNat 32 k)) (a1 m c)

theorem T0_5_zero (c : Dev nD) : rd (T0 m 0 c) main_v12_5 = r_v3 := by
  rw [T0_zero, pre_after, pre_5]
theorem T0_5_succ (c : Dev nD) (k : ℕ) : rd (T0 m (k + 1) c) main_v12_5
    = pfn_where_2 (actK m k c) (topV (candOf m k c)) (rd (T0 m k c) main_v12_5) := by
  rw [T0_succ, body0_split, b0b_5, b0a_5, b0a_61, b0a_2, b0a_values, cond0_after, c0_0, c0_1, c0_2, c0_4, c0_5, T0_0, T0_1, T0_2, T0_4]
  rfl
theorem T0_6_succ (c : Dev nD) (k : ℕ) : rd (T0 m (k + 1) c) main_v12_6
    = pfn_dynamic_update_index_in_dim (F := F) (rd (T0 m k c) main_v12_6)
        (pfn_where_3 (F := F) (actK m k c) (pfn_floor_divide (F := F) (topI (candOf m k c)) (constantI S_ 32 1024#32)) (r_v8 (F := F)))
        (fun _ => BitVec.ofNat 32 k) := by
  rw [T0_succ, body0_split, b0b_6, b0a_6, b0a_61, b0a_2, b0a_3, b0a_4, b0a_indices, b0a_c23, cond0_after, c0_0, c0_1, c0_2, c0_3, c0_4, c0_5, c0_6, T0_0, T0_1, T0_2, T0_3, T0_4]
  rfl
theorem T0_7_succ (c : Dev nD) (k : ℕ) : rd (T0 m (k + 1) c) main_v12_7
    = pfn_dynamic_update_index_in_dim (F := F) (rd (T0 m k c) main_v12_7)
        (pfn_where_3 (F := F) (actK m k c) (pfn_remainder (F := F) (topI (candOf m k c)) (constantI S_ 32 1024#32))
          (broadcastInDim S64x16 ![] bcast_S_S64x16 (constantI S_ 32 0#32)))
        (fun _ => BitVec.ofNat 32 k) := by
  rw [T0_succ, body0_split, b0b_7, b0a_7, b0a_61, b0a_2, b0a_4, b0a_indices, cond0_after, c0_0, c0_1, c0_2, c0_4, c0_5, c0_7, T0_0, T0_1, T0_2, T0_4]
  rfl

theorem T1_arg0 (c : Dev nD) : ∀ k, rd (T1 m k c) main_arg0 = a0 m c
  | 0 => by rw [T1_zero, mid_after, mid_arg0, cond0_after, c0_arg0, T0_arg0]
  | k + 1 => by rw [T1_succ, body1_whole, body1_arg0, cond1_after, c1_arg0, T1_arg0 c k]
theorem T1_arg1 (c : Dev nD) : ∀ k, rd (T1 m k c) main_arg1 = a1 m c
  | 0 => by rw [T1_zero, mid_after, mid_arg1, cond0_after, c0_arg1, T0_arg1]
  | k + 1 => by rw [T1_succ, body1_whole, body1_arg1, cond1_after, c1_arg1, T1_arg1 c k]
theorem T1_s (c : Dev nD) : ∀ k, rd (T1 m k c) main_v12_5 = rd (T0 m 512 c) main_v12_5
  | 0 => by rw [T1_zero, mid_after, mid_5, cond0_after, c0_5]
  | k + 1 => by rw [T1_succ, body1_whole, body1_s, cond1_after, c1_s, T1_s c k]
theorem T1_0 (c : Dev nD) : ∀ k, rd (T1 m k c) main_v14_0 = rd (T0 m 512 c) main_v12_6
  | 0 => by rw [T1_zero, mid_after, mid_0, cond0_after, c0_6]
  | k + 1 => by rw [T1_succ, body1_split, b1b_0, b1a_0, cond1_after, c1_0, T1_0 c k]
theorem T1_1 (c : Dev nD) : ∀ k, rd (T1 m k c) main_v14_1 = rd (T0 m 512 c) main_v12_7
  | 0 => by rw [T1_zero, mid_after, mid_1, cond0_after, c0_7]
  | k + 1 => by rw [T1_succ, body1_split, b1b_1, b1a_1, cond1_after, c1_1, T1_1 c k]
theorem T1_2 (c : Dev nD) : ∀ k, rd (T1 m k c) main_v14_2 = fun _ => BitVec.ofNat 32 k
  | 0 => by rw [T1_zero, mid_after, mid_2]; rfl
  | k + 1 => by
    rw [T1_succ, body1_split, b1b_2, b1a_2, cond1_after, c1_2, T1_2 c k]
    funext y
    show BitVec.ofNat 32 k + 1#32 = _
    rw [← BitVec.ofNat_add]
theorem T1_3_zero (c : Dev nD) : rd (T1 m 0 c) main_v14_3 = r_v8 := by
  rw [T1_zero, mid_after, mid_3, cond0_after, c0_8, T0_8]

/-- The step the `k`-th trip of the second loop goes back over. -/
def backIdx (k : ℕ) : (⟨S_, .i32⟩ : BufTy).Contents (Elt F) := fun _ => 512#32 - BitVec.ofNat 32 k - 1#32

theorem T1_3_succ (c : Dev nD) (k : ℕ) : rd (T1 m (k + 1) c) main_v14_3
    = pfn_take_along_axis (F := F) (pfn_dynamic_index_in_dim_4 (F := F) (rd (T0 m 512 c) main_v12_6) (backIdx (F := F) k)) (rd (T1 m k c) main_v14_3) := by
  rw [T1_succ, body1_split, b1b_3, b1a_62, b1a_3, cond1_after, c1_0, c1_2, c1_3, T1_0, T1_2]
  rfl
theorem T1_4_succ (c : Dev nD) (k : ℕ) : rd (T1 m (k + 1) c) main_v14_4
    = pfn_dynamic_update_index_in_dim (F := F) (rd (T1 m k c) main_v14_4)
        (pfn_take_along_axis (F := F) (pfn_dynamic_index_in_dim_4 (F := F) (rd (T0 m 512 c) main_v12_7) (backIdx (F := F) k)) (rd (T1 m k c) main_v14_3))
        (backIdx (F := F) k) := by
  rw [T1_succ, body1_split, b1b_4, b1a_61, b1a_63, b1a_3, b1a_4, cond1_after, c1_1, c1_2, c1_3, c1_4, T1_1, T1_2]
  rfl

/-- The labels' buffer at the end. -/
abbrev labs (c : Dev nD) : main_v14_4.ty.Contents (Elt F) := rd (T1 m 512 c) main_v14_4
/-- The label sequence. -/
def seqR (c : Dev nD) : (⟨S64x512, .i32⟩ : BufTy).Contents (Elt F) := r2_v18 (labs m c)
/-- The kept positions. -/
def keepR (c : Dev nD) : (⟨S64x512, .i1⟩ : BufTy).Contents (Elt F) := r2_v32 (seqR m c) (a1 m c)
/-- Where each kept label goes. -/
def posR (c : Dev nD) : (⟨S64x512, .i32⟩ : BufTy).Contents (Elt F) :=
  pfn_where_6 (F := F) (keepR m c) (subi (pfn_cumsum (F := F) (keepR m c)) (broadcastInDim S64x512 ![] bcast_S_S64x512 (constantI S_ 32 1#32))) (constantI S_ 32 512#32)

theorem V2_arg0 (c : Dev nD) : rd (V2 m c) main_arg0 = a0 m c := by
  unfold V2
  rw [post_split, p2_arg0, p1b_arg0, p1a_arg0, p0_arg0, cond1_after, c1_arg0, T1_arg0]
theorem V2_arg1 (c : Dev nD) : rd (V2 m c) main_arg1 = a1 m c := by
  unfold V2
  rw [post_split, p2_arg1, p1b_arg1, p1a_arg1, p0_arg1, cond1_after, c1_arg1, T1_arg1]
theorem V2_59 (c : Dev nD) : rd (V2 m c) main_v59
    = Host.negf (extractStridedSlice S64x1 ![0, 0] (rd (T0 m 512 c) main_v12_5) slices_S64x16_S64x1_0_0) := by
  unfold V2
  rw [post_split, p2_59, p1b_v15, p1a_v15, p0_15, cond1_after, c1_s, T1_s]
theorem V2_58 (c : Dev nD) : rd (V2 m c) main_v58 = r2_v58 (keepR m c) := by
  unfold V2
  rw [post_split, p2_58, p1b_v32, p1a_v32, p0_32, cond1_after, c1_4, c1_arg1, T1_arg1]
  rfl
theorem V2_55 (c : Dev nD) : rd (V2 m c) main_v55 = r2_v55 (scatOf (seqR m c) (posR m c)) := by
  unfold V2
  rw [post_split, p2_55, p1b_36, p1b_v18, p1a_v32, p1a_33, p1a_v18, p0_18, p0_32, cond1_after, c1_4, c1_arg1, T1_arg1]
  rfl

/-- What the reference's run leaves. -/
theorem run_refVals [∀ e, Nonempty (Elt F e)] (ρ : Dev nD → PrngReg) :
    θ_run (Cert.ReferenceIdeal.defs (F := F)) (onTc (τ := τ) (Cert.ReferenceIdeal.main (F := F))) ⟨m, fun _ => 0, ρ⟩
      (fun r => (∀ c : Dev nD,
        r.2.mem ((c.tc : Thread nD τ).loc main_arg0) = a0 m c ∧ r.2.mem ((c.tc : Thread nD τ).loc main_arg1) = a1 m c
        ∧ r.2.mem ((c.tc : Thread nD τ).loc main_v59) = Host.negf (extractStridedSlice S64x1 ![0, 0] (rd (T0 m 512 c) main_v12_5) slices_S64x16_S64x1_0_0)
        ∧ r.2.mem ((c.tc : Thread nD τ).loc main_v58) = r2_v58 (keepR m c)
        ∧ r.2.mem ((c.tc : Thread nD τ).loc main_v55) = r2_v55 (scatOf (seqR m c) (posR m c))) ∧ r.2.sem = fun _ => 0) :=
  θ_run_mono (run_ref m (fun k _ c => T0_4 m c k) (fun k _ c => T1_2 m c k) ρ) fun r h =>
    ⟨fun c => ⟨(h.1 c main_arg0 rfl).trans (V2_arg0 m c), (h.1 c main_arg1 rfl).trans (V2_arg1 m c),
      (h.1 c main_v59 rfl).trans (V2_59 m c), (h.1 c main_v58 rfl).trans (V2_58 m c), (h.1 c main_v55 rfl).trans (V2_55 m c)⟩, h.2⟩

end Loop

end Cert.BeamRef
-- ==== Proof.Spec.lean ====
/- The greedy recurrence of one row, as plain functions of the row's table and its length. -/
module

public import proofs.«01_k».proof.Proof.Pure
public import Idealize.ShloMosaic.PureOps.Ideal.Laws
public import Mathlib.Data.Finset.Fold
public import Mathlib.Data.EReal.Operations

@[expose] public section

noncomputable section

namespace Cert.Col

open Idealize.ShloMosaic Idealize.ShloMosaic.ValueIdx

/-- The largest entry of a step's row. -/
def top1 (x : Fin 1024 → EReal) : EReal := (Finset.univ : Finset (Fin 1024)).fold max ⊥ x

theorem le_top1 (x : Fin 1024 → EReal) (c : Fin 1024) : x c ≤ top1 x :=
  Finset.le_fold_max _ |>.2 (Or.inr ⟨c, Finset.mem_univ c, le_refl _⟩)

theorem top1_attained (x : Fin 1024 → EReal) : ∃ c, x c = top1 x := by
  obtain ⟨c, -, hc⟩ := Finset.exists_max_image (Finset.univ : Finset (Fin 1024)) x ⟨0, Finset.mem_univ 0⟩
  exact ⟨c, le_antisymm (le_top1 x c) (Finset.fold_max_le _ |>.2 ⟨bot_le, fun c' _ => hc c' (Finset.mem_univ c')⟩)⟩

/-- `w` is the first symbol whose candidate is the best one. -/
def IsEm (s : EReal) (x : Fin 1024 → EReal) (w : BitVec 32) : Prop :=
  ∃ c : Fin 1024, w = BitVec.ofNat 32 c.val ∧ s + x c = s + top1 x ∧ ∀ c' : Fin 1024, c'.val < c.val → s + x c' ≠ s + top1 x

theorem IsEm.unique {s : EReal} {x : Fin 1024 → EReal} {w w' : BitVec 32} (h : IsEm s x w) (h' : IsEm s x w') : w = w' := by
  obtain ⟨c, hw, he, hm⟩ := h
  obtain ⟨c', hw', he', hm'⟩ := h'
  have : c.val = c'.val := by
    rcases Nat.lt_trichotomy c.val c'.val with h | h | h
    · exact absurd he (hm' c h)
    · exact h
    · exact absurd he' (hm c' h)
  rw [hw, hw', this]

/-- There is a first symbol whose candidate is the best one. -/
theorem exists_first (s : EReal) (x : Fin 1024 → EReal) :
    ∃ c : Fin 1024, s + x c = s + top1 x ∧ ∀ c' : Fin 1024, c'.val < c.val → s + x c' ≠ s + top1 x := by
  classical
  obtain ⟨c, hc⟩ := top1_attained x
  have hex : ∃ n : ℕ, ∃ h : n < 1024, s + x ⟨n, h⟩ = s + top1 x := ⟨c.val, c.isLt, by rw [← hc]⟩
  obtain ⟨h, he⟩ := Nat.find_spec hex
  exact ⟨⟨Nat.find hex, h⟩, he, fun c' hlt he' => Nat.find_min hex hlt ⟨c'.isLt, he'⟩⟩

theorem toInt_minsi (a b : BitVec 32) : (IntOp.minsi a b).toInt = min a.toInt b.toInt := by
  unfold IntOp.minsi BitVec.slt
  by_cases h : a.toInt < b.toInt
  · simp [h, min_eq_left h.le]
  · simp [h, min_eq_right (not_lt.1 h)]

theorem toInt_small (n : ℕ) (h : n ≤ 1024) : (BitVec.ofNat 32 n).toInt = n := by
  rw [BitVec.toInt_eq_toNat_of_lt (by simp; omega)]; simp; omega

/-- The least index among those marked, with 1024 for the others. -/
theorem IsEm_fold (s : EReal) (x : Fin 1024 → EReal) (f : Fin 1024 → BitVec 32)
    (hf : ∀ c, f c = Scalar.select (Ideal.cmp .oeq (s + x c) (s + top1 x)) (BitVec.ofNat 32 c.val) 1024#32) :
    IsEm s x ((Finset.univ : Finset (Fin 1024)).fold IntOp.minsi 2147483647#32 f) := by
  obtain ⟨c, hc, hm⟩ := exists_first s x
  refine ⟨c, ?_, hc, hm⟩
  have hfe : ∀ c', s + x c' = s + top1 x → f c' = BitVec.ofNat 32 c'.val := fun c' h => by
    rw [hf, show Ideal.cmp .oeq (s + x c') (s + top1 x) = 1#1 by simp [Ideal.cmp, h], select_one]
  have hfn : ∀ c', s + x c' ≠ s + top1 x → f c' = 1024#32 := fun c' h => by
    rw [hf, show Ideal.cmp .oeq (s + x c') (s + top1 x) = 0#1 by simp [Ideal.cmp, h], select_zero]
  apply BitVec.eq_of_toInt_eq
  rw [← Finset.fold_hom (op := IntOp.minsi) (op' := min) (m := BitVec.toInt) toInt_minsi, toInt_small _ c.isLt.le]
  apply le_antisymm
  · exact Finset.fold_min_le _ |>.2 (Or.inr ⟨c, Finset.mem_univ c, by rw [hfe c hc, toInt_small _ c.isLt.le]⟩)
  · refine Finset.le_fold_min _ |>.2 ⟨?_, fun c' _ => ?_⟩
    · have := c.isLt
      rw [show (2147483647#32 : BitVec 32).toInt = 2147483647 by decide]; omega
    · by_cases h : s + x c' = s + top1 x
      · rw [hfe c' h, toInt_small _ c'.isLt.le]
        have : ¬ c'.val < c.val := fun hl => hm c' hl h
        omega
      · rw [hfn c' h, show (1024#32 : BitVec 32).toInt = 1024 by decide]
        have := c.isLt
        omega

variable (X : ℕ → Fin 1024 → EReal) (L : BitVec 32)

/-- The score before step `t`. -/
def sc : ℕ → EReal
  | 0 => 0
  | t + 1 => Scalar.select (act L t) (sc t + top1 (X t)) (sc t)

/-- Row `b`'s table: step `t`'s entries. -/
def Xrow (x : (⟨3, ![512, 64, 1024]⟩ : Shape).Idx → EReal) (b : Fin 64) (t : ℕ) : Fin 1024 → EReal :=
  fun c => x (ix3 (⟨t % 512, Nat.mod_lt _ (by decide)⟩ : Fin 512) b c)

/-- Row `b`'s length. -/
def Lrow (l : (⟨1, ![64]⟩ : Shape).Idx → BitVec 32) (b : Fin 64) : BitVec 32 := l (ix1 b)

end Cert.Col

end
-- ==== Proof.KScore.lean ====
/- The kernel's greedy pass at one grid point, read at a row: over the extended reals its thirty-two steps are the
   recurrence's, and what it emits is the first best symbol. -/
module

public import proofs.«01_k».proof.Proof.Spec
public import proofs.«01_k».proof.Proof.Greedy
public import Idealize.ShloMosaic.Lib.Pipeline.Value
public import Idealize.ShloMosaic.Lib.ValueLayoutCasts

@[expose] public section

set_option maxRecDepth 16384

noncomputable section

namespace Cert.Beam

open Idealize.ShloMosaic Idealize.ShloMosaic.ValueIdx
open Cert.KernelIdeal Cert.KernelIdeal.Gen
open Cert.Col

theorem ofBits_low : Ideal.ofBits .f32 0xFF800000#32 = ⊥ := by
  simp [Ideal.ofBits, Ideal.ieee]

theorem lift_ix (r : Fin 32) (b : Fin 64) (c : Fin 1024) :
    reduces_S32x64x1024_S32x64.lift (ix2 r b) c = ix3 r b c := by
  funext a
  match a with
  | ⟨0, _⟩ => rfl
  | ⟨1, _⟩ => rfl
  | ⟨2, _⟩ => rfl

theorem comp_lift {α : Type} (f : S32x64x1024.Idx → α) (r : Fin 32) (b : Fin 64) (c : Fin 1024) :
    (f ∘ reduces_S32x64x1024_S32x64.lift (ix2 r b)) c = f (ix3 r b c) := congrArg f (lift_ix r b c)

theorem mx_apply (x1 : Vec Ideal S32x64x1024 .f32) (r : Fin 32) (b : Fin 64) :
    mx x1 (ix2 r b) = top1 fun c => x1 (ix3 r b c) := by
  delta mx k0_pay11
  refine (Ideal.multiReduction_maximumf_single (φ := .f32) (a := 2) x1 _ reduces_S32x64x1024_S32x64 _ _ (ix2 r b)).trans ?_
  unfold top1
  have e : (FloatOps.ofBits .f32 0xFF800000#32 : Ideal .f32) = (⊥ : EReal) := ofBits_low
  rw [e]
  refine Finset.fold_congr fun c _ => ?_
  exact congrArg x1 (lift_ix r b c)

theorem word_step (n j : ℕ) : Scalar.addi (Scalar.muli (BitVec.ofNat 32 n) 32#32) (BitVec.ofNat 32 j) = BitVec.ofNat 32 (32 * n + j) := by
  show BitVec.ofNat 32 n * BitVec.ofNat 32 32 + BitVec.ofNat 32 j = _
  rw [← BitVec.ofNat_mul, ← BitVec.ofNat_add, Nat.mul_comm]

section Point

variable (i : grid0.Coords) (x0 : Vec Ideal S1x64 .i32) (x1 : Vec Ideal S32x64x1024 .f32) (s : Vec Ideal S1x64 .f32) (b : Fin 64)
  (X : ℕ → Fin 1024 → EReal) (L : BitVec 32)

/-- One step: the score of the step before, and the step's best entry added to it while the row is active. -/
theorem step_val {n : ℕ} (hn : (i 0).val = n) (hX : ∀ (r : Fin 32) c, x1 (ix3 r b c) = X (32 * n + r.val) c) (hL : dl x0 (ix2 0 b) = L)
    (j : ℕ) (hj : j < 32) (hsl : S32x64.Slices ![j, 0] S1x64) (v v' : FVec Ideal S1x64 .f32)
    (hv' : v' = select (cmpi .slt (broadcast S1x64 (Scalar.addi (t0w i) (BitVec.ofNat 32 j))) (dl x0)) (addf v (extractStridedSlice S1x64 ![j, 0] (mx x1) hsl)) v)
    (hv : v (ix2 0 b) = sc X L (32 * n + j)) : v' (ix2 0 b) = sc X L (32 * n + (j + 1)) := by
  subst hv'
  show Scalar.select (IntOp.cmpi .slt (Scalar.addi (t0w i) (BitVec.ofNat 32 j)) (dl x0 (ix2 0 b)))
    (v (ix2 0 b) + extractStridedSlice S1x64 ![j, 0] (mx x1) hsl (ix2 0 b)) (v (ix2 0 b)) = _
  have h1 := slice2_axis0_apply j (mx x1) hsl (0 : Fin 1) b (⟨j, hj⟩ : Fin 32) rfl
  have h2 : t0w i = Scalar.muli (BitVec.ofNat 32 n) 32#32 := by rw [← hn]
  rw [h1, mx_apply, hL, hv, h2, word_step]
  have h3 : (fun c => x1 (ix3 (⟨j, hj⟩ : Fin 32) b c)) = X (32 * n + j) := funext fun c => hX ⟨j, hj⟩ c
  rw [h3]
  rfl

theorem g14_val {n : ℕ} (hn : (i 0).val = n) (hX : ∀ (r : Fin 32) c, x1 (ix3 r b c) = X (32 * n + r.val) c) (hL : dl x0 (ix2 0 b) = L) (hs : s (ix2 0 b) = sc X L (32 * n)) : g14 i x0 x1 s (ix2 0 b) = sc X L (32 * n + 1) :=
  step_val i x0 x1 b X L hn hX hL 0 (by decide) slices_S32x64_o0_0_S1x64 s (g14 i x0 x1 s) rfl hs

theorem g20_val {n : ℕ} (hn : (i 0).val = n) (hX : ∀ (r : Fin 32) c, x1 (ix3 r b c) = X (32 * n + r.val) c) (hL : dl x0 (ix2 0 b) = L) (hs : s (ix2 0 b) = sc X L (32 * n)) : g20 i x0 x1 s (ix2 0 b) = sc X L (32 * n + 2) :=
  step_val i x0 x1 b X L hn hX hL 1 (by decide) slices_S32x64_o1_0_S1x64 (g14 i x0 x1 s) (g20 i x0 x1 s) rfl (g14_val i x0 x1 s b X L hn hX hL hs)

theorem g26_val {n : ℕ} (hn : (i 0).val = n) (hX : ∀ (r : Fin 32) c, x1 (ix3 r b c) = X (32 * n + r.val) c) (hL : dl x0 (ix2 0 b) = L) (hs : s (ix2 0 b) = sc X L (32 * n)) : g26 i x0 x1 s (ix2 0 b) = sc X L (32 * n + 3) :=
  step_val i x0 x1 b X L hn hX hL 2 (by decide) slices_S32x64_o2_0_S1x64 (g20 i x0 x1 s) (g26 i x0 x1 s) rfl (g20_val i x0 x1 s b X L hn hX hL hs)

theorem g32_val {n : ℕ} (hn : (i 0).val = n) (hX : ∀ (r : Fin 32) c, x1 (ix3 r b c) = X (32 * n + r.val) c) (hL : dl x0 (ix2 0 b) = L) (hs : s (ix2 0 b) = sc X L (32 * n)) : g32 i x0 x1 s (ix2 0 b) = sc X L (32 * n + 4) :=
  step_val i x0 x1 b X L hn hX hL 3 (by decide) slices_S32x64_o3_0_S1x64 (g26 i x0 x1 s) (g32 i x0 x1 s) rfl (g26_val i x0 x1 s b X L hn hX hL hs)

theorem g38_val {n : ℕ} (hn : (i 0).val = n) (hX : ∀ (r : Fin 32) c, x1 (ix3 r b c) = X (32 * n + r.val) c) (hL : dl x0 (ix2 0 b) = L) (hs : s (ix2 0 b) = sc X L (32 * n)) : g38 i x0 x1 s (ix2 0 b) = sc X L (32 * n + 5) :=
  step_val i x0 x1 b X L hn hX hL 4 (by decide) slices_S32x64_o4_0_S1x64 (g32 i x0 x1 s) (g38 i x0 x1 s) rfl (g32_val i x0 x1 s b X L hn hX hL hs)

theorem g44_val {n : ℕ} (hn : (i 0).val = n) (hX : ∀ (r : Fin 32) c, x1 (ix3 r b c) = X (32 * n + r.val) c) (hL : dl x0 (ix2 0 b) = L) (hs : s (ix2 0 b) = sc X L (32 * n)) : g44 i x0 x1 s (ix2 0 b) = sc X L (32 * n + 6) :=
  step_val i x0 x1 b X L hn hX hL 5 (by decide) slices_S32x64_o5_0_S1x64 (g38 i x0 x1 s) (g44 i x0 x1 s) rfl (g38_val i x0 x1 s b X L hn hX hL hs)

theorem g50_val {n : ℕ} (hn : (i 0).val = n) (hX : ∀ (r : Fin 32) c, x1 (ix3 r b c) = X (32 * n + r.val) c) (hL : dl x0 (ix2 0 b) = L) (hs : s (ix2 0 b) = sc X L (32 * n)) : g50 i x0 x1 s (ix2 0 b) = sc X L (32 * n + 7) :=
  step_val i x0 x1 b X L hn hX hL 6 (by decide) slices_S32x64_o6_0_S1x64 (g44 i x0 x1 s) (g50 i x0 x1 s) rfl (g44_val i x0 x1 s b X L hn hX hL hs)

theorem g56_val {n : ℕ} (hn : (i 0).val = n) (hX : ∀ (r : Fin 32) c, x1 (ix3 r b c) = X (32 * n + r.val) c) (hL : dl x0 (ix2 0 b) = L) (hs : s (ix2 0 b) = sc X L (32 * n)) : g56 i x0 x1 s (ix2 0 b) = sc X L (32 * n + 8) :=
  step_val i x0 x1 b X L hn hX hL 7 (by decide) slices_S32x64_o7_0_S1x64 (g50 i x0 x1 s) (g56 i x0 x1 s) rfl (g50_val i x0 x1 s b X L hn hX hL hs)

theorem g62_val {n : ℕ} (hn : (i 0).val = n) (hX : ∀ (r : Fin 32) c, x1 (ix3 r b c) = X (32 * n + r.val) c) (hL : dl x0 (ix2 0 b) = L) (hs : s (ix2 0 b) = sc X L (32 * n)) : g62 i x0 x1 s (ix2 0 b) = sc X L (32 * n + 9) :=
  step_val i x0 x1 b X L hn hX hL 8 (by decide) slices_S32x64_o8_0_S1x64 (g56 i x0 x1 s) (g62 i x0 x1 s) rfl (g56_val i x0 x1 s b X L hn hX hL hs)

theorem g68_val {n : ℕ} (hn : (i 0).val = n) (hX : ∀ (r : Fin 32) c, x1 (ix3 r b c) = X (32 * n + r.val) c) (hL : dl x0 (ix2 0 b) = L) (hs : s (ix2 0 b) = sc X L (32 * n)) : g68 i x0 x1 s (ix2 0 b) = sc X L (32 * n + 10) :=
  step_val i x0 x1 b X L hn hX hL 9 (by decide) slices_S32x64_o9_0_S1x64 (g62 i x0 x1 s) (g68 i x0 x1 s) rfl (g62_val i x0 x1 s b X L hn hX hL hs)

theorem g74_val {n : ℕ} (hn : (i 0).val = n) (hX : ∀ (r : Fin 32) c, x1 (ix3 r b c) = X (32 * n + r.val) c) (hL : dl x0 (ix2 0 b) = L) (hs : s (ix2 0 b) = sc X L (32 * n)) : g74 i x0 x1 s (ix2 0 b) = sc X L (32 * n + 11) :=
  step_val i x0 x1 b X L hn hX hL 10 (by decide) slices_S32x64_o10_0_S1x64 (g68 i x0 x1 s) (g74 i x0 x1 s) rfl (g68_val i x0 x1 s b X L hn hX hL hs)

theorem g80_val {n : ℕ} (hn : (i 0).val = n) (hX : ∀ (r : Fin 32) c, x1 (ix3 r b c) = X (32 * n + r.val) c) (hL : dl x0 (ix2 0 b) = L) (hs : s (ix2 0 b) = sc X L (32 * n)) : g80 i x0 x1 s (ix2 0 b) = sc X L (32 * n + 12) :=
  step_val i x0 x1 b X L hn hX hL 11 (by decide) slices_S32x64_o11_0_S1x64 (g74 i x0 x1 s) (g80 i x0 x1 s) rfl (g74_val i x0 x1 s b X L hn hX hL hs)

theorem g86_val {n : ℕ} (hn : (i 0).val = n) (hX : ∀ (r : Fin 32) c, x1 (ix3 r b c) = X (32 * n + r.val) c) (hL : dl x0 (ix2 0 b) = L) (hs : s (ix2 0 b) = sc X L (32 * n)) : g86 i x0 x1 s (ix2 0 b) = sc X L (32 * n + 13) :=
  step_val i x0 x1 b X L hn hX hL 12 (by decide) slices_S32x64_o12_0_S1x64 (g80 i x0 x1 s) (g86 i x0 x1 s) rfl (g80_val i x0 x1 s b X L hn hX hL hs)

theorem g92_val {n : ℕ} (hn : (i 0).val = n) (hX : ∀ (r : Fin 32) c, x1 (ix3 r b c) = X (32 * n + r.val) c) (hL : dl x0 (ix2 0 b) = L) (hs : s (ix2 0 b) = sc X L (32 * n)) : g92 i x0 x1 s (ix2 0 b) = sc X L (32 * n + 14) :=
  step_val i x0 x1 b X L hn hX hL 13 (by decide) slices_S32x64_o13_0_S1x64 (g86 i x0 x1 s) (g92 i x0 x1 s) rfl (g86_val i x0 x1 s b X L hn hX hL hs)

theorem g98_val {n : ℕ} (hn : (i 0).val = n) (hX : ∀ (r : Fin 32) c, x1 (ix3 r b c) = X (32 * n + r.val) c) (hL : dl x0 (ix2 0 b) = L) (hs : s (ix2 0 b) = sc X L (32 * n)) : g98 i x0 x1 s (ix2 0 b) = sc X L (32 * n + 15) :=
  step_val i x0 x1 b X L hn hX hL 14 (by decide) slices_S32x64_o14_0_S1x64 (g92 i x0 x1 s) (g98 i x0 x1 s) rfl (g92_val i x0 x1 s b X L hn hX hL hs)

theorem g104_val {n : ℕ} (hn : (i 0).val = n) (hX : ∀ (r : Fin 32) c, x1 (ix3 r b c) = X (32 * n + r.val) c) (hL : dl x0 (ix2 0 b) = L) (hs : s (ix2 0 b) = sc X L (32 * n)) : g104 i x0 x1 s (ix2 0 b) = sc X L (32 * n + 16) :=
  step_val i x0 x1 b X L hn hX hL 15 (by decide) slices_S32x64_o15_0_S1x64 (g98 i x0 x1 s) (g104 i x0 x1 s) rfl (g98_val i x0 x1 s b X L hn hX hL hs)

theorem g110_val {n : ℕ} (hn : (i 0).val = n) (hX : ∀ (r : Fin 32) c, x1 (ix3 r b c) = X (32 * n + r.val) c) (hL : dl x0 (ix2 0 b) = L) (hs : s (ix2 0 b) = sc X L (32 * n)) : g110 i x0 x1 s (ix2 0 b) = sc X L (32 * n + 17) :=
  step_val i x0 x1 b X L hn hX hL 16 (by decide) slices_S32x64_o16_0_S1x64 (g104 i x0 x1 s) (g110 i x0 x1 s) rfl (g104_val i x0 x1 s b X L hn hX hL hs)

theorem g116_val {n : ℕ} (hn : (i 0).val = n) (hX : ∀ (r : Fin 32) c, x1 (ix3 r b c) = X (32 * n + r.val) c) (hL : dl x0 (ix2 0 b) = L) (hs : s (ix2 0 b) = sc X L (32 * n)) : g116 i x0 x1 s (ix2 0 b) = sc X L (32 * n + 18) :=
  step_val i x0 x1 b X L hn hX hL 17 (by decide) slices_S32x64_o17_0_S1x64 (g110 i x0 x1 s) (g116 i x0 x1 s) rfl (g110_val i x0 x1 s b X L hn hX hL hs)

theorem g122_val {n : ℕ} (hn : (i 0).val = n) (hX : ∀ (r : Fin 32) c, x1 (ix3 r b c) = X (32 * n + r.val) c) (hL : dl x0 (ix2 0 b) = L) (hs : s (ix2 0 b) = sc X L (32 * n)) : g122 i x0 x1 s (ix2 0 b) = sc X L (32 * n + 19) :=
  step_val i x0 x1 b X L hn hX hL 18 (by decide) slices_S32x64_o18_0_S1x64 (g116 i x0 x1 s) (g122 i x0 x1 s) rfl (g116_val i x0 x1 s b X L hn hX hL hs)

theorem g128_val {n : ℕ} (hn : (i 0).val = n) (hX : ∀ (r : Fin 32) c, x1 (ix3 r b c) = X (32 * n + r.val) c) (hL : dl x0 (ix2 0 b) = L) (hs : s (ix2 0 b) = sc X L (32 * n)) : g128 i x0 x1 s (ix2 0 b) = sc X L (32 * n + 20) :=
  step_val i x0 x1 b X L hn hX hL 19 (by decide) slices_S32x64_o19_0_S1x64 (g122 i x0 x1 s) (g128 i x0 x1 s) rfl (g122_val i x0 x1 s b X L hn hX hL hs)

theorem g134_val {n : ℕ} (hn : (i 0).val = n) (hX : ∀ (r : Fin 32) c, x1 (ix3 r b c) = X (32 * n + r.val) c) (hL : dl x0 (ix2 0 b) = L) (hs : s (ix2 0 b) = sc X L (32 * n)) : g134 i x0 x1 s (ix2 0 b) = sc X L (32 * n + 21) :=
  step_val i x0 x1 b X L hn hX hL 20 (by decide) slices_S32x64_o20_0_S1x64 (g128 i x0 x1 s) (g134 i x0 x1 s) rfl (g128_val i x0 x1 s b X L hn hX hL hs)

theorem g140_val {n : ℕ} (hn : (i 0).val = n) (hX : ∀ (r : Fin 32) c, x1 (ix3 r b c) = X (32 * n + r.val) c) (hL : dl x0 (ix2 0 b) = L) (hs : s (ix2 0 b) = sc X L (32 * n)) : g140 i x0 x1 s (ix2 0 b) = sc X L (32 * n + 22) :=
  step_val i x0 x1 b X L hn hX hL 21 (by decide) slices_S32x64_o21_0_S1x64 (g134 i x0 x1 s) (g140 i x0 x1 s) rfl (g134_val i x0 x1 s b X L hn hX hL hs)

theorem g146_val {n : ℕ} (hn : (i 0).val = n) (hX : ∀ (r : Fin 32) c, x1 (ix3 r b c) = X (32 * n + r.val) c) (hL : dl x0 (ix2 0 b) = L) (hs : s (ix2 0 b) = sc X L (32 * n)) : g146 i x0 x1 s (ix2 0 b) = sc X L (32 * n + 23) :=
  step_val i x0 x1 b X L hn hX hL 22 (by decide) slices_S32x64_o22_0_S1x64 (g140 i x0 x1 s) (g146 i x0 x1 s) rfl (g140_val i x0 x1 s b X L hn hX hL hs)

theorem g152_val {n : ℕ} (hn : (i 0).val = n) (hX : ∀ (r : Fin 32) c, x1 (ix3 r b c) = X (32 * n + r.val) c) (hL : dl x0 (ix2 0 b) = L) (hs : s (ix2 0 b) = sc X L (32 * n)) : g152 i x0 x1 s (ix2 0 b) = sc X L (32 * n + 24) :=
  step_val i x0 x1 b X L hn hX hL 23 (by decide) slices_S32x64_o23_0_S1x64 (g146 i x0 x1 s) (g152 i x0 x1 s) rfl (g146_val i x0 x1 s b X L hn hX hL hs)

theorem g158_val {n : ℕ} (hn : (i 0).val = n) (hX : ∀ (r : Fin 32) c, x1 (ix3 r b c) = X (32 * n + r.val) c) (hL : dl x0 (ix2 0 b) = L) (hs : s (ix2 0 b) = sc X L (32 * n)) : g158 i x0 x1 s (ix2 0 b) = sc X L (32 * n + 25) :=
  step_val i x0 x1 b X L hn hX hL 24 (by decide) slices_S32x64_o24_0_S1x64 (g152 i x0 x1 s) (g158 i x0 x1 s) rfl (g152_val i x0 x1 s b X L hn hX hL hs)

theorem g164_val {n : ℕ} (hn : (i 0).val = n) (hX : ∀ (r : Fin 32) c, x1 (ix3 r b c) = X (32 * n + r.val) c) (hL : dl x0 (ix2 0 b) = L) (hs : s (ix2 0 b) = sc X L (32 * n)) : g164 i x0 x1 s (ix2 0 b) = sc X L (32 * n + 26) :=
  step_val i x0 x1 b X L hn hX hL 25 (by decide) slices_S32x64_o25_0_S1x64 (g158 i x0 x1 s) (g164 i x0 x1 s) rfl (g158_val i x0 x1 s b X L hn hX hL hs)

theorem g170_val {n : ℕ} (hn : (i 0).val = n) (hX : ∀ (r : Fin 32) c, x1 (ix3 r b c) = X (32 * n + r.val) c) (hL : dl x0 (ix2 0 b) = L) (hs : s (ix2 0 b) = sc X L (32 * n)) : g170 i x0 x1 s (ix2 0 b) = sc X L (32 * n + 27) :=
  step_val i x0 x1 b X L hn hX hL 26 (by decide) slices_S32x64_o26_0_S1x64 (g164 i x0 x1 s) (g170 i x0 x1 s) rfl (g164_val i x0 x1 s b X L hn hX hL hs)

theorem g176_val {n : ℕ} (hn : (i 0).val = n) (hX : ∀ (r : Fin 32) c, x1 (ix3 r b c) = X (32 * n + r.val) c) (hL : dl x0 (ix2 0 b) = L) (hs : s (ix2 0 b) = sc X L (32 * n)) : g176 i x0 x1 s (ix2 0 b) = sc X L (32 * n + 28) :=
  step_val i x0 x1 b X L hn hX hL 27 (by decide) slices_S32x64_o27_0_S1x64 (g170 i x0 x1 s) (g176 i x0 x1 s) rfl (g170_val i x0 x1 s b X L hn hX hL hs)

theorem g182_val {n : ℕ} (hn : (i 0).val = n) (hX : ∀ (r : Fin 32) c, x1 (ix3 r b c) = X (32 * n + r.val) c) (hL : dl x0 (ix2 0 b) = L) (hs : s (ix2 0 b) = sc X L (32 * n)) : g182 i x0 x1 s (ix2 0 b) = sc X L (32 * n + 29) :=
  step_val i x0 x1 b X L hn hX hL 28 (by decide) slices_S32x64_o28_0_S1x64 (g176 i x0 x1 s) (g182 i x0 x1 s) rfl (g176_val i x0 x1 s b X L hn hX hL hs)

theorem g188_val {n : ℕ} (hn : (i 0).val = n) (hX : ∀ (r : Fin 32) c, x1 (ix3 r b c) = X (32 * n + r.val) c) (hL : dl x0 (ix2 0 b) = L) (hs : s (ix2 0 b) = sc X L (32 * n)) : g188 i x0 x1 s (ix2 0 b) = sc X L (32 * n + 30) :=
  step_val i x0 x1 b X L hn hX hL 29 (by decide) slices_S32x64_o29_0_S1x64 (g182 i x0 x1 s) (g188 i x0 x1 s) rfl (g182_val i x0 x1 s b X L hn hX hL hs)

theorem g194_val {n : ℕ} (hn : (i 0).val = n) (hX : ∀ (r : Fin 32) c, x1 (ix3 r b c) = X (32 * n + r.val) c) (hL : dl x0 (ix2 0 b) = L) (hs : s (ix2 0 b) = sc X L (32 * n)) : g194 i x0 x1 s (ix2 0 b) = sc X L (32 * n + 31) :=
  step_val i x0 x1 b X L hn hX hL 30 (by decide) slices_S32x64_o30_0_S1x64 (g188 i x0 x1 s) (g194 i x0 x1 s) rfl (g188_val i x0 x1 s b X L hn hX hL hs)

theorem sNext_val {n : ℕ} (hn : (i 0).val = n) (hX : ∀ (r : Fin 32) c, x1 (ix3 r b c) = X (32 * n + r.val) c) (hL : dl x0 (ix2 0 b) = L) (hs : s (ix2 0 b) = sc X L (32 * n)) : sNext i x0 x1 s (ix2 0 b) = sc X L (32 * n + 32) := by
  have h : sNext i x0 x1 s = shapeCast S1x64 (select (cmpi .slt (broadcast S1x64 (Scalar.addi (t0w i) 31#32)) (dl x0)) (addf (g194 i x0 x1 s) (extractStridedSlice S1x64 ![31, 0] (mx x1) slices_S32x64_o31_0_S1x64)) (g194 i x0 x1 s)) shapeCasts_S1x64_S1x64 := rfl
  rw [h, shapeCast_apply _ _ (ix2 0 b) (ix2 0 b) rfl]
  exact step_val i x0 x1 b X L hn hX hL 31 (by decide) slices_S32x64_o31_0_S1x64 (g194 i x0 x1 s) _ rfl (g194_val i x0 x1 s b X L hn hX hL hs)

/-- Row `k` of thirty-two laid one under another. -/
theorem cat32_apply (a0 a1 a2 a3 a4 a5 a6 a7 a8 a9 a10 a11 a12 a13 a14 a15 a16 a17 a18 a19 a20 a21 a22 a23 a24 a25 a26 a27 a28 a29 a30 a31 : FVec Ideal S1x64 .f32) (b : Fin 64) (k : ℕ) (hk : k < 32) (x : FVec Ideal S1x64 .f32)
    (hx : ([⟨S1x64, a0⟩, ⟨S1x64, a1⟩, ⟨S1x64, a2⟩, ⟨S1x64, a3⟩, ⟨S1x64, a4⟩, ⟨S1x64, a5⟩, ⟨S1x64, a6⟩, ⟨S1x64, a7⟩, ⟨S1x64, a8⟩, ⟨S1x64, a9⟩, ⟨S1x64, a10⟩, ⟨S1x64, a11⟩, ⟨S1x64, a12⟩, ⟨S1x64, a13⟩, ⟨S1x64, a14⟩, ⟨S1x64, a15⟩, ⟨S1x64, a16⟩, ⟨S1x64, a17⟩, ⟨S1x64, a18⟩, ⟨S1x64, a19⟩, ⟨S1x64, a20⟩, ⟨S1x64, a21⟩, ⟨S1x64, a22⟩, ⟨S1x64, a23⟩, ⟨S1x64, a24⟩, ⟨S1x64, a25⟩, ⟨S1x64, a26⟩, ⟨S1x64, a27⟩, ⟨S1x64, a28⟩, ⟨S1x64, a29⟩, ⟨S1x64, a30⟩, ⟨S1x64, a31⟩] : List ((s : Shape) × (s.Idx → EReal)))[k]'hk = ⟨S1x64, x⟩)
    (hp : ((([⟨S1x64, a0⟩, ⟨S1x64, a1⟩, ⟨S1x64, a2⟩, ⟨S1x64, a3⟩, ⟨S1x64, a4⟩, ⟨S1x64, a5⟩, ⟨S1x64, a6⟩, ⟨S1x64, a7⟩, ⟨S1x64, a8⟩, ⟨S1x64, a9⟩, ⟨S1x64, a10⟩, ⟨S1x64, a11⟩, ⟨S1x64, a12⟩, ⟨S1x64, a13⟩, ⟨S1x64, a14⟩, ⟨S1x64, a15⟩, ⟨S1x64, a16⟩, ⟨S1x64, a17⟩, ⟨S1x64, a18⟩, ⟨S1x64, a19⟩, ⟨S1x64, a20⟩, ⟨S1x64, a21⟩, ⟨S1x64, a22⟩, ⟨S1x64, a23⟩, ⟨S1x64, a24⟩, ⟨S1x64, a25⟩, ⟨S1x64, a26⟩, ⟨S1x64, a27⟩, ⟨S1x64, a28⟩, ⟨S1x64, a29⟩, ⟨S1x64, a30⟩, ⟨S1x64, a31⟩] : List ((s : Shape) × (s.Idx → EReal))).take k).map (·.1)).map (fun s => if h : s.rank = S32x64.rank then s.size ((0 : Fin S32x64.rank).cast h.symm) else 0) = List.replicate k 1) :
    cat32 (F := Ideal) a0 a1 a2 a3 a4 a5 a6 a7 a8 a9 a10 a11 a12 a13 a14 a15 a16 a17 a18 a19 a20 a21 a22 a23 a24 a25 a26 a27 a28 a29 a30 a31 (ix2 ⟨k, hk⟩ b) = x (ix2 0 b) := by
  unfold cat32
  refine concatenate_apply_piece (t := S32x64) 0 [⟨S1x64, a0⟩, ⟨S1x64, a1⟩, ⟨S1x64, a2⟩, ⟨S1x64, a3⟩, ⟨S1x64, a4⟩, ⟨S1x64, a5⟩, ⟨S1x64, a6⟩, ⟨S1x64, a7⟩, ⟨S1x64, a8⟩, ⟨S1x64, a9⟩, ⟨S1x64, a10⟩, ⟨S1x64, a11⟩, ⟨S1x64, a12⟩, ⟨S1x64, a13⟩, ⟨S1x64, a14⟩, ⟨S1x64, a15⟩, ⟨S1x64, a16⟩, ⟨S1x64, a17⟩, ⟨S1x64, a18⟩, ⟨S1x64, a19⟩, ⟨S1x64, a20⟩, ⟨S1x64, a21⟩, ⟨S1x64, a22⟩, ⟨S1x64, a23⟩, ⟨S1x64, a24⟩, ⟨S1x64, a25⟩, ⟨S1x64, a26⟩, ⟨S1x64, a27⟩, ⟨S1x64, a28⟩, ⟨S1x64, a29⟩, ⟨S1x64, a30⟩, ⟨S1x64, a31⟩] concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0 (ix2 ⟨k, hk⟩ b) k hk S1x64 x hx rfl k ?_ (ix2 0 b) (fun ax hax => ?_) rfl
  · rw [hp]; simp
  · match ax with
    | ⟨0, _⟩ => exact absurd rfl hax
    | ⟨1, _⟩ => rfl

theorem sexc_val {n : ℕ} (hn : (i 0).val = n) (hX : ∀ (r : Fin 32) c, x1 (ix3 r b c) = X (32 * n + r.val) c) (hL : dl x0 (ix2 0 b) = L) (hs : s (ix2 0 b) = sc X L (32 * n)) (r : Fin 32) : sexc i x0 x1 s (ix2 r b) = sc X L (32 * n + r.val) := by
  unfold sexc
  match r with
  | ⟨0, _⟩ => exact (cat32_apply _ _ _ _ _ _ _ _ _ _ _ _ _ _ _ _ _ _ _ _ _ _ _ _ _ _ _ _ _ _ _ _ b 0 (by decide) _ rfl rfl).trans hs
  | ⟨1, _⟩ => exact (cat32_apply _ _ _ _ _ _ _ _ _ _ _ _ _ _ _ _ _ _ _ _ _ _ _ _ _ _ _ _ _ _ _ _ b 1 (by decide) _ rfl rfl).trans (g14_val i x0 x1 s b X L hn hX hL hs)
  | ⟨2, _⟩ => exact (cat32_apply _ _ _ _ _ _ _ _ _ _ _ _ _ _ _ _ _ _ _ _ _ _ _ _ _ _ _ _ _ _ _ _ b 2 (by decide) _ rfl rfl).trans (g20_val i x0 x1 s b X L hn hX hL hs)
  | ⟨3, _⟩ => exact (cat32_apply _ _ _ _ _ _ _ _ _ _ _ _ _ _ _ _ _ _ _ _ _ _ _ _ _ _ _ _ _ _ _ _ b 3 (by decide) _ rfl rfl).trans (g26_val i x0 x1 s b X L hn hX hL hs)
  | ⟨4, _⟩ => exact (cat32_apply _ _ _ _ _ _ _ _ _ _ _ _ _ _ _ _ _ _ _ _ _ _ _ _ _ _ _ _ _ _ _ _ b 4 (by decide) _ rfl rfl).trans (g32_val i x0 x1 s b X L hn hX hL hs)
  | ⟨5, _⟩ => exact (cat32_apply _ _ _ _ _ _ _ _ _ _ _ _ _ _ _ _ _ _ _ _ _ _ _ _ _ _ _ _ _ _ _ _ b 5 (by decide) _ rfl rfl).trans (g38_val i x0 x1 s b X L hn hX hL hs)
  | ⟨6, _⟩ => exact (cat32_apply _ _ _ _ _ _ _ _ _ _ _ _ _ _ _ _ _ _ _ _ _ _ _ _ _ _ _ _ _ _ _ _ b 6 (by decide) _ rfl rfl).trans (g44_val i x0 x1 s b X L hn hX hL hs)
  | ⟨7, _⟩ => exact (cat32_apply _ _ _ _ _ _ _ _ _ _ _ _ _ _ _ _ _ _ _ _ _ _ _ _ _ _ _ _ _ _ _ _ b 7 (by decide) _ rfl rfl).trans (g50_val i x0 x1 s b X L hn hX hL hs)
  | ⟨8, _⟩ => exact (cat32_apply _ _ _ _ _ _ _ _ _ _ _ _ _ _ _ _ _ _ _ _ _ _ _ _ _ _ _ _ _ _ _ _ b 8 (by decide) _ rfl rfl).trans (g56_val i x0 x1 s b X L hn hX hL hs)
  | ⟨9, _⟩ => exact (cat32_apply _ _ _ _ _ _ _ _ _ _ _ _ _ _ _ _ _ _ _ _ _ _ _ _ _ _ _ _ _ _ _ _ b 9 (by decide) _ rfl rfl).trans (g62_val i x0 x1 s b X L hn hX hL hs)
  | ⟨10, _⟩ => exact (cat32_apply _ _ _ _ _ _ _ _ _ _ _ _ _ _ _ _ _ _ _ _ _ _ _ _ _ _ _ _ _ _ _ _ b 10 (by decide) _ rfl rfl).trans (g68_val i x0 x1 s b X L hn hX hL hs)
  | ⟨11, _⟩ => exact (cat32_apply _ _ _ _ _ _ _ _ _ _ _ _ _ _ _ _ _ _ _ _ _ _ _ _ _ _ _ _ _ _ _ _ b 11 (by decide) _ rfl rfl).trans (g74_val i x0 x1 s b X L hn hX hL hs)
  | ⟨12, _⟩ => exact (cat32_apply _ _ _ _ _ _ _ _ _ _ _ _ _ _ _ _ _ _ _ _ _ _ _ _ _ _ _ _ _ _ _ _ b 12 (by decide) _ rfl rfl).trans (g80_val i x0 x1 s b X L hn hX hL hs)
  | ⟨13, _⟩ => exact (cat32_apply _ _ _ _ _ _ _ _ _ _ _ _ _ _ _ _ _ _ _ _ _ _ _ _ _ _ _ _ _ _ _ _ b 13 (by decide) _ rfl rfl).trans (g86_val i x0 x1 s b X L hn hX hL hs)
  | ⟨14, _⟩ => exact (cat32_apply _ _ _ _ _ _ _ _ _ _ _ _ _ _ _ _ _ _ _ _ _ _ _ _ _ _ _ _ _ _ _ _ b 14 (by decide) _ rfl rfl).trans (g92_val i x0 x1 s b X L hn hX hL hs)
  | ⟨15, _⟩ => exact (cat32_apply _ _ _ _ _ _ _ _ _ _ _ _ _ _ _ _ _ _ _ _ _ _ _ _ _ _ _ _ _ _ _ _ b 15 (by decide) _ rfl rfl).trans (g98_val i x0 x1 s b X L hn hX hL hs)
  | ⟨16, _⟩ => exact (cat32_apply _ _ _ _ _ _ _ _ _ _ _ _ _ _ _ _ _ _ _ _ _ _ _ _ _ _ _ _ _ _ _ _ b 16 (by decide) _ rfl rfl).trans (g104_val i x0 x1 s b X L hn hX hL hs)
  | ⟨17, _⟩ => exact (cat32_apply _ _ _ _ _ _ _ _ _ _ _ _ _ _ _ _ _ _ _ _ _ _ _ _ _ _ _ _ _ _ _ _ b 17 (by decide) _ rfl rfl).trans (g110_val i x0 x1 s b X L hn hX hL hs)
  | ⟨18, _⟩ => exact (cat32_apply _ _ _ _ _ _ _ _ _ _ _ _ _ _ _ _ _ _ _ _ _ _ _ _ _ _ _ _ _ _ _ _ b 18 (by decide) _ rfl rfl).trans (g116_val i x0 x1 s b X L hn hX hL hs)
  | ⟨19, _⟩ => exact (cat32_apply _ _ _ _ _ _ _ _ _ _ _ _ _ _ _ _ _ _ _ _ _ _ _ _ _ _ _ _ _ _ _ _ b 19 (by decide) _ rfl rfl).trans (g122_val i x0 x1 s b X L hn hX hL hs)
  | ⟨20, _⟩ => exact (cat32_apply _ _ _ _ _ _ _ _ _ _ _ _ _ _ _ _ _ _ _ _ _ _ _ _ _ _ _ _ _ _ _ _ b 20 (by decide) _ rfl rfl).trans (g128_val i x0 x1 s b X L hn hX hL hs)
  | ⟨21, _⟩ => exact (cat32_apply _ _ _ _ _ _ _ _ _ _ _ _ _ _ _ _ _ _ _ _ _ _ _ _ _ _ _ _ _ _ _ _ b 21 (by decide) _ rfl rfl).trans (g134_val i x0 x1 s b X L hn hX hL hs)
  | ⟨22, _⟩ => exact (cat32_apply _ _ _ _ _ _ _ _ _ _ _ _ _ _ _ _ _ _ _ _ _ _ _ _ _ _ _ _ _ _ _ _ b 22 (by decide) _ rfl rfl).trans (g140_val i x0 x1 s b X L hn hX hL hs)
  | ⟨23, _⟩ => exact (cat32_apply _ _ _ _ _ _ _ _ _ _ _ _ _ _ _ _ _ _ _ _ _ _ _ _ _ _ _ _ _ _ _ _ b 23 (by decide) _ rfl rfl).trans (g146_val i x0 x1 s b X L hn hX hL hs)
  | ⟨24, _⟩ => exact (cat32_apply _ _ _ _ _ _ _ _ _ _ _ _ _ _ _ _ _ _ _ _ _ _ _ _ _ _ _ _ _ _ _ _ b 24 (by decide) _ rfl rfl).trans (g152_val i x0 x1 s b X L hn hX hL hs)
  | ⟨25, _⟩ => exact (cat32_apply _ _ _ _ _ _ _ _ _ _ _ _ _ _ _ _ _ _ _ _ _ _ _ _ _ _ _ _ _ _ _ _ b 25 (by decide) _ rfl rfl).trans (g158_val i x0 x1 s b X L hn hX hL hs)
  | ⟨26, _⟩ => exact (cat32_apply _ _ _ _ _ _ _ _ _ _ _ _ _ _ _ _ _ _ _ _ _ _ _ _ _ _ _ _ _ _ _ _ b 26 (by decide) _ rfl rfl).trans (g164_val i x0 x1 s b X L hn hX hL hs)
  | ⟨27, _⟩ => exact (cat32_apply _ _ _ _ _ _ _ _ _ _ _ _ _ _ _ _ _ _ _ _ _ _ _ _ _ _ _ _ _ _ _ _ b 27 (by decide) _ rfl rfl).trans (g170_val i x0 x1 s b X L hn hX hL hs)
  | ⟨28, _⟩ => exact (cat32_apply _ _ _ _ _ _ _ _ _ _ _ _ _ _ _ _ _ _ _ _ _ _ _ _ _ _ _ _ _ _ _ _ b 28 (by decide) _ rfl rfl).trans (g176_val i x0 x1 s b X L hn hX hL hs)
  | ⟨29, _⟩ => exact (cat32_apply _ _ _ _ _ _ _ _ _ _ _ _ _ _ _ _ _ _ _ _ _ _ _ _ _ _ _ _ _ _ _ _ b 29 (by decide) _ rfl rfl).trans (g182_val i x0 x1 s b X L hn hX hL hs)
  | ⟨30, _⟩ => exact (cat32_apply _ _ _ _ _ _ _ _ _ _ _ _ _ _ _ _ _ _ _ _ _ _ _ _ _ _ _ _ _ _ _ _ b 30 (by decide) _ rfl rfl).trans (g188_val i x0 x1 s b X L hn hX hL hs)
  | ⟨31, _⟩ => exact (cat32_apply _ _ _ _ _ _ _ _ _ _ _ _ _ _ _ _ _ _ _ _ _ _ _ _ _ _ _ _ _ _ _ _ b 31 (by decide) _ rfl rfl).trans (g194_val i x0 x1 s b X L hn hX hL hs)
  | ⟨k + 32, h⟩ => exact absurd h (by omega)

theorem col_apply (v : FVec Ideal S32x64 .f32) (r : Fin 32) (b : Fin 64) (c : Fin 1024) :
    broadcastTo S32x64x1024 (shapeCast S32x64x1 v shapeCasts_S32x64_S32x64x1) broadcasts_S32x64x1_S32x64x1024 (ix3 r b c) = v (ix2 r b) := by
  refine (broadcastTo_apply _ _ (ix3 r b c) (ix3 r b (0 : Fin 1)) fun ax => ?_).trans ?_
  · match ax with
    | ⟨0, _⟩ => rfl
    | ⟨1, _⟩ => rfl
    | ⟨2, _⟩ => rfl
  · refine shapeCast_apply v _ _ _ ?_
    rw [Shape.rowMajor_val_two, Shape.rowMajor_val_three]
    show r.val * 64 + b.val = (r.val * 64 + b.val) * 1 + 0
    omega

/-- What the block emits at row `b` of its step `r`: the first best symbol. -/
theorem eRows_val {n : ℕ} (hn : (i 0).val = n) (hX : ∀ (r : Fin 32) c, x1 (ix3 r b c) = X (32 * n + r.val) c) (hL : dl x0 (ix2 0 b) = L) (hs : s (ix2 0 b) = sc X L (32 * n)) (r : Fin 32) : IsEm (sc X L (32 * n + r.val)) (X (32 * n + r.val)) (eRows i x0 x1 s (ix2 r b)) := by
  unfold eRows
  have hx : (fun c => x1 (ix3 r b c)) = X (32 * n + r.val) := funext fun c => hX r c
  have hse := sexc_val i x0 x1 s b X L hn hX hL hs r
  generalize sexc i x0 x1 s = v at hse
  have hm : (mx x1 (ix2 r b) : EReal) = top1 (X (32 * n + r.val)) := by rw [mx_apply, hx]
  delta k0_pay2
  refine (congrArg (IsEm _ _) ((shapeCast_apply _ _ (ix2 r b) (ix2 r b) rfl).trans (multiReductionI_eq_fold .minsi _ 2147483647#32 reduces_S32x64x1024_S32x64 rfl (ix2 r b)))).mpr ?_
  classical
  rw [reduces_S32x64x1024_S32x64.fold_filter_drop_single]
  refine IsEm_fold (sc X L (32 * n + r.val)) (X (32 * n + r.val)) _ fun c => ?_
  refine (comp_lift _ r b c).trans ?_
  show Scalar.select (Ideal.cmp .oeq ((broadcastTo S32x64x1024 (shapeCast S32x64x1 v shapeCasts_S32x64_S32x64x1) broadcasts_S32x64x1_S32x64x1024 (ix3 r b c) : EReal) + x1 (ix3 r b c))
    (broadcastTo S32x64x1024 (shapeCast S32x64x1 (addf v (mx x1)) shapeCasts_S32x64_S32x64x1) broadcasts_S32x64x1_S32x64x1024 (ix3 r b c))) (BitVec.ofNat 32 (0 * 1024 + c.val)) 1024#32 = _
  rw [col_apply, col_apply, Nat.zero_mul, Nat.zero_add, ← hm, ← hse, ← hX r c]
  rfl

end Point

end Cert.Beam

end
-- ==== Proof.Dec.lean ====
/- The collapsed row, as plain functions: a kept label stands at its count less one, and −1 everywhere else. -/
module

public import proofs.«01_k».proof.Proof.Pure

@[expose] public section

namespace Cert.Col

open Idealize.ShloMosaic Idealize.ShloMosaic.ValueIdx

variable (L : BitVec 32) (e : ℕ → BitVec 32)

theorem cnt_lt {t t' : ℕ} (h : t < t') (ht' : t' < 512) (hk : kp L e t' = 1#1) : cnt L e t < cnt L e t' := by
  refine Finset.card_lt_card (Finset.ssubset_iff_subset_ne.2 ⟨fun k hk' => ?_, fun he => ?_⟩)
  · simp only [Finset.mem_filter, Finset.mem_univ, true_and] at hk' ⊢
    exact ⟨hk'.1, by omega⟩
  · have : (⟨t', ht'⟩ : Fin 512) ∈ (Finset.univ : Finset (Fin 512)).filter fun k => kp L e k.val = 1#1 ∧ k.val ≤ t := by
      rw [he]; simp [hk]
    simp only [Finset.mem_filter, Finset.mem_univ, true_and] at this
    omega

theorem cnt_inj {t t' : ℕ} (ht : t < 512) (ht' : t' < 512) (hk : kp L e t = 1#1) (hk' : kp L e t' = 1#1)
    (h : cnt L e t = cnt L e t') : t = t' := by
  rcases Nat.lt_trichotomy t t' with hl | hl | hl
  · have := cnt_lt L e hl ht' hk'; omega
  · exact hl
  · have := cnt_lt L e hl ht hk; omega

/-- `w` is what stands at place `p` of the collapsed row. -/
def IsDec (p : ℕ) (w : BitVec 32) : Prop :=
  (∀ t < 512, kp L e t = 1#1 → cnt L e t = p + 1 → w = sqv L e t)
    ∧ ((∀ t < 512, kp L e t = 1#1 → cnt L e t ≠ p + 1) → w = 4294967295#32)

theorem IsDec.unique {p : ℕ} {w w' : BitVec 32} (h : IsDec L e p w) (h' : IsDec L e p w') : w = w' := by
  by_cases hx : ∃ t < 512, kp L e t = 1#1 ∧ cnt L e t = p + 1
  · obtain ⟨t, ht, hk, hc⟩ := hx
    rw [h.1 t ht hk hc, h'.1 t ht hk hc]
  · have hn : ∀ t < 512, kp L e t = 1#1 → cnt L e t ≠ p + 1 := fun t ht hk hc => hx ⟨t, ht, hk, hc⟩
    rw [h.2 hn, h'.2 hn]

/-- Words put one after another at their positions, read at place `p`. -/
def put (P : ℕ → ℕ) (S : ℕ → BitVec 32) (p : ℕ) : ℕ → BitVec 32
  | 0 => 4294967295#32
  | n + 1 => if P n = p then S n else put P S p n

theorem put_none (P : ℕ → ℕ) (S : ℕ → BitVec 32) (p : ℕ) : ∀ n, (∀ t < n, P t ≠ p) → put P S p n = 4294967295#32
  | 0, _ => rfl
  | n + 1, h => by
    rw [put, if_neg (h n (by omega))]
    exact put_none P S p n fun t ht => h t (by omega)

theorem put_one (P : ℕ → ℕ) (S : ℕ → BitVec 32) (p : ℕ) (t : ℕ) (ht : P t = p) :
    ∀ n, t < n → (∀ t' < n, P t' = p → t' = t) → put P S p n = S t
  | 0, h, _ => absurd h (Nat.not_lt_zero _)
  | n + 1, h, hu => by
    rw [put]
    by_cases hn : P n = p
    · rw [if_pos hn, hu n (by omega) hn]
    · rw [if_neg hn]
      have : t ≠ n := fun he => hn (he ▸ ht)
      exact put_one P S p t ht n (by omega) fun t' ht' => hu t' (by omega)

theorem put_isDec (P : ℕ → ℕ) (S : ℕ → BitVec 32) (hS : ∀ t < 512, S t = sqv L e t) (hk : ∀ t < 512, kp L e t = 1#1 → P t + 1 = cnt L e t)
    (hd : ∀ t < 512, kp L e t ≠ 1#1 → 512 ≤ P t) (p : ℕ) (hp : p < 512) : IsDec L e p (put P S p 512) := by
  have key : ∀ t < 512, P t = p → kp L e t = 1#1 ∧ cnt L e t = p + 1 := fun t ht h => by
    by_cases hkt : kp L e t = 1#1
    · exact ⟨hkt, by rw [← hk t ht hkt, h]⟩
    · have := hd t ht hkt; omega
  refine ⟨fun t ht hkt hc => ?_, fun hn => ?_⟩
  · have hP : P t = p := by have := hk t ht hkt; omega
    rw [put_one P S p t hP 512 ht fun t' ht' h' => ?_, hS t ht]
    obtain ⟨hk', hc'⟩ := key t' ht' h'
    exact cnt_inj L e ht' ht hk' hkt (hc'.trans hc.symm)
  · refine put_none P S p 512 fun t ht h => ?_
    obtain ⟨hk', hc'⟩ := key t ht h
    exact hn t ht hk' hc'

end Cert.Col
-- ==== Proof.KVal.lean ====
/- What the kernel leaves in its results, over the extended reals. -/
module

public import proofs.«01_k».proof.Proof.KScore
public import proofs.«01_k».proof.Proof.KBound
public import proofs.«01_k».proof.Proof.Dec

@[expose] public section

set_option maxRecDepth 16384

noncomputable section

namespace Cert.Beam

open Idealize.ShloMosaic Idealize.ShloMosaic.ValueIdx
open Idealize.SL Idealize.SL.Sem
open Cert.KernelIdeal Cert.KernelIdeal.Gen
open Cert.Col

section Region

variable (A : (c : Dev nD) → (w : Fin cfg0.W) → Buf (Elt Ideal) ((cfg0.win w).arr.view.loc (c.tc : Thread nD τ))) (c : Dev nD)

theorem idx_facts : ∀ t : Fin cfg0.N, win0_0.index t (0 : Fin 2) = 0 ∧ win0_0.index t (1 : Fin 2) = 0 ∧ win0_1.index t (0 : Fin 3) = t.val
    ∧ win0_1.index t (1 : Fin 3) = 0 ∧ win0_1.index t (2 : Fin 3) = 0 :=
  (by decide +kernel : ∀ t : Fin grid0.N, _)

theorem iblk0_apply (t : Fin cfg0.N) (b : Fin 64) : iblk A c 0 t (ix2 (0 : Fin 1) b) = (A c 0 : S1x64.Idx → BitVec 32) (ix2 (0 : Fin 1) b) := by
  obtain ⟨e0, e1, -⟩ := idx_facts t
  show (A c 0 : S1x64.Idx → BitVec 32) (((cfg0.win 0).blk t).view.emb (ix2 (0 : Fin 1) b)) = _
  refine congrArg (A c 0 : S1x64.Idx → BitVec 32) (funext fun a => Fin.ext ?_)
  match a with
  | ⟨0, _⟩ => show win0_0.index t (0 : Fin 2) * 1 + 1 * 0 = 0; omega
  | ⟨1, _⟩ => show win0_0.index t (1 : Fin 2) * 64 + 1 * b.val = b.val; omega

theorem iblk1_apply (n : ℕ) (hn : n < 16) (r : Fin 32) (b : Fin 64) (k : Fin 1024) :
    iblk A c 1 (pt n) (ix3 r b k) = Xrow (A c 1 : S512x64x1024.Idx → EReal) b (32 * n + r.val) k := by
  obtain ⟨-, -, e0, e1, e2⟩ := idx_facts (pt n)
  have hr := r.isLt
  show (A c 1 : S512x64x1024.Idx → EReal) (((cfg0.win 1).blk (pt n)).view.emb (ix3 r b k)) = _
  unfold Xrow
  have hp : (pt n).val = n := Nat.mod_eq_of_lt hn
  refine congrArg (A c 1 : S512x64x1024.Idx → EReal) (funext fun a => Fin.ext ?_)
  match a with
  | ⟨0, _⟩ => show win0_1.index (pt n) (0 : Fin 3) * 32 + 1 * r.val = (32 * n + r.val) % 512; omega
  | ⟨1, _⟩ => show win0_1.index (pt n) (1 : Fin 3) * 64 + 1 * b.val = b.val; omega
  | ⟨2, _⟩ => show win0_1.index (pt n) (2 : Fin 3) * 1024 + 1 * k.val = k.val; omega

/-- A length row is itself after the cast. -/
theorem dl_apply (x0 : Vec Ideal S1x64 .i32) (b : Fin 64) : dl x0 (ix2 (0 : Fin 1) b) = x0 (ix2 (0 : Fin 1) b) := by
  delta dl k0_pay12
  exact shapeCast_apply x0 _ _ _ rfl

theorem sAt_val (b : Fin 64) : ∀ n ≤ 16, sAt A c n (ix2 (0 : Fin 1) b) = sc (Xrow (A c 1) b) ((A c 0 : S1x64.Idx → BitVec 32) (ix2 (0 : Fin 1) b)) (32 * n) := by
  intro n
  induction n with
  | zero =>
    intro _
    show k0_pay10 (F := Ideal) (ix2 (0 : Fin 1) b) = (0 : EReal)
    delta k0_pay10
    exact (shapeCast_apply _ _ (ix2 (0 : Fin 1) b) (ix2 (0 : Fin 1) b) rfl).trans (IdealRules.sign_bit.ideal_zero .f32)
  | succ n ih =>
    intro hn
    refine (sNext_val _ _ _ _ b _ _ (coords_pt n (by omega)) (fun r k => iblk1_apply A c n (by omega) r b k)
      ((dl_apply _ b).trans (iblk0_apply A c (pt n) b)) (ih (by omega))).trans ?_
    rw [Nat.mul_succ]

theorem tFin_val (b : Fin 64) (t : Fin 512) :
    IsEm (sc (Xrow (A c 1) b) ((A c 0 : S1x64.Idx → BitVec 32) (ix2 (0 : Fin 1) b)) t.val) (Xrow (A c 1) b t.val) (tFin A c (ix2 t b)) := by
  have ht := t.isLt
  have h := eRows_val (grid0.coords (pt (t.val / 32))) (iblk A c 0 (pt (t.val / 32))) (iblk A c 1 (pt (t.val / 32))) (sAt A c (t.val / 32)) b
    (Xrow (A c 1) b) _ (coords_pt (t.val / 32) (by omega)) (fun r k => iblk1_apply A c (t.val / 32) (by omega) r b k)
    ((dl_apply _ b).trans (iblk0_apply A c (pt (t.val / 32)) b)) (sAt_val A c b (t.val / 32) (by omega)) (⟨t.val % 32, Nat.mod_lt _ (by decide)⟩ : Fin 32)
  have e : 32 * (t.val / 32) + t.val % 32 = t.val := by omega
  simp only [e] at h
  have h2 : subIdx (ix2 t b) = ix2 (⟨t.val % 32, Nat.mod_lt _ (by decide)⟩ : Fin 32) b := by
    funext a
    match a with
    | ⟨0, _⟩ => rfl
    | ⟨1, _⟩ => rfl
  show IsEm _ _ (eAt A c (t.val / 32) (subIdx (ix2 t b)))
  rw [h2]
  exact h

end Region

section Results

variable (m : (ℓ : Loc nD τ sig) → Buf (Elt Ideal) ℓ) (d : Dev nD) (b : Fin 64)

abbrev xK : S512x64x1024.Idx → EReal := m ((SparseCore.T d : Thread nD τ).loc main_arg0)
abbrev lK : S64.Idx → BitVec 32 := m ((SparseCore.T d : Thread nD τ).loc main_arg1)

theorem AV_row : (AV m d 0 : S1x64.Idx → BitVec 32) (ix2 (0 : Fin 1) b) = Lrow (lK m d) b := by
  rw [AV_len]
  refine congrArg (lK m d) (funext fun a => ?_)
  match a with
  | ⟨0, _⟩ => rfl

theorem len_row : dl (len0 (AV m) d) (ix2 (0 : Fin 1) b) = Lrow (lK m d) b :=
  (dl_apply _ b).trans ((iblk0_apply (AV m) d (pt 15) b).trans (AV_row m d b))

/-- The kernel's labels of row `b`. -/
def eK (t : ℕ) : BitVec 32 := rowL (tFin (AV m) d) b t

theorem eK_val (t : ℕ) (ht : t < 512) :
    IsEm (sc (Xrow (xK m d) b) (Lrow (lK m d) b) t) (Xrow (xK m d) b t) (eK m d b t) := by
  have h := tFin_val (AV m) d b ⟨t, ht⟩
  have e : (⟨t % 512, Nat.mod_lt _ (by decide)⟩ : Fin 512) = ⟨t, ht⟩ := Fin.ext (Nat.mod_eq_of_lt ht)
  unfold eK rowL
  rw [e, ← AV_row]
  rw [AV_dat] at h
  exact h

theorem out0_val : out0 m d (ix2 b (0 : Fin 1)) = (0 : EReal) - sc (Xrow (xK m d) b) (Lrow (lK m d) b) 512 := by
  have h := sAt_val (AV m) d b 16 (le_refl _)
  rw [AV_dat, AV_row] at h
  refine (shapeCast_apply (k0_pay3 (sAt (AV m) d 16)) shapeCasts_S1x64_S64x1 (ix2 b (0 : Fin 1)) (ix2 (0 : Fin 1) b) (by
    rw [Shape.rowMajor_val_two, Shape.rowMajor_val_two]
    show 0 * 64 + b.val = b.val * 1 + 0
    omega)).trans ?_
  show (Ideal.ofBits .f32 0x00000000#32 : EReal) - sAt (AV m) d 16 (ix2 (0 : Fin 1) b) = _
  rw [h, IdealRules.sign_bit.ideal_zero .f32]

theorem out1_val : out1 m d (ix2 b (0 : Fin 1)) = BitVec.ofNat 32 (cnt (Lrow (lK m d) b) (eK m d b) 511) := by
  refine (pay8_apply (dl (len0 (AV m) d)) (tFin (AV m) d) b).trans ?_
  rw [len_row]
  rfl

/-- The flat arrays' word `t` of row `b` is the table's. -/
theorem flat_word (v : S64x512.Idx → BitVec 32) (t : ℕ) (ht : t < 512) :
    wordAt (rowOf (shapeCast S32768 v shapeCasts_S64x512_S32768) b.val) t = v (ix2 b ⟨t, ht⟩) := by
  have hb := b.isLt
  unfold wordAt rowOf
  refine shapeCast_apply v _ _ _ ?_
  rw [Shape.rowMajor_val_two, Shape.rowMajor_val_one]
  show b.val * 512 + t = (512 * b.val + t % 512) % 32768
  omega

theorem rowN_put (P S : ℕ → BitVec 32) (y : S528.Idx) (hy : (y 0).val < 512) : ∀ n, (∀ t < n, (P t).toNat < 528) →
    rowN P S n y = put (fun t => (P t).toNat) S (y 0).val n
  | 0, _ => rfl
  | n + 1, h => by
    have ih := rowN_put P S y hy n fun t ht => h t (by omega)
    have hP := h n (by omega)
    show putLane P S n (rowN P S n) y = _
    unfold putLane put
    rw [← ih]
    have hc : IntOp.cmpi .slt (P n) 512#32 = 1 ↔ (P n).toNat < 512 := by
      show BitVec.ofBool ((P n).slt 512#32) = 1#1 ↔ _
      have : (P n).toInt = (P n).toNat := BitVec.toInt_eq_toNat_of_lt (by omega)
      unfold BitVec.slt
      rw [this, show (512#32 : BitVec 32).toInt = 512 by decide]
      by_cases hl : (P n).toNat < 512 <;> simp [hl] <;> omega
    by_cases h1 : (P n).toNat = (y 0).val
    · rw [if_pos (hc.2 (by omega)), if_pos h1.symm, if_pos h1]
    · rw [if_neg h1]
      split
      · rw [if_neg (fun h' => h1 h'.symm)]
      · rfl

theorem out2_val (p : Fin 512) : IsDec (Lrow (lK m d) b) (eK m d b) p.val (out2 m d (ix3 b (0 : Fin 1) p)) := by
  have hb := b.isLt
  have hp := p.isLt
  have e1 : out2 m d (ix3 b (0 : Fin 1) p) = decFlat (Pv m d) (Sv m d) (ix1 (⟨512 * b.val + p.val, by omega⟩ : Fin 32768)) := by
    unfold out2
    refine (shapeCast_apply (decFlat (Pv m d) (Sv m d)) shapeCasts_S32768_S64x512 (ix2 b p) (ix1 (⟨512 * b.val + p.val, by omega⟩ : Fin 32768)) ?_ ▸ ?_)
    · rw [Shape.rowMajor_val_two, Shape.rowMajor_val_one]
      show 512 * b.val + p.val = b.val * 512 + p.val
      omega
    · refine congrArg (shapeCast S64x512 (decFlat (Pv m d) (Sv m d)) shapeCasts_S32768_S64x512) (funext fun a => ?_)
      match a with
      | ⟨0, _⟩ => rfl
      | ⟨1, _⟩ => rfl
  rw [e1]
  unfold decFlat
  have hdiv : (512 * b.val + p.val) / 512 = b.val := by omega
  have hmod : (512 * b.val + p.val) % 512 = p.val := by omega
  show IsDec _ _ _ (rowN (wordAt (rowOf (Pv m d) ((512 * b.val + p.val) / 512))) (wordAt (rowOf (Sv m d) ((512 * b.val + p.val) / 512))) 512 _)
  rw [hdiv, rowN_put (wordAt (rowOf (Pv m d) b.val)) (wordAt (rowOf (Sv m d) b.val)) _ (show (512 * b.val + p.val) % 512 < 512 by omega) 512 (fun t ht => Pv_lt m d _)]
  show IsDec _ _ _ (put _ _ ((512 * b.val + p.val) % 512) 512)
  rw [hmod]
  have hPw : ∀ t (ht : t < 512), wordAt (rowOf (Pv m d) b.val) t = k0_pay9 (F := Ideal) (dl (len0 (AV m) d)) (tFin (AV m) d) (ix2 b ⟨t, ht⟩) := fun t ht => by
    rw [Pv_eq]; exact flat_word b _ t ht
  have hSw : ∀ t (ht : t < 512), wordAt (rowOf (Sv m d) b.val) t = k0_pay5 (F := Ideal) (dl (len0 (AV m) d)) (tFin (AV m) d) (ix2 b ⟨t, ht⟩) := fun t ht => by
    rw [Sv_eq]; exact flat_word b _ t ht
  have hlen := len_row m d b
  refine put_isDec _ _ _ _ (fun t ht => ?_) (fun t ht hk => ?_) (fun t ht hk => ?_) p.val hp
  · rw [hSw t ht, pay5_apply, hlen]; rfl
  · rw [hPw t ht]
    have := pay9_kept (dl (len0 (AV m) d)) (tFin (AV m) d) b ⟨t, ht⟩ (by rw [hlen]; exact hk)
    rw [hlen] at this
    exact this
  · rw [hPw t ht]
    exact (pay9_dropped (dl (len0 (AV m) d)) (tFin (AV m) d) b ⟨t, ht⟩ (by rw [hlen]; exact hk)).1

end Results

end Cert.Beam

end
-- ==== Proof.RTop.lean ====
/- The reference's candidates and the first of its largest ones, at beam 0. -/
module

public import proofs.«01_k».proof.Proof.RefLoop
public import proofs.«01_k».proof.Proof.Spec
public import Idealize.ShloMosaic.Lib.SortFacts
public import Idealize.ShloMosaic.Lib.ValueLayoutCasts
public import Idealize.ShloMosaic.Lib.Pipeline.Value
public import Idealize.ShloMosaic.Lib.DynamicIndex

@[expose] public section

set_option maxRecDepth 16384

noncomputable section

namespace Cert.BeamRef

open Idealize.ShloMosaic Idealize.ShloMosaic.ValueIdx
open Cert.ReferenceIdeal Cert.ReferenceIdeal.Gen
open Cert.Col

/-! ## The head of a stable sort, greater first -/

theorem insertBefore_head {ι : Type} (R : ι → ι → Bool) (a b : ι) (l : List ι) :
    ∃ l', insertBefore R a (b :: l) = (if R b a then b else a) :: l' := by
  unfold insertBefore
  by_cases h : R b a = true
  · rw [if_pos h, if_pos h]; exact ⟨_, rfl⟩
  · rw [if_neg h, if_neg h]; exact ⟨_, rfl⟩

theorem stableSort_head {n : ℕ} (x : Fin n → EReal) (R : Fin n → Fin n → Bool) (hR : ∀ k k', R k k' = true ↔ x k' < x k) :
    ∀ l : List (Fin n), l.Pairwise (· < ·) → l ≠ [] →
      ∃ h l', stableSort R l = h :: l' ∧ h ∈ l ∧ ∀ k ∈ l, x k ≤ x h ∧ (k < h → x k < x h) := by
  intro l
  induction l with
  | nil => exact fun _ h => absurd rfl h
  | cons a l ih =>
    intro hp _
    rw [List.pairwise_cons] at hp
    by_cases hl : l = []
    · subst hl
      refine ⟨a, [], rfl, List.mem_singleton.2 rfl, fun k hk => ?_⟩
      obtain rfl := List.mem_singleton.1 hk
      exact ⟨le_refl _, fun h => absurd h (lt_irrefl _)⟩
    · obtain ⟨h, l', hs, hm, hb⟩ := ih hp.2 hl
      show ∃ h l', insertBefore R a (stableSort R l) = h :: l' ∧ _
      rw [hs]
      obtain ⟨l'', he⟩ := insertBefore_head R a h l'
      rw [he]
      by_cases hR' : R h a = true
      · rw [if_pos hR']
        refine ⟨h, l'', rfl, List.mem_cons_of_mem _ hm, fun k hk => ?_⟩
        have hx := (hR _ _).1 hR'
        rcases List.mem_cons.1 hk with rfl | hk
        · exact ⟨hx.le, fun _ => hx⟩
        · exact hb k hk
      · rw [if_neg hR']
        have hx : x h ≤ x a := not_lt.1 fun hl' => hR' ((hR _ _).2 hl')
        refine ⟨a, l'', rfl, List.mem_cons_self, fun k hk => ?_⟩
        rcases List.mem_cons.1 hk with rfl | hk
        · exact ⟨le_refl _, fun h' => absurd h' (lt_irrefl _)⟩
        · exact ⟨((hb k hk).1).trans hx, fun h' => absurd (h'.trans (hp.1 k hk)) (lt_irrefl _)⟩

theorem sortedFrom_head {n : ℕ} (x : Fin n → EReal) (R : Fin n → Fin n → Bool) (hR : ∀ k k', R k k' = true ↔ x k' < x k) (z : Fin n) (hz : z.val = 0) :
    ∀ k, x k ≤ x (sortedFrom R z) ∧ (k < sortedFrom R z → x k < x (sortedFrom R z)) := by
  obtain ⟨h, l', hs, -, hb⟩ := stableSort_head x R hR (List.finRange n) (List.pairwise_lt_finRange n)
    (fun h => by have := List.length_finRange (n := n); rw [h] at this; have := z.isLt; simp at *; omega)
  have : sortedFrom R z = h := by
    unfold sortedFrom
    have e : ∀ (L : List (Fin n)) (i : Fin L.length), L = h :: l' → i.val = 0 → L.get i = h := by
      intro L i hL hi
      subst hL
      obtain ⟨i, hi'⟩ := i
      obtain rfl : i = 0 := hi
      rfl
    exact e _ _ hs hz
  rw [this]
  exact fun k => hb k (List.mem_finRange k)

/-! ## The top of a row of candidates -/

/-- The place of row `b`'s first largest candidate. -/
def headOf (v : S64x16384.Idx → EReal) (b : Fin 64) (w : Fin 16) : Fin 16384 :=
  sortedFrom (fun k k' : Fin 16384 => Ideal.cmp .ogt (v (ix2 b k)) (v (ix2 b k')) == 1#1) ⟨w.val, by omega⟩

theorem along_ix2 (b : Fin 64) (j k : Fin 16384) : Shape.Idx.along (s := S64x16384) (ix2 b j) (1 : Fin 2) k = ix2 b k := by
  funext a
  match a with
  | ⟨0, _⟩ => rfl
  | ⟨1, _⟩ => rfl

theorem along_head {α : Type} (v : S64x16384.Idx → EReal) (f : S64x16384.Idx → α) (z : Fin 16384) (al al' : Fin 16384 → S64x16384.Idx)
    (h : ∀ k, al k = al' k) :
    f (al (sortedFrom (fun k k' : Fin 16384 => Ideal.cmp .ogt (v (al k)) (v (al k')) == 1#1) z))
      = f (al' (sortedFrom (fun k k' : Fin 16384 => Ideal.cmp .ogt (v (al' k)) (v (al' k')) == 1#1) z)) := by
  obtain rfl : al = al' := funext h
  rfl

/-- The candidates and their places, sorted together. -/
def srt (v : S64x16384.Idx → EReal) : (S64x16384.Idx → EReal) × (S64x16384.Idx → BitVec 32) :=
  Host.sort2 S64x16384 1 (fun l r : EReal × BitVec 32 => (FloatOps.cmpfTotal (F := Ideal) (φ := .f32) .gt l.1 r.1 : BitVec 1)) v
    (fun i => if hd : 1 < S64x16384.rank then iotaInDim S64x16384 32 ⟨1, hd⟩ i else 0#32)

theorem srt_1 (v : S64x16384.Idx → EReal) (b : Fin 64) (k : Fin 16384) :
    (srt v).1 (ix2 b k) = v (Shape.Idx.along (s := S64x16384) (ix2 b k) (1 : Fin 2) (sortedFrom (fun k1 k' : Fin 16384 =>
      Ideal.cmp .ogt (v (Shape.Idx.along (s := S64x16384) (ix2 b k) (1 : Fin 2) k1)) (v (Shape.Idx.along (s := S64x16384) (ix2 b k) (1 : Fin 2) k')) == 1#1) k)) := by
  unfold srt Host.sort2
  rw [dif_pos (by decide)]
  rfl

theorem srt_2 (v : S64x16384.Idx → EReal) (b : Fin 64) (k : Fin 16384) :
    (srt v).2 (ix2 b k) = BitVec.ofNat 32 (Shape.Idx.along (s := S64x16384) (ix2 b k) (1 : Fin 2) (sortedFrom (fun k1 k' : Fin 16384 =>
      Ideal.cmp .ogt (v (Shape.Idx.along (s := S64x16384) (ix2 b k) (1 : Fin 2) k1)) (v (Shape.Idx.along (s := S64x16384) (ix2 b k) (1 : Fin 2) k')) == 1#1) k) 1).val := by
  unfold srt Host.sort2
  rw [dif_pos (by decide)]
  rfl

theorem topV_srt (v : S64x16384.Idx → EReal) : topV (F := Ideal) v = extractStridedSlice S64x16 (fun _ => 0) (srt v).1 sliceFits_S64x16384_S64x16 := rfl
theorem topI_srt (v : S64x16384.Idx → EReal) : topI (F := Ideal) v = extractStridedSlice S64x16 (fun _ => 0) (srt v).2 sliceFits_S64x16384_S64x16 := rfl

theorem slice_head {α : Type} (x : S64x16384.Idx → α) (b : Fin 64) (w : Fin 16) (hw : w.val < 16384) :
    extractStridedSlice S64x16 (fun _ => 0) x sliceFits_S64x16384_S64x16 (ix2 b w) = x (ix2 b (⟨w.val, hw⟩ : Fin 16384)) := by
  refine extractStridedSlice_apply (fun _ => 0) x sliceFits_S64x16384_S64x16 (ix2 b w) (ix2 b (⟨w.val, hw⟩ : Fin 16384)) (fun a => ?_)
  match a with
  | ⟨0, _⟩ => exact (Nat.zero_add _).symm
  | ⟨1, _⟩ => exact (Nat.zero_add _).symm

theorem topV_apply (v : S64x16384.Idx → EReal) (b : Fin 64) (w : Fin 16) :
    topV (F := Ideal) v (ix2 b w) = v (ix2 b (headOf v b w)) := by
  have hw : w.val < 16384 := by omega
  rw [topV_srt, slice_head _ b w hw, srt_1]
  exact along_head v v ⟨w.val, hw⟩ (fun k => Shape.Idx.along (s := S64x16384) (ix2 b (⟨w.val, hw⟩ : Fin 16384)) (1 : Fin 2) k)
      (fun k => ix2 b k) (fun k => along_ix2 b _ k)

theorem topI_apply (v : S64x16384.Idx → EReal) (b : Fin 64) (w : Fin 16) :
    topI (F := Ideal) v (ix2 b w) = BitVec.ofNat 32 (headOf v b w).val := by
  have hw : w.val < 16384 := by omega
  rw [topI_srt, slice_head _ b w hw, srt_2]
  exact along_head v (fun i => BitVec.ofNat 32 (i 1).val) ⟨w.val, hw⟩ (fun k => Shape.Idx.along (s := S64x16384) (ix2 b (⟨w.val, hw⟩ : Fin 16384)) (1 : Fin 2) k)
      (fun k => ix2 b k) (fun k => along_ix2 b _ k)

theorem headOf_spec (v : S64x16384.Idx → EReal) (b : Fin 64) (k : Fin 16384) :
    v (ix2 b k) ≤ v (ix2 b (headOf v b 0)) ∧ (k < headOf v b 0 → v (ix2 b k) < v (ix2 b (headOf v b 0))) := by
  refine sortedFrom_head (fun k => v (ix2 b k)) _ (fun k k' => ?_) ⟨0, by omega⟩ rfl k
  show (Ideal.cmp .ogt (v (ix2 b k)) (v (ix2 b k')) == 1#1) = true ↔ _
  by_cases h : v (ix2 b k') < v (ix2 b k)
  · simp [Ideal.cmp, h]
  · simp [Ideal.cmp, h]

/-! ## Index words -/

theorem ofNat_msb (h : ℕ) (hh : h < 1024) : (BitVec.ofNat 32 h).msb = false := by
  rw [BitVec.msb_eq_false_iff_two_mul_lt, BitVec.toNat_ofNat]; omega

theorem div_word (h : ℕ) (hh : h < 1024) : IntOp.divsi .host (BitVec.ofNat 32 h) 1024#32 = 0#32 := by
  unfold IntOp.divsi
  rw [if_neg (by unfold IntOp.SDivCorner; exact fun hc => hc.elim (fun h' => absurd h' (by decide)) (fun h' => absurd h'.2 (by decide)))]
  unfold BitVec.sdiv
  rw [ofNat_msb h hh, show (1024#32 : BitVec 32).msb = false by decide]
  apply BitVec.eq_of_toNat_eq
  show h % 2 ^ 32 / 1024 = 0
  omega

theorem rem_word (h : ℕ) (hh : h < 1024) : IntOp.remsi .host (BitVec.ofNat 32 h) 1024#32 = BitVec.ofNat 32 h := by
  unfold IntOp.remsi
  rw [if_neg (by unfold IntOp.SDivCorner; exact fun hc => hc.elim (fun h' => absurd h' (by decide)) (fun h' => absurd h'.2 (by decide)))]
  unfold BitVec.srem
  rw [ofNat_msb h hh, show (1024#32 : BitVec 32).msb = false by decide]
  apply BitVec.eq_of_toNat_eq
  show h % 2 ^ 32 % 1024 = h % 2 ^ 32
  omega

/-- A word's sign. -/
def sgn (w : BitVec 32) : BitVec 32 := if w = 0 then 0 else if w.msb then -1 else 1

theorem floor_apply (x : S64x16.Idx → BitVec 32) (j : S64x16.Idx) (h : ℕ) (hh : h < 1024) (hx : x j = BitVec.ofNat 32 h) :
    pfn_floor_divide (F := Ideal) x (constantI S_ 32 1024#32) j = 0#32 := by
  show Scalar.select (IntOp.andi (IntOp.cmpi .ne (sgn (x j)) (sgn 1024#32))
    (IntOp.cmpi .ne (IntOp.remsi .host (x j) 1024#32) 0#32)) (IntOp.subi (IntOp.divsi .host (x j) 1024#32) 1#32) (IntOp.divsi .host (x j) 1024#32) = _
  rw [hx, div_word h hh, rem_word h hh]
  by_cases h0 : BitVec.ofNat 32 h = 0
  · rw [h0]; decide
  · have hs : sgn (BitVec.ofNat 32 h) = 1#32 := by
      unfold sgn
      rw [if_neg h0, ofNat_msb h hh]
      rfl
    rw [hs]
    have hc : ∀ y : BitVec 1, IntOp.andi (IntOp.cmpi .ne 1#32 (sgn 1024#32)) y = 0#1 := by decide
    rw [hc, select_zero]

theorem rem_apply (x : S64x16.Idx → BitVec 32) (j : S64x16.Idx) (h : ℕ) (hh : h < 1024) (hx : x j = BitVec.ofNat 32 h) :
    pfn_remainder (F := Ideal) x (constantI S_ 32 1024#32) j = BitVec.ofNat 32 h := by
  have e : Scalar.select (IntOp.cmpi .eq 1024#32 0#32) 1#32 1024#32 = 1024#32 := by decide
  show Scalar.select (IntOp.andi (IntOp.cmpi .ne (IntOp.cmpi .slt (IntOp.remsi .host (x j) (Scalar.select (IntOp.cmpi .eq 1024#32 0#32) 1#32 1024#32)) 0#32)
      (IntOp.cmpi .slt (Scalar.select (IntOp.cmpi .eq 1024#32 0#32) 1#32 1024#32) 0#32))
      (IntOp.cmpi .ne (IntOp.remsi .host (x j) (Scalar.select (IntOp.cmpi .eq 1024#32 0#32) 1#32 1024#32)) 0#32))
      (IntOp.addi (IntOp.remsi .host (x j) (Scalar.select (IntOp.cmpi .eq 1024#32 0#32) 1#32 1024#32)) (Scalar.select (IntOp.cmpi .eq 1024#32 0#32) 1#32 1024#32))
      (IntOp.remsi .host (x j) (Scalar.select (IntOp.cmpi .eq 1024#32 0#32) 1#32 1024#32)) = _
  rw [e, hx, rem_word h hh]
  have hs : IntOp.cmpi .slt (BitVec.ofNat 32 h) 0#32 = 0#1 := by
    show BitVec.ofBool ((BitVec.ofNat 32 h).slt 0#32) = 0#1
    unfold BitVec.slt
    rw [toInt_small h hh.le, show (0#32 : BitVec 32).toInt = 0 by decide, decide_eq_false (by omega)]
    rfl
  rw [hs]
  have : ∀ (y : BitVec 1) (a c : BitVec 32), Scalar.select (IntOp.andi (IntOp.cmpi .ne (0#1) (IntOp.cmpi .slt 1024#32 0#32)) y) a c = c := by
    intro y a c
    have : IntOp.andi (IntOp.cmpi .ne (0#1) (IntOp.cmpi .slt 1024#32 0#32)) y = 0#1 := by revert y; decide
    rw [this, select_zero]
  exact this _ _ _

end Cert.BeamRef
-- ==== Proof.RIdx.lean ====
/- The reference's indexed reads and writes, at a literal step. -/
module

public import proofs.«01_k».proof.Proof.RTop
public import Idealize.ShloMosaic.Lib.ReduceAll
public import Idealize.ShloMosaic.Lib.WordCmp
public import Idealize.ShloMosaic.Lib.Routing.OpsOne
public import Idealize.ShloMosaic.Lib.Routing.OpsSet

@[expose] public section

set_option maxRecDepth 16384

noncomputable section

namespace Cert.BeamRef

open Idealize.ShloMosaic Idealize.ShloMosaic.ValueIdx
open Cert.ReferenceIdeal Cert.ReferenceIdeal.Gen
open Cert.Col

theorem toInt_step (k : ℕ) (hk : k < 512) : (BitVec.ofNat 32 k).toInt = (k : Int) := toInt_small k (by omega)

theorem starts3 (k : ℕ) (hk : k < 512) (a : Fin 3) :
    ((![(fun _ => BitVec.ofNat 32 k : S_.Idx → BitVec 32), constantI S_ 32 0#32, constantI S_ 32 0#32] : Fin 3 → S_.Idx → BitVec 32) a (Shape.Idx.first h_S_)).toInt
      = ((![k, 0, 0] : Fin 3 → ℕ) a : Int) := by
  match a with
  | ⟨0, _⟩ => exact toInt_step k hk
  | ⟨1, _⟩ => rfl
  | ⟨2, _⟩ => rfl

theorem dynX (x : S512x64x1024.Idx → EReal) (k : ℕ) (hk : k < 512) (b : Fin 64) (c : Fin 1024) :
    pfn_dynamic_index_in_dim (F := Ideal) x (fun _ => BitVec.ofNat 32 k) (ix2 b c) = x (ix3 (⟨k, hk⟩ : Fin 512) b c) := by
  have hs : S512x64x1024.Slices ![k, 0, 0] S1x64x1024 := ⟨rfl, fun a => by
    match a with
    | ⟨0, _⟩ => show k + 1 ≤ 512; omega
    | ⟨1, _⟩ => show 0 + 64 ≤ 64; omega
    | ⟨2, _⟩ => show 0 + 1024 ≤ 1024; omega⟩
  unfold pfn_dynamic_index_in_dim
  refine (shapeCast_apply _ shapeCasts_S1x64x1024_S64x1024 (ix2 b c) (ix3 (0 : Fin 1) b c) (by
    rw [Shape.rowMajor_val_three, Shape.rowMajor_val_two]
    show (0 * 64 + b.val) * 1024 + c.val = b.val * 1024 + c.val
    omega)).trans ?_
  refine (congrFun (Host.dynamicSlice_eq_extractStridedSlice S1x64x1024 x _ ![k, 0, 0] sliceFits_S512x64x1024_S1x64x1024 hs (starts3 k hk)) _).trans ?_
  refine extractStridedSlice_apply _ _ _ _ _ (fun a => ?_)
  match a with
  | ⟨0, _⟩ => rfl
  | ⟨1, _⟩ => exact (Nat.zero_add _).symm
  | ⟨2, _⟩ => exact (Nat.zero_add _).symm

theorem dynW (x : S512x64x16.Idx → BitVec 32) (k : ℕ) (hk : k < 512) (b : Fin 64) (c : Fin 16) :
    pfn_dynamic_index_in_dim_4 (F := Ideal) x (fun _ => BitVec.ofNat 32 k) (ix2 b c) = x (ix3 (⟨k, hk⟩ : Fin 512) b c) := by
  have hs : S512x64x16.Slices ![k, 0, 0] S1x64x16 := ⟨rfl, fun a => by
    match a with
    | ⟨0, _⟩ => show k + 1 ≤ 512; omega
    | ⟨1, _⟩ => show 0 + 64 ≤ 64; omega
    | ⟨2, _⟩ => show 0 + 16 ≤ 16; omega⟩
  unfold pfn_dynamic_index_in_dim_4
  refine (shapeCast_apply _ shapeCasts_S1x64x16_S64x16 (ix2 b c) (ix3 (0 : Fin 1) b c) (by
    rw [Shape.rowMajor_val_three, Shape.rowMajor_val_two]
    show (0 * 64 + b.val) * 16 + c.val = b.val * 16 + c.val
    omega)).trans ?_
  refine (congrFun (Host.dynamicSlice_eq_extractStridedSlice S1x64x16 x _ ![k, 0, 0] sliceFits_S512x64x16_S1x64x16 hs (starts3 k hk)) _).trans ?_
  refine extractStridedSlice_apply _ _ _ _ _ (fun a => ?_)
  match a with
  | ⟨0, _⟩ => rfl
  | ⟨1, _⟩ => exact (Nat.zero_add _).symm
  | ⟨2, _⟩ => exact (Nat.zero_add _).symm

theorem dynI (k : ℕ) (hk : k < 512) (j : S_.Idx) :
    pfn_dynamic_index_in_dim_0 (F := Ideal) (iotaInDim S512 32 0) (fun _ => BitVec.ofNat 32 k) j = BitVec.ofNat 32 k := by
  have hs : S512.Slices ![k] S1 := ⟨rfl, fun a => by
    match a with
    | ⟨0, _⟩ => show k + 1 ≤ 512; omega⟩
  unfold pfn_dynamic_index_in_dim_0
  refine (shapeCast_apply _ shapeCasts_S1_S_ j (ix1 (0 : Fin 1)) (by
    have h1 := (S_.rowMajor j).isLt
    have h2 : S_.numel = 1 := by decide
    rw [Shape.rowMajor_val_one]
    show 0 = _
    omega)).trans ?_
  refine (congrFun (Host.dynamicSlice_eq_extractStridedSlice S1 (iotaInDim S512 32 0) _ ![k] sliceFits_S512_S1 hs (fun a => by
    match a with
    | ⟨0, _⟩ => exact toInt_step k hk)) _).trans ?_
  refine (extractStridedSlice_apply _ _ _ _ (ix1 (⟨k, hk⟩ : Fin 512)) (fun a => ?_)).trans rfl
  match a with
  | ⟨0, _⟩ => rfl

theorem dynU (x : S512x64x16.Idx → BitVec 32) (u : S64x16.Idx → BitVec 32) (k : ℕ) (hk : k < 512) (t : Fin 512) (b : Fin 64) (w : Fin 16) :
    pfn_dynamic_update_index_in_dim (F := Ideal) x u (fun _ => BitVec.ofNat 32 k) (ix3 t b w) = if t.val = k then u (ix2 b w) else x (ix3 t b w) := by
  have hs : S512x64x16.Slices ![k, 0, 0] S1x64x16 := ⟨rfl, fun a => by
    match a with
    | ⟨0, _⟩ => show k + 1 ≤ 512; omega
    | ⟨1, _⟩ => show 0 + 64 ≤ 64; omega
    | ⟨2, _⟩ => show 0 + 16 ≤ 16; omega⟩
  unfold pfn_dynamic_update_index_in_dim
  refine (congrFun (WordCmp.dynamicUpdateSlice_eq_update x (broadcastInDim S1x64x16 ![1, 2] bcast_S64x16_S1x64x16_1_2 u) _
    updateFits_S512x64x16_S1x64x16 ![k, 0, 0] hs (starts3 k hk)) (ix3 t b w)).trans ?_
  unfold updateSlice
  by_cases h : t.val = k
  · rw [if_pos h, dif_pos (fun a => by
      match a with
      | ⟨0, _⟩ => show k ≤ t.val ∧ t.val < k + 1; omega
      | ⟨1, _⟩ => show 0 ≤ b.val ∧ b.val < 0 + 64; omega
      | ⟨2, _⟩ => show 0 ≤ w.val ∧ w.val < 0 + 16; omega)]
    refine congrArg u (funext fun a => Fin.ext ?_)
    match a with
    | ⟨0, _⟩ => exact Nat.sub_zero _
    | ⟨1, _⟩ => exact Nat.sub_zero _
  · rw [if_neg h, dif_neg (fun hin => h (by
      have h0 := hin 0
      change k ≤ t.val ∧ t.val < k + 1 at h0
      omega))]

/-- A candidate: a beam's score and a symbol's entry. -/
theorem cand_apply (x : S512x64x1024.Idx → EReal) (s : S64x16.Idx → EReal) (k : ℕ) (hk : k < 512) (b : Fin 64) (j : Fin 16384)
    (w : Fin 16) (c : Fin 1024) (hw : j.val = w.val * 1024 + c.val) :
    r0_v67 (F := Ideal) x (fun _ => BitVec.ofNat 32 k) s (ix2 b j) = s (ix2 b w) + x (ix3 (⟨k, hk⟩ : Fin 512) b c) := by
  unfold r0_v67
  refine (shapeCast_apply _ shapeCasts_S64x16x1024_S64x16384 (ix2 b j) (ix3 b w c) (by
    rw [Shape.rowMajor_val_three, Shape.rowMajor_val_two]
    show (b.val * 16 + w.val) * 1024 + c.val = b.val * 16384 + j.val
    omega)).trans ?_
  rw [← dynX x k hk b c]
  show (s _ : EReal) + pfn_dynamic_index_in_dim (F := Ideal) x (fun _ => BitVec.ofNat 32 k) _ = _
  have h1 : ∀ i i' : S64x16.Idx, i = i' → s i = s i' := fun _ _ h => congrArg s h
  have h2 : ∀ i i' : S64x1024.Idx, i = i' → pfn_dynamic_index_in_dim (F := Ideal) x (fun _ => BitVec.ofNat 32 k) i
      = pfn_dynamic_index_in_dim (F := Ideal) x (fun _ => BitVec.ofNat 32 k) i' := fun _ _ h => congrArg _ h
  refine congrArg₂ (· + ·) (h1 _ _ (funext fun a => ?_)) (h2 _ _ (funext fun a => ?_))
  · match a with
    | ⟨0, _⟩ => rfl
    | ⟨1, _⟩ => rfl
  · match a with
    | ⟨0, _⟩ => rfl
    | ⟨1, _⟩ => rfl

/-! ## The starting tables -/

theorem r_v8_zero (b : Fin 64) : r_v8 (F := Ideal) (ix2 b (0 : Fin 16)) = 0#32 := by
  unfold r_v8
  refine (shapeCast_apply _ shapeCasts_S64x1x1x16_S64x16 (ix2 b (0 : Fin 16)) (fun a => match a with
    | ⟨0, _⟩ => (b : Fin 64) | ⟨1, _⟩ => (0 : Fin 1) | ⟨2, _⟩ => (0 : Fin 1) | ⟨3, _⟩ => (0 : Fin 16)) (by
    rw [Shape.rowMajor_val_two, Shape.rowMajor_val_four]
    show ((b.val * 1 + 0) * 1 + 0) * 16 + 0 = b.val * 16 + 0
    omega)).trans ?_
  show shapeCast S1x1x1x16 _ shapeCasts_S1x16_S1x1x1x16 _ = _
  refine (shapeCast_apply _ shapeCasts_S1x16_S1x1x1x16 _ (ix2 (0 : Fin 1) (0 : Fin 16)) (by
    rw [Shape.rowMajor_val_two, Shape.rowMajor_val_four]
    show 0 * 16 + 0 = ((0 * 1 + 0) * 1 + 0) * 16 + 0
    omega)).trans ?_
  rfl

theorem neg_low : Ideal.ofBits .f32 0xF149F2CA#32 ≤ 0 := by
  simp [Ideal.ofBits, Ideal.ieee]
  have h : (0 : ℝ) ≤ 13234890 * 2 ^ 76 := by positivity
  exact_mod_cast h

theorem r_v3_at (b : Fin 64) (w : Fin 16) : r_v3 (F := Ideal) (ix2 b w) = if w = 0 then (0 : EReal) else Ideal.ofBits .f32 0xF149F2CA#32 := by
  have lands := Routing.lands_col (A := 64) (N := 16) scatter_S64x16_S1_S64_0_1_1_0 rfl rfl
    (broadcastInDim S1 ![] bcast_S_S1 (constantI S_ 32 0#32)) (0 : Fin 16) rfl
  have lands' : ∀ j : S64.Idx, scatter_S64x16_S1_S64_0_1_1_0.resultIdx? j (broadcastInDim S1 ![] bcast_S_S1 (constantI S_ 32 0#32)) = some (ix2 b w) →
      w = 0 := fun j hj => ((lands (j 0) b w).1 ((congrArg (fun t => scatter_S64x16_S1_S64_0_1_1_0.resultIdx? t
        (broadcastInDim S1 ![] bcast_S_S1 (constantI S_ 32 0#32))) (eq_ix1 j).symm).trans hj)).2
  unfold r_v3
  by_cases h : w = 0
  · rw [if_pos h]
    refine Routing.scatter_set_hit _ _ _ _ _ (0 : EReal) (fun j _ => ?_) (ix1 b) ((lands b b w).2 ⟨rfl, h⟩)
    exact IdealRules.sign_bit.ideal_zero .f32
  · rw [if_neg h]
    exact Routing.scatter_set_miss _ _ _ _ _ fun j hj => h (lands' j hj)

/-! ## Beam 0's entry of a table read through a beam that is beam 0 -/

abbrev fixI (i : S64x16.Idx → BitVec 32) : S64x16x1.Idx → BitVec 32 :=
  shapeCast S64x16x1 (select (cmpi .slt i (broadcastInDim S64x16 ![] bcast_S_S64x16 (constantI S_ 32 0#32)))
    (addi i (broadcastInDim S64x16 ![] bcast_S_S64x16 (constantI S_ 32 16#32))) i) shapeCasts_S64x16_S64x16x1

abbrev maskI (G : S64x16x1.Idx → BitVec 32) : S64x16.Idx → BitVec 1 :=
  Host.reduce IntOp.andi (andi (cmpi .sge G (broadcastInDim S64x16x1 ![] bcast_S_S64x16x1 (constantI S_ 32 0#32)))
      (cmpi .sle G (broadcastInDim S64x16x1 ![0, 1, 2] bcast_S1x1x1_S64x16x1_0_1_2 (broadcastInDim S1x1x1 ![2] bcast_S1_S1x1x1_2 (constantI S1 32 15#32)))))
      (constantI S_ 1 1#1) reducesTo_S64x16x1_S64x16_d2 h_S_

theorem take_eq (x i : S64x16.Idx → BitVec 32) : pfn_take_along_axis (F := Ideal) x i
    = select (maskI (fixI i)) (Host.gather gather_S64x16_S64x16x1_S64x16_n_1_0_0_1_2_11 x (fixI i))
      (broadcastInDim S64x16 ![] bcast_S_S64x16 (constantI S_ 32 2147483648#32)) := rfl

theorem fixI_zero (i : S64x16.Idx → BitVec 32) (b : Fin 64) (h : i (ix2 b (0 : Fin 16)) = 0#32) (j : S64x16x1.Idx)
    (h0 : (j 0).val = b.val) (h1 : (j 1).val = 0) : fixI i j = 0#32 := by
  refine (shapeCast_apply _ shapeCasts_S64x16_S64x16x1 j (ix2 b (0 : Fin 16)) (by
    have h2 : (j 2).val < 1 := (j 2).isLt
    rw [Shape.rowMajor_val_three, Shape.rowMajor_val_two, h0, h1]
    show b.val * 16 + 0 = (b.val * 16 + 0) * 1 + (j 2).val
    omega)).trans ?_
  show Scalar.select (IntOp.cmpi .slt (i (ix2 b (0 : Fin 16))) 0#32) (IntOp.addi (i (ix2 b (0 : Fin 16))) 16#32) (i (ix2 b (0 : Fin 16))) = 0#32
  rw [h]
  rfl

theorem maskI_one (G : S64x16x1.Idx → BitVec 32) (b : Fin 64)
    (hG : ∀ j : S64x16x1.Idx, (j 0).val = b.val → (j 1).val = 0 → G j = 0#32) : maskI G (ix2 b (0 : Fin 16)) = 1#1 := by
  unfold maskI
  rw [Host.reduce_eq_foldl]
  refine IntOp.foldl_andi_one _ _ _ rfl fun j hj => ?_
  have hd := (List.mem_filter.1 hj).2
  have hd' : reducesTo_S64x16x1_S64x16_d2.drop j = ix2 b (0 : Fin 16) := of_decide_eq_true hd
  have e0 := Shape.ReducesTo.drop_apply_val_of_eq reducesTo_S64x16x1_S64x16_d2 j 0 0
  have e1 := Shape.ReducesTo.drop_apply_val_of_eq reducesTo_S64x16x1_S64x16_d2 j 1 1
  rw [hd'] at e0 e1
  show IntOp.andi (IntOp.cmpi .sge (G j) 0#32) (IntOp.cmpi .sle (G j) 15#32) = 1#1
  rw [hG j e0.symm e1.symm]
  rfl

theorem gat_row (G : S64x16x1.Idx → BitVec 32) (j : S64x16.Idx) :
    (gather_S64x16_S64x16x1_S64x16_n_1_0_0_1_2_11.operandIdx j G 0).val = (j 0).val := by
  have ha : (0 : Fin 2) ∈ gather_S64x16_S64x16x1_S64x16_n_1_0_0_1_2_11.operandBatchingDims := List.mem_singleton.2 rfl
  show gather_S64x16_S64x16x1_S64x16_n_1_0_0_1_2_11.start j G 0 + gather_S64x16_S64x16x1_S64x16_n_1_0_0_1_2_11.batchCoord j 0
    + gather_S64x16_S64x16x1_S64x16_n_1_0_0_1_2_11.offCoord j 0 = _
  rw [GatherDims.start_batching _ _ _ _ ha, GatherDims.offCoord_eq_zero _ _ _ (by decide)]
  unfold GatherDims.batchCoord
  rw [dif_pos ha]
  show 0 + (j _).val + 0 = _
  rw [Nat.zero_add, Nat.add_zero]
  rfl

theorem gat_col (G : S64x16x1.Idx → BitVec 32) (j : S64x16.Idx)
    (hG : ∀ j' : S64x16x1.Idx, (j' 0).val = (j 0).val → (j' 1).val = (j 1).val → G j' = 0#32) :
    (gather_S64x16_S64x16x1_S64x16_n_1_0_0_1_2_11.operandIdx j G 1).val = 0 := by
  have ha : (1 : Fin 2) ∈ gather_S64x16_S64x16x1_S64x16_n_1_0_0_1_2_11.startIndexMap := List.mem_singleton.2 rfl
  show gather_S64x16_S64x16x1_S64x16_n_1_0_0_1_2_11.start j G 1 + gather_S64x16_S64x16x1_S64x16_n_1_0_0_1_2_11.batchCoord j 1
    + gather_S64x16_S64x16x1_S64x16_n_1_0_0_1_2_11.offCoord j 1 = _
  rw [GatherDims.batchCoord_eq_zero _ _ _ (by decide), GatherDims.offCoord_eq_zero _ _ _ (by decide)]
  unfold GatherDims.start
  rw [dif_pos ha, hG _ rfl rfl]
  rfl

theorem take_zero (x i : S64x16.Idx → BitVec 32) (b : Fin 64) (h : i (ix2 b (0 : Fin 16)) = 0#32) :
    pfn_take_along_axis (F := Ideal) x i (ix2 b (0 : Fin 16)) = x (ix2 b (0 : Fin 16)) := by
  rw [take_eq, select_apply, maskI_one (fixI i) b (fixI_zero i b h), select_one]
  refine congrArg x (funext fun a => Fin.ext ?_)
  match a with
  | ⟨0, _⟩ => exact gat_row _ _
  | ⟨1, _⟩ => exact gat_col _ _ (fun j h0 h1 => fixI_zero i b h j h0 h1)

end Cert.BeamRef
-- ==== Proof.RInv.lean ====
/- The reference's beam 0: its score, its parents and its symbols, step by step. -/
module

public import proofs.«01_k».proof.Proof.RIdx

@[expose] public section

set_option maxRecDepth 16384

noncomputable section

namespace Cert.BeamRef

open Idealize.SL Idealize.SL.Sem
open Idealize.ShloMosaic Idealize.ShloMosaic.StableHlo Idealize.ShloMosaic.TcCoe Idealize.ShloMosaic.ValueIdx
open Cert.ReferenceIdeal Cert.ReferenceIdeal.Gen
open Cert.Col

/-- With beam 0 the best, the largest candidate is beam 0's, at the first symbol that attains it. -/
theorem top_step (x : S512x64x1024.Idx → EReal) (s : S64x16.Idx → EReal) (k : ℕ) (hk : k < 512) (b : Fin 64)
    (hs : ∀ w : Fin 16, s (ix2 b w) ≤ s (ix2 b (0 : Fin 16))) :
    ∃ c : Fin 1024, (headOf (r0_v67 (F := Ideal) x (fun _ => BitVec.ofNat 32 k) s) b 0).val = c.val
      ∧ r0_v67 (F := Ideal) x (fun _ => BitVec.ofNat 32 k) s (ix2 b (headOf (r0_v67 (F := Ideal) x (fun _ => BitVec.ofNat 32 k) s) b 0))
        = s (ix2 b (0 : Fin 16)) + top1 (Xrow x b k)
      ∧ IsEm (s (ix2 b (0 : Fin 16))) (Xrow x b k) (BitVec.ofNat 32 c.val) := by
  have hX : ∀ c : Fin 1024, x (ix3 (⟨k, hk⟩ : Fin 512) b c) = Xrow x b k c := fun c =>
    congrArg (fun t : Fin 512 => x (ix3 t b c)) (Fin.ext (Nat.mod_eq_of_lt hk).symm)
  have hc : ∀ (j : Fin 16384) (w : Fin 16) (c : Fin 1024), j.val = w.val * 1024 + c.val →
      r0_v67 (F := Ideal) x (fun _ => BitVec.ofNat 32 k) s (ix2 b j) = s (ix2 b w) + Xrow x b k c := fun j w c h => by
    rw [cand_apply x s k hk b j w c h, hX]
  have spec := headOf_spec (r0_v67 (F := Ideal) x (fun _ => BitVec.ofNat 32 k) s) b
  generalize r0_v67 (F := Ideal) x (fun _ => BitVec.ofNat 32 k) s = v at hc spec ⊢
  generalize headOf v b 0 = h at spec ⊢
  generalize Xrow x b k = X at hc ⊢
  have le_all : ∀ j, v (ix2 b j) ≤ s (ix2 b (0 : Fin 16)) + top1 X := fun j => by
    rw [hc j ⟨j.val / 1024, by omega⟩ ⟨j.val % 1024, by omega⟩ (by show j.val = j.val / 1024 * 1024 + j.val % 1024; omega)]
    exact add_le_add (hs _) (le_top1 X _)
  obtain ⟨c0, he, hm⟩ := exists_first (s (ix2 b (0 : Fin 16))) X
  have v0 : ∀ c : Fin 1024, v (ix2 b (⟨c.val, by omega⟩ : Fin 16384)) = s (ix2 b (0 : Fin 16)) + X c := fun c =>
    hc _ 0 c (by show c.val = 0 * 1024 + c.val; omega)
  have hv : v (ix2 b h) = s (ix2 b (0 : Fin 16)) + top1 X :=
    le_antisymm (le_all h) (by rw [← he, ← v0 c0]; exact (spec _).1)
  have hle : h.val ≤ c0.val := by
    by_contra hlt
    have := (spec ⟨c0.val, by omega⟩).2 (by show c0.val < h.val; omega)
    rw [hv, v0 c0, he] at this
    exact lt_irrefl _ this
  have hh : h.val < 1024 := by have := c0.isLt; omega
  have heq : s (ix2 b (0 : Fin 16)) + X ⟨h.val, hh⟩ = s (ix2 b (0 : Fin 16)) + top1 X := by
    rw [← v0 ⟨h.val, hh⟩]; exact hv
  have hval : h.val = c0.val := by
    by_contra hne
    exact hm ⟨h.val, hh⟩ (by show h.val < c0.val; omega) heq
  exact ⟨c0, hval, hv, c0, rfl, he, hm⟩

variable (m : (ℓ : Loc nD τ sig) → Buf (Elt Ideal) ℓ) (c : Dev nD)

abbrev xR : S512x64x1024.Idx → EReal := a0 m c
abbrev lR : S64.Idx → BitVec 32 := a1 m c
abbrev scoresR (k : ℕ) : S64x16.Idx → EReal := rd (T0 m k c) main_v12_5
abbrev parR (k : ℕ) : S512x64x16.Idx → BitVec 32 := rd (T0 m k c) main_v12_6
abbrev symR (k : ℕ) : S512x64x16.Idx → BitVec 32 := rd (T0 m k c) main_v12_7

theorem where2_apply (a : S64x1.Idx → BitVec 1) (y z : S64x16.Idx → EReal) (b : Fin 64) (w : Fin 16) :
    pfn_where_2 (F := Ideal) a y z (ix2 b w) = Scalar.select (a (ix2 b (0 : Fin 1))) (y (ix2 b w)) (z (ix2 b w)) := by
  have h : ∀ i : S64x1.Idx, i = ix2 b (0 : Fin 1) → Scalar.select (a i) (y (ix2 b w)) (z (ix2 b w))
      = Scalar.select (a (ix2 b (0 : Fin 1))) (y (ix2 b w)) (z (ix2 b w)) := fun i h => by rw [h]
  refine h _ (funext fun ax => ?_)
  match ax with
  | ⟨0, _⟩ => rfl
  | ⟨1, _⟩ => rfl

theorem where3_apply (a : S64x1.Idx → BitVec 1) (y z : S64x16.Idx → BitVec 32) (b : Fin 64) (w : Fin 16) :
    pfn_where_3 (F := Ideal) a y z (ix2 b w) = Scalar.select (a (ix2 b (0 : Fin 1))) (y (ix2 b w)) (z (ix2 b w)) := by
  have h : ∀ i : S64x1.Idx, i = ix2 b (0 : Fin 1) → Scalar.select (a i) (y (ix2 b w)) (z (ix2 b w))
      = Scalar.select (a (ix2 b (0 : Fin 1))) (y (ix2 b w)) (z (ix2 b w)) := fun i h => by rw [h]
  refine h _ (funext fun ax => ?_)
  match ax with
  | ⟨0, _⟩ => rfl
  | ⟨1, _⟩ => rfl

theorem actK_apply (k : ℕ) (hk : k < 512) (b : Fin 64) : actK m k c (ix2 b (0 : Fin 1)) = act (Lrow (lR m c) b) k := by
  show IntOp.cmpi .slt (pfn_dynamic_index_in_dim_0 (F := Ideal) (iotaInDim S512 32 0) (fun _ => BitVec.ofNat 32 k) _) (lR m c _) = _
  rw [dynI k hk]
  refine congrArg (fun i : S64.Idx => IntOp.cmpi .slt (BitVec.ofNat 32 k) (lR m c i)) (funext fun ax => ?_)
  match ax with
  | ⟨0, _⟩ => rfl

/-- What beam 0 holds before step `k`. -/
structure Inv0 (b : Fin 64) (k : ℕ) : Prop where
  score : scoresR m c k (ix2 b (0 : Fin 16)) = sc (Xrow (xR m c) b) (Lrow (lR m c) b) k
  best : ∀ w : Fin 16, scoresR m c k (ix2 b w) ≤ scoresR m c k (ix2 b (0 : Fin 16))
  par : ∀ t : Fin 512, t.val < k → parR m c k (ix3 t b (0 : Fin 16)) = 0#32
  sym : ∀ t : Fin 512, t.val < k → act (Lrow (lR m c) b) t.val = 1#1 →
    IsEm (sc (Xrow (xR m c) b) (Lrow (lR m c) b) t.val) (Xrow (xR m c) b t.val) (symR m c k (ix3 t b (0 : Fin 16)))
  off : ∀ t : Fin 512, t.val < k → act (Lrow (lR m c) b) t.val ≠ 1#1 → symR m c k (ix3 t b (0 : Fin 16)) = 0#32

theorem inv0_zero (b : Fin 64) : Inv0 m c b 0 := by
  have h : ∀ w : Fin 16, scoresR m c 0 (ix2 b w) = if w = 0 then (0 : EReal) else Ideal.ofBits .f32 0xF149F2CA#32 := fun w => by
    show rd (T0 m 0 c) main_v12_5 (ix2 b w) = _
    rw [T0_5_zero]
    exact r_v3_at b w
  refine ⟨?_, fun w => ?_, fun t ht => absurd ht (Nat.not_lt_zero _), fun t ht => absurd ht (Nat.not_lt_zero _), fun t ht => absurd ht (Nat.not_lt_zero _)⟩
  · rw [h, if_pos rfl]; rfl
  · rw [h, h, if_pos rfl]
    by_cases hw : w = 0
    · rw [if_pos hw]
    · rw [if_neg hw]; exact neg_low

theorem inv0_succ (b : Fin 64) (k : ℕ) (hk : k < 512) (I : Inv0 m c b k) : Inv0 m c b (k + 1) := by
  obtain ⟨e, he, hv, hem⟩ := top_step (xR m c) (scoresR m c k) k hk b I.best
  have he' : (headOf (candOf m k c) b 0).val = e.val := he
  have hS : ∀ w : Fin 16, scoresR m c (k + 1) (ix2 b w) = Scalar.select (act (Lrow (lR m c) b) k)
      (candOf m k c (ix2 b (headOf (candOf m k c) b w))) (scoresR m c k (ix2 b w)) := fun w => by
    show rd (T0 m (k + 1) c) main_v12_5 (ix2 b w) = _
    rw [T0_5_succ]
    refine (where2_apply _ _ _ b w).trans ?_
    rw [actK_apply m c k hk b, topV_apply]
  have hP : ∀ t : Fin 512, parR m c (k + 1) (ix3 t b (0 : Fin 16)) = if t.val = k then 0#32 else parR m c k (ix3 t b (0 : Fin 16)) := fun t => by
    show rd (T0 m (k + 1) c) main_v12_6 (ix3 t b (0 : Fin 16)) = _
    rw [T0_6_succ]
    refine (dynU _ _ k hk t b 0).trans (if_congr Iff.rfl ?_ rfl)
    refine (where3_apply _ _ _ b 0).trans ?_
    rw [floor_apply _ _ e.val e.isLt ((topI_apply _ b 0).trans (congrArg (BitVec.ofNat 32) he')), r_v8_zero]
    rcases (by decide : ∀ a : BitVec 1, a = 0#1 ∨ a = 1#1) (actK m k c (ix2 b (0 : Fin 1))) with h | h <;> rw [h]
    · exact select_zero _ _
    · exact select_one _ _
  have hE : ∀ t : Fin 512, symR m c (k + 1) (ix3 t b (0 : Fin 16))
      = if t.val = k then Scalar.select (act (Lrow (lR m c) b) k) (BitVec.ofNat 32 e.val) 0#32 else symR m c k (ix3 t b (0 : Fin 16)) := fun t => by
    show rd (T0 m (k + 1) c) main_v12_7 (ix3 t b (0 : Fin 16)) = _
    rw [T0_7_succ]
    refine (dynU _ _ k hk t b 0).trans (if_congr Iff.rfl ?_ rfl)
    refine (where3_apply _ _ _ b 0).trans ?_
    rw [rem_apply _ _ e.val e.isLt ((topI_apply _ b 0).trans (congrArg (BitVec.ofNat 32) he')), actK_apply m c k hk b]
    rfl
  have hv' : candOf m k c (ix2 b (headOf (candOf m k c) b 0)) = scoresR m c k (ix2 b (0 : Fin 16)) + top1 (Xrow (xR m c) b k) := hv
  refine ⟨?_, fun w => ?_, fun t ht => ?_, fun t ht ha => ?_, fun t ht ha => ?_⟩
  · rw [hS, hv', I.score]; rfl
  · rw [hS, hS]
    rcases (by decide : ∀ a : BitVec 1, a = 0#1 ∨ a = 1#1) (act (Lrow (lR m c) b) k) with h | h <;> rw [h]
    · rw [select_zero, select_zero]; exact I.best w
    · rw [select_one, select_one]; exact (headOf_spec _ b _).1
  · rw [hP]
    by_cases h : t.val = k
    · rw [if_pos h]
    · rw [if_neg h]; exact I.par t (by omega)
  · rw [hE]
    by_cases h : t.val = k
    · rw [if_pos h]
      rw [h] at ha ⊢
      rw [ha, select_one, ← I.score]
      exact hem
    · rw [if_neg h]; exact I.sym t (by omega) ha
  · rw [hE]
    by_cases h : t.val = k
    · rw [if_pos h, show act (Lrow (lR m c) b) k = 0#1 from eq_zero_of_ne_one (by rw [← h]; exact ha), select_zero]
    · rw [if_neg h]; exact I.off t (by omega) ha

theorem inv0 (b : Fin 64) : ∀ k, k ≤ 512 → Inv0 m c b k
  | 0, _ => inv0_zero m c b
  | k + 1, h => inv0_succ m c b k (by omega) (inv0 b k (by omega))

/-! ## The way back -/

theorem backIdx_eq (k : ℕ) (hk : k < 512) : backIdx (F := Ideal) k = fun _ => BitVec.ofNat 32 (511 - k) := by
  funext i
  show 512#32 - BitVec.ofNat 32 k - 1#32 = _
  apply BitVec.eq_of_toNat_eq
  simp only [BitVec.toNat_sub, BitVec.toNat_ofNat]
  omega

/-- Beam 0's way back stays at beam 0, and its labels are the symbols. -/
theorem inv1 (b : Fin 64) : ∀ k, k ≤ 512 → rd (T1 m k c) main_v14_3 (ix2 b (0 : Fin 16)) = (0#32 : BitVec 32)
    ∧ ∀ t : Fin 512, 512 ≤ t.val + k → rd (T1 m k c) main_v14_4 (ix3 t b (0 : Fin 16)) = symR m c 512 (ix3 t b (0 : Fin 16)) := by
  intro k
  induction k with
  | zero =>
    intro _
    refine ⟨?_, fun t ht => absurd t.isLt (by omega)⟩
    rw [T1_3_zero]
    exact r_v8_zero b
  | succ k ih =>
    intro hk
    obtain ⟨hb, hl⟩ := ih (by omega)
    have I := inv0 m c b 512 le_rfl
    refine ⟨?_, fun t ht => ?_⟩
    · rw [T1_3_succ, backIdx_eq k (by omega)]
      refine (take_zero _ _ b hb).trans ((dynW _ (511 - k) (by omega) b 0).trans ?_)
      exact I.par ⟨511 - k, by omega⟩ (by show 511 - k < 512; omega)
    · rw [T1_4_succ, backIdx_eq k (by omega)]
      refine (dynU _ _ (511 - k) (by omega) t b 0).trans ?_
      by_cases h : t.val = 511 - k
      · rw [if_pos h]
        refine (take_zero _ _ b hb).trans ((dynW _ (511 - k) (by omega) b 0).trans ?_)
        exact congrArg (fun t' : Fin 512 => symR m c 512 (ix3 t' b (0 : Fin 16))) (Fin.ext h.symm)
      · rw [if_neg h]
        exact hl t (by omega)

/-- Row `b`'s symbol at step `t`, 0 past the row's length. -/
def eR (b : Fin 64) (t : ℕ) : BitVec 32 := symR m c 512 (ix3 (⟨t % 512, Nat.mod_lt _ (by decide)⟩ : Fin 512) b (0 : Fin 16))

theorem labs_apply (t : Fin 512) (b : Fin 64) : labs m c (ix3 t b (0 : Fin 16)) = eR m c b t.val :=
  ((inv1 m c b 512 le_rfl).2 t (by omega)).trans
    (congrArg (fun t' : Fin 512 => symR m c 512 (ix3 t' b (0 : Fin 16))) (Fin.ext (Nat.mod_eq_of_lt t.isLt).symm))

/-- The symbols are those of any first-best sequence, masked. -/
theorem eR_eq (b : Fin 64) (e : ℕ → BitVec 32)
    (he : ∀ t < 512, IsEm (sc (Xrow (xR m c) b) (Lrow (lR m c) b) t) (Xrow (xR m c) b t) (e t)) (t : ℕ) (ht : t < 512) :
    eR m c b t = sqv (Lrow (lR m c) b) e t := by
  have I := inv0 m c b 512 le_rfl
  have e1 : eR m c b t = symR m c 512 (ix3 (⟨t, ht⟩ : Fin 512) b (0 : Fin 16)) :=
    congrArg (fun t' : Fin 512 => symR m c 512 (ix3 t' b (0 : Fin 16))) (Fin.ext (Nat.mod_eq_of_lt ht))
  rw [e1]
  unfold sqv
  by_cases ha : act (Lrow (lR m c) b) t = 1#1
  · rw [ha, select_one]
    exact (I.sym ⟨t, ht⟩ ht ha).unique (he t ht)
  · rw [eq_zero_of_ne_one ha, select_zero]
    exact I.off ⟨t, ht⟩ ht ha

end Cert.BeamRef
-- ==== Proof.RRes.lean ====
/- The reference's three results in closed form. -/
module

public import proofs.«01_k».proof.Proof.RInv
public import proofs.«01_k».proof.Proof.Dec
public import Idealize.ShloMosaic.Lib.Routing.Ops
public import Idealize.ShloMosaic.Lib.Routing.OpsPair

@[expose] public section

set_option maxRecDepth 16384

noncomputable section

namespace Cert.BeamRef

open Idealize.SL Idealize.SL.Sem
open Idealize.ShloMosaic Idealize.ShloMosaic.StableHlo Idealize.ShloMosaic.TcCoe Idealize.ShloMosaic.ValueIdx
open Cert.ReferenceIdeal Cert.ReferenceIdeal.Gen
open Cert.Col

/-! ## Counts -/

theorem cnt_count (L : BitVec 32) (e : ℕ → BitVec 32) (t : ℕ) (ht : t < 512) :
    cnt L e t = Nat.count (fun k => kp L e k = 1#1) (t + 1) := by
  unfold cnt
  rw [Routing.card_filter_fin 512 (fun k => kp L e k = 1#1 ∧ k ≤ t), Nat.count_eq_card_filter_range, Nat.count_eq_card_filter_range]
  refine congrArg Finset.card (Finset.ext fun k => ?_)
  rw [Finset.mem_filter, Finset.mem_filter, Finset.mem_range, Finset.mem_range]
  constructor
  · rintro ⟨-, hk, hle⟩; exact ⟨by omega, hk⟩
  · rintro ⟨hlt, hk⟩; exact ⟨by omega, hk, by omega⟩

theorem sum_count (Q : ℕ → Prop) [DecidablePred Q] (n : ℕ) : ((List.range n).map fun i => if Q i then 1 else 0).sum = Nat.count Q n := by
  induction n with
  | zero => rfl
  | succ n ih => rw [List.range_succ, List.map_append, List.sum_append, ih, Nat.count_succ]; simp

theorem word_of_bit (x : BitVec 1) : x.setWidth 32 = BitVec.ofNat 32 (if x = 1#1 then 1 else 0) := by
  revert x; decide

/-- The printed running sum of a row. -/
theorem running_sum (x : S64x512.Idx → BitVec 32) (b : Fin 64) (f : ℕ → ℕ) (hx : ∀ i : Fin 512, x (ix2 b i) = BitVec.ofNat 32 (f i.val)) (j : Fin 512) :
    pfn_cumsum_5 (F := Ideal) x (ix2 b j) = BitVec.ofNat 32 ((List.range (j.val + 1)).map f).sum := by
  have hj := j.isLt
  have hN : (Routing.shape2 1 512).numel = 512 := Routing.numel2 512
  unfold pfn_cumsum_5
  show Host.reduceWindow IntOp.addi ![1, 512] ![1, 1] ![0, 511] ![0, 0] x _ reduceWindows_S64x512_S64x512_w1s1p0_0_w512s1p511_0 h_S_ (ix2 b j) = _
  unfold Host.reduceWindow
  refine (Routing.foldl_addi_ofNat _ _ (fun n => if 511 ≤ j.val + n.val then f (j.val + n.val - 511) else 0) (fun n _ => ?_) _ 0 rfl).trans ?_
  · have w0 : ((Routing.shape2 1 512).rowMajor.symm n 0).val = 0 := by rw [Routing.symm2]; rfl
    have w1 : ((Routing.shape2 1 512).rowMajor.symm n 1).val = n.val := by rw [Routing.symm2]; rfl
    have hn : n.val < 512 := (n.cast hN).isLt
    have hb := b.isLt
    by_cases hle : 511 ≤ j.val + n.val
    · rw [if_pos hle, dif_pos (fun a => by
        match a with
        | ⟨0, _⟩ =>
          show 0 ≤ b.val * 1 + ((Routing.shape2 1 512).rowMajor.symm n 0).val ∧ b.val * 1 + ((Routing.shape2 1 512).rowMajor.symm n 0).val - 0 < 64
          rw [w0]; omega
        | ⟨1, _⟩ =>
          show 511 ≤ j.val * 1 + ((Routing.shape2 1 512).rowMajor.symm n 1).val ∧ j.val * 1 + ((Routing.shape2 1 512).rowMajor.symm n 1).val - 511 < 512
          rw [w1]; omega)]
      refine Eq.trans (congrArg x (funext fun a => Fin.ext ?_)) (hx ⟨j.val + n.val - 511, by omega⟩)
      match a with
      | ⟨0, _⟩ =>
        show b.val * 1 + ((Routing.shape2 1 512).rowMajor.symm n 0).val - 0 = b.val
        rw [w0]; omega
      | ⟨1, _⟩ =>
        show j.val * 1 + ((Routing.shape2 1 512).rowMajor.symm n 1).val - 511 = j.val + n.val - 511
        rw [w1]; omega
    · rw [if_neg hle, dif_neg (fun hin => hle (by
        have h1 := (hin 1).1
        change 511 ≤ j.val * 1 + ((Routing.shape2 1 512).rowMajor.symm n 1).val at h1
        rw [w1] at h1; omega))]
      rfl
  · rw [Nat.zero_add, Routing.map_finRange_val _ (fun w => if 511 ≤ j.val + w then f (j.val + w - 511) else 0)]
    exact congrArg (BitVec.ofNat 32) ((congrArg (fun M => ((List.range M).map fun w => if 511 ≤ j.val + w then f (j.val + w - 511) else 0).sum) hN).trans
      (Routing.sum_window f 511 j.val (by omega)))

theorem col_apply (x : S64.Idx → BitVec 32) (b : Fin 64) : broadcastInDim S64x1 ![0] bcast_S64_S64x1_0 x (ix2 b (0 : Fin 1)) = x (ix1 b) :=
  congrArg x (funext fun ax => by
    match ax with
    | ⟨0, _⟩ => rfl)

theorem mid_apply (x : S64x512.Idx → BitVec 32) (b : Fin 64) (p : Fin 512) : r2_v55 (F := Ideal) x (ix3 b (0 : Fin 1) p) = x (ix2 b p) :=
  congrArg x (funext fun ax => by
    match ax with
    | ⟨0, _⟩ => rfl
    | ⟨1, _⟩ => rfl)

theorem neg_apply (x : S64x16.Idx → EReal) (b : Fin 64) :
    (Host.negf (F := Ideal) (φ := .f32) (extractStridedSlice S64x1 ![0, 0] x slices_S64x16_S64x1_0_0) : S64x1.Idx → EReal) (ix2 b (0 : Fin 1))
      = -(x (ix2 b (0 : Fin 16))) := by
  have h := extractStridedSlice_apply (t := S64x1) ![0, 0] x slices_S64x16_S64x1_0_0 (ix2 b (0 : Fin 1)) (ix2 b (0 : Fin 16)) (fun a => by
    match a with
    | ⟨0, _⟩ => exact (Nat.zero_add _).symm
    | ⟨1, _⟩ => rfl)
  rw [← h]
  rfl

/-! ## The kept labels of a row -/

section Row

variable (v : S64x512.Idx → BitVec 32) (len : S64.Idx → BitVec 32) (b : Fin 64) (e : ℕ → BitVec 32)
  (hv : ∀ t : Fin 512, v (ix2 b t) = sqv (Lrow len b) e t.val)

include hv

theorem keep_apply (t : Fin 512) : r2_v32 (F := Ideal) v len (ix2 b t) = kp (Lrow len b) e t.val := by
  have hprev : concatenate S64x512 1 [⟨S64x1, (broadcastInDim S64x1 ![] bcast_S_S64x1 (constantI S_ 32 4294967295#32) : S64x1.Idx → BitVec 32)⟩,
      ⟨S64x511, extractStridedSlice S64x511 ![0, 0] v slices_S64x512_S64x511_0_0⟩] concatenates_S64x1_S64x511_S64x512_d1 (ix2 b t)
      = pv (Lrow len b) e t.val := by
    unfold pv
    by_cases h0 : t.val = 0
    · rw [if_pos h0]
      refine (concatenate_pair_apply_left (t := S64x512) (s₁ := S64x1) (s₂ := S64x511) 1 _ _ concatenates_S64x1_S64x511_S64x512_d1
        (ix2 b t) rfl (ix2 b (0 : Fin 1)) fun ax => ?_).trans rfl
      match ax with
      | ⟨0, _⟩ => rfl
      | ⟨1, _⟩ => exact h0.symm
    · rw [if_neg h0]
      have ht := t.isLt
      refine (concatenate_pair_apply_right (t := S64x512) (s₁ := S64x1) (s₂ := S64x511) 1 _ _ concatenates_S64x1_S64x511_S64x512_d1
        (ix2 b t) rfl rfl (ix2 b (⟨t.val - 1, by omega⟩ : Fin 511)) (fun ax hax => ?_) ?_).trans ?_
      · match ax with
        | ⟨0, _⟩ => rfl
        | ⟨1, _⟩ => exact absurd rfl hax
      · show t.val - 1 + 1 = t.val
        omega
      · refine (extractStridedSlice_apply _ _ _ _ (ix2 b (⟨t.val - 1, by omega⟩ : Fin 512)) (fun a => ?_)).trans (hv _)
        match a with
        | ⟨0, _⟩ => exact (Nat.zero_add _).symm
        | ⟨1, _⟩ => exact (Nat.zero_add _).symm
  have hlen : ∀ i : S64.Idx, i = ix1 b → IntOp.cmpi .slt (BitVec.ofNat 32 t.val) (len i) = act (Lrow len b) t.val := fun i hi => by
    rw [hi]; rfl
  unfold r2_v32
  unfold kp
  rw [← hprev, ← hv t]
  refine congrArg₂ IntOp.andi (congrArg₂ IntOp.andi (hlen _ (funext fun ax => ?_)) rfl) rfl
  match ax with
  | ⟨0, _⟩ => rfl

theorem cumsum_apply (t : Fin 512) :
    pfn_cumsum (F := Ideal) (r2_v32 (F := Ideal) v len) (ix2 b t) = BitVec.ofNat 32 (cnt (Lrow len b) e t.val) := by
  rw [cnt_count _ _ _ t.isLt, ← sum_count]
  refine running_sum (extui 32 (r2_v32 (F := Ideal) v len) natLt_1_32) b _ (fun i => ?_) t
  show (r2_v32 (F := Ideal) v len (ix2 b i)).setWidth 32 = _
  rw [keep_apply v len b e hv i]
  exact word_of_bit _

theorem count_apply : r2_v58 (F := Ideal) (r2_v32 (F := Ideal) v len) (ix2 b (0 : Fin 1)) = BitVec.ofNat 32 (cnt (Lrow len b) e 511) := by
  rw [cnt_count _ _ 511 (by omega)]
  have h := Routing.reduce_count (n := 64) (m := 512) (by norm_num) (r2_v32 (F := Ideal) v len) natLt_1_32 reducesTo_S64x512_S64_d1 h_S_ b
    (fun k => kp (Lrow len b) e k = 1#1) (fun q => by rw [keep_apply v len b e hv q])
  have e : r2_v58 (F := Ideal) (r2_v32 (F := Ideal) v len) = broadcastInDim S64x1 ![0] bcast_S64_S64x1_0
      (Host.reduce IntOp.addi (extui 32 (r2_v32 (F := Ideal) v len) natLt_1_32) (constantI S_ 32 0#32) reducesTo_S64x512_S64_d1 h_S_) := rfl
  rw [e, col_apply]
  exact h

/-- The place a step's label goes to, 512 (no place) for one not kept. -/
theorem pos_apply (t : Fin 512) :
    pfn_where_6 (F := Ideal) (r2_v32 (F := Ideal) v len) (subi (pfn_cumsum (F := Ideal) (r2_v32 (F := Ideal) v len))
      (broadcastInDim S64x512 ![] bcast_S_S64x512 (constantI S_ 32 1#32))) (constantI S_ 32 512#32) (ix2 b t)
      = BitVec.ofNat 32 (if kp (Lrow len b) e t.val = 1#1 then cnt (Lrow len b) e t.val - 1 else 512) := by
  show Scalar.select (r2_v32 (F := Ideal) v len (ix2 b t)) (IntOp.subi (pfn_cumsum (F := Ideal) (r2_v32 (F := Ideal) v len) (ix2 b t)) 1#32) 512#32 = _
  rw [keep_apply v len b e hv t, cumsum_apply v len b e hv t]
  by_cases h : kp (Lrow len b) e t.val = 1#1
  · rw [if_pos h, h, select_one]
    have h1 := cnt_pos (Lrow len b) e t.val t.isLt h
    have h2 := cnt_le (Lrow len b) e t.val
    apply BitVec.eq_of_toNat_eq
    show (BitVec.ofNat 32 _ - 1#32).toNat = _
    simp only [BitVec.toNat_sub, BitVec.toNat_ofNat]
    omega
  · rw [if_neg h, eq_zero_of_ne_one h, select_zero]

end Row

/-! ## The labels put at their places -/

/-- The table of places: the row, and the place in the row. -/
abbrev placeTab (w : S64x512.Idx → BitVec 32) : S64x512x2.Idx → BitVec 32 :=
  concatenate S64x512x2 2
    [⟨S64x512x1, (broadcastInDim S64x512x1 ![0, 1] bcast_S64x512_S64x512x1_0_1 (broadcastInDim S64x512 ![0, 1] bcast_S64x1_S64x512_0_1
        (select (cmpi .slt (broadcastInDim S64x1 ![0] bcast_S64_S64x1_0 (iotaInDim S64 32 0)) (broadcastInDim S64x1 ![] bcast_S_S64x1 (constantI S_ 32 0#32)))
          (addi (broadcastInDim S64x1 ![0] bcast_S64_S64x1_0 (iotaInDim S64 32 0)) (broadcastInDim S64x1 ![] bcast_S_S64x1 (constantI S_ 32 64#32)))
          (broadcastInDim S64x1 ![0] bcast_S64_S64x1_0 (iotaInDim S64 32 0)))) : S64x512x1.Idx → BitVec 32)⟩,
     ⟨S64x512x1, (broadcastInDim S64x512x1 ![0, 1] bcast_S64x512_S64x512x1_0_1
        (select (cmpi .slt w (broadcastInDim S64x512 ![] bcast_S_S64x512 (constantI S_ 32 0#32)))
          (addi w (broadcastInDim S64x512 ![] bcast_S_S64x512 (constantI S_ 32 512#32))) w) : S64x512x1.Idx → BitVec 32)⟩]
    concatenates_S64x512x1_S64x512x1_S64x512x2_d2

theorem scatOf_eq (v w : S64x512.Idx → BitVec 32) : scatOf (F := Ideal) v w
    = Host.scatter scatter_S64x512_S64x512x2_S64x512_n_01_01_2 (fun _ b => b) (broadcastInDim S64x512 ![] bcast_S_S64x512 (constantI S_ 32 4294967295#32))
      (placeTab w) v := rfl

theorem placeTab_row (w : S64x512.Idx → BitVec 32) (a : Fin 64) (t : Fin 512) : (placeTab w (ix3 a t (0 : Fin 2))).toInt = (a.val : Int) := by
  have ha := a.isLt
  refine (congrArg BitVec.toInt ((concatenate_pair_apply_left (t := S64x512x2) (s₁ := S64x512x1) (s₂ := S64x512x1) 2 _ _
    concatenates_S64x512x1_S64x512x1_S64x512x2_d2 (ix3 a t (0 : Fin 2)) rfl (ix3 a t (0 : Fin 1)) fun ax => ?_).trans
    (show _ = Scalar.select (IntOp.cmpi .slt (BitVec.ofNat 32 a.val) 0#32) (IntOp.addi (BitVec.ofNat 32 a.val) 64#32) (BitVec.ofNat 32 a.val) from rfl))).trans ?_
  · match ax with
    | ⟨0, _⟩ => rfl
    | ⟨1, _⟩ => rfl
    | ⟨2, _⟩ => rfl
  · rw [Routing.wrap_of_lt _ _ (by rw [BitVec.toNat_ofNat]; omega)]
    exact toInt_small _ (by omega)

theorem placeTab_col (w : S64x512.Idx → BitVec 32) (a : Fin 64) (t : Fin 512) :
    placeTab w (ix3 a t (1 : Fin 2)) = Scalar.select (IntOp.cmpi .slt (w (ix2 a t)) 0#32) (IntOp.addi (w (ix2 a t)) 512#32) (w (ix2 a t)) := by
  refine (concatenate_pair_apply_right (t := S64x512x2) (s₁ := S64x512x1) (s₂ := S64x512x1) 2 _ _
    concatenates_S64x512x1_S64x512x1_S64x512x2_d2 (ix3 a t (1 : Fin 2)) rfl rfl (ix3 a t (0 : Fin 1)) (fun ax hax => ?_) rfl).trans ?_
  · match ax with
    | ⟨0, _⟩ => rfl
    | ⟨1, _⟩ => rfl
    | ⟨2, _⟩ => exact absurd rfl hax
  · have h : ∀ i : S64x512.Idx, i = ix2 a t → Scalar.select (IntOp.cmpi .slt (w i) 0#32) (IntOp.addi (w i) 512#32) (w i)
        = Scalar.select (IntOp.cmpi .slt (w (ix2 a t)) 0#32) (IntOp.addi (w (ix2 a t)) 512#32) (w (ix2 a t)) := fun i hi => by rw [hi]
    refine h _ (funext fun ax => ?_)
    match ax with
    | ⟨0, _⟩ => rfl
    | ⟨1, _⟩ => rfl

theorem scat_isDec (v w : S64x512.Idx → BitVec 32) (L : BitVec 32) (e : ℕ → BitVec 32) (b : Fin 64)
    (hv : ∀ t : Fin 512, v (ix2 b t) = sqv L e t.val)
    (hw : ∀ t : Fin 512, w (ix2 b t) = BitVec.ofNat 32 (if kp L e t.val = 1#1 then cnt L e t.val - 1 else 512)) (p : Fin 512) :
    IsDec L e p.val (scatOf (F := Ideal) v w (ix2 b p)) := by
  have hp := p.isLt
  have lands := fun (a : Fin 64) (t : Fin 512) => Routing.scatter_lands2 (A := 64) (B := 512) (R := 64) (C := 512)
    scatter_S64x512_S64x512x2_S64x512_n_01_01_2 rfl rfl rfl (placeTab w) a t b p
  have hcol : ∀ t : Fin 512, (placeTab w (ix3 b t (1 : Fin 2))).toInt = ((if kp L e t.val = 1#1 then cnt L e t.val - 1 else 512 : ℕ) : Int) := fun t => by
    have hle : (if kp L e t.val = 1#1 then cnt L e t.val - 1 else 512) ≤ 512 := by
      have := cnt_le L e t.val
      split <;> omega
    rw [placeTab_col, hw t, Routing.wrap_of_lt _ _ (by rw [BitVec.toNat_ofNat]; omega)]
    exact toInt_small _ (by omega)
  have key : ∀ (a : Fin 64) (t : Fin 512), scatter_S64x512_S64x512x2_S64x512_n_01_01_2.resultIdx? (ix2 a t) (placeTab w) = some (ix2 b p) ↔
      a = b ∧ kp L e t.val = 1#1 ∧ cnt L e t.val = p.val + 1 := fun a t => by
    rw [lands a t, placeTab_row]
    constructor
    · rintro ⟨h0, h1⟩
      have hab : a = b := Fin.ext (by omega)
      subst hab
      rw [hcol t] at h1
      by_cases hk : kp L e t.val = 1#1
      · rw [if_pos hk] at h1
        have := cnt_pos L e t.val t.isLt hk
        exact ⟨rfl, hk, by omega⟩
      · rw [if_neg hk] at h1
        omega
    · rintro ⟨hab, hk, hc⟩
      subst hab
      refine ⟨rfl, ?_⟩
      rw [hcol t, if_pos hk, hc]
      rfl
  have split : ∀ j : S64x512.Idx, ∃ (a : Fin 64) (t : Fin 512), j = ix2 a t := fun j => ⟨j 0, j 1, eq_ix2 j⟩
  rw [scatOf_eq]
  constructor
  · intro t ht hk hc
    refine Routing.scatter_set_hit _ _ _ _ _ (sqv L e t) (fun j hj => ?_) (ix2 b (⟨t, ht⟩ : Fin 512)) ((key b ⟨t, ht⟩).2 ⟨rfl, hk, hc⟩)
    obtain ⟨a, t', rfl⟩ := split j
    obtain ⟨hab, hk', hc'⟩ := (key a t').1 hj
    subst hab
    rw [hv t', cnt_inj L e t'.isLt ht hk' hk (hc'.trans hc.symm)]
  · intro hno
    refine (Routing.scatter_set_miss _ _ _ _ _ fun j hj => ?_).trans rfl
    obtain ⟨a, t', rfl⟩ := split j
    obtain ⟨-, hk', hc'⟩ := (key a t').1 hj
    exact hno t'.val t'.isLt hk' hc'

/-! ## The results -/

section Results

variable (m : (ℓ : Loc nD τ sig) → Buf (Elt Ideal) ℓ) (c : Dev nD) (b : Fin 64) (e : ℕ → BitVec 32)
  (he : ∀ t < 512, IsEm (sc (Xrow (xR m c) b) (Lrow (lR m c) b) t) (Xrow (xR m c) b t) (e t))

theorem score_val : (Host.negf (F := Ideal) (φ := .f32) (extractStridedSlice S64x1 ![0, 0] (scoresR m c 512) slices_S64x16_S64x1_0_0) : S64x1.Idx → EReal) (ix2 b (0 : Fin 1))
    = (0 : EReal) - sc (Xrow (xR m c) b) (Lrow (lR m c) b) 512 := by
  rw [neg_apply, (inv0 m c b 512 le_rfl).score, sub_eq_add_neg, zero_add]

include he

theorem seq_val (t : Fin 512) : seqR m c (ix2 b t) = sqv (Lrow (lR m c) b) e t.val := by
  rw [← eR_eq m c b e he t.val t.isLt, ← labs_apply]
  unfold seqR r2_v18
  refine (shapeCast_apply _ shapeCasts_S64x1x512_S64x512 (ix2 b t) (ix3 b (0 : Fin 1) t) (by
    rw [Shape.rowMajor_val_three, Shape.rowMajor_val_two]
    show (b.val * 1 + 0) * 512 + t.val = b.val * 512 + t.val
    omega)).trans ?_
  refine (extractStridedSlice_apply _ _ _ _ (ix3 b (0 : Fin 16) t) (fun a => ?_)).trans ?_
  · match a with
    | ⟨0, _⟩ => exact (Nat.zero_add _).symm
    | ⟨1, _⟩ => rfl
    | ⟨2, _⟩ => exact (Nat.zero_add _).symm
  · refine transpose_apply _ _ transposes_S512x64x16_S64x16x512_1_2_0 _ (ix3 t b (0 : Fin 16)) (fun a => ?_)
    match a with
    | ⟨0, _⟩ => rfl
    | ⟨1, _⟩ => rfl
    | ⟨2, _⟩ => rfl

theorem count_val : r2_v58 (keepR m c) (ix2 b (0 : Fin 1)) = BitVec.ofNat 32 (cnt (Lrow (lR m c) b) e 511) :=
  count_apply (seqR m c) (lR m c) b e (seq_val m c b e he)

theorem dec_val (p : Fin 512) :
    IsDec (Lrow (lR m c) b) e p.val (r2_v55 (F := Ideal) (scatOf (seqR m c) (posR m c)) (ix3 b (0 : Fin 1) p)) := by
  have h := scat_isDec (seqR m c) (posR m c) (Lrow (lR m c) b) e b (seq_val m c b e he)
    (pos_apply (seqR m c) (lR m c) b e (seq_val m c b e he)) p
  rw [mid_apply]
  exact h

end Results

end Cert.BeamRef
-- ==== Proof.Equal.lean ====
/- The reference's results are the kernel's. -/
module

public import proofs.«01_k».proof.Proof.KVal
public import proofs.«01_k».proof.Proof.RRes

@[expose] public section

noncomputable section

namespace Cert.Equal

open Idealize.SL Idealize.SL.Sem
open Idealize.ShloMosaic Idealize.ShloMosaic.ValueIdx
open Cert.Col

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- An index of a column is a row. -/
theorem col_idx (j : (⟨2, ![64, 1]⟩ : Shape).Idx) : j = ix2 (j 0 : Fin 64) (0 : Fin 1) := by
  funext a
  match a with
  | ⟨0, _⟩ => rfl
  | ⟨1, _⟩ => exact Fin.ext (by have h : (j 1).val < 1 := (j 1).isLt; show (j 1).val = 0; omega)

/-- An index of a table with one middle entry is a row and a place. -/
theorem mid_idx (j : (⟨3, ![64, 1, 512]⟩ : Shape).Idx) : j = ix3 (j 0 : Fin 64) (0 : Fin 1) (j 2 : Fin 512) := by
  funext a
  match a with
  | ⟨0, _⟩ => rfl
  | ⟨1, _⟩ => exact Fin.ext (by have h : (j 1).val < 1 := (j 1).isLt; show (j 1).val = 0; omega)
  | ⟨2, _⟩ => rfl

variable (hx : Cert.BeamRef.xR m' c = Cert.Beam.xK m c) (hl : Cert.BeamRef.lR m' c = Cert.Beam.lK m c)

include hx hl

theorem em (b : Fin 64) (t : ℕ) (ht : t < 512) :
    IsEm (sc (Xrow (Cert.BeamRef.xR m' c) b) (Lrow (Cert.BeamRef.lR m' c) b) t) (Xrow (Cert.BeamRef.xR m' c) b t) (Cert.Beam.eK m c b t) := by
  rw [hx, hl]
  exact Cert.Beam.eK_val m c b t ht

theorem eq0 : (Host.negf (F := Ideal) (φ := .f32) (extractStridedSlice Cert.ReferenceIdeal.S64x1 ![0, 0] (Cert.BeamRef.scoresR m' c 512)
    Cert.ReferenceIdeal.Gen.slices_S64x16_S64x1_0_0) : Cert.ReferenceIdeal.S64x1.Idx → EReal) = Cert.Beam.out0 m c := by
  funext j
  rw [col_idx j]
  refine (Cert.BeamRef.score_val m' c (j 0)).trans ?_
  rw [hx, hl]
  exact (Cert.Beam.out0_val m c (j 0)).symm

theorem eq1 : Cert.BeamRef.r2_v58 (F := Ideal) (Cert.BeamRef.keepR m' c) = Cert.Beam.out1 m c := by
  funext j
  rw [col_idx j]
  refine (Cert.BeamRef.count_val m' c (j 0) (Cert.Beam.eK m c (j 0)) (em m m' c hx hl (j 0))).trans ?_
  rw [hl]
  exact (Cert.Beam.out1_val m c (j 0)).symm

theorem eq2 : Cert.BeamRef.r2_v55 (F := Ideal) (Cert.BeamRef.scatOf (Cert.BeamRef.seqR m' c) (Cert.BeamRef.posR m' c)) = Cert.Beam.out2 m c := by
  funext j
  rw [mid_idx j]
  have h := Cert.BeamRef.dec_val m' c (j 0) (Cert.Beam.eK m c (j 0)) (em m m' c hx hl (j 0)) (j 2)
  rw [hl] at h
  exact IsDec.unique _ _ h (Cert.Beam.out2_val m c (j 0) (j 2))

end Cert.Equal
-- ==== Proof.lean ====
/- The proof of the claim. -/
module

public import proofs.«01_k».proof.Defs
public import proofs.«01_k».proof.Proof.Gen.KernelIdeal
public import proofs.«01_k».proof.Proof.Gen.ReferenceIdeal
public import proofs.«01_k».proof.Proof.KBound
public import proofs.«01_k».proof.Proof.RefLoop
public import proofs.«01_k».proof.Proof.Equal

@[expose] public section

noncomputable section

namespace Cert.Proof

open Idealize.ShloMosaic Idealize.SL.Sem

theorem frameK : Cert.quiescent_KernelIdeal (hKernelIdeal := Cert.KernelIdeal.Gen.facts) := fun m g _ =>
  Idealize.ShloMosaic.θ_run_mono (Cert.Beam.run_main m g (Cert.Beam.Pv_lt m)) fun r h => ⟨fun c => ⟨(h.1 c).1, (h.1 c).2.1⟩, h.2⟩

theorem frameR : Cert.quiescent_ReferenceIdeal (hReferenceIdeal := Cert.ReferenceIdeal.Gen.facts) := fun m g _ =>
  Idealize.ShloMosaic.θ_run_mono (Cert.BeamRef.run_refVals m g) fun r h => ⟨fun c => ⟨(h.1 c).1, (h.1 c).2.1⟩, h.2⟩

theorem values : Cert.algebraic_KernelIdeal_ReferenceIdeal (hKernelIdeal := Cert.KernelIdeal.Gen.facts) (hReferenceIdeal := Cert.ReferenceIdeal.Gen.facts) :=
  fun m g m' g' _ hm => ⟨fun c => Cert.Beam.out0 m c, fun c => Cert.Beam.out1 m c, fun c => Cert.Beam.out2 m c,
    Idealize.ShloMosaic.θ_run_mono (Cert.Beam.run_main m g (Cert.Beam.Pv_lt m)) fun r h c =>
      ⟨(h.1 c).2.2.1, (h.1 c).2.2.2.1, (h.1 c).2.2.2.2, (h.1 c).1, (h.1 c).2.1⟩,
    Idealize.ShloMosaic.θ_run_mono (Cert.BeamRef.run_refVals m' g') fun r h c =>
      ⟨(h.1 c).2.2.1.trans (Cert.Equal.eq0 m m' c (hm c).1 (hm c).2), (h.1 c).2.2.2.1.trans (Cert.Equal.eq1 m m' c (hm c).1 (hm c).2),
        (h.1 c).2.2.2.2.trans (Cert.Equal.eq2 m m' c (hm c).1 (hm c).2), (h.1 c).1, (h.1 c).2.1⟩⟩

theorem claim : Cert.Claim := ⟨Cert.KernelIdeal.Gen.facts, Cert.ReferenceIdeal.Gen.facts, frameK, frameR, values⟩

end Cert.Proof

end
